-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S8x512x512 : Shape := ⟨3, ![8, 512, 512]⟩
abbrev S512x4096 : Shape := ⟨2, ![512, 4096]⟩
abbrev S2x512x512 : Shape := ⟨3, ![2, 512, 512]⟩
abbrev S4x3584x512 : Shape := ⟨3, ![4, 3584, 512]⟩
abbrev S8 : Shape := ⟨1, ![8]⟩
abbrev S2 : Shape := ⟨1, ![2]⟩
abbrev S4x7 : Shape := ⟨2, ![4, 7]⟩
abbrev S16 : Shape := ⟨1, ![16]⟩
abbrev S_ : Shape := ⟨0, ![]⟩
abbrev S1x512x512 : Shape := ⟨3, ![1, 512, 512]⟩
abbrev S512x512 : Shape := ⟨2, ![512, 512]⟩
abbrev S1x1 : Shape := ⟨2, ![1, 1]⟩
abbrev S1x3584x512 : Shape := ⟨3, ![1, 3584, 512]⟩
abbrev S3584x512 : Shape := ⟨2, ![3584, 512]⟩
abbrev S512x3584 : Shape := ⟨2, ![512, 3584]⟩

abbrev nBuf : Space → Nat
  | .hbm => 5
  | .vmem => 7
  | .smem => 2
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .fp8e4m3⟩
  | .local _ .vmem, ⟨1, _⟩ => ⟨S8x512x512, .fp8e4m3⟩
  | .local _ .vmem, ⟨2, _⟩ => ⟨S512x4096, .bf16⟩
  | .local _ .vmem, ⟨3, _⟩ => ⟨S2x512x512, .f32⟩
  | .local _ .vmem, ⟨4, _⟩ => ⟨S4x3584x512, .f32⟩
  | .local _ .vmem, ⟨5, _⟩ => ⟨S2x512x512, .f32⟩
  | .local _ .vmem, ⟨6, _⟩ => ⟨S512x8192, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v19 : BitVec 32 := Scalar.addi v2 c1_i32_7
  let c8_i32_8 : BitVec 32 := 8#32
  let v20 : BitVec 32 := Scalar.remsi v19 c8_i32_8
  let c1_i32_10 : BitVec 32 := 1#32
  let v21 : BitVec 32 := Scalar.muli v20 c1_i32_10
  let v22 : BitVec 32 := Scalar.addi c0_i32_11 v21
  v22.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.addi v2 c2_i32
  let c8_i32_12 : BitVec 32 := 8#32
  let v24 : BitVec 32 := Scalar.remsi v23 c8_i32_12
  let c1_i32_14 : BitVec 32 := 1#32
  let v25 : BitVec 32 := Scalar.muli v24 c1_i32_14
  let v26 : BitVec 32 := Scalar.addi c0_i32_15 v25
  v26.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v27 : BitVec 32 := Scalar.addi v2 c3_i32
  let c8_i32_16 : BitVec 32 := 8#32
  let v28 : BitVec 32 := Scalar.remsi v27 c8_i32_16
  let c1_i32_18 : BitVec 32 := 1#32
  let v29 : BitVec 32 := Scalar.muli v28 c1_i32_18
  let v30 : BitVec 32 := Scalar.addi c0_i32_19 v29
  v30.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v31 : BitVec 32 := Scalar.addi v2 c4_i32
  let c8_i32_20 : BitVec 32 := 8#32
  let v32 : BitVec 32 := Scalar.remsi v31 c8_i32_20
  let c1_i32_22 : BitVec 32 := 1#32
  let v33 : BitVec 32 := Scalar.muli v32 c1_i32_22
  let v34 : BitVec 32 := Scalar.addi c0_i32_23 v33
  v34.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v35 : BitVec 32 := Scalar.addi v2 c5_i32
  let c8_i32_24 : BitVec 32 := 8#32
  let v36 : BitVec 32 := Scalar.remsi v35 c8_i32_24
  let c1_i32_26 : BitVec 32 := 1#32
  let v37 : BitVec 32 := Scalar.muli v36 c1_i32_26
  let v38 : BitVec 32 := Scalar.addi c0_i32_27 v37
  v38.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v39 : BitVec 32 := Scalar.addi v2 c6_i32
  let c8_i32_28 : BitVec 32 := 8#32
  let v40 : BitVec 32 := Scalar.remsi v39 c8_i32_28
  let c1_i32_30 : BitVec 32 := 1#32
  let v41 : BitVec 32 := Scalar.muli v40 c1_i32_30
  let v42 : BitVec 32 := Scalar.addi c0_i32_31 v41
  v42.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v43 : BitVec 32 := Scalar.addi v2 c7_i32
  let c8_i32_32 : BitVec 32 := 8#32
  let v44 : BitVec 32 := Scalar.remsi v43 c8_i32_32
  let c1_i32_34 : BitVec 32 := 1#32
  let v45 : BitVec 32 := Scalar.muli v44 c1_i32_34
  let v46 : BitVec 32 := Scalar.addi c0_i32_35 v45
  v46.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_63 : BitVec 32 := 0#32
  let v73 : BitVec 1 := Scalar.cmpi .eq v2 c0_i32_63
  let v74 : BitVec 32 := Scalar.extui v73
  let c0_i32_64 : BitVec 32 := 0#32
  let v75 : BitVec 1 := Scalar.cmpi .ne v74 c0_i32_64
  v75

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c0_417 : Index := 0#32
  let c0_418 : Index := 0#32
  ![v450.toNat, 0, 0]
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v76 : BitVec 1 := Scalar.cmpi .ne v2 c0_i32_65
  let v77 : BitVec 32 := Scalar.extui v76
  let c0_i32_66 : BitVec 32 := 0#32
  let v78 : BitVec 1 := Scalar.cmpi .ne v77 c0_i32_66
  v78

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let c0_i32_420 : BitVec 32 := 0#32
  ![v2.toNat, 0, 0]
def k0_dev8 : Nat :=
  let c0_i32_418 : BitVec 32 := 0#32
  let c0_i32_416 : BitVec 32 := 0#32
  let c1_i32_417 : BitVec 32 := 1#32
  let v449 : BitVec 32 := Scalar.muli c0_i32_416 c1_i32_417
  let v450 : BitVec 32 := Scalar.addi c0_i32_418 v449
  v450.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v95 : BitVec 1 := Scalar.cmpi .eq v2 c1_i32_81
  let v96 : BitVec 32 := Scalar.extui v95
  let c0_i32_82 : BitVec 32 := 0#32
  let v97 : BitVec 1 := Scalar.cmpi .ne v96 c0_i32_82
  v97

def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c0_417 : Index := 0#32
  let c0_418 : Index := 0#32
  ![v450.toNat, 0, 0]
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v98 : BitVec 1 := Scalar.cmpi .ne v2 c1_i32_83
  let v99 : BitVec 32 := Scalar.extui v98
  let c0_i32_84 : BitVec 32 := 0#32
  let v100 : BitVec 1 := Scalar.cmpi .ne v99 c0_i32_84
  v100

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let c0_i32_420 : BitVec 32 := 0#32
  ![v2.toNat, 0, 0]
def k0_dev9 : Nat :=
  let c0_i32_418 : BitVec 32 := 0#32
  let c1_i32_416 : BitVec 32 := 1#32
  let c1_i32_417 : BitVec 32 := 1#32
  let v449 : BitVec 32 := Scalar.muli c1_i32_416 c1_i32_417
  let v450 : BitVec 32 := Scalar.addi c0_i32_418 v449
  v450.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_100 : BitVec 32 := 2#32
  let v117 : BitVec 1 := Scalar.cmpi .eq v2 c2_i32_100
  let v118 : BitVec 32 := Scalar.extui v117
  let c0_i32_101 : BitVec 32 := 0#32
  let v119 : BitVec 1 := Scalar.cmpi .ne v118 c0_i32_101
  v119

def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c0_417 : Index := 0#32
  let c0_418 : Index := 0#32
  ![v450.toNat, 0, 0]
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_102 : BitVec 32 := 2#32
  let v120 : BitVec 1 := Scalar.cmpi .ne v2 c2_i32_102
  let v121 : BitVec 32 := Scalar.extui v120
  let c0_i32_103 : BitVec 32 := 0#32
  let v122 : BitVec 1 := Scalar.cmpi .ne v121 c0_i32_103
  v122

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let c0_i32_420 : BitVec 32 := 0#32
  ![v2.toNat, 0, 0]
def k0_dev10 : Nat :=
  let c0_i32_418 : BitVec 32 := 0#32
  let c2_i32_416 : BitVec 32 := 2#32
  let c1_i32_417 : BitVec 32 := 1#32
  let v449 : BitVec 32 := Scalar.muli c2_i32_416 c1_i32_417
  let v450 : BitVec 32 := Scalar.addi c0_i32_418 v449
  v450.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_119 : BitVec 32 := 3#32
  let v139 : BitVec 1 := Scalar.cmpi .eq v2 c3_i32_119
  let v140 : BitVec 32 := Scalar.extui v139
  let c0_i32_120 : BitVec 32 := 0#32
  let v141 : BitVec 1 := Scalar.cmpi .ne v140 c0_i32_120
  v141

def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c0_417 : Index := 0#32
  let c0_418 : Index := 0#32
  ![v450.toNat, 0, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_121 : BitVec 32 := 3#32
  let v142 : BitVec 1 := Scalar.cmpi .ne v2 c3_i32_121
  let v143 : BitVec 32 := Scalar.extui v142
  let c0_i32_122 : BitVec 32 := 0#32
  let v144 : BitVec 1 := Scalar.cmpi .ne v143 c0_i32_122
  v144

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let c0_i32_420 : BitVec 32 := 0#32
  ![v2.toNat, 0, 0]
def k0_dev11 : Nat :=
  let c0_i32_418 : BitVec 32 := 0#32
  let c3_i32_416 : BitVec 32 := 3#32
  let c1_i32_417 : BitVec 32 := 1#32
  let v449 : BitVec 32 := Scalar.muli c3_i32_416 c1_i32_417
  let v450 : BitVec 32 := Scalar.addi c0_i32_418 v449
  v450.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_138 : BitVec 32 := 4#32
  let v161 : BitVec 1 := Scalar.cmpi .eq v2 c4_i32_138
  let v162 : BitVec 32 := Scalar.extui v161
  let c0_i32_139 : BitVec 32 := 0#32
  let v163 : BitVec 1 := Scalar.cmpi .ne v162 c0_i32_139
  v163

def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c0_417 : Index := 0#32
  let c0_418 : Index := 0#32
  ![v450.toNat, 0, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_140 : BitVec 32 := 4#32
  let v164 : BitVec 1 := Scalar.cmpi .ne v2 c4_i32_140
  let v165 : BitVec 32 := Scalar.extui v164
  let c0_i32_141 : BitVec 32 := 0#32
  let v166 : BitVec 1 := Scalar.cmpi .ne v165 c0_i32_141
  v166

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let c0_i32_420 : BitVec 32 := 0#32
  ![v2.toNat, 0, 0]
def k0_dev12 : Nat :=
  let c0_i32_418 : BitVec 32 := 0#32
  let c4_i32_416 : BitVec 32 := 4#32
  let c1_i32_417 : BitVec 32 := 1#32
  let v449 : BitVec 32 := Scalar.muli c4_i32_416 c1_i32_417
  let v450 : BitVec 32 := Scalar.addi c0_i32_418 v449
  v450.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_157 : BitVec 32 := 5#32
  let v183 : BitVec 1 := Scalar.cmpi .eq v2 c5_i32_157
  let v184 : BitVec 32 := Scalar.extui v183
  let c0_i32_158 : BitVec 32 := 0#32
  let v185 : BitVec 1 := Scalar.cmpi .ne v184 c0_i32_158
  v185

def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c0_417 : Index := 0#32
  let c0_418 : Index := 0#32
  ![v450.toNat, 0, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_159 : BitVec 32 := 5#32
  let v186 : BitVec 1 := Scalar.cmpi .ne v2 c5_i32_159
  let v187 : BitVec 32 := Scalar.extui v186
  let c0_i32_160 : BitVec 32 := 0#32
  let v188 : BitVec 1 := Scalar.cmpi .ne v187 c0_i32_160
  v188

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let c0_i32_420 : BitVec 32 := 0#32
  ![v2.toNat, 0, 0]
def k0_dev13 : Nat :=
  let c0_i32_418 : BitVec 32 := 0#32
  let c5_i32_416 : BitVec 32 := 5#32
  let c1_i32_417 : BitVec 32 := 1#32
  let v449 : BitVec 32 := Scalar.muli c5_i32_416 c1_i32_417
  let v450 : BitVec 32 := Scalar.addi c0_i32_418 v449
  v450.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_171 : BitVec 32 := 6#32
  let v200 : BitVec 1 := Scalar.cmpi .eq v2 c6_i32_171
  let v201 : BitVec 32 := Scalar.extui v200
  let c0_i32_172 : BitVec 32 := 0#32
  let v202 : BitVec 1 := Scalar.cmpi .ne v201 c0_i32_172
  v202

def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c0_417 : Index := 0#32
  let c0_418 : Index := 0#32
  ![v450.toNat, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_173 : BitVec 32 := 6#32
  let v203 : BitVec 1 := Scalar.cmpi .ne v2 c6_i32_173
  let v204 : BitVec 32 := Scalar.extui v203
  let c0_i32_174 : BitVec 32 := 0#32
  let v205 : BitVec 1 := Scalar.cmpi .ne v204 c0_i32_174
  v205

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let c0_i32_420 : BitVec 32 := 0#32
  ![v2.toNat, 0, 0]
def k0_dev14 : Nat :=
  let c0_i32_418 : BitVec 32 := 0#32
  let c6_i32_416 : BitVec 32 := 6#32
  let c1_i32_417 : BitVec 32 := 1#32
  let v449 : BitVec 32 := Scalar.muli c6_i32_416 c1_i32_417
  let v450 : BitVec 32 := Scalar.addi c0_i32_418 v449
  v450.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_185 : BitVec 32 := 7#32
  let v217 : BitVec 1 := Scalar.cmpi .eq v2 c7_i32_185
  let v218 : BitVec 32 := Scalar.extui v217
  let c0_i32_186 : BitVec 32 := 0#32
  let v219 : BitVec 1 := Scalar.cmpi .ne v218 c0_i32_186
  v219

def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v450 : Index := Scalar.indexCast v2
  let c0_417 : Index := 0#32
  let c0_418 : Index := 0#32
  ![v450.toNat, 0, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_187 : BitVec 32 := 7#32
  let v220 : BitVec 1 := Scalar.cmpi .ne v2 c7_i32_187
  let v221 : BitVec 32 := Scalar.extui v220
  let c0_i32_188 : BitVec 32 := 0#32
  let v222 : BitVec 1 := Scalar.cmpi .ne v221 c0_i32_188
  v222

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_419 : BitVec 32 := 0#32
  let c0_i32_420 : BitVec 32 := 0#32
  ![v2.toNat, 0, 0]
def k0_dev15 : Nat :=
  let c0_i32_418 : BitVec 32 := 0#32
  let c7_i32_416 : BitVec 32 := 7#32
  let c1_i32_417 : BitVec 32 := 1#32
  let v449 : BitVec 32 := Scalar.muli c7_i32_416 c1_i32_417
  let v450 : BitVec 32 := Scalar.addi c0_i32_418 v449
  v450.toNat
def k0_off25 (c0_i32_192 : BitVec 32) : Fin 1 → Nat :=
  let c2_i32_193 : BitVec 32 := 2#32
  let v225 : BitVec 32 := Scalar.remsi c0_i32_192 c2_i32_193
  ![v225.toNat]
def k0_off26 (c0_i32_190 : BitVec 32) : Fin 3 → Nat :=
  let c2_i32_191 : BitVec 32 := 2#32
  let v224 : BitVec 32 := Scalar.remsi c0_i32_190 c2_i32_191
  let c0_i32_194 : BitVec 32 := 0#32
  let c0_i32_195 : BitVec 32 := 0#32
  ![v224.toNat, 0, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_189 : BitVec 32 := 512#32
  let v223 : BitVec 32 := Scalar.muli v2 c512_i32_189
  let c0_i32_196 : BitVec 32 := 0#32
  ![v223.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_197 : BitVec 32 := 512#32
  let v231 : BitVec 32 := Scalar.muli v2 c512_i32_197
  let c512_i32_204 : BitVec 32 := 512#32
  ![v231.toNat, 512]
def k0_off29 (c0_i32_208 : BitVec 32) : Fin 2 → Nat :=
  let c4_i32_209 : BitVec 32 := 4#32
  let v242 : BitVec 32 := Scalar.remsi c0_i32_208 c4_i32_209
  let c0_i32_211 : BitVec 32 := 0#32
  ![v242.toNat, 0]
def k0_off30 (c0_i32_208 : BitVec 32) : Fin 3 → Nat :=
  let c4_i32_209 : BitVec 32 := 4#32
  let v242 : BitVec 32 := Scalar.remsi c0_i32_208 c4_i32_209
  let c0_i32_212 : BitVec 32 := 0#32
  let c0_i32_213 : BitVec 32 := 0#32
  ![v242.toNat, 0, 0]
def k0_off31 (d0 : Dev nD) (c0_i32_206 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_205 : BitVec 32 := 1#32
  let v239 : BitVec 32 := Scalar.addi v2 c1_i32_205
  let v240 : BitVec 32 := Scalar.addi v239 c0_i32_206
  let c8_i32_207 : BitVec 32 := 8#32
  let v241 : BitVec 32 := Scalar.remsi v240 c8_i32_207
  let c512_i32_210 : BitVec 32 := 512#32
  let v243 : BitVec 32 := Scalar.muli v241 c512_i32_210
  let c0_i32_214 : BitVec 32 := 0#32
  ![v243.toNat, 0]
def k0_off32 (c0_i32_218 : BitVec 32) : Fin 2 → Nat :=
  let c4_i32_219 : BitVec 32 := 4#32
  let v252 : BitVec 32 := Scalar.remsi c0_i32_218 c4_i32_219
  let c1_i32_221 : BitVec 32 := 1#32
  ![v252.toNat, 1]
def k0_off33 (c0_i32_218 : BitVec 32) : Fin 3 → Nat :=
  let c4_i32_219 : BitVec 32 := 4#32
  let v252 : BitVec 32 := Scalar.remsi c0_i32_218 c4_i32_219
  let c512_i32_222 : BitVec 32 := 512#32
  let c0_i32_223 : BitVec 32 := 0#32
  ![v252.toNat, 512, 0]
def k0_off34 (c0_i32_228 : BitVec 32) : Fin 2 → Nat :=
  let c4_i32_229 : BitVec 32 := 4#32
  let v262 : BitVec 32 := Scalar.remsi c0_i32_228 c4_i32_229
  let c2_i32_231 : BitVec 32 := 2#32
  ![v262.toNat, 2]
def k0_off35 (c0_i32_228 : BitVec 32) : Fin 3 → Nat :=
  let c4_i32_229 : BitVec 32 := 4#32
  let v262 : BitVec 32 := Scalar.remsi c0_i32_228 c4_i32_229
  let c1024_i32_232 : BitVec 32 := 1024#32
  let c0_i32_233 : BitVec 32 := 0#32
  ![v262.toNat, 1024, 0]
def k0_off36 (c0_i32_238 : BitVec 32) : Fin 2 → Nat :=
  let c4_i32_239 : BitVec 32 := 4#32
  let v272 : BitVec 32 := Scalar.remsi c0_i32_238 c4_i32_239
  let c3_i32_241 : BitVec 32 := 3#32
  ![v272.toNat, 3]
def k0_off37 (c0_i32_238 : BitVec 32) : Fin 3 → Nat :=
  let c4_i32_239 : BitVec 32 := 4#32
  let v272 : BitVec 32 := Scalar.remsi c0_i32_238 c4_i32_239
  let c1536_i32_242 : BitVec 32 := 1536#32
  let c0_i32_243 : BitVec 32 := 0#32
  ![v272.toNat, 1536, 0]
def k0_off38 (c0_i32_248 : BitVec 32) : Fin 2 → Nat :=
  let c4_i32_249 : BitVec 32 := 4#32
  let v282 : BitVec 32 := Scalar.remsi c0_i32_248 c4_i32_249
  let c4_i32_251 : BitVec 32 := 4#32
  ![v282.toNat, 4]
def k0_off39 (c0_i32_248 : BitVec 32) : Fin 3 → Nat :=
  let c4_i32_249 : BitVec 32 := 4#32
  let v282 : BitVec 32 := Scalar.remsi c0_i32_248 c4_i32_249
  let c2048_i32_252 : BitVec 32 := 2048#32
  let c0_i32_253 : BitVec 32 := 0#32
  ![v282.toNat, 2048, 0]
def k0_off40 (c0_i32_258 : BitVec 32) : Fin 2 → Nat :=
  let c4_i32_259 : BitVec 32 := 4#32
  let v292 : BitVec 32 := Scalar.remsi c0_i32_258 c4_i32_259
  let c5_i32_261 : BitVec 32 := 5#32
  ![v292.toNat, 5]
def k0_off41 (c0_i32_258 : BitVec 32) : Fin 3 → Nat :=
  let c4_i32_259 : BitVec 32 := 4#32
  let v292 : BitVec 32 := Scalar.remsi c0_i32_258 c4_i32_259
  let c2560_i32_262 : BitVec 32 := 2560#32
  let c0_i32_263 : BitVec 32 := 0#32
  ![v292.toNat, 2560, 0]
def k0_off42 (c0_i32_268 : BitVec 32) : Fin 2 → Nat :=
  let c4_i32_269 : BitVec 32 := 4#32
  let v302 : BitVec 32 := Scalar.remsi c0_i32_268 c4_i32_269
  let c6_i32_271 : BitVec 32 := 6#32
  ![v302.toNat, 6]
def k0_off43 (c0_i32_268 : BitVec 32) : Fin 3 → Nat :=
  let c4_i32_269 : BitVec 32 := 4#32
  let v302 : BitVec 32 := Scalar.remsi c0_i32_268 c4_i32_269
  let c3072_i32_272 : BitVec 32 := 3072#32
  let c0_i32_273 : BitVec 32 := 0#32
  ![v302.toNat, 3072, 0]
def k0_off44 (d0 : Dev nD) (c0_i32_276 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_275 : BitVec 32 := 1#32
  let v309 : BitVec 32 := Scalar.addi v2 c1_i32_275
  let v310 : BitVec 32 := Scalar.addi v309 c0_i32_276
  let c8_i32_277 : BitVec 32 := 8#32
  let v311 : BitVec 32 := Scalar.remsi v310 c8_i32_277
  let c512_i32_280 : BitVec 32 := 512#32
  let v313 : BitVec 32 := Scalar.muli v311 c512_i32_280
  let c512_i32_284 : BitVec 32 := 512#32
  ![v313.toNat, 512]
def k0_off45 (d0 : Dev nD) (c0_i32_346 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_345 : BitVec 32 := 1#32
  let v379 : BitVec 32 := Scalar.addi v2 c1_i32_345
  let v380 : BitVec 32 := Scalar.addi v379 c0_i32_346
  let c8_i32_347 : BitVec 32 := 8#32
  let v381 : BitVec 32 := Scalar.remsi v380 c8_i32_347
  let c512_i32_350 : BitVec 32 := 512#32
  let v383 : BitVec 32 := Scalar.muli v381 c512_i32_350
  let c1024_i32_354 : BitVec 32 := 1024#32
  ![v383.toNat, 1024]
def k0_cond18 (i : grid0.Coords) : BitVec 1 :=
  let arg0 : BitVec 32 := BitVec.ofNat 32 (i 0).val
  let c16_i32 : BitVec 32 := 16#32
  let v6 : BitVec 1 := Scalar.cmpi .slt arg0 c16_i32
  let v7 : BitVec 32 := Scalar.extui v6
  let c0_i32_1 : BitVec 32 := 0#32
  let v8 : BitVec 1 := Scalar.cmpi .ne v7 c0_i32_1
  v8

def k0_off46 (i : grid0.Coords) : Fin 1 → Nat :=
  let arg0 : BitVec 32 := BitVec.ofNat 32 (i 0).val
  let c2_i32_8 : BitVec 32 := 2#32
  let v21 : BitVec 32 := Scalar.remsi arg0 c2_i32_8
  ![v21.toNat]
def k0_off47 (i : grid0.Coords) : Fin 3 → Nat :=
  let arg0 : BitVec 32 := BitVec.ofNat 32 (i 0).val
  let c2_i32 : BitVec 32 := 2#32
  let v20 : BitVec 32 := Scalar.remsi arg0 c2_i32
  let c0_i32_9 : BitVec 32 := 0#32
  let c0_i32_10 : BitVec 32 := 0#32
  ![v20.toNat, 0, 0]
def k0_off48 (i : grid0.Coords) (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v18 : BitVec 32 := Scalar.muli v2 c512_i32
  let arg0 : BitVec 32 := BitVec.ofNat 32 (i 0).val
  let c512_i32_7 : BitVec 32 := 512#32
  let v19 : BitVec 32 := Scalar.muli arg0 c512_i32_7
  ![v18.toNat, v19.toNat]
def k0_off49 (i : grid0.Coords) : Fin 3 → Nat :=
  let arg0 : BitVec 32 := BitVec.ofNat 32 (i 0).val
  let c2_i32_11 : BitVec 32 := 2#32
  let v27 : BitVec 32 := Scalar.remsi arg0 c2_i32_11
  let v28 : Index := Scalar.indexCast v27
  let c0 : Index := 0#32
  let c0_12 : Index := 0#32
  ![v28.toNat, 0, 0]
def k0_off50 (i : grid0.Coords) : Fin 2 → Nat :=
  let c0_16 : Index := 0#32
  let arg0 : BitVec 32 := BitVec.ofNat 32 (i 0).val
  let c512_i32_15 : BitVec 32 := 512#32
  let v34 : BitVec 32 := Scalar.muli arg0 c512_i32_15
  let v35 : Index := Scalar.indexCast v34
  ![0, v35.toNat]
def k0_cond19 (i : grid0.Coords) : BitVec 1 :=
  let arg0 : BitVec 32 := BitVec.ofNat 32 (i 0).val
  let c2_i32_17 : BitVec 32 := 2#32
  let v39 : BitVec 32 := Scalar.addi arg0 c2_i32_17
  let c16_i32_18 : BitVec 32 := 16#32
  let v40 : BitVec 1 := Scalar.cmpi .slt v39 c16_i32_18
  let v41 : BitVec 32 := Scalar.extui v40
  let c0_i32_19 : BitVec 32 := 0#32
  let v42 : BitVec 1 := Scalar.cmpi .ne v41 c0_i32_19
  v42

def k0_off51 (i : grid0.Coords) : Fin 1 → Nat :=
  let arg0 : BitVec 32 := BitVec.ofNat 32 (i 0).val
  let c2_i32_20 : BitVec 32 := 2#32
  let v43 : BitVec 32 := Scalar.addi arg0 c2_i32_20
  let c2_i32_24 : BitVec 32 := 2#32
  let v47 : BitVec 32 := Scalar.remsi v43 c2_i32_24
  ![v47.toNat]
def k0_off52 (i : grid0.Coords) : Fin 3 → Nat :=
  let arg0 : BitVec 32 := BitVec.ofNat 32 (i 0).val
  let c2_i32_20 : BitVec 32 := 2#32
  let v43 : BitVec 32 := Scalar.addi arg0 c2_i32_20
  let c2_i32_23 : BitVec 32 := 2#32
  let v46 : BitVec 32 := Scalar.remsi v43 c2_i32_23
  let c0_i32_25 : BitVec 32 := 0#32
  let c0_i32_26 : BitVec 32 := 0#32
  ![v46.toNat, 0, 0]
def k0_off53 (i : grid0.Coords) (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_21 : BitVec 32 := 512#32
  let v44 : BitVec 32 := Scalar.muli v2 c512_i32_21
  let arg0 : BitVec 32 := BitVec.ofNat 32 (i 0).val
  let c2_i32_20 : BitVec 32 := 2#32
  let v43 : BitVec 32 := Scalar.addi arg0 c2_i32_20
  let c512_i32_22 : BitVec 32 := 512#32
  let v45 : BitVec 32 := Scalar.muli v43 c512_i32_22
  ![v44.toNat, v45.toNat]
def k0_cond20 (i : grid0.Coords) : BitVec 1 :=
  let arg0 : BitVec 32 := BitVec.ofNat 32 (i 0).val
  let c16_i32_2 : BitVec 32 := 16#32
  let v9 : BitVec 1 := Scalar.cmpi .eq arg0 c16_i32_2
  let v10 : BitVec 32 := Scalar.extui v9
  let c0_i32_3 : BitVec 32 := 0#32
  let v11 : BitVec 1 := Scalar.cmpi .ne v10 c0_i32_3
  v11

def k0_off54 (d0 : Dev nD) (c0_i32_8 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v18 : BitVec 32 := Scalar.addi v2 c1_i32_7
  let v19 : BitVec 32 := Scalar.addi v18 c0_i32_8
  let c8_i32_9 : BitVec 32 := 8#32
  let v20 : BitVec 32 := Scalar.remsi v19 c8_i32_9
  ![v20.toNat]
def k0_off55 (d0 : Dev nD) (c0_i32_8 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v18 : BitVec 32 := Scalar.addi v2 c1_i32_7
  let v19 : BitVec 32 := Scalar.addi v18 c0_i32_8
  let c8_i32_9 : BitVec 32 := 8#32
  let v20 : BitVec 32 := Scalar.remsi v19 c8_i32_9
  let c0_i32_12 : BitVec 32 := 0#32
  let c0_i32_13 : BitVec 32 := 0#32
  ![v20.toNat, 0, 0]
def k0_off56 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v21 : BitVec 32 := Scalar.muli v2 c512_i32
  let c0_i32_14 : BitVec 32 := 0#32
  ![v21.toNat, 0]
def k0_off57 (d0 : Dev nD) (c0_i32_8 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v18 : BitVec 32 := Scalar.addi v2 c1_i32_7
  let v19 : BitVec 32 := Scalar.addi v18 c0_i32_8
  let c8_i32_9 : BitVec 32 := 8#32
  let v20 : BitVec 32 := Scalar.remsi v19 c8_i32_9
  let v29 : Index := Scalar.indexCast v20
  let c0 : Index := 0#32
  let c0_15 : Index := 0#32
  ![v29.toNat, 0, 0]
def k0_cond21 (i : grid0.Coords) : BitVec 1 :=
  let arg0 : BitVec 32 := BitVec.ofNat 32 (i 0).val
  let c16_i32_4 : BitVec 32 := 16#32
  let v12 : BitVec 1 := Scalar.cmpi .sge arg0 c16_i32_4
  let v13 : BitVec 32 := Scalar.extui v12
  let c0_i32_5 : BitVec 32 := 0#32
  let v14 : BitVec 1 := Scalar.cmpi .ne v13 c0_i32_5
  v14

def k0_off58 (i : grid0.Coords) : Fin 2 → Nat :=
  let arg0 : BitVec 32 := BitVec.ofNat 32 (i 0).val
  let c16_i32_7 : BitVec 32 := 16#32
  let v18 : BitVec 32 := Scalar.subi arg0 c16_i32_7
  let c4_i32 : BitVec 32 := 4#32
  let v22 : BitVec 32 := Scalar.remsi v18 c4_i32
  let c0_i32_12 : BitVec 32 := 0#32
  ![v22.toNat, 0]
def k0_off59 (i : grid0.Coords) : Fin 3 → Nat :=
  let arg0 : BitVec 32 := BitVec.ofNat 32 (i 0).val
  let c16_i32_7 : BitVec 32 := 16#32
  let v18 : BitVec 32 := Scalar.subi arg0 c16_i32_7
  let c4_i32 : BitVec 32 := 4#32
  let v22 : BitVec 32 := Scalar.remsi v18 c4_i32
  let c0_i32_13 : BitVec 32 := 0#32
  let c0_i32_14 : BitVec 32 := 0#32
  ![v22.toNat, 0, 0]
def k0_off60 (i : grid0.Coords) (d0 : Dev nD) (c0_i32_9 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v19 : BitVec 32 := Scalar.addi v2 c1_i32_8
  let v20 : BitVec 32 := Scalar.addi v19 c0_i32_9
  let c8_i32_10 : BitVec 32 := 8#32
  let v21 : BitVec 32 := Scalar.remsi v20 c8_i32_10
  let c512_i32 : BitVec 32 := 512#32
  let v23 : BitVec 32 := Scalar.muli v21 c512_i32
  let arg0 : BitVec 32 := BitVec.ofNat 32 (i 0).val
  let c16_i32_7 : BitVec 32 := 16#32
  let v18 : BitVec 32 := Scalar.subi arg0 c16_i32_7
  let c512_i32_11 : BitVec 32 := 512#32
  let v24 : BitVec 32 := Scalar.muli v18 c512_i32_11
  ![v23.toNat, v24.toNat]
def k0_off61 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_18 : BitVec 32 := 4#32
  let v33 : BitVec 32 := Scalar.remsi v18 c4_i32_18
  let c1_i32_21 : BitVec 32 := 1#32
  ![v33.toNat, 1]
def k0_off62 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_18 : BitVec 32 := 4#32
  let v33 : BitVec 32 := Scalar.remsi v18 c4_i32_18
  let c512_i32_22 : BitVec 32 := 512#32
  let c0_i32_23 : BitVec 32 := 0#32
  ![v33.toNat, 512, 0]
def k0_off63 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_26 : BitVec 32 := 4#32
  let v44 : BitVec 32 := Scalar.remsi v18 c4_i32_26
  let c2_i32_29 : BitVec 32 := 2#32
  ![v44.toNat, 2]
def k0_off64 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_26 : BitVec 32 := 4#32
  let v44 : BitVec 32 := Scalar.remsi v18 c4_i32_26
  let c1024_i32 : BitVec 32 := 1024#32
  let c0_i32_30 : BitVec 32 := 0#32
  ![v44.toNat, 1024, 0]
def k0_off65 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_33 : BitVec 32 := 4#32
  let v55 : BitVec 32 := Scalar.remsi v18 c4_i32_33
  let c3_i32_36 : BitVec 32 := 3#32
  ![v55.toNat, 3]
def k0_off66 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_33 : BitVec 32 := 4#32
  let v55 : BitVec 32 := Scalar.remsi v18 c4_i32_33
  let c1536_i32 : BitVec 32 := 1536#32
  let c0_i32_37 : BitVec 32 := 0#32
  ![v55.toNat, 1536, 0]
def k0_off67 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_41 : BitVec 32 := 4#32
  let v66 : BitVec 32 := Scalar.remsi v18 c4_i32_41
  let c4_i32_44 : BitVec 32 := 4#32
  ![v66.toNat, 4]
def k0_off68 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_41 : BitVec 32 := 4#32
  let v66 : BitVec 32 := Scalar.remsi v18 c4_i32_41
  let c2048_i32 : BitVec 32 := 2048#32
  let c0_i32_45 : BitVec 32 := 0#32
  ![v66.toNat, 2048, 0]
def k0_off69 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_48 : BitVec 32 := 4#32
  let v77 : BitVec 32 := Scalar.remsi v18 c4_i32_48
  let c5_i32_51 : BitVec 32 := 5#32
  ![v77.toNat, 5]
def k0_off70 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_48 : BitVec 32 := 4#32
  let v77 : BitVec 32 := Scalar.remsi v18 c4_i32_48
  let c2560_i32 : BitVec 32 := 2560#32
  let c0_i32_52 : BitVec 32 := 0#32
  ![v77.toNat, 2560, 0]
def k0_off71 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_55 : BitVec 32 := 4#32
  let v88 : BitVec 32 := Scalar.remsi v18 c4_i32_55
  let c6_i32_58 : BitVec 32 := 6#32
  ![v88.toNat, 6]
def k0_off72 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_55 : BitVec 32 := 4#32
  let v88 : BitVec 32 := Scalar.remsi v18 c4_i32_55
  let c3072_i32 : BitVec 32 := 3072#32
  let c0_i32_59 : BitVec 32 := 0#32
  ![v88.toNat, 3072, 0]
def k0_off73 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_60 : BitVec 32 := 4#32
  let v96 : BitVec 32 := Scalar.remsi v18 c4_i32_60
  let v97 : Index := Scalar.indexCast v96
  let c0 : Index := 0#32
  let c0_61 : Index := 0#32
  ![v97.toNat, 0, 0]
def k0_off74 (i : grid0.Coords) : Fin 2 → Nat :=
  let c0_66 : Index := 0#32
  let arg0 : BitVec 32 := BitVec.ofNat 32 (i 0).val
  let c16_i32_7 : BitVec 32 := 16#32
  let v18 : BitVec 32 := Scalar.subi arg0 c16_i32_7
  let c512_i32_65 : BitVec 32 := 512#32
  let v106 : BitVec 32 := Scalar.muli v18 c512_i32_65
  let v107 : Index := Scalar.indexCast v106
  ![0, v107.toNat]
def k0_off75 (i : grid0.Coords) : Fin 1 → Nat :=
  let arg0 : BitVec 32 := BitVec.ofNat 32 (i 0).val
  let c16_i32_7 : BitVec 32 := 16#32
  let v18 : BitVec 32 := Scalar.subi arg0 c16_i32_7
  let c16_i32_72 : BitVec 32 := 16#32
  let v121 : BitVec 32 := Scalar.remsi v18 c16_i32_72
  ![v121.toNat]
def k0_off76 (i : grid0.Coords) : Fin 2 → Nat :=
  let c0_i32_73 : BitVec 32 := 0#32
  let arg0 : BitVec 32 := BitVec.ofNat 32 (i 0).val
  let c16_i32_7 : BitVec 32 := 16#32
  let v18 : BitVec 32 := Scalar.subi arg0 c16_i32_7
  let c512_i32_71 : BitVec 32 := 512#32
  let v120 : BitVec 32 := Scalar.muli v18 c512_i32_71
  ![0, v120.toNat]
def k0_cond22 (i : grid0.Coords) : BitVec 1 :=
  let arg0 : BitVec 32 := BitVec.ofNat 32 (i 0).val
  let c16_i32_7 : BitVec 32 := 16#32
  let v18 : BitVec 32 := Scalar.subi arg0 c16_i32_7
  let c4_i32_75 : BitVec 32 := 4#32
  let v126 : BitVec 32 := Scalar.addi v18 c4_i32_75
  let c1_i32_76 : BitVec 32 := 1#32
  let v127 : BitVec 32 := Scalar.subi v126 c1_i32_76
  let c16_i32_77 : BitVec 32 := 16#32
  let v128 : BitVec 1 := Scalar.cmpi .slt v127 c16_i32_77
  let v129 : BitVec 32 := Scalar.extui v128
  let c0_i32_78 : BitVec 32 := 0#32
  let v130 : BitVec 1 := Scalar.cmpi .ne v129 c0_i32_78
  v130

def k0_off77 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_84 : BitVec 32 := 4#32
  let v136 : BitVec 32 := Scalar.remsi v132 c4_i32_84
  let c0_i32_87 : BitVec 32 := 0#32
  ![v136.toNat, 0]
def k0_off78 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_84 : BitVec 32 := 4#32
  let v136 : BitVec 32 := Scalar.remsi v132 c4_i32_84
  let c0_i32_88 : BitVec 32 := 0#32
  let c0_i32_89 : BitVec 32 := 0#32
  ![v136.toNat, 0, 0]
def k0_off79 (i : grid0.Coords) (d0 : Dev nD) (c0_i32_82 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v133 : BitVec 32 := Scalar.addi v2 c1_i32_81
  let v134 : BitVec 32 := Scalar.addi v133 c0_i32_82
  let c8_i32_83 : BitVec 32 := 8#32
  let v135 : BitVec 32 := Scalar.remsi v134 c8_i32_83
  let c512_i32_85 : BitVec 32 := 512#32
  let v137 : BitVec 32 := Scalar.muli v135 c512_i32_85
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c512_i32_86 : BitVec 32 := 512#32
  let v138 : BitVec 32 := Scalar.muli v132 c512_i32_86
  ![v137.toNat, v138.toNat]
def k0_off80 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_93 : BitVec 32 := 4#32
  let v147 : BitVec 32 := Scalar.remsi v132 c4_i32_93
  let c1_i32_96 : BitVec 32 := 1#32
  ![v147.toNat, 1]
def k0_off81 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_93 : BitVec 32 := 4#32
  let v147 : BitVec 32 := Scalar.remsi v132 c4_i32_93
  let c512_i32_97 : BitVec 32 := 512#32
  let c0_i32_98 : BitVec 32 := 0#32
  ![v147.toNat, 512, 0]
def k0_off82 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_102 : BitVec 32 := 4#32
  let v158 : BitVec 32 := Scalar.remsi v132 c4_i32_102
  let c2_i32_105 : BitVec 32 := 2#32
  ![v158.toNat, 2]
def k0_off83 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_102 : BitVec 32 := 4#32
  let v158 : BitVec 32 := Scalar.remsi v132 c4_i32_102
  let c1024_i32_106 : BitVec 32 := 1024#32
  let c0_i32_107 : BitVec 32 := 0#32
  ![v158.toNat, 1024, 0]
def k0_off84 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_111 : BitVec 32 := 4#32
  let v169 : BitVec 32 := Scalar.remsi v132 c4_i32_111
  let c3_i32_114 : BitVec 32 := 3#32
  ![v169.toNat, 3]
def k0_off85 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_111 : BitVec 32 := 4#32
  let v169 : BitVec 32 := Scalar.remsi v132 c4_i32_111
  let c1536_i32_115 : BitVec 32 := 1536#32
  let c0_i32_116 : BitVec 32 := 0#32
  ![v169.toNat, 1536, 0]
def k0_off86 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_120 : BitVec 32 := 4#32
  let v180 : BitVec 32 := Scalar.remsi v132 c4_i32_120
  let c4_i32_123 : BitVec 32 := 4#32
  ![v180.toNat, 4]
def k0_off87 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_120 : BitVec 32 := 4#32
  let v180 : BitVec 32 := Scalar.remsi v132 c4_i32_120
  let c2048_i32_124 : BitVec 32 := 2048#32
  let c0_i32_125 : BitVec 32 := 0#32
  ![v180.toNat, 2048, 0]
def k0_off88 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_129 : BitVec 32 := 4#32
  let v191 : BitVec 32 := Scalar.remsi v132 c4_i32_129
  let c5_i32_132 : BitVec 32 := 5#32
  ![v191.toNat, 5]
def k0_off89 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_129 : BitVec 32 := 4#32
  let v191 : BitVec 32 := Scalar.remsi v132 c4_i32_129
  let c2560_i32_133 : BitVec 32 := 2560#32
  let c0_i32_134 : BitVec 32 := 0#32
  ![v191.toNat, 2560, 0]
def k0_off90 (i : grid0.Coords) : Fin 2 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_138 : BitVec 32 := 4#32
  let v202 : BitVec 32 := Scalar.remsi v132 c4_i32_138
  let c6_i32_141 : BitVec 32 := 6#32
  ![v202.toNat, 6]
def k0_off91 (i : grid0.Coords) : Fin 3 → Nat :=
  let arg0 : BitVec 32 := BitVec.ofNat 32 (i 0).val
  let c16_i32_7 : BitVec 32 := 16#32
  let v18 : BitVec 32 := Scalar.subi arg0 c16_i32_7
  let c4_i32_79 : BitVec 32 := 4#32
  let v131 : BitVec 32 := Scalar.addi v18 c4_i32_79
  let c1_i32_80 : BitVec 32 := 1#32
  let v132 : BitVec 32 := Scalar.subi v131 c1_i32_80
  let c4_i32_138 : BitVec 32 := 4#32
  let v202 : BitVec 32 := Scalar.remsi v132 c4_i32_138
  let c3072_i32_142 : BitVec 32 := 3072#32
  let c0_i32_143 : BitVec 32 := 0#32
  ![v202.toNat, 3072, 0]
def k0_cond23 (i : grid0.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32_6 : BitVec 32 := 0#32
  let v17 : BitVec 1 := Scalar.cmpi .ne v16 c0_i32_6
  v17

def k0_off92 (d0 : Dev nD) (c1_i32_59 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v82 : BitVec 32 := Scalar.addi v2 c1_i32_59
  let c8_i32_60 : BitVec 32 := 8#32
  let v83 : BitVec 32 := Scalar.remsi v82 c8_i32_60
  ![v83.toNat]
def k0_off93 (d0 : Dev nD) (c1_i32_59 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v82 : BitVec 32 := Scalar.addi v2 c1_i32_59
  let c8_i32_60 : BitVec 32 := 8#32
  let v83 : BitVec 32 := Scalar.remsi v82 c8_i32_60
  let c512_i32_61 : BitVec 32 := 512#32
  let v84 : BitVec 32 := Scalar.muli v83 c512_i32_61
  let c0_i32_63 : BitVec 32 := 0#32
  ![v84.toNat, 0]
def k0_off94 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let c0_i32_65 : BitVec 32 := 0#32
  ![v2.toNat, 0, 0]
def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Setup.lean ====
/-
# The kernel's proof: names, algebra, and one rule per memory operation

The kernel's buffers and semaphores under short names, the resource algebra the proof runs over, and one rule per
memory operation: each is stated with the elements it touches held at contents the proof NAMES, so that the state
after it is again named contents and never a term of writes over writes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic
public import Idealize.ShloMosaic.Lib.ValueLayout
public import Idealize.ShloMosaic.Lib.Writes

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra -/

/-- The cells' rounds, duties named by a device. -/
abbrev UB : Type := URounds (GSem nD τ sig) (Dev nD)
/-- The pipeline library's copy, the cells' rounds, the local transfers' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

abbrev 𝒱₀ : Variants := Variants.none

/-- The weakest precondition of a program on device `c`'s TensorCore. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The buffers -/

abbrev xA : Memref sig .tc .hbm S4096x512 .f32 := Memref.whole main_arg0
abbrev wA : Memref sig .tc .hbm S4096x8192 .f32 := Memref.whole main_arg1
abbrev oA : Memref sig .tc .hbm S512x8192 .f32 := Memref.whole main_v1
abbrev xsM : Memref sig .tc .vmem S4096x512 .fp8e4m3 := Memref.whole cc0_scratch0
abbrev cmM : Memref sig .tc .vmem S8x512x512 .fp8e4m3 := Memref.whole cc0_scratch1
abbrev aM : Memref sig .tc .vmem S512x4096 .bf16 := Memref.whole cc0_scratch2
abbrev waM : Memref sig .tc .vmem S2x512x512 .f32 := Memref.whole cc0_scratch3
abbrev wbM : Memref sig .tc .vmem S4x3584x512 .f32 := Memref.whole cc0_scratch4
abbrev stM : Memref sig .tc .vmem S2x512x512 .f32 := Memref.whole cc0_scratch5
abbrev acM : Memref sig .tc .vmem S512x8192 .f32 := Memref.whole cc0_scratch6

/-! ## Rectangles of an array as sets of its indices -/

/-- The indices of the rectangle of sizes `size` from `off`. -/
def box (s : Shape) (off size : Fin s.rank → Nat) : Finset s.Idx :=
  Finset.univ.filter fun i => ∀ a, off a ≤ i a ∧ (i a : Nat) < off a + size a

theorem mem_box {s : Shape} {off size : Fin s.rank → Nat} {i : s.Idx} :
    i ∈ box s off size ↔ ∀ a, off a ≤ i a ∧ (i a : Nat) < off a + size a := by
  simp only [box, Finset.mem_filter, Finset.mem_univ, true_and]

theorem box_eq_set {s : Shape} {off size : Fin s.rank → Nat} {inb} : (Rect.unit off size inb).set = box s off size :=
  Finset.ext fun i => by rw [Rect.mem_set_unit, mem_box]

theorem box_disjoint {s : Shape} {off size off' size' : Fin s.rank → Nat} (a : Fin s.rank)
    (h : off a + size a ≤ off' a ∨ off' a + size' a ≤ off a) : Disjoint (box s off size) (box s off' size') :=
  Finset.disjoint_left.mpr fun i hi hj => by
    have h₁ := mem_box.mp hi a
    have h₂ := mem_box.mp hj a
    omega

/-! ## One rule per memory operation -/

section Steps

variable {nD' : Nat} {τ' : Topo} {sig' : RefSig} {Ix : Type} [DecidableEq Ix] {Val : EltTy → Type} {Name : Type} [DecidableEq Name]
  {U : Type} [URA U] {Lvl : Type} {Λ : Labels} [Preorder Lvl] {defs : Defs nD' τ' sig' Val Λ} (𝒱 : Variants) (c : Thread nD' τ')
  {α : Type} {Q : α → sProp (MT nD' τ' sig' Ix Val Name U Lvl)} {s : Shape} {e : EltTy}

/-- A load of elements held at `f`, what it reads named `v`. -/
theorem st_load {cs : CoreSpace} {M : Memref sig' c.2.kind cs s e} {r : LoadRect s} {hl : M.view.LoadsAt r}
    {k : (r.shape.Idx → Val e) → Prog (TpuEff nD' τ' sig' Val Λ c.2) α} {S : Finset (Idx (M.view.loc c))}
    {f : Buf Val (M.view.loc c)} (v : r.shape.Idx → Val e) (hS : M.view.setOn r.set ⊆ S)
    (hv : M.view.readAt Val r f = v) :
    (M.view.loc c ↦[S]{fullShare} f : sProp (MT nD' τ' sig' Ix Val Name U Lvl))
      ⊢ iprop(((M.view.loc c ↦[S]{fullShare} f) -∗ wp frame (wpE defs 𝒱 c none) Set.univ (k v) Q)
          -∗ wp frame (wpE defs 𝒱 c none) Set.univ (.op (.load M r hl) k) Q) := by
  subst hv
  exact wp_load 𝒱 c none Set.univ hS

/-- A store over elements held at anything, the contents after it named `g`. -/
theorem st_store {cs : CoreSpace} {M : Memref sig' c.2.kind cs s e} {r : Rect s} {w : r.shape.Idx → Val e}
    {hx : (M.access r).Stores Finset.univ} {hm : Finset.univ = Finset.univ ∨ ∀ a, r.stride a = 1}
    {k : PUnit → Prog (TpuEff nD' τ' sig' Val Λ c.2) α} {S : Finset (Idx ((M.access r).loc c))}
    {f : Buf Val ((M.access r).loc c)} (g : Buf Val ((M.access r).loc c))
    (hS : (M.access r).set = S) (hw : (M.access r).read Val g = w) :
    ((M.access r).loc c ↦[S]{fullShare} f : sProp (MT nD' τ' sig' Ix Val Name U Lvl))
      ⊢ iprop((((M.access r).loc c ↦[S]{fullShare} g) -∗ wp frame (wpE defs 𝒱 c none) Set.univ (k ⟨⟩) Q)
          -∗ wp frame (wpE defs 𝒱 c none) Set.univ (.op (.store M r w Finset.univ hx hm) k) Q) := by
  subst hw
  have h := wp_store (defs := defs) (Γ := []) (Q := Q) 𝒱 c none Set.univ (m := M) (r := r) (w := (M.access r).read Val g)
    (Mk := Finset.univ) (hx := hx) (hm := hm) (k := k) (f := f) (S := S) (by rw [← hS]; exact subset_rfl)
  refine h.trans (wand_mono_left (wand_mono_left (Entails.of_eq (pointsTo_congr fun i hi => ?_))))
  rw [← hS] at hi
  obtain ⟨x, -, rfl⟩ := Finset.mem_map.mp hi
  rw [View.write_emb_of_mem _ _ (Finset.mem_univ _), View.read_apply, cast_cast, cast_eq]

end Steps

section DmaSteps

variable {nD' : Nat} {τ' : Topo} {sig' : RefSig} {Ix : Type} [DecidableEq Ix] {Val : EltTy → Type} {Name : Type} [DecidableEq Name]
  {U : Type} [URA U] {Lvl : Type} {Λ : Labels} [Preorder Lvl] {defs : Defs nD' τ' sig' Val Λ}
  (EC : UEmb Counters (MT nD' τ' sig' Ix Val Name U Lvl)) (𝒱 : Variants) (c : Thread nD' τ')
  {α : Type} {Q : α → sProp (MT nD' τ' sig' Ix Val Name U Lvl)} {sp sp' : Space} {s : Shape} {e : EltTy}

/-- A local transfer whose landing is named: from the source at `fs` and the destination at anything, its `Flight`
    delivers the destination at `g` — agreeing, through the destination's view, with what the source reads — and the
    source back. -/
theorem st_start [Infinite Name] [EC.LandsIn (upEmb : UEmb _ (MT nD' τ' sig' Ix Val Name U Lvl))]
    {src : Memref sig' c.2.kind sp s e} {dst : Memref sig' c.2.kind sp' s e} {sm : SemLoc sig'}
    {hsrc : src.view.WordExact} {hdst : dst.view.WordExact} {hsem : DmaTarget.Typed (nD := nD') sp sm (.here dst)}
    {k : PUnit → Prog (TpuEff nD' τ' sig' Val Λ c.2) α} {q : PosShare TreeShare} {Ss : Finset (Idx (src.view.loc c))}
    {fs : Buf Val (src.view.loc c)} {Sd : Finset (Idx (dst.view.loc c))} {fd : Buf Val (dst.view.loc c)}
    (ι : Ix) (N : ℕ) (g : Buf Val (dst.view.loc c)) (hN : dst.view.amount sm = N) (hN0 : 0 < N)
    (hSs : src.view.set = Ss) (hSd : dst.view.set = Sd) (hg : dst.view.read Val g = src.view.read Val fs) :
    iprop((src.view.loc c ↦[Ss]{q} fs) ∗ (dst.view.loc c ↦[Sd]{fullShare} fd) ∗ semVal (c, sm) 0)
      ⊢ iprop((Flight EC c sm ι N iprop((dst.view.loc c ↦[Sd]{fullShare} g) ∗ (src.view.loc c ↦[Ss]{q} fs))
              -∗ wp frame (wpE defs 𝒱 c none) Set.univ (k ⟨⟩) Q)
          -∗ wp frame (wpE defs 𝒱 c none) Set.univ (.op (.enqueueDmaAs src (.here dst) .same sm hsrc hdst hsem) k) Q) := by
  subst hSs
  refine (wp_dmaLocal EC 𝒱 c none ι N hN hN0 (by rw [hSd])).trans (wand_mono_left (wand_mono_left (Flight_mono EC c ?_)))
  refine sep_mono_left (Entails.of_eq (pointsTo_congr fun i hi => ?_))
  rw [← hSd] at hi
  obtain ⟨x, -, rfl⟩ := Finset.mem_map.mp hi
  rw [View.write_emb_of_mem _ _ (Finset.mem_univ _)]
  have h := congrFun hg x
  simp only [View.read_apply] at h
  show cast _ (src.view.read Val fs x) = _
  rw [View.read_apply, ← h, cast_cast, cast_eq]

end DmaSteps

end Cert.KProof
-- ==== Proof.Content.lean ====
/-
# What every buffer holds

The contents of the kernel's buffers as functions of the arguments alone: what each 512x512 block holds once it has
been written. Every assertion of the proof names one of these functions.
-/
module

public import proofs.«01_k».proof.Proof.Setup

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Blocks -/

/-- A block's contents. -/
abbrev Blk (F : FTy → Type) (e : EltTy) : Type := S512x512.Idx → Elt F e

/-- The block of a 2-D array at row `o0`, column `o1`. -/
def blk2 {n0 n1 : ℕ} {e : EltTy} (f : (⟨2, ![n0 + 1, n1 + 1]⟩ : Shape).Idx → Elt F e) (o0 o1 : ℕ) : Blk F e := fun i =>
  f (ix2 ⟨(o0 + (i 0 : ℕ)) % (n0 + 1), Nat.mod_lt _ (Nat.succ_pos _)⟩ ⟨(o1 + (i 1 : ℕ)) % (n1 + 1), Nat.mod_lt _ (Nat.succ_pos _)⟩)

/-- A block as the contents of a slot of a 3-D array: at the last two coordinates, whatever the first. -/
def pl3 {n0 n1 n2 : ℕ} {e : EltTy} (B : Blk F e) : (⟨3, ![n0, n1, n2]⟩ : Shape).Idx → Elt F e := fun i =>
  B (ix2 ⟨(i 1 : ℕ) % 512, Nat.mod_lt _ (by decide)⟩ ⟨(i 2 : ℕ) % 512, Nat.mod_lt _ (by decide)⟩)

/-- Device `n` of the eight, counted around the ring. -/
def dv (n : ℕ) : Dev nD := ⟨n % 8, Nat.mod_lt _ (by decide)⟩

/-! ## The arguments -/

/-- What the proof is about: each device's arguments, at any contents. -/
structure Inp (F : FTy → Type) where
  X : Dev nD → S4096x512.Idx → Elt F .f32
  W : Dev nD → S4096x8192.Idx → Elt F .f32
  sx : Dev nD → Elt F .f32
  sw : Dev nD → Elt F .f32

variable (I : Inp F)

/-- Rows `512 j ..` of device `c`'s `x`. -/
def xb (c : Dev nD) (j : ℕ) : Blk F .f32 := blk2 (n0 := 4095) (n1 := 511) (I.X c) (512 * j) 0
/-- Rows `512 r ..`, columns `512 b ..` of device `c`'s `w`. -/
def wblk (c : Dev nD) (r b : ℕ) : Blk F .f32 := blk2 (n0 := 4095) (n1 := 8191) (I.W c) (512 * r) (512 * b)
/-- A block of `x`, rounded for the exchange. -/
def q8 (B : Blk F .f32) : Blk F .fp8e4m3 := k0_pay9 (pl3 B)
/-- A block off the exchange, widened for the product. -/
def toB (B : Blk F .fp8e4m3) : Blk F .bf16 := k0_pay2 (pl3 B)
/-- Slab `j` of device `c`, rounded. -/
def xsb (c : Dev nD) (j : ℕ) : Blk F .fp8e4m3 := q8 (xb I c j)

/-- The rounded `x` of device `c`. -/
def xsF (c : Dev nD) : S4096x512.Idx → Elt F .fp8e4m3 := fun i =>
  xsb I c ((i 0 : ℕ) / 512) (ix2 ⟨(i 0 : ℕ) % 512, Nat.mod_lt _ (by decide)⟩ ⟨(i 1 : ℕ) % 512, Nat.mod_lt _ (by decide)⟩)
/-- The exchange buffer of device `c`: slot `s` holds slab `c` of device `s`. -/
def cmF (c : Dev nD) : S8x512x512.Idx → Elt F .fp8e4m3 := fun i =>
  xsb I (dv (i 0 : ℕ)) c (ix2 ⟨(i 1 : ℕ) % 512, Nat.mod_lt _ (by decide)⟩ ⟨(i 2 : ℕ) % 512, Nat.mod_lt _ (by decide)⟩)
/-- The gathered rows of device `c`: column block `k` is slab `c` of the device `k` places on. -/
def ab (c : Dev nD) (k : ℕ) : Blk F .bf16 := toB (xsb I (dv (c + k)) c)
def aF (c : Dev nD) : S512x4096.Idx → Elt F .bf16 := fun i =>
  ab I c ((i 1 : ℕ) / 512) (ix2 ⟨(i 0 : ℕ) % 512, Nat.mod_lt _ (by decide)⟩ ⟨(i 1 : ℕ) % 512, Nat.mod_lt _ (by decide)⟩)
/-- One slot of the big weight stage for column block `b`: row block `k` is `w`'s of the device `k + 1` places on. -/
def wbF (c : Dev nD) (b : ℕ) : S4x3584x512.Idx → Elt F .f32 := fun i =>
  wblk I c (dv (c + (i 1 : ℕ) / 512 + 1)) b (ix2 ⟨(i 1 : ℕ) % 512, Nat.mod_lt _ (by decide)⟩ ⟨(i 2 : ℕ) % 512, Nat.mod_lt _ (by decide)⟩)

/-- The own part of the product, column block `b`. -/
def acb (c : Dev nD) (b : ℕ) : Blk F .f32 := k0_pay1 (pl3 (wblk I c c b)) (ab I c 0)
def acF (c : Dev nD) : S512x8192.Idx → Elt F .f32 := fun i =>
  acb I c ((i 1 : ℕ) / 512) (ix2 ⟨(i 0 : ℕ) % 512, Nat.mod_lt _ (by decide)⟩ ⟨(i 1 : ℕ) % 512, Nat.mod_lt _ (by decide)⟩)

/-- What a load of a whole slot of the big weight stage reads, and of the seven gathered column blocks. -/
def wbV (c : Dev nD) (b : ℕ) : Vec F S1x3584x512 .f32 := fun i =>
  wblk I c (dv (c + (i 1 : ℕ) / 512 + 1)) b (ix2 ⟨(i 1 : ℕ) % 512, Nat.mod_lt _ (by decide)⟩ ⟨(i 2 : ℕ) % 512, Nat.mod_lt _ (by decide)⟩)
def aV (c : Dev nD) : Vec F S512x3584 .bf16 := fun i =>
  ab I c ((i 1 : ℕ) / 512 + 1) (ix2 ⟨(i 0 : ℕ) % 512, Nat.mod_lt _ (by decide)⟩ ⟨(i 1 : ℕ) % 512, Nat.mod_lt _ (by decide)⟩)

/-- The result, column block `b`. -/
def ob (c : Dev nD) (b : ℕ) : Blk F .f32 := k0_pay4 (k0_pay37 (wbV I c b) (aV I c) (I.sx c) (I.sw c) (acb I c b))
def oF (c : Dev nD) : S512x8192.Idx → Elt F .f32 := fun i =>
  ob I c ((i 1 : ℕ) / 512) (ix2 ⟨(i 0 : ℕ) % 512, Nat.mod_lt _ (by decide)⟩ ⟨(i 1 : ℕ) % 512, Nat.mod_lt _ (by decide)⟩)

/-! ## Reading the contents through a rectangle -/

theorem ix2_congr {n0 n1 : ℕ} {a a' : Fin n0} {b b' : Fin n1} (ha : (a : ℕ) = a') (hb : (b : ℕ) = b') : ix2 a b = ix2 a' b' := by
  rw [Fin.ext ha, Fin.ext hb]

theorem blk_congr {α : Type} (B : ℕ → S512x512.Idx → α) {k k' a b : ℕ} (h0 : a % 512 < 512) (h1 : b % 512 < 512) (i : S512x512.Idx)
    (hk : k = k') (ha : a % 512 = (i 0 : ℕ)) (hb : b % 512 = (i 1 : ℕ)) : B k (ix2 ⟨a % 512, h0⟩ ⟨b % 512, h1⟩) = B k' i := by
  subst hk
  refine congrArg (B k) (Eq.trans (ix2_congr ha hb) ?_)
  funext a
  match a with | ⟨0, _⟩ => rfl | ⟨1, _⟩ => rfl

theorem lt512_0 (i : S512x512.Idx) : (i 0 : ℕ) < 512 := (i 0).isLt
theorem lt512_1 (i : S512x512.Idx) : (i 1 : ℕ) < 512 := (i 1).isLt

theorem rd_blk2 {n0 n1 : ℕ} {e : EltTy} (f : (⟨2, ![n0 + 1, n1 + 1]⟩ : Shape).Idx → Elt F e) (o0 o1 : ℕ)
    (inb : ∀ a, (![o0, o1] : Fin 2 → ℕ) a + S512x512.size a ≤ (⟨2, ![n0 + 1, n1 + 1]⟩ : Shape).size a) (i : S512x512.Idx) :
    f ((Rect.unit (s := ⟨2, ![n0 + 1, n1 + 1]⟩) ![o0, o1] S512x512.size inb).emb i) = blk2 f o0 o1 i := by
  have h0 : o0 + 512 ≤ n0 + 1 := inb 0
  have h1 : o1 + 512 ≤ n1 + 1 := inb 1
  have i0 := lt512_0 i
  have i1 := lt512_1 i
  unfold blk2
  congr 1
  funext a
  match a with
  | ⟨0, _⟩ => exact Fin.ext (show o0 + 1 * (i 0 : ℕ) = (o0 + (i 0 : ℕ)) % (n0 + 1) by rw [Nat.mod_eq_of_lt (by omega), Nat.one_mul])
  | ⟨1, _⟩ => exact Fin.ext (show o1 + 1 * (i 1 : ℕ) = (o1 + (i 1 : ℕ)) % (n1 + 1) by rw [Nat.mod_eq_of_lt (by omega), Nat.one_mul])

theorem rd_xs (c : Dev nD) (j : ℕ) (inb) (i : S512x512.Idx) :
    xsF I c ((Rect.unit (s := S4096x512) ![512 * j, 0] S512x512.size inb).emb i) = xsb I c j i := by
  have i0 := lt512_0 i
  have i1 := lt512_1 i
  exact blk_congr (fun k => xsb I c k) (k := (512 * j + 1 * (i 0 : ℕ)) / 512) (k' := j) (a := 512 * j + 1 * (i 0 : ℕ)) (b := 0 + 1 * (i 1 : ℕ)) _ _ i (by omega) (by omega) (by omega)

theorem rd_a (c : Dev nD) (k : ℕ) (inb) (i : S512x512.Idx) :
    aF I c ((Rect.unit (s := S512x4096) ![0, 512 * k] S512x512.size inb).emb i) = ab I c k i := by
  have i0 := lt512_0 i
  have i1 := lt512_1 i
  exact blk_congr (fun k => ab I c k) (k := (512 * k + 1 * (i 1 : ℕ)) / 512) (k' := k) (a := 0 + 1 * (i 0 : ℕ)) (b := 512 * k + 1 * (i 1 : ℕ)) _ _ i (by omega) (by omega) (by omega)

theorem rd_ac (c : Dev nD) (k : ℕ) (inb) (i : S512x512.Idx) :
    acF I c ((Rect.unit (s := S512x8192) ![0, 512 * k] S512x512.size inb).emb i) = acb I c k i := by
  have i0 := lt512_0 i
  have i1 := lt512_1 i
  exact blk_congr (fun k => acb I c k) (k := (512 * k + 1 * (i 1 : ℕ)) / 512) (k' := k) (a := 0 + 1 * (i 0 : ℕ)) (b := 512 * k + 1 * (i 1 : ℕ)) _ _ i (by omega) (by omega) (by omega)

theorem rd_o (c : Dev nD) (k : ℕ) (inb) (i : S512x512.Idx) :
    oF I c ((Rect.unit (s := S512x8192) ![0, 512 * k] S512x512.size inb).emb i) = ob I c k i := by
  have i0 := lt512_0 i
  have i1 := lt512_1 i
  exact blk_congr (fun k => ob I c k) (k := (512 * k + 1 * (i 1 : ℕ)) / 512) (k' := k) (a := 0 + 1 * (i 0 : ℕ)) (b := 512 * k + 1 * (i 1 : ℕ)) _ _ i (by omega) (by omega) (by omega)

theorem rd_aV (c : Dev nD) (inb) (i : S512x3584.Idx) :
    aF I c ((Rect.unit (s := S512x4096) ![0, 512] S512x3584.size inb).emb i) = aV I c i := by
  have i0 : (i 0 : ℕ) < 512 := (i 0).isLt
  show ab I c ((512 + 1 * (i 1 : ℕ)) / 512) (ix2 ⟨(0 + 1 * (i 0 : ℕ)) % 512, _⟩ ⟨(512 + 1 * (i 1 : ℕ)) % 512, _⟩) = _
  unfold aV
  rw [show (512 + 1 * (i 1 : ℕ)) / 512 = (i 1 : ℕ) / 512 + 1 by omega]
  exact congrArg _ (ix2_congr (by show (0 + 1 * (i 0 : ℕ)) % 512 = (i 0 : ℕ) % 512; omega) (by show (512 + 1 * (i 1 : ℕ)) % 512 = (i 1 : ℕ) % 512; omega))

theorem rd_wbV (c : Dev nD) (b p : ℕ) (inb) (i : S1x3584x512.Idx) :
    wbF I c b ((Rect.unit (s := S4x3584x512) ![p, 0, 0] S1x3584x512.size inb).emb i) = wbV I c b i := by
  show wblk I c (dv (c + (0 + 1 * (i 1 : ℕ)) / 512 + 1)) b (ix2 ⟨(0 + 1 * (i 1 : ℕ)) % 512, _⟩ ⟨(0 + 1 * (i 2 : ℕ)) % 512, _⟩) = _
  unfold wbV
  rw [show (0 + 1 * (i 1 : ℕ)) / 512 = (i 1 : ℕ) / 512 by omega]
  exact congrArg _ (ix2_congr (by show (0 + 1 * (i 1 : ℕ)) % 512 = (i 1 : ℕ) % 512; omega) (by show (0 + 1 * (i 2 : ℕ)) % 512 = (i 2 : ℕ) % 512; omega))

/-- A slot read as it lies. -/
theorem rd_pl3 {n0 n1 n2 : ℕ} {e : EltTy} (B : Blk F e) (p q : ℕ) (inb) (i : S1x512x512.Idx) :
    pl3 B ((Rect.unit (s := ⟨3, ![n0, n1, n2]⟩) ![p, 512 * q, 0] S1x512x512.size inb).emb i) = pl3 (n0 := 1) (n1 := 512) (n2 := 512) B i := by
  refine congrArg B (ix2_congr ?_ ?_)
  · show (512 * q + 1 * (i 1 : ℕ)) % 512 = (i 1 : ℕ) % 512; omega
  · show (0 + 1 * (i 2 : ℕ)) % 512 = (i 2 : ℕ) % 512; omega

theorem sq_eq (hq : S512x512.numel = S1x512x512.numel) (i : S512x512.Idx) :
    Shape.reshapeEquiv hq i = (ix3 (⟨0, Nat.one_pos⟩ : Fin 1) (i 0) (i 1) : S1x512x512.Idx) := by
  have h := reshapeEquiv_ix2_1ab (a := 512) (b := 512) hq (i 0) (i 1)
  rw [← h]
  congr 1
  funext a
  match a with | ⟨0, _⟩ => rfl | ⟨1, _⟩ => rfl

/-- A slot read with its unit axis dropped. -/
theorem rd_pl3_sq {n0 n1 n2 : ℕ} {e : EltTy} (B : Blk F e) (p q : ℕ) (inb) (hq : S512x512.numel = S1x512x512.numel) (i : S512x512.Idx) :
    pl3 B ((Rect.unit (s := ⟨3, ![n0, n1, n2]⟩) ![p, 512 * q, 0] S1x512x512.size inb).emb (Shape.reshapeEquiv hq i)) = B i := by
  have i0 := lt512_0 i
  have i1 := lt512_1 i
  rw [rd_pl3, sq_eq]
  refine blk_congr (fun _ => B) (k := 0) (k' := 0) (a := (i 0 : ℕ)) (b := (i 1 : ℕ)) _ _ i rfl (by omega) (by omega)

theorem rd_cm (c : Dev nD) (s : ℕ) (hs : s < 8) (inb) (i : S1x512x512.Idx) :
    cmF I c ((Rect.unit (s := S8x512x512) ![s, 0, 0] S1x512x512.size inb).emb i) = pl3 (n0 := 1) (n1 := 512) (n2 := 512) (xsb I (dv s) c) i := by
  show xsb I (dv (s + 1 * (i 0 : ℕ))) c (ix2 ⟨(0 + 1 * (i 1 : ℕ)) % 512, _⟩ ⟨(0 + 1 * (i 2 : ℕ)) % 512, _⟩) = _
  have h0 : (i 0 : ℕ) = 0 := Nat.lt_one_iff.mp (i 0).isLt
  rw [h0]
  refine congrArg _ (ix2_congr ?_ ?_)
  · show (0 + 1 * (i 1 : ℕ)) % 512 = (i 1 : ℕ) % 512; omega
  · show (0 + 1 * (i 2 : ℕ)) % 512 = (i 2 : ℕ) % 512; omega

theorem rd_cm_sq (c : Dev nD) (s : ℕ) (hs : s < 8) (inb) (hq : S512x512.numel = S1x512x512.numel) (i : S512x512.Idx) :
    cmF I c ((Rect.unit (s := S8x512x512) ![s, 0, 0] S1x512x512.size inb).emb (Shape.reshapeEquiv hq i)) = xsb I (dv s) c i := by
  have i0 := lt512_0 i
  have i1 := lt512_1 i
  rw [rd_cm I c s hs, sq_eq]
  refine blk_congr (fun _ => xsb I (dv s) c) (k := 0) (k' := 0) (a := (i 0 : ℕ)) (b := (i 1 : ℕ)) _ _ i rfl (by omega) (by omega)

theorem rd_wb_sq (c : Dev nD) (b p k : ℕ) (inb) (hq : S512x512.numel = S1x512x512.numel) (i : S512x512.Idx) :
    wbF I c b ((Rect.unit (s := S4x3584x512) ![p, 512 * k, 0] S1x512x512.size inb).emb (Shape.reshapeEquiv hq i)) = wblk I c (dv (c + k + 1)) b i := by
  have i0 := lt512_0 i
  have i1 := lt512_1 i
  rw [sq_eq]
  exact blk_congr (fun k => wblk I c (dv (c + k + 1)) b) (k := (512 * k + 1 * (i 0 : ℕ)) / 512) (k' := k) (a := 512 * k + 1 * (i 0 : ℕ)) (b := 0 + 1 * (i 1 : ℕ)) _ _ i (by omega) (by omega) (by omega)

end Cert.KProof
-- ==== Proof.Ops.lean ====
/-
# One lemma per operation of the kernel

Each buffer's pieces, and each kind of operation the body makes on them.
-/
module

public import proofs.«01_k».proof.Proof.Content

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The pieces of the buffers -/

def xP (c : Dev nD) (j : ℕ) (f : S4096x512.Idx → Elt F .f32) : sProp 𝕄 := iprop(xA.view.loc (c : Thread nD τ) ↦[box S4096x512 ![512 * j, 0] S512x512.size]{fullShare} f)
def wP (c : Dev nD) (r b : ℕ) (f : S4096x8192.Idx → Elt F .f32) : sProp 𝕄 := iprop(wA.view.loc (c : Thread nD τ) ↦[box S4096x8192 ![512 * r, 512 * b] S512x512.size]{fullShare} f)
def oP (c : Dev nD) (b : ℕ) (f : S512x8192.Idx → Elt F .f32) : sProp 𝕄 := iprop(oA.view.loc (c : Thread nD τ) ↦[box S512x8192 ![0, 512 * b] S512x512.size]{fullShare} f)
def xsP (c : Dev nD) (j : ℕ) (f : S4096x512.Idx → Elt F .fp8e4m3) : sProp 𝕄 := iprop(xsM.view.loc (c : Thread nD τ) ↦[box S4096x512 ![512 * j, 0] S512x512.size]{fullShare} f)
def cmP (c : Dev nD) (s : ℕ) (f : S8x512x512.Idx → Elt F .fp8e4m3) : sProp 𝕄 := iprop(cmM.view.loc (c : Thread nD τ) ↦[box S8x512x512 ![s, 0, 0] S1x512x512.size]{fullShare} f)
def aP (c : Dev nD) (k : ℕ) (f : S512x4096.Idx → Elt F .bf16) : sProp 𝕄 := iprop(aM.view.loc (c : Thread nD τ) ↦[box S512x4096 ![0, 512 * k] S512x512.size]{fullShare} f)
def waP (c : Dev nD) (p : ℕ) (f : S2x512x512.Idx → Elt F .f32) : sProp 𝕄 := iprop(waM.view.loc (c : Thread nD τ) ↦[box S2x512x512 ![p, 0, 0] S1x512x512.size]{fullShare} f)
def wbP (c : Dev nD) (p k : ℕ) (f : S4x3584x512.Idx → Elt F .f32) : sProp 𝕄 := iprop(wbM.view.loc (c : Thread nD τ) ↦[box S4x3584x512 ![p, 512 * k, 0] S1x512x512.size]{fullShare} f)
def wbsP (c : Dev nD) (p : ℕ) (f : S4x3584x512.Idx → Elt F .f32) : sProp 𝕄 := iprop(wbM.view.loc (c : Thread nD τ) ↦[box S4x3584x512 ![p, 0, 0] S1x3584x512.size]{fullShare} f)
def asP (c : Dev nD)  (f : S512x4096.Idx → Elt F .bf16) : sProp 𝕄 := iprop(aM.view.loc (c : Thread nD τ) ↦[box S512x4096 ![0, 512] S512x3584.size]{fullShare} f)
def stP (c : Dev nD) (p : ℕ) (f : S2x512x512.Idx → Elt F .f32) : sProp 𝕄 := iprop(stM.view.loc (c : Thread nD τ) ↦[box S2x512x512 ![p, 0, 0] S1x512x512.size]{fullShare} f)
def acP (c : Dev nD) (b : ℕ) (f : S512x8192.Idx → Elt F .f32) : sProp 𝕄 := iprop(acM.view.loc (c : Thread nD τ) ↦[box S512x8192 ![0, 512 * b] S512x512.size]{fullShare} f)

/-! ## The sets the operations touch -/

theorem x_on (j : ℕ) (inb) : xA.view.setOn (Rect.unit (s := S4096x512) ![512 * j, 0] S512x512.size inb).toLoadRect.set = box S4096x512 ![512 * j, 0] S512x512.size := by
  rw [← box_eq_set (inb := inb)]; exact Finset.map_refl
theorem x_acc (j : ℕ) (inb) : (xA.access (Rect.unit (s := S4096x512) ![512 * j, 0] S512x512.size inb)).set = box S4096x512 ![512 * j, 0] S512x512.size := by
  rw [← box_eq_set (inb := inb)]; exact View.set_slice_whole _ _
theorem x_sl (j : ℕ) (inb) (hs) : (xA.slice (Rect.unit (s := S4096x512) ![512 * j, 0] S512x512.size inb) hs).view.set = box S4096x512 ![512 * j, 0] S512x512.size := by
  rw [← box_eq_set (inb := inb)]; exact View.set_slice_whole _ _
theorem w_on (r b : ℕ) (inb) : wA.view.setOn (Rect.unit (s := S4096x8192) ![512 * r, 512 * b] S512x512.size inb).toLoadRect.set = box S4096x8192 ![512 * r, 512 * b] S512x512.size := by
  rw [← box_eq_set (inb := inb)]; exact Finset.map_refl
theorem w_acc (r b : ℕ) (inb) : (wA.access (Rect.unit (s := S4096x8192) ![512 * r, 512 * b] S512x512.size inb)).set = box S4096x8192 ![512 * r, 512 * b] S512x512.size := by
  rw [← box_eq_set (inb := inb)]; exact View.set_slice_whole _ _
theorem w_sl (r b : ℕ) (inb) (hs) : (wA.slice (Rect.unit (s := S4096x8192) ![512 * r, 512 * b] S512x512.size inb) hs).view.set = box S4096x8192 ![512 * r, 512 * b] S512x512.size := by
  rw [← box_eq_set (inb := inb)]; exact View.set_slice_whole _ _
theorem o_on (b : ℕ) (inb) : oA.view.setOn (Rect.unit (s := S512x8192) ![0, 512 * b] S512x512.size inb).toLoadRect.set = box S512x8192 ![0, 512 * b] S512x512.size := by
  rw [← box_eq_set (inb := inb)]; exact Finset.map_refl
theorem o_acc (b : ℕ) (inb) : (oA.access (Rect.unit (s := S512x8192) ![0, 512 * b] S512x512.size inb)).set = box S512x8192 ![0, 512 * b] S512x512.size := by
  rw [← box_eq_set (inb := inb)]; exact View.set_slice_whole _ _
theorem o_sl (b : ℕ) (inb) (hs) : (oA.slice (Rect.unit (s := S512x8192) ![0, 512 * b] S512x512.size inb) hs).view.set = box S512x8192 ![0, 512 * b] S512x512.size := by
  rw [← box_eq_set (inb := inb)]; exact View.set_slice_whole _ _
theorem xs_on (j : ℕ) (inb) : xsM.view.setOn (Rect.unit (s := S4096x512) ![512 * j, 0] S512x512.size inb).toLoadRect.set = box S4096x512 ![512 * j, 0] S512x512.size := by
  rw [← box_eq_set (inb := inb)]; exact Finset.map_refl
theorem xs_acc (j : ℕ) (inb) : (xsM.access (Rect.unit (s := S4096x512) ![512 * j, 0] S512x512.size inb)).set = box S4096x512 ![512 * j, 0] S512x512.size := by
  rw [← box_eq_set (inb := inb)]; exact View.set_slice_whole _ _
theorem xs_sl (j : ℕ) (inb) (hs) : (xsM.slice (Rect.unit (s := S4096x512) ![512 * j, 0] S512x512.size inb) hs).view.set = box S4096x512 ![512 * j, 0] S512x512.size := by
  rw [← box_eq_set (inb := inb)]; exact View.set_slice_whole _ _
theorem cm_on (s : ℕ) (inb) : cmM.view.setOn (Rect.unit (s := S8x512x512) ![s, 0, 0] S1x512x512.size inb).toLoadRect.set = box S8x512x512 ![s, 0, 0] S1x512x512.size := by
  rw [← box_eq_set (inb := inb)]; exact Finset.map_refl
theorem cm_acc (s : ℕ) (inb) : (cmM.access (Rect.unit (s := S8x512x512) ![s, 0, 0] S1x512x512.size inb)).set = box S8x512x512 ![s, 0, 0] S1x512x512.size := by
  rw [← box_eq_set (inb := inb)]; exact View.set_slice_whole _ _
theorem cm_sl (s : ℕ) (inb) (hs) : (cmM.slice (Rect.unit (s := S8x512x512) ![s, 0, 0] S1x512x512.size inb) hs).view.set = box S8x512x512 ![s, 0, 0] S1x512x512.size := by
  rw [← box_eq_set (inb := inb)]; exact View.set_slice_whole _ _
theorem cm_sq (s : ℕ) (inb) (hs) (hq) : ((cmM.slice (Rect.unit (s := S8x512x512) ![s, 0, 0] S1x512x512.size inb) hs).squeeze S512x512 hq).view.set = box S8x512x512 ![s, 0, 0] S1x512x512.size := by
  rw [← box_eq_set (inb := inb)]
  show ((cmM.view.slice _).reshape _ _).set = _
  rw [View.set_reshape, View.set_slice_whole]
theorem a_on (k : ℕ) (inb) : aM.view.setOn (Rect.unit (s := S512x4096) ![0, 512 * k] S512x512.size inb).toLoadRect.set = box S512x4096 ![0, 512 * k] S512x512.size := by
  rw [← box_eq_set (inb := inb)]; exact Finset.map_refl
theorem a_acc (k : ℕ) (inb) : (aM.access (Rect.unit (s := S512x4096) ![0, 512 * k] S512x512.size inb)).set = box S512x4096 ![0, 512 * k] S512x512.size := by
  rw [← box_eq_set (inb := inb)]; exact View.set_slice_whole _ _
theorem a_sl (k : ℕ) (inb) (hs) : (aM.slice (Rect.unit (s := S512x4096) ![0, 512 * k] S512x512.size inb) hs).view.set = box S512x4096 ![0, 512 * k] S512x512.size := by
  rw [← box_eq_set (inb := inb)]; exact View.set_slice_whole _ _
theorem wa_on (p : ℕ) (inb) : waM.view.setOn (Rect.unit (s := S2x512x512) ![p, 0, 0] S1x512x512.size inb).toLoadRect.set = box S2x512x512 ![p, 0, 0] S1x512x512.size := by
  rw [← box_eq_set (inb := inb)]; exact Finset.map_refl
theorem wa_acc (p : ℕ) (inb) : (waM.access (Rect.unit (s := S2x512x512) ![p, 0, 0] S1x512x512.size inb)).set = box S2x512x512 ![p, 0, 0] S1x512x512.size := by
  rw [← box_eq_set (inb := inb)]; exact View.set_slice_whole _ _
theorem wa_sl (p : ℕ) (inb) (hs) : (waM.slice (Rect.unit (s := S2x512x512) ![p, 0, 0] S1x512x512.size inb) hs).view.set = box S2x512x512 ![p, 0, 0] S1x512x512.size := by
  rw [← box_eq_set (inb := inb)]; exact View.set_slice_whole _ _
theorem wa_sq (p : ℕ) (inb) (hs) (hq) : ((waM.slice (Rect.unit (s := S2x512x512) ![p, 0, 0] S1x512x512.size inb) hs).squeeze S512x512 hq).view.set = box S2x512x512 ![p, 0, 0] S1x512x512.size := by
  rw [← box_eq_set (inb := inb)]
  show ((waM.view.slice _).reshape _ _).set = _
  rw [View.set_reshape, View.set_slice_whole]
theorem wb_on (p k : ℕ) (inb) : wbM.view.setOn (Rect.unit (s := S4x3584x512) ![p, 512 * k, 0] S1x512x512.size inb).toLoadRect.set = box S4x3584x512 ![p, 512 * k, 0] S1x512x512.size := by
  rw [← box_eq_set (inb := inb)]; exact Finset.map_refl
theorem wb_acc (p k : ℕ) (inb) : (wbM.access (Rect.unit (s := S4x3584x512) ![p, 512 * k, 0] S1x512x512.size inb)).set = box S4x3584x512 ![p, 512 * k, 0] S1x512x512.size := by
  rw [← box_eq_set (inb := inb)]; exact View.set_slice_whole _ _
theorem wb_sl (p k : ℕ) (inb) (hs) : (wbM.slice (Rect.unit (s := S4x3584x512) ![p, 512 * k, 0] S1x512x512.size inb) hs).view.set = box S4x3584x512 ![p, 512 * k, 0] S1x512x512.size := by
  rw [← box_eq_set (inb := inb)]; exact View.set_slice_whole _ _
theorem wb_sq (p k : ℕ) (inb) (hs) (hq) : ((wbM.slice (Rect.unit (s := S4x3584x512) ![p, 512 * k, 0] S1x512x512.size inb) hs).squeeze S512x512 hq).view.set = box S4x3584x512 ![p, 512 * k, 0] S1x512x512.size := by
  rw [← box_eq_set (inb := inb)]
  show ((wbM.view.slice _).reshape _ _).set = _
  rw [View.set_reshape, View.set_slice_whole]
theorem wbs_on (p : ℕ) (inb) : wbM.view.setOn (Rect.unit (s := S4x3584x512) ![p, 0, 0] S1x3584x512.size inb).toLoadRect.set = box S4x3584x512 ![p, 0, 0] S1x3584x512.size := by
  rw [← box_eq_set (inb := inb)]; exact Finset.map_refl
theorem wbs_acc (p : ℕ) (inb) : (wbM.access (Rect.unit (s := S4x3584x512) ![p, 0, 0] S1x3584x512.size inb)).set = box S4x3584x512 ![p, 0, 0] S1x3584x512.size := by
  rw [← box_eq_set (inb := inb)]; exact View.set_slice_whole _ _
theorem wbs_sl (p : ℕ) (inb) (hs) : (wbM.slice (Rect.unit (s := S4x3584x512) ![p, 0, 0] S1x3584x512.size inb) hs).view.set = box S4x3584x512 ![p, 0, 0] S1x3584x512.size := by
  rw [← box_eq_set (inb := inb)]; exact View.set_slice_whole _ _
theorem as_on  (inb) : aM.view.setOn (Rect.unit (s := S512x4096) ![0, 512] S512x3584.size inb).toLoadRect.set = box S512x4096 ![0, 512] S512x3584.size := by
  rw [← box_eq_set (inb := inb)]; exact Finset.map_refl
theorem as_acc  (inb) : (aM.access (Rect.unit (s := S512x4096) ![0, 512] S512x3584.size inb)).set = box S512x4096 ![0, 512] S512x3584.size := by
  rw [← box_eq_set (inb := inb)]; exact View.set_slice_whole _ _
theorem as_sl  (inb) (hs) : (aM.slice (Rect.unit (s := S512x4096) ![0, 512] S512x3584.size inb) hs).view.set = box S512x4096 ![0, 512] S512x3584.size := by
  rw [← box_eq_set (inb := inb)]; exact View.set_slice_whole _ _
theorem st_on (p : ℕ) (inb) : stM.view.setOn (Rect.unit (s := S2x512x512) ![p, 0, 0] S1x512x512.size inb).toLoadRect.set = box S2x512x512 ![p, 0, 0] S1x512x512.size := by
  rw [← box_eq_set (inb := inb)]; exact Finset.map_refl
theorem st_acc (p : ℕ) (inb) : (stM.access (Rect.unit (s := S2x512x512) ![p, 0, 0] S1x512x512.size inb)).set = box S2x512x512 ![p, 0, 0] S1x512x512.size := by
  rw [← box_eq_set (inb := inb)]; exact View.set_slice_whole _ _
theorem st_sl (p : ℕ) (inb) (hs) : (stM.slice (Rect.unit (s := S2x512x512) ![p, 0, 0] S1x512x512.size inb) hs).view.set = box S2x512x512 ![p, 0, 0] S1x512x512.size := by
  rw [← box_eq_set (inb := inb)]; exact View.set_slice_whole _ _
theorem st_sq (p : ℕ) (inb) (hs) (hq) : ((stM.slice (Rect.unit (s := S2x512x512) ![p, 0, 0] S1x512x512.size inb) hs).squeeze S512x512 hq).view.set = box S2x512x512 ![p, 0, 0] S1x512x512.size := by
  rw [← box_eq_set (inb := inb)]
  show ((stM.view.slice _).reshape _ _).set = _
  rw [View.set_reshape, View.set_slice_whole]
theorem ac_on (b : ℕ) (inb) : acM.view.setOn (Rect.unit (s := S512x8192) ![0, 512 * b] S512x512.size inb).toLoadRect.set = box S512x8192 ![0, 512 * b] S512x512.size := by
  rw [← box_eq_set (inb := inb)]; exact Finset.map_refl
theorem ac_acc (b : ℕ) (inb) : (acM.access (Rect.unit (s := S512x8192) ![0, 512 * b] S512x512.size inb)).set = box S512x8192 ![0, 512 * b] S512x512.size := by
  rw [← box_eq_set (inb := inb)]; exact View.set_slice_whole _ _
theorem ac_sl (b : ℕ) (inb) (hs) : (acM.slice (Rect.unit (s := S512x8192) ![0, 512 * b] S512x512.size inb) hs).view.set = box S512x8192 ![0, 512 * b] S512x512.size := by
  rw [← box_eq_set (inb := inb)]; exact View.set_slice_whole _ _

/-! ## Loads -/

section Loads

variable (I : Inp F) (c : Dev nD)

theorem ld_st (p : ℕ) (B : Blk F .f32) {off : Fin 3 → ℕ} {inb : ∀ a, off a + S1x512x512.size a ≤ S2x512x512.size a} {hl : stM.view.LoadsAt (Rect.unit (s := S2x512x512) off S1x512x512.size inb).toLoadRect} (hoff : off = ![p, 0, 0]) {α : Type} {Q : α → sProp 𝕄} {K : (S1x512x512.Idx → Elt F .f32) → Prog (TpuEff nD τ sig (Elt F) Λ₀ .tc) α} :
    (stP c p (pl3 B) : sProp 𝕄) ⊢ iprop((stP c p (pl3 B) -∗ WP c (K (pl3 B : S1x512x512.Idx → Elt F .f32)) Q)
      -∗ WP c (.op (.load stM (Rect.unit (s := S2x512x512) off S1x512x512.size inb).toLoadRect hl) K) Q) := by
  subst hoff
  have hv : stM.view.readAt (Elt F) (Rect.unit (s := S2x512x512) ![p, 0, 0] S1x512x512.size inb).toLoadRect (pl3 B) = (pl3 B : S1x512x512.Idx → Elt F .f32) := funext fun i => rd_pl3 B p 0 inb i
  exact st_load (defs := defs₀ (F := F)) (U := UU) (Lvl := ℕ) (Name := ℕ) (Ix := Unit) 𝒱₀ (c : Thread nD τ) (M := stM) (f := (pl3 B)) (k := K) (hl := hl) (pl3 B : S1x512x512.Idx → Elt F .f32) (st_on p inb).le hv

theorem ld_xs (j : ℕ)  {off : Fin 2 → ℕ} {inb : ∀ a, off a + S512x512.size a ≤ S4096x512.size a} {hl : xsM.view.LoadsAt (Rect.unit (s := S4096x512) off S512x512.size inb).toLoadRect} (hoff : off = ![512 * j, 0]) {α : Type} {Q : α → sProp 𝕄} {K : (S512x512.Idx → Elt F .fp8e4m3) → Prog (TpuEff nD τ sig (Elt F) Λ₀ .tc) α} :
    (xsP c j (xsF I c) : sProp 𝕄) ⊢ iprop((xsP c j (xsF I c) -∗ WP c (K (xsb I c j)) Q)
      -∗ WP c (.op (.load xsM (Rect.unit (s := S4096x512) off S512x512.size inb).toLoadRect hl) K) Q) := by
  subst hoff
  have hv : xsM.view.readAt (Elt F) (Rect.unit (s := S4096x512) ![512 * j, 0] S512x512.size inb).toLoadRect (xsF I c) = (xsb I c j) := funext fun i => rd_xs I c j inb i
  exact st_load (defs := defs₀ (F := F)) (U := UU) (Lvl := ℕ) (Name := ℕ) (Ix := Unit) 𝒱₀ (c : Thread nD τ) (M := xsM) (f := (xsF I c)) (k := K) (hl := hl) (xsb I c j) (xs_on j inb).le hv

theorem ld_a (k : ℕ)  {off : Fin 2 → ℕ} {inb : ∀ a, off a + S512x512.size a ≤ S512x4096.size a} {hl : aM.view.LoadsAt (Rect.unit (s := S512x4096) off S512x512.size inb).toLoadRect} (hoff : off = ![0, 512 * k]) {α : Type} {Q : α → sProp 𝕄} {K : (S512x512.Idx → Elt F .bf16) → Prog (TpuEff nD τ sig (Elt F) Λ₀ .tc) α} :
    (aP c k (aF I c) : sProp 𝕄) ⊢ iprop((aP c k (aF I c) -∗ WP c (K (ab I c k)) Q)
      -∗ WP c (.op (.load aM (Rect.unit (s := S512x4096) off S512x512.size inb).toLoadRect hl) K) Q) := by
  subst hoff
  have hv : aM.view.readAt (Elt F) (Rect.unit (s := S512x4096) ![0, 512 * k] S512x512.size inb).toLoadRect (aF I c) = (ab I c k) := funext fun i => rd_a I c k inb i
  exact st_load (defs := defs₀ (F := F)) (U := UU) (Lvl := ℕ) (Name := ℕ) (Ix := Unit) 𝒱₀ (c : Thread nD τ) (M := aM) (f := (aF I c)) (k := K) (hl := hl) (ab I c k) (a_on k inb).le hv

theorem ld_as   {off : Fin 2 → ℕ} {inb : ∀ a, off a + S512x3584.size a ≤ S512x4096.size a} {hl : aM.view.LoadsAt (Rect.unit (s := S512x4096) off S512x3584.size inb).toLoadRect} (hoff : off = ![0, 512]) {α : Type} {Q : α → sProp 𝕄} {K : (S512x3584.Idx → Elt F .bf16) → Prog (TpuEff nD τ sig (Elt F) Λ₀ .tc) α} :
    (asP c  (aF I c) : sProp 𝕄) ⊢ iprop((asP c  (aF I c) -∗ WP c (K (aV I c)) Q)
      -∗ WP c (.op (.load aM (Rect.unit (s := S512x4096) off S512x3584.size inb).toLoadRect hl) K) Q) := by
  subst hoff
  have hv : aM.view.readAt (Elt F) (Rect.unit (s := S512x4096) ![0, 512] S512x3584.size inb).toLoadRect (aF I c) = (aV I c) := funext fun i => rd_aV I c inb i
  exact st_load (defs := defs₀ (F := F)) (U := UU) (Lvl := ℕ) (Name := ℕ) (Ix := Unit) 𝒱₀ (c : Thread nD τ) (M := aM) (f := (aF I c)) (k := K) (hl := hl) (aV I c) (as_on  inb).le hv

theorem ld_wa (p : ℕ) (B : Blk F .f32) {off : Fin 3 → ℕ} {inb : ∀ a, off a + S1x512x512.size a ≤ S2x512x512.size a} {hl : waM.view.LoadsAt (Rect.unit (s := S2x512x512) off S1x512x512.size inb).toLoadRect} (hoff : off = ![p, 0, 0]) {α : Type} {Q : α → sProp 𝕄} {K : (S1x512x512.Idx → Elt F .f32) → Prog (TpuEff nD τ sig (Elt F) Λ₀ .tc) α} :
    (waP c p (pl3 B) : sProp 𝕄) ⊢ iprop((waP c p (pl3 B) -∗ WP c (K (pl3 B : S1x512x512.Idx → Elt F .f32)) Q)
      -∗ WP c (.op (.load waM (Rect.unit (s := S2x512x512) off S1x512x512.size inb).toLoadRect hl) K) Q) := by
  subst hoff
  have hv : waM.view.readAt (Elt F) (Rect.unit (s := S2x512x512) ![p, 0, 0] S1x512x512.size inb).toLoadRect (pl3 B) = (pl3 B : S1x512x512.Idx → Elt F .f32) := funext fun i => rd_pl3 B p 0 inb i
  exact st_load (defs := defs₀ (F := F)) (U := UU) (Lvl := ℕ) (Name := ℕ) (Ix := Unit) 𝒱₀ (c : Thread nD τ) (M := waM) (f := (pl3 B)) (k := K) (hl := hl) (pl3 B : S1x512x512.Idx → Elt F .f32) (wa_on p inb).le hv

theorem ld_wbs (p : ℕ) (b : ℕ) {off : Fin 3 → ℕ} {inb : ∀ a, off a + S1x3584x512.size a ≤ S4x3584x512.size a} {hl : wbM.view.LoadsAt (Rect.unit (s := S4x3584x512) off S1x3584x512.size inb).toLoadRect} (hoff : off = ![p, 0, 0]) {α : Type} {Q : α → sProp 𝕄} {K : (S1x3584x512.Idx → Elt F .f32) → Prog (TpuEff nD τ sig (Elt F) Λ₀ .tc) α} :
    (wbsP c p (wbF I c b) : sProp 𝕄) ⊢ iprop((wbsP c p (wbF I c b) -∗ WP c (K (wbV I c b)) Q)
      -∗ WP c (.op (.load wbM (Rect.unit (s := S4x3584x512) off S1x3584x512.size inb).toLoadRect hl) K) Q) := by
  subst hoff
  have hv : wbM.view.readAt (Elt F) (Rect.unit (s := S4x3584x512) ![p, 0, 0] S1x3584x512.size inb).toLoadRect (wbF I c b) = (wbV I c b) := funext fun i => rd_wbV I c b p inb i
  exact st_load (defs := defs₀ (F := F)) (U := UU) (Lvl := ℕ) (Name := ℕ) (Ix := Unit) 𝒱₀ (c : Thread nD τ) (M := wbM) (f := (wbF I c b)) (k := K) (hl := hl) (wbV I c b) (wbs_on p inb).le hv

theorem ld_ac (b : ℕ)  {off : Fin 2 → ℕ} {inb : ∀ a, off a + S512x512.size a ≤ S512x8192.size a} {hl : acM.view.LoadsAt (Rect.unit (s := S512x8192) off S512x512.size inb).toLoadRect} (hoff : off = ![0, 512 * b]) {α : Type} {Q : α → sProp 𝕄} {K : (S512x512.Idx → Elt F .f32) → Prog (TpuEff nD τ sig (Elt F) Λ₀ .tc) α} :
    (acP c b (acF I c) : sProp 𝕄) ⊢ iprop((acP c b (acF I c) -∗ WP c (K (acb I c b)) Q)
      -∗ WP c (.op (.load acM (Rect.unit (s := S512x8192) off S512x512.size inb).toLoadRect hl) K) Q) := by
  subst hoff
  have hv : acM.view.readAt (Elt F) (Rect.unit (s := S512x8192) ![0, 512 * b] S512x512.size inb).toLoadRect (acF I c) = (acb I c b) := funext fun i => rd_ac I c b inb i
  exact st_load (defs := defs₀ (F := F)) (U := UU) (Lvl := ℕ) (Name := ℕ) (Ix := Unit) 𝒱₀ (c : Thread nD τ) (M := acM) (f := (acF I c)) (k := K) (hl := hl) (acb I c b) (ac_on b inb).le hv

theorem ld_cm (s : ℕ) (hs : s < 8) {off : Fin 3 → ℕ} {inb : ∀ a, off a + S1x512x512.size a ≤ S8x512x512.size a} {hl : cmM.view.LoadsAt (Rect.unit (s := S8x512x512) off S1x512x512.size inb).toLoadRect} (hoff : off = ![s, 0, 0]) {α : Type} {Q : α → sProp 𝕄} {K : (S1x512x512.Idx → Elt F .fp8e4m3) → Prog (TpuEff nD τ sig (Elt F) Λ₀ .tc) α} :
    (cmP c s (cmF I c) : sProp 𝕄) ⊢ iprop((cmP c s (cmF I c) -∗ WP c (K (pl3 (xsb I (dv s) c) : S1x512x512.Idx → Elt F .fp8e4m3)) Q)
      -∗ WP c (.op (.load cmM (Rect.unit (s := S8x512x512) off S1x512x512.size inb).toLoadRect hl) K) Q) := by
  subst hoff
  have hv : cmM.view.readAt (Elt F) (Rect.unit (s := S8x512x512) ![s, 0, 0] S1x512x512.size inb).toLoadRect (cmF I c) = (pl3 (xsb I (dv s) c) : S1x512x512.Idx → Elt F .fp8e4m3) := funext fun i => rd_cm I c s hs inb i
  exact st_load (defs := defs₀ (F := F)) (U := UU) (Lvl := ℕ) (Name := ℕ) (Ix := Unit) 𝒱₀ (c : Thread nD τ) (M := cmM) (f := (cmF I c)) (k := K) (hl := hl) (pl3 (xsb I (dv s) c) : S1x512x512.Idx → Elt F .fp8e4m3) (cm_on s inb).le hv

theorem ldd_xs (j : ℕ) {f : S4096x512.Idx → Elt F .fp8e4m3} {off : Fin 2 → ℕ} {inb : ∀ a, off a + S512x512.size a ≤ S4096x512.size a} {hl : xsM.view.LoadsAt (Rect.unit (s := S4096x512) off S512x512.size inb).toLoadRect} (hoff : off = ![512 * j, 0]) {α : Type} {Q : α → sProp 𝕄} {K : (S512x512.Idx → Elt F .fp8e4m3) → Prog (TpuEff nD τ sig (Elt F) Λ₀ .tc) α} :
    (xsP c j f : sProp 𝕄) ⊢ iprop((xsP c j f -∗ ∃ p, ⌜∀ v, K v = p⌝ ∗ WP c p Q)
      -∗ WP c (.op (.load xsM (Rect.unit (s := S4096x512) off S512x512.size inb).toLoadRect hl) K) Q) := by
  subst hoff
  refine (st_load (defs := defs₀ (F := F)) (U := UU) (Lvl := ℕ) (Name := ℕ) (Ix := Unit) 𝒱₀ (c : Thread nD τ) (M := xsM) (k := K) (hl := hl) (S := box S4096x512 ![512 * j, 0] S512x512.size) (f := f) _ (xs_on j inb).le rfl).trans (wand_mono_left (wand_mono_right ?_))
  iintro ⟨%p, %hp, H⟩
  rw [hp]
  iexact H

theorem ldd_cm (s : ℕ) {f : S8x512x512.Idx → Elt F .fp8e4m3} {off : Fin 3 → ℕ} {inb : ∀ a, off a + S1x512x512.size a ≤ S8x512x512.size a} {hl : cmM.view.LoadsAt (Rect.unit (s := S8x512x512) off S1x512x512.size inb).toLoadRect} (hoff : off = ![s, 0, 0]) {α : Type} {Q : α → sProp 𝕄} {K : (S1x512x512.Idx → Elt F .fp8e4m3) → Prog (TpuEff nD τ sig (Elt F) Λ₀ .tc) α} :
    (cmP c s f : sProp 𝕄) ⊢ iprop((cmP c s f -∗ ∃ p, ⌜∀ v, K v = p⌝ ∗ WP c p Q)
      -∗ WP c (.op (.load cmM (Rect.unit (s := S8x512x512) off S1x512x512.size inb).toLoadRect hl) K) Q) := by
  subst hoff
  refine (st_load (defs := defs₀ (F := F)) (U := UU) (Lvl := ℕ) (Name := ℕ) (Ix := Unit) 𝒱₀ (c : Thread nD τ) (M := cmM) (k := K) (hl := hl) (S := box S8x512x512 ![s, 0, 0] S1x512x512.size) (f := f) _ (cm_on s inb).le rfl).trans (wand_mono_left (wand_mono_right ?_))
  iintro ⟨%p, %hp, H⟩
  rw [hp]
  iexact H

theorem ldd_a (k : ℕ) {f : S512x4096.Idx → Elt F .bf16} {off : Fin 2 → ℕ} {inb : ∀ a, off a + S512x512.size a ≤ S512x4096.size a} {hl : aM.view.LoadsAt (Rect.unit (s := S512x4096) off S512x512.size inb).toLoadRect} (hoff : off = ![0, 512 * k]) {α : Type} {Q : α → sProp 𝕄} {K : (S512x512.Idx → Elt F .bf16) → Prog (TpuEff nD τ sig (Elt F) Λ₀ .tc) α} :
    (aP c k f : sProp 𝕄) ⊢ iprop((aP c k f -∗ ∃ p, ⌜∀ v, K v = p⌝ ∗ WP c p Q)
      -∗ WP c (.op (.load aM (Rect.unit (s := S512x4096) off S512x512.size inb).toLoadRect hl) K) Q) := by
  subst hoff
  refine (st_load (defs := defs₀ (F := F)) (U := UU) (Lvl := ℕ) (Name := ℕ) (Ix := Unit) 𝒱₀ (c : Thread nD τ) (M := aM) (k := K) (hl := hl) (S := box S512x4096 ![0, 512 * k] S512x512.size) (f := f) _ (a_on k inb).le rfl).trans (wand_mono_left (wand_mono_right ?_))
  iintro ⟨%p, %hp, H⟩
  rw [hp]
  iexact H

theorem ldd_ac (b : ℕ) {f : S512x8192.Idx → Elt F .f32} {off : Fin 2 → ℕ} {inb : ∀ a, off a + S512x512.size a ≤ S512x8192.size a} {hl : acM.view.LoadsAt (Rect.unit (s := S512x8192) off S512x512.size inb).toLoadRect} (hoff : off = ![0, 512 * b]) {α : Type} {Q : α → sProp 𝕄} {K : (S512x512.Idx → Elt F .f32) → Prog (TpuEff nD τ sig (Elt F) Λ₀ .tc) α} :
    (acP c b f : sProp 𝕄) ⊢ iprop((acP c b f -∗ ∃ p, ⌜∀ v, K v = p⌝ ∗ WP c p Q)
      -∗ WP c (.op (.load acM (Rect.unit (s := S512x8192) off S512x512.size inb).toLoadRect hl) K) Q) := by
  subst hoff
  refine (st_load (defs := defs₀ (F := F)) (U := UU) (Lvl := ℕ) (Name := ℕ) (Ix := Unit) 𝒱₀ (c : Thread nD τ) (M := acM) (k := K) (hl := hl) (S := box S512x8192 ![0, 512 * b] S512x512.size) (f := f) _ (ac_on b inb).le rfl).trans (wand_mono_left (wand_mono_right ?_))
  iintro ⟨%p, %hp, H⟩
  rw [hp]
  iexact H

end Loads

/-! ## Stores -/

section Stores

variable (I : Inp F) (c : Dev nD)

theorem st_xs (j : ℕ)  {f : S4096x512.Idx → Elt F .fp8e4m3} {off : Fin 2 → ℕ} {inb : ∀ a, off a + S512x512.size a ≤ S4096x512.size a} {hx : (xsM.access (Rect.unit (s := S4096x512) off S512x512.size inb)).Stores Finset.univ} {hm : Finset.univ = Finset.univ ∨ ∀ a, (Rect.unit (s := S4096x512) off S512x512.size inb).stride a = 1} {w : S512x512.Idx → Elt F .fp8e4m3} (hoff : off = ![512 * j, 0]) (hw : w = xsb I c j)
    {α : Type} {Q : α → sProp 𝕄} {K : PUnit → Prog (TpuEff nD τ sig (Elt F) Λ₀ .tc) α} :
    (xsP c j f : sProp 𝕄) ⊢ iprop((xsP c j (xsF I c) -∗ WP c (K ⟨⟩) Q)
      -∗ WP c (.op (.store xsM (Rect.unit (s := S4096x512) off S512x512.size inb) w Finset.univ hx hm) K) Q) := by
  subst hoff hw
  have hv : (xsM.access (Rect.unit (s := S4096x512) ![512 * j, 0] S512x512.size inb)).read (Elt F) (xsF I c) = xsb I c j := funext fun i => rd_xs I c j inb i
  exact st_store (defs := defs₀ (F := F)) (U := UU) (Lvl := ℕ) (Name := ℕ) (Ix := Unit) 𝒱₀ (c : Thread nD τ) (M := xsM) (f := f) (k := K) (hx := hx) (hm := hm) (xsF I c) (xs_acc j inb) hv

theorem st_cm (s : ℕ) (hs : s < 8) {f : S8x512x512.Idx → Elt F .fp8e4m3} {off : Fin 3 → ℕ} {inb : ∀ a, off a + S1x512x512.size a ≤ S8x512x512.size a} {hx : (cmM.access (Rect.unit (s := S8x512x512) off S1x512x512.size inb)).Stores Finset.univ} {hm : Finset.univ = Finset.univ ∨ ∀ a, (Rect.unit (s := S8x512x512) off S1x512x512.size inb).stride a = 1} {w : S1x512x512.Idx → Elt F .fp8e4m3} (hoff : off = ![s, 0, 0]) (hw : w = (pl3 (xsb I (dv s) c) : S1x512x512.Idx → Elt F .fp8e4m3))
    {α : Type} {Q : α → sProp 𝕄} {K : PUnit → Prog (TpuEff nD τ sig (Elt F) Λ₀ .tc) α} :
    (cmP c s f : sProp 𝕄) ⊢ iprop((cmP c s (cmF I c) -∗ WP c (K ⟨⟩) Q)
      -∗ WP c (.op (.store cmM (Rect.unit (s := S8x512x512) off S1x512x512.size inb) w Finset.univ hx hm) K) Q) := by
  subst hoff hw
  have hv : (cmM.access (Rect.unit (s := S8x512x512) ![s, 0, 0] S1x512x512.size inb)).read (Elt F) (cmF I c) = (pl3 (xsb I (dv s) c) : S1x512x512.Idx → Elt F .fp8e4m3) := funext fun i => rd_cm I c s hs inb i
  exact st_store (defs := defs₀ (F := F)) (U := UU) (Lvl := ℕ) (Name := ℕ) (Ix := Unit) 𝒱₀ (c : Thread nD τ) (M := cmM) (f := f) (k := K) (hx := hx) (hm := hm) (cmF I c) (cm_acc s inb) hv

theorem st_a (k : ℕ)  {f : S512x4096.Idx → Elt F .bf16} {off : Fin 2 → ℕ} {inb : ∀ a, off a + S512x512.size a ≤ S512x4096.size a} {hx : (aM.access (Rect.unit (s := S512x4096) off S512x512.size inb)).Stores Finset.univ} {hm : Finset.univ = Finset.univ ∨ ∀ a, (Rect.unit (s := S512x4096) off S512x512.size inb).stride a = 1} {w : S512x512.Idx → Elt F .bf16} (hoff : off = ![0, 512 * k]) (hw : w = ab I c k)
    {α : Type} {Q : α → sProp 𝕄} {K : PUnit → Prog (TpuEff nD τ sig (Elt F) Λ₀ .tc) α} :
    (aP c k f : sProp 𝕄) ⊢ iprop((aP c k (aF I c) -∗ WP c (K ⟨⟩) Q)
      -∗ WP c (.op (.store aM (Rect.unit (s := S512x4096) off S512x512.size inb) w Finset.univ hx hm) K) Q) := by
  subst hoff hw
  have hv : (aM.access (Rect.unit (s := S512x4096) ![0, 512 * k] S512x512.size inb)).read (Elt F) (aF I c) = ab I c k := funext fun i => rd_a I c k inb i
  exact st_store (defs := defs₀ (F := F)) (U := UU) (Lvl := ℕ) (Name := ℕ) (Ix := Unit) 𝒱₀ (c : Thread nD τ) (M := aM) (f := f) (k := K) (hx := hx) (hm := hm) (aF I c) (a_acc k inb) hv

theorem st_ac (b : ℕ)  {f : S512x8192.Idx → Elt F .f32} {off : Fin 2 → ℕ} {inb : ∀ a, off a + S512x512.size a ≤ S512x8192.size a} {hx : (acM.access (Rect.unit (s := S512x8192) off S512x512.size inb)).Stores Finset.univ} {hm : Finset.univ = Finset.univ ∨ ∀ a, (Rect.unit (s := S512x8192) off S512x512.size inb).stride a = 1} {w : S512x512.Idx → Elt F .f32} (hoff : off = ![0, 512 * b]) (hw : w = acb I c b)
    {α : Type} {Q : α → sProp 𝕄} {K : PUnit → Prog (TpuEff nD τ sig (Elt F) Λ₀ .tc) α} :
    (acP c b f : sProp 𝕄) ⊢ iprop((acP c b (acF I c) -∗ WP c (K ⟨⟩) Q)
      -∗ WP c (.op (.store acM (Rect.unit (s := S512x8192) off S512x512.size inb) w Finset.univ hx hm) K) Q) := by
  subst hoff hw
  have hv : (acM.access (Rect.unit (s := S512x8192) ![0, 512 * b] S512x512.size inb)).read (Elt F) (acF I c) = acb I c b := funext fun i => rd_ac I c b inb i
  exact st_store (defs := defs₀ (F := F)) (U := UU) (Lvl := ℕ) (Name := ℕ) (Ix := Unit) 𝒱₀ (c : Thread nD τ) (M := acM) (f := f) (k := K) (hx := hx) (hm := hm) (acF I c) (ac_acc b inb) hv

theorem st_o (b : ℕ)  {f : S512x8192.Idx → Elt F .f32} {off : Fin 2 → ℕ} {inb : ∀ a, off a + S512x512.size a ≤ S512x8192.size a} {hx : (acM.access (Rect.unit (s := S512x8192) off S512x512.size inb)).Stores Finset.univ} {hm : Finset.univ = Finset.univ ∨ ∀ a, (Rect.unit (s := S512x8192) off S512x512.size inb).stride a = 1} {w : S512x512.Idx → Elt F .f32} (hoff : off = ![0, 512 * b]) (hw : w = ob I c b)
    {α : Type} {Q : α → sProp 𝕄} {K : PUnit → Prog (TpuEff nD τ sig (Elt F) Λ₀ .tc) α} :
    (acP c b f : sProp 𝕄) ⊢ iprop((acP c b (oF I c) -∗ WP c (K ⟨⟩) Q)
      -∗ WP c (.op (.store acM (Rect.unit (s := S512x8192) off S512x512.size inb) w Finset.univ hx hm) K) Q) := by
  subst hoff hw
  have hv : (acM.access (Rect.unit (s := S512x8192) ![0, 512 * b] S512x512.size inb)).read (Elt F) (oF I c) = ob I c b := funext fun i => rd_o I c b inb i
  exact st_store (defs := defs₀ (F := F)) (U := UU) (Lvl := ℕ) (Name := ℕ) (Ix := Unit) 𝒱₀ (c : Thread nD τ) (M := acM) (f := f) (k := K) (hx := hx) (hm := hm) (oF I c) (ac_acc b inb) hv

end Stores

/-! ## The local transfers -/

/-- DMA semaphore number `n`. -/
def smx (n : ℕ) : SemLoc sig := .dma ⟨n % 66, Nat.mod_lt _ (by decide)⟩

theorem smx_of {sem : DmaSem sig} {n : ℕ} (h : (sem : ℕ) = n) : SemLoc.dma sem = smx n := by
  subst h
  exact congrArg SemLoc.dma (Fin.ext (Nat.mod_eq_of_lt (show (sem : ℕ) < 66 from sem.isLt)).symm)

theorem sem1 {n base m : ℕ} (h : base + (⟨1, ![m]⟩ : Shape).numel ≤ n) (off : Fin 1 → ℕ) (inb) (hq) :
    ((((SemArray.consecutive (n := n) base ⟨1, ![m]⟩ h).slice (Rect.unit (s := ⟨1, ![m]⟩) off ![1] inb)).squeeze S_ hq).sem : ℕ) = base + off 0 := by
  show base + ((⟨1, ![m]⟩ : Shape).rowMajor _).val = _
  rw [Shape.rowMajor_val_one]
  show base + (off 0 + 1 * _) = _
  have : ∀ j : (⟨1, ![1]⟩ : Shape).Idx, (j 0 : ℕ) = 0 := fun j => Nat.lt_one_iff.mp (j 0).isLt
  rw [this, Nat.mul_zero, Nat.add_zero]

theorem sem2 {n base m m' : ℕ} (h : base + (⟨2, ![m, m']⟩ : Shape).numel ≤ n) (off : Fin 2 → ℕ) (inb) (hq) :
    ((((SemArray.consecutive (n := n) base ⟨2, ![m, m']⟩ h).slice (Rect.unit (s := ⟨2, ![m, m']⟩) off ![1, 1] inb)).squeeze S_ hq).sem : ℕ) = base + (off 0 * m' + off 1) := by
  show base + ((⟨2, ![m, m']⟩ : Shape).rowMajor _).val = _
  rw [Shape.rowMajor_val_two]
  show base + ((off 0 + 1 * _) * m' + (off 1 + 1 * _)) = _
  have h0 : ∀ j : (⟨2, ![1, 1]⟩ : Shape).Idx, (j 0 : ℕ) = 0 := fun j => Nat.lt_one_iff.mp (j 0).isLt
  have h1 : ∀ j : (⟨2, ![1, 1]⟩ : Shape).Idx, (j 1 : ℕ) = 0 := fun j => Nat.lt_one_iff.mp (j 1).isLt
  rw [h0, h1, Nat.mul_zero, Nat.add_zero, Nat.add_zero]

/-- The number of one semaphore of a 1-D array, its offset known. -/
theorem s1 {base m k : ℕ} {off : Fin 1 → ℕ} {h inb hq} (ho : off = ![k]) :
    (((SemArray.consecutive (n := 66) base ⟨1, ![m]⟩ h).slice (Rect.unit (s := ⟨1, ![m]⟩) off ![1] inb)).squeeze S_ hq).sem.val = base + k := by
  subst ho; exact sem1 _ _ _ _
theorem s2 {base m m' p k : ℕ} {off : Fin 2 → ℕ} {h inb hq} (ho : off = ![p, k]) :
    (((SemArray.consecutive (n := 66) base ⟨2, ![m, m']⟩ h).slice (Rect.unit (s := ⟨2, ![m, m']⟩) off ![1, 1] inb)).squeeze S_ hq).sem.val = base + (p * m' + k) := by
  subst ho; exact sem2 _ _ _ _

/-- What the core owes, whatever it has waited for. -/
def ow (c : Dev nD) (O : CellTallies nD τ sig Unit) : sProp 𝕄 := iprop(∃ W, owes (c : Thread nD τ) O W)
/-- A transfer in flight on semaphore `n`, delivering `D`. -/
abbrev Fly (c : Dev nD) (n : ℕ) (D : sProp 𝕄) : sProp 𝕄 := Flight EC (c : Thread nD τ) (smx n) () 32768 D
/-- A semaphore at rest. -/
abbrev sm0 (c : Dev nD) (n : ℕ) : sProp 𝕄 := semVal ((c : Thread nD τ), smx n) 0

theorem cr_o : oA.view.ref.dmaCredit S512x512 .f32 = 32768 := by decide
theorem cr_wa : waM.view.ref.dmaCredit S512x512 .f32 = 32768 := by decide
theorem cr_wb : wbM.view.ref.dmaCredit S512x512 .f32 = 32768 := by decide
theorem cr_st : stM.view.ref.dmaCredit S512x512 .f32 = 32768 := by decide
theorem cr_cm : cmM.view.ref.dmaCredit S512x512 .fp8e4m3 = 8192 := by decide

section Copies

variable (I : Inp F) (c : Dev nD)

theorem cp_x (j p : ℕ)  (n : ℕ) {f : S2x512x512.Idx → Elt F .f32} {off1 : Fin 2 → ℕ} {off2 : Fin 3 → ℕ} {sem : DmaSem sig}
    {inb1 : ∀ a, off1 a + S512x512.size a ≤ S4096x512.size a} {inb2 : ∀ a, off2 a + S1x512x512.size a ≤ S2x512x512.size a} {hs1 : ∀ a, (Rect.unit (s := S4096x512) off1 S512x512.size inb1).stride a = 1}
    {hs2 : ∀ a, (Rect.unit (s := S2x512x512) off2 S1x512x512.size inb2).stride a = 1} {hq : S1x512x512.Squeezes S512x512}
    {h1 : (xA.slice (Rect.unit (s := S4096x512) off1 S512x512.size inb1) hs1).view.WordExact} {h2 : ((stM.slice (Rect.unit (s := S2x512x512) off2 S1x512x512.size inb2) hs2).squeeze S512x512 hq).view.WordExact} {h3 : (DmaTarget.here ((stM.slice (Rect.unit (s := S2x512x512) off2 S1x512x512.size inb2) hs2).squeeze S512x512 hq) : DmaTarget nD τ sig Proc.tc .vmem S512x512 .f32).Typed .hbm (.dma sem)}
    (ho1 : off1 = ![512 * j, 0]) (ho2 : off2 = ![p, 0, 0]) (hn : (sem : ℕ) = n) {α : Type} {Q : α → sProp 𝕄} {K : PUnit → Prog (TpuEff nD τ sig (Elt F) Λ₀ .tc) α} :
    iprop(xP c j (I.X c) ∗ stP c p f ∗ sm0 c n : sProp 𝕄)
      ⊢ iprop((Fly c n iprop(stP c p (pl3 (xb I c j)) ∗ xP c j (I.X c)) -∗ WP c (K ⟨⟩) Q)
        -∗ WP c (.op (.enqueueDma (xA.slice (Rect.unit (s := S4096x512) off1 S512x512.size inb1) hs1) (.here ((stM.slice (Rect.unit (s := S2x512x512) off2 S1x512x512.size inb2) hs2).squeeze S512x512 hq)) (.dma sem) h1 h2 h3) K) Q) := by
  subst ho1 ho2
  have hv : ((stM.slice (Rect.unit (s := S2x512x512) ![p, 0, 0] S1x512x512.size inb2) hs2).squeeze S512x512 hq).view.read (Elt F) (pl3 (xb I c j)) = (xA.slice (Rect.unit (s := S4096x512) ![512 * j, 0] S512x512.size inb1) hs1).view.read (Elt F) (I.X c) :=
    funext fun i : S512x512.Idx => (rd_pl3_sq (xb I c j) p 0 inb2 (Shape.Squeezes.numel_eq hq) i).trans (rd_blk2 (n0 := 4095) (n1 := 511) (I.X c) (512 * j) 0 inb1 i).symm
  rw [sm0, Fly, ← smx_of hn]
  exact st_start (defs := defs₀ (F := F)) (U := UU) (Lvl := ℕ) (Name := ℕ) (Ix := Unit) EC 𝒱₀ (c : Thread nD τ) (k := K) (src := (xA.slice (Rect.unit (s := S4096x512) ![512 * j, 0] S512x512.size inb1) hs1))
    (dst := ((stM.slice (Rect.unit (s := S2x512x512) ![p, 0, 0] S1x512x512.size inb2) hs2).squeeze S512x512 hq)) (sm := .dma sem) (hsrc := h1) (hdst := h2) (hsem := h3) (q := fullShare) (fs := (I.X c)) (fd := f)
    () 32768 (pl3 (xb I c j)) cr_st (by decide) (x_sl j inb1 hs1) (st_sq p inb2 hs2 hq) hv

theorem cp_wa (r b p : ℕ)  (n : ℕ) {f : S2x512x512.Idx → Elt F .f32} {off1 : Fin 2 → ℕ} {off2 : Fin 3 → ℕ} {sem : DmaSem sig}
    {inb1 : ∀ a, off1 a + S512x512.size a ≤ S4096x8192.size a} {inb2 : ∀ a, off2 a + S1x512x512.size a ≤ S2x512x512.size a} {hs1 : ∀ a, (Rect.unit (s := S4096x8192) off1 S512x512.size inb1).stride a = 1}
    {hs2 : ∀ a, (Rect.unit (s := S2x512x512) off2 S1x512x512.size inb2).stride a = 1} {hq : S1x512x512.Squeezes S512x512}
    {h1 : (wA.slice (Rect.unit (s := S4096x8192) off1 S512x512.size inb1) hs1).view.WordExact} {h2 : ((waM.slice (Rect.unit (s := S2x512x512) off2 S1x512x512.size inb2) hs2).squeeze S512x512 hq).view.WordExact} {h3 : (DmaTarget.here ((waM.slice (Rect.unit (s := S2x512x512) off2 S1x512x512.size inb2) hs2).squeeze S512x512 hq) : DmaTarget nD τ sig Proc.tc .vmem S512x512 .f32).Typed .hbm (.dma sem)}
    (ho1 : off1 = ![512 * r, 512 * b]) (ho2 : off2 = ![p, 0, 0]) (hn : (sem : ℕ) = n) {α : Type} {Q : α → sProp 𝕄} {K : PUnit → Prog (TpuEff nD τ sig (Elt F) Λ₀ .tc) α} :
    iprop(wP c r b (I.W c) ∗ waP c p f ∗ sm0 c n : sProp 𝕄)
      ⊢ iprop((Fly c n iprop(waP c p (pl3 (wblk I c r b)) ∗ wP c r b (I.W c)) -∗ WP c (K ⟨⟩) Q)
        -∗ WP c (.op (.enqueueDma (wA.slice (Rect.unit (s := S4096x8192) off1 S512x512.size inb1) hs1) (.here ((waM.slice (Rect.unit (s := S2x512x512) off2 S1x512x512.size inb2) hs2).squeeze S512x512 hq)) (.dma sem) h1 h2 h3) K) Q) := by
  subst ho1 ho2
  have hv : ((waM.slice (Rect.unit (s := S2x512x512) ![p, 0, 0] S1x512x512.size inb2) hs2).squeeze S512x512 hq).view.read (Elt F) (pl3 (wblk I c r b)) = (wA.slice (Rect.unit (s := S4096x8192) ![512 * r, 512 * b] S512x512.size inb1) hs1).view.read (Elt F) (I.W c) :=
    funext fun i : S512x512.Idx => (rd_pl3_sq (wblk I c r b) p 0 inb2 (Shape.Squeezes.numel_eq hq) i).trans (rd_blk2 (n0 := 4095) (n1 := 8191) (I.W c) (512 * r) (512 * b) inb1 i).symm
  rw [sm0, Fly, ← smx_of hn]
  exact st_start (defs := defs₀ (F := F)) (U := UU) (Lvl := ℕ) (Name := ℕ) (Ix := Unit) EC 𝒱₀ (c : Thread nD τ) (k := K) (src := (wA.slice (Rect.unit (s := S4096x8192) ![512 * r, 512 * b] S512x512.size inb1) hs1))
    (dst := ((waM.slice (Rect.unit (s := S2x512x512) ![p, 0, 0] S1x512x512.size inb2) hs2).squeeze S512x512 hq)) (sm := .dma sem) (hsrc := h1) (hdst := h2) (hsem := h3) (q := fullShare) (fs := (I.W c)) (fd := f)
    () 32768 (pl3 (wblk I c r b)) cr_wa (by decide) (w_sl r b inb1 hs1) (wa_sq p inb2 hs2 hq) hv

theorem cp_wb (r b p k : ℕ) (hr : r = (dv (c + k + 1) : ℕ)) (n : ℕ) {f : S4x3584x512.Idx → Elt F .f32} {off1 : Fin 2 → ℕ} {off2 : Fin 3 → ℕ} {sem : DmaSem sig}
    {inb1 : ∀ a, off1 a + S512x512.size a ≤ S4096x8192.size a} {inb2 : ∀ a, off2 a + S1x512x512.size a ≤ S4x3584x512.size a} {hs1 : ∀ a, (Rect.unit (s := S4096x8192) off1 S512x512.size inb1).stride a = 1}
    {hs2 : ∀ a, (Rect.unit (s := S4x3584x512) off2 S1x512x512.size inb2).stride a = 1} {hq : S1x512x512.Squeezes S512x512}
    {h1 : (wA.slice (Rect.unit (s := S4096x8192) off1 S512x512.size inb1) hs1).view.WordExact} {h2 : ((wbM.slice (Rect.unit (s := S4x3584x512) off2 S1x512x512.size inb2) hs2).squeeze S512x512 hq).view.WordExact} {h3 : (DmaTarget.here ((wbM.slice (Rect.unit (s := S4x3584x512) off2 S1x512x512.size inb2) hs2).squeeze S512x512 hq) : DmaTarget nD τ sig Proc.tc .vmem S512x512 .f32).Typed .hbm (.dma sem)}
    (ho1 : off1 = ![512 * r, 512 * b]) (ho2 : off2 = ![p, 512 * k, 0]) (hn : (sem : ℕ) = n) {α : Type} {Q : α → sProp 𝕄} {K : PUnit → Prog (TpuEff nD τ sig (Elt F) Λ₀ .tc) α} :
    iprop(wP c r b (I.W c) ∗ wbP c p k f ∗ sm0 c n : sProp 𝕄)
      ⊢ iprop((Fly c n iprop(wbP c p k (wbF I c b) ∗ wP c r b (I.W c)) -∗ WP c (K ⟨⟩) Q)
        -∗ WP c (.op (.enqueueDma (wA.slice (Rect.unit (s := S4096x8192) off1 S512x512.size inb1) hs1) (.here ((wbM.slice (Rect.unit (s := S4x3584x512) off2 S1x512x512.size inb2) hs2).squeeze S512x512 hq)) (.dma sem) h1 h2 h3) K) Q) := by
  subst ho1 ho2
  have hv : ((wbM.slice (Rect.unit (s := S4x3584x512) ![p, 512 * k, 0] S1x512x512.size inb2) hs2).squeeze S512x512 hq).view.read (Elt F) (wbF I c b) = (wA.slice (Rect.unit (s := S4096x8192) ![512 * r, 512 * b] S512x512.size inb1) hs1).view.read (Elt F) (I.W c) :=
    funext fun i : S512x512.Idx => (rd_wb_sq I c b p k inb2 (Shape.Squeezes.numel_eq hq) i).trans ((congrArg (fun r => wblk I c r b i) hr.symm).trans (rd_blk2 (n0 := 4095) (n1 := 8191) (I.W c) (512 * r) (512 * b) inb1 i).symm)
  rw [sm0, Fly, ← smx_of hn]
  exact st_start (defs := defs₀ (F := F)) (U := UU) (Lvl := ℕ) (Name := ℕ) (Ix := Unit) EC 𝒱₀ (c : Thread nD τ) (k := K) (src := (wA.slice (Rect.unit (s := S4096x8192) ![512 * r, 512 * b] S512x512.size inb1) hs1))
    (dst := ((wbM.slice (Rect.unit (s := S4x3584x512) ![p, 512 * k, 0] S1x512x512.size inb2) hs2).squeeze S512x512 hq)) (sm := .dma sem) (hsrc := h1) (hdst := h2) (hsem := h3) (q := fullShare) (fs := (I.W c)) (fd := f)
    () 32768 (wbF I c b) cr_wb (by decide) (w_sl r b inb1 hs1) (wb_sq p k inb2 hs2 hq) hv

theorem cp_o (b : ℕ)  (n : ℕ) {f : S512x8192.Idx → Elt F .f32} {off1 : Fin 2 → ℕ} {off2 : Fin 2 → ℕ} {sem : DmaSem sig}
    {inb1 : ∀ a, off1 a + S512x512.size a ≤ S512x8192.size a} {inb2 : ∀ a, off2 a + S512x512.size a ≤ S512x8192.size a} {hs1 : ∀ a, (Rect.unit (s := S512x8192) off1 S512x512.size inb1).stride a = 1}
    {hs2 : ∀ a, (Rect.unit (s := S512x8192) off2 S512x512.size inb2).stride a = 1}
    {h1 : (acM.slice (Rect.unit (s := S512x8192) off1 S512x512.size inb1) hs1).view.WordExact} {h2 : (oA.slice (Rect.unit (s := S512x8192) off2 S512x512.size inb2) hs2).view.WordExact} {h3 : (DmaTarget.here (oA.slice (Rect.unit (s := S512x8192) off2 S512x512.size inb2) hs2) : DmaTarget nD τ sig Proc.tc .hbm S512x512 .f32).Typed .vmem (.dma sem)}
    (ho1 : off1 = ![0, 512 * b]) (ho2 : off2 = ![0, 512 * b]) (hn : (sem : ℕ) = n) {α : Type} {Q : α → sProp 𝕄} {K : PUnit → Prog (TpuEff nD τ sig (Elt F) Λ₀ .tc) α} :
    iprop(acP c b (oF I c) ∗ oP c b f ∗ sm0 c n : sProp 𝕄)
      ⊢ iprop((Fly c n iprop(oP c b (oF I c) ∗ acP c b (oF I c)) -∗ WP c (K ⟨⟩) Q)
        -∗ WP c (.op (.enqueueDma (acM.slice (Rect.unit (s := S512x8192) off1 S512x512.size inb1) hs1) (.here (oA.slice (Rect.unit (s := S512x8192) off2 S512x512.size inb2) hs2)) (.dma sem) h1 h2 h3) K) Q) := by
  subst ho1 ho2
  have hv : (oA.slice (Rect.unit (s := S512x8192) ![0, 512 * b] S512x512.size inb2) hs2).view.read (Elt F) (oF I c) = (acM.slice (Rect.unit (s := S512x8192) ![0, 512 * b] S512x512.size inb1) hs1).view.read (Elt F) (oF I c) :=
    funext fun i : S512x512.Idx => (rd_o I c b inb2 i).trans (rd_o I c b inb1 i).symm
  rw [sm0, Fly, ← smx_of hn]
  exact st_start (defs := defs₀ (F := F)) (U := UU) (Lvl := ℕ) (Name := ℕ) (Ix := Unit) EC 𝒱₀ (c : Thread nD τ) (k := K) (src := (acM.slice (Rect.unit (s := S512x8192) ![0, 512 * b] S512x512.size inb1) hs1))
    (dst := (oA.slice (Rect.unit (s := S512x8192) ![0, 512 * b] S512x512.size inb2) hs2)) (sm := .dma sem) (hsrc := h1) (hdst := h2) (hsem := h3) (q := fullShare) (fs := (oF I c)) (fd := f)
    () 32768 (oF I c) cr_o (by decide) (ac_sl b inb1 hs1) (o_sl b inb2 hs2) hv

/-- A wait for a local transfer, the core owing `O`. -/
theorem wt_flyO (n : ℕ) (D : sProp 𝕄) (O : CellTallies nD τ sig Unit) {s s' : Shape} {e e' : EltTy} {sp sp' : Space} {κ' : Kind} {sem : DmaSem sig} {srcw : Memref sig .tc sp' s' e'} {dstw : Memref sig κ' sp s e} {h1 : srcw.view.WordExact} {h2 : dstw.view.WordExact}
    (hn : (sem : ℕ) = n) (hN : dstw.view.dmaCredit = 32768) {α : Type} {Q : α → sProp 𝕄} {K : PUnit → Prog (TpuEff nD τ sig (Elt F) Λ₀ .tc) α} :
    iprop(Fly c n D ∗ ow c O ∗ MayWait (c : Thread nD τ) (smx n) () O : sProp 𝕄) ⊢ iprop(((D ∗ sm0 c n ∗ ow c O) -∗ WP c (K ⟨⟩) Q)
      -∗ WP c (.op (.waitDma2 sem srcw dstw h1 h2) K) Q) := by
  rw [Fly, sm0, ← smx_of hn]
  unfold ow
  iintro ⟨HF, ⟨%W, HO⟩, HM⟩ Hk
  iapply (wp_waitLocalO (defs := defs₀ (F := F)) EC 𝒱₀ (c : Thread nD τ) none (k := K) (sem := sem) (srcw := srcw) (dstw := dstw) (hsrc := h1) (hdst := h2) () hN (D := D) (O := O) (W := W)) $$ [HF HO HM]
  · isplitl [HF]; · iexact HF
    isplitl [HO]; · iexact HO
    iexact HM
  iintro ⟨HD, Hs, HO⟩
  iapply Hk
  isplitl [HD]; · iexact HD
  isplitl [Hs]; · iexact Hs
  iexists _
  iexact HO

/-- The same, the core owing nothing. -/
theorem wt_fly (n : ℕ) (D : sProp 𝕄) {s s' : Shape} {e e' : EltTy} {sp sp' : Space} {κ' : Kind} {sem : DmaSem sig} {srcw : Memref sig .tc sp' s' e'} {dstw : Memref sig κ' sp s e} {h1 : srcw.view.WordExact} {h2 : dstw.view.WordExact}
    (hn : (sem : ℕ) = n) (hN : dstw.view.dmaCredit = 32768) {α : Type} {Q : α → sProp 𝕄} {K : PUnit → Prog (TpuEff nD τ sig (Elt F) Λ₀ .tc) α} :
    iprop(Fly c n D ∗ ow c 0 : sProp 𝕄) ⊢ iprop(((D ∗ sm0 c n ∗ ow c 0) -∗ WP c (K ⟨⟩) Q)
      -∗ WP c (.op (.waitDma2 sem srcw dstw h1 h2) K) Q) := by
  refine BIBase.Entails.trans ?_ (wt_flyO c n D 0 hn hN)
  rw [MayWait_zero]
  iintro ⟨H1, H2⟩
  isplitl [H1]; · iexact H1
  isplitl [H2]; · iexact H2
  iempintro

end Copies

end Cert.KProof
-- ==== Proof.Sched.lean ====
/-
# The exchange between the devices

Which cells the devices signal one another on, what travels with each signal, the order in which cells may be waited
on, and one rule per operation of the exchange.
-/
module

public import proofs.«01_k».proof.Proof.Ops

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The cells -/

/-- The barrier semaphore of the entry handshake. -/
abbrev barS : Sem sig := (SemArray.scalar (sig.barrier 0 rfl) : Sems sig S_).sem
abbrev barG (c : Dev nD) : GSem nD τ sig := ((c : Thread nD τ), .reg barS)
/-- Device `c`'s DMA semaphore number `n`: `2 + d` for its send to `d`, `10 + s` for its receipt from `s`. -/
abbrev dG (c : Dev nD) (n : ℕ) : GSem nD τ sig := ((c : Thread nD τ), smx n)

/-- The devices that have a duty at a semaphore. -/
def peers (sm : SemLoc sig) : Finset (Dev nD) := match sm with
  | .reg _ => Finset.univ
  | .dma q => if 2 ≤ q.val ∧ q.val < 18 then {dv (q.val - 2)} else ∅

/-- The exchange: a barrier cell takes one unit from every other device `d`, with which `d` hands over its exchange
    slot for this device; a send or receive cell takes one block's credit, with which the sender has its slab back, or
    the receiver its slot filled. -/
def rd (I : Inp F) : Rounds.Schedule (GSem nD τ sig) (Dev nD) 𝕄 where
  duties g r := if r = 0 ∧ g.1.2 = .tc then (peers g.2).erase g.1.1 else ∅
  unitless _ := False
  amount g _ _ := match g.2 with
    | .reg _ => 1
    | .dma _ => 8192
  payload g _ d := match g.2 with
    | .reg _ => iprop(∃ f, cmP d (g.1.1 : ℕ) f)
    | .dma q => if q.val < 10 then xsP g.1.1 (d : ℕ) (xsF I g.1.1) else cmP g.1.1 (d : ℕ) (cmF I g.1.1)
  amount_pos g _ _ _ := by
    rcases g with ⟨_, _ | _⟩
    · exact Nat.one_pos
    · exact (by decide : 0 < 8192)

section Sched

variable (I : Inp F) (c : Dev nD)

instance rd_storable (g : GSem nD τ sig) (r : ℕ) (d : Dev nD) :
    BI.Storable (upEmb : UEmb _ 𝕄) ((rd I).payload g r d) := by
  rcases g with ⟨t, s | q⟩
  · show BI.Storable _ (iprop(∃ f, cmP d (t.1 : ℕ) f) : sProp 𝕄)
    unfold cmP; infer_instance
  · show BI.Storable _ (if q.val < 10 then xsP t.1 (d : ℕ) (xsF I t.1) else cmP t.1 (d : ℕ) (cmF I t.1) : sProp 𝕄)
    unfold xsP cmP
    split <;> infer_instance

theorem dv_val (d : Dev nD) : dv (d : ℕ) = d := Fin.ext (Nat.mod_eq_of_lt d.isLt)
theorem dv_n (d : Dev nD) (n : ℕ) (h : n = d) : dv n = d := by rw [h, dv_val]

theorem duties_tc (sm : SemLoc sig) : (rd I).duties ((c : Thread nD τ), sm) 0 = (peers sm).erase c := by
  dsimp only [rd]; exact if_pos ⟨rfl, rfl⟩
theorem duties_bar : (rd I).duties (barG c) 0 = Finset.univ.erase c := duties_tc I c _
theorem peers_smx {n : ℕ} (h : 2 ≤ n) (h' : n < 18) : peers (smx n) = {dv (n - 2)} := by
  show (if 2 ≤ n % 66 ∧ n % 66 < 18 then {dv (n % 66 - 2)} else ∅ : Finset (Dev nD)) = _
  rw [Nat.mod_eq_of_lt (by omega : n < 66), if_pos ⟨h, h'⟩]
theorem dv_snd (d : Dev nD) : dv (2 + (d : ℕ) - 2) = d := by rw [Nat.add_sub_cancel_left, dv_val]
theorem dv_rcv (d : Dev nD) : dv (10 + (d : ℕ) - 2) = d := by
  have hd : (d : ℕ) < 8 := d.isLt
  exact Fin.ext (show (10 + (d : ℕ) - 2) % 8 = d by omega)
theorem duties_snd (d : Dev nD) (h : d ≠ c) : (rd I).duties (dG c (2 + d)) 0 = {d} := by
  have hd : (d : ℕ) < 8 := d.isLt
  rw [duties_tc, peers_smx (by omega) (by omega), dv_snd]
  exact Finset.erase_eq_of_notMem (fun hh => h (Finset.mem_singleton.mp hh).symm)
theorem duties_rcv (d : Dev nD) (h : d ≠ c) : (rd I).duties (dG c (10 + d)) 0 = {d} := by
  have hd : (d : ℕ) < 8 := d.isLt
  rw [duties_tc, peers_smx (by omega) (by omega), dv_rcv]
  exact Finset.erase_eq_of_notMem (fun hh => h (Finset.mem_singleton.mp hh).symm)
theorem duties_self_snd : (rd I).duties (dG c (2 + c)) 0 = ∅ := by
  have hd : (c : ℕ) < 8 := c.isLt
  rw [duties_tc, peers_smx (by omega) (by omega), dv_snd]
  exact Finset.erase_singleton _
theorem duties_self_rcv : (rd I).duties (dG c (10 + c)) 0 = ∅ := by
  have hd : (c : ℕ) < 8 := c.isLt
  rw [duties_tc, peers_smx (by omega) (by omega), dv_rcv]
  exact Finset.erase_singleton _
theorem duties_later (g : GSem nD τ sig) (r : ℕ) (h : 1 ≤ r) : (rd I).duties g r = ∅ := by
  dsimp only [rd]; exact if_neg fun hh => by omega
theorem duties_none {g : GSem nD τ sig} (h : (rd I).duties g 0 = ∅) (r : ℕ) (_ : 0 ≤ r) : (rd I).duties g r = ∅ := by
  rcases Nat.eq_zero_or_pos r with rfl | h'
  · exact h
  · exact duties_later I g r h'

theorem expect_bar : (rd I).expect (barG c) 0 = 7 := by
  unfold Schedule.expect Schedule.amountOf
  rw [duties_bar, Finset.sum_congr rfl fun d _ => show (rd I).amount (barG c) 0 d = 1 from rfl, Finset.sum_const,
    Finset.card_erase_of_mem (Finset.mem_univ _)]
  rfl
theorem expect_snd (d : Dev nD) (h : d ≠ c) : (rd I).expect (dG c (2 + d)) 0 = 8192 := by
  unfold Schedule.expect Schedule.amountOf; rw [duties_snd I c d h, Finset.sum_singleton]; rfl
theorem expect_rcv (d : Dev nD) (h : d ≠ c) : (rd I).expect (dG c (10 + d)) 0 = 8192 := by
  unfold Schedule.expect Schedule.amountOf; rw [duties_rcv I c d h, Finset.sum_singleton]; rfl

theorem payload_bar (d : Dev nD) : (rd I).payload (barG c) 0 d = iprop(∃ f, cmP d (c : ℕ) f) := rfl
theorem payload_snd (d : Dev nD) : (rd I).payload (dG c (2 + d)) 0 d = xsP c (d : ℕ) (xsF I c) := by
  have hd : (d : ℕ) < 8 := d.isLt
  exact if_pos (show (2 + (d : ℕ)) % 66 < 10 by omega)
theorem payload_rcv (d : Dev nD) : (rd I).payload (dG c (10 + d)) 0 d = cmP c (d : ℕ) (cmF I c) := by
  have hd : (d : ℕ) < 8 := d.isLt
  exact if_neg (show ¬ (10 + (d : ℕ)) % 66 < 10 by omega)

theorem rest_rcv (d : Dev nD) (h : d ≠ c) :
    bigSep ((rd I).duties (dG c (10 + d)) 0 \ ∅) (fun x => (rd I).payload (dG c (10 + d)) 0 x) = cmP c (d : ℕ) (cmF I c) := by
  rw [Finset.sdiff_empty, duties_rcv I c d h, bigSep_singleton, payload_rcv]
theorem rest_snd (d : Dev nD) (h : d ≠ c) :
    bigSep ((rd I).duties (dG c (2 + d)) 0 \ ∅) (fun x => (rd I).payload (dG c (2 + d)) 0 x) = xsP c (d : ℕ) (xsF I c) := by
  rw [Finset.sdiff_empty, duties_snd I c d h, bigSep_singleton, payload_snd]

end Sched

/-! ## The levels, and what a core owes -/

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => if 10 ≤ q.val ∧ q.val < 18 then 2 else 0

theorem L_of_ne (g : GSem nD τ sig) (h : g.1.2 ≠ .tc) : L g = ∅ := if_neg h
theorem L_tc (c : Dev nD) (sm : SemLoc sig) : L ((c : Thread nD τ), sm) = {()} := if_pos rfl

/-- The credit of the sends of the last `k` of the eight slabs, the own one left out. -/
def OS (c : Dev nD) : ℕ → CellTallies nD τ sig Unit
  | 0 => 0
  | k + 1 => OS c k + (if dv (7 - k) = c then 0 else tallyAt (dG (dv (7 - k)) (10 + c)) () 8192)
/-- That of all sends, and the last `k` of the seven signals. -/
def OB (c : Dev nD) : ℕ → CellTallies nD τ sig Unit
  | 0 => OS c 8
  | k + 1 => OB c k + tallyAt (barG (dv (c + (7 - k)))) () 1

theorem OS_pos {c : Dev nD} : ∀ {k : ℕ} {g : GSem nD τ sig} {u : Unit}, 0 < OS c k g u → ∃ d : Dev nD, g = dG d (10 + c)
  | 0, _, _, h => absurd h (Nat.lt_irrefl 0)
  | k + 1, g, u, h => by
    rw [OS, Pi.add_apply, Finsupp.add_apply] at h
    by_cases h0 : 0 < OS c k g u
    · exact OS_pos h0
    · split at h
      · rw [Pi.zero_apply, Finsupp.zero_apply] at h; omega
      · rw [tallyAt_apply] at h
        by_cases h1 : g = dG (dv (7 - k)) (10 + c) ∧ u = ()
        · exact ⟨_, h1.1⟩
        · rw [if_neg h1] at h; omega

theorem OB_pos {c : Dev nD} : ∀ {k : ℕ} {g : GSem nD τ sig} {u : Unit}, 0 < OB c k g u →
    (∃ d : Dev nD, g = dG d (10 + c)) ∨ ∃ d : Dev nD, g = barG d
  | 0, _, _, h => Or.inl (OS_pos h)
  | k + 1, g, u, h => by
    rw [OB, Pi.add_apply, Finsupp.add_apply] at h
    by_cases h0 : 0 < OB c k g u
    · exact OB_pos h0
    · rw [tallyAt_apply] at h
      by_cases h1 : g = barG (dv (c + (7 - k))) ∧ u = ()
      · exact Or.inr ⟨_, h1.1⟩
      · rw [if_neg h1] at h; omega

theorem lv_rcv (d c : Dev nD) : lv (dG d (10 + c)) () = 2 := by
  have hd : (c : ℕ) < 8 := c.isLt
  exact if_pos (show 10 ≤ (10 + (c : ℕ)) % 66 ∧ (10 + (c : ℕ)) % 66 < 18 by omega)

/-- A wait below everything owed at `OB`: any semaphore but a barrier or a receive. -/
theorem mayWait_low (c : Dev nD) (sm : SemLoc sig) (hl : lv ((c : Thread nD τ), sm) () = 0) (k : ℕ) :
    (levAts L lv : sProp 𝕄) ⊢ MayWait (c : Thread nD τ) sm () (OB c k) :=
  MayOwe.of_cut (L := L) (lev := lv) 0 (fun p hp => by rw [Finset.mem_singleton.mp hp, L_tc]; exact Finset.mem_singleton_self _)
    (fun g u hg => by rcases OB_pos hg with ⟨d, rfl⟩ | ⟨d, rfl⟩ <;> exact Finset.mem_singleton_self _)
    (fun p hp => by rw [Finset.mem_singleton.mp hp, hl])
    (fun g u hg => by
      rcases OB_pos hg with ⟨d, rfl⟩ | ⟨d, rfl⟩
      · rw [lv_rcv]; decide
      · exact Nat.one_pos)
theorem mayWait_lowS (c : Dev nD) (sm : SemLoc sig) (hl : lv ((c : Thread nD τ), sm) () = 0) (k : ℕ) :
    (levAts L lv : sProp 𝕄) ⊢ MayWait (c : Thread nD τ) sm () (OS c k) :=
  MayOwe.of_cut (L := L) (lev := lv) 0 (fun p hp => by rw [Finset.mem_singleton.mp hp, L_tc]; exact Finset.mem_singleton_self _)
    (fun g u hg => by rcases OS_pos hg with ⟨d, rfl⟩; exact Finset.mem_singleton_self _)
    (fun p hp => by rw [Finset.mem_singleton.mp hp, hl])
    (fun g u hg => by rcases OS_pos hg with ⟨d, rfl⟩; rw [lv_rcv]; decide)
/-- At the barrier wait only the sends are owed. -/
theorem mayWait_bar (c : Dev nD) : (levAts L lv : sProp 𝕄) ⊢ MayWait (c : Thread nD τ) (.reg barS) () (OS c 8) :=
  MayOwe.of_cut (L := L) (lev := lv) 1 (fun p hp => by rw [Finset.mem_singleton.mp hp, L_tc]; exact Finset.mem_singleton_self _)
    (fun g u hg => by rcases OS_pos hg with ⟨d, rfl⟩; exact Finset.mem_singleton_self _)
    (fun p hp => by rw [Finset.mem_singleton.mp hp]; exact le_refl 1)
    (fun g u hg => by rcases OS_pos hg with ⟨d, rfl⟩; rw [lv_rcv]; decide)

/-! ## What every step may use: the cells' invariants and the levels -/

/-- The 17 shared semaphores of a device: the barrier, eight sends, eight receipts. -/
def csem (k : Fin 17) : SemLoc sig := if (k : ℕ) = 16 then .reg barS else smx (2 + k)
abbrev kcell (ck : Dev nD × Fin 17) : GSem nD τ sig := ((ck.1 : Thread nD τ), csem ck.2)

def recs (I : Inp F) : sProp 𝕄 :=
  bigSep Finset.univ fun ck : Dev nD × Fin 17 => iprop((∃ κ : ℕ, cellInv ER (rd I) κ (kcell ck)) ∗ reached ER (kcell ck) 0)
def ctx (I : Inp F) : sProp 𝕄 := iprop(recs I ∗ levAts L lv)

instance recs_persistent (I : Inp F) : BI.Persistent (recs I) := by unfold recs; infer_instance
instance ctx_persistent (I : Inp F) : BI.Persistent (ctx I) := by unfold ctx; infer_instance

theorem recs_at (I : Inp F) (ck : Dev nD × Fin 17) {g : GSem nD τ sig} (h : kcell ck = g) :
    recs I ⊢ iprop((∃ κ : ℕ, cellInv ER (rd I) κ g) ∗ reached ER g 0) := by
  subst h; exact bigSep_elim (Finset.mem_univ ck)
theorem recs_bar (I : Inp F) (c : Dev nD) : recs I ⊢ iprop((∃ κ : ℕ, cellInv ER (rd I) κ (barG c)) ∗ reached ER (barG c) 0) :=
  recs_at I (c, 16) rfl
theorem recs_snd (I : Inp F) (c d : Dev nD) : recs I ⊢ iprop((∃ κ : ℕ, cellInv ER (rd I) κ (dG c (2 + d))) ∗ reached ER (dG c (2 + d)) 0) :=
  have hd : (d : ℕ) < 8 := d.isLt
  recs_at I (c, ⟨d, by omega⟩) (by show (_, csem _) = _; rw [csem, if_neg (show ¬ (d : ℕ) = 16 by omega)])
theorem recs_rcv (I : Inp F) (c d : Dev nD) : recs I ⊢ iprop((∃ κ : ℕ, cellInv ER (rd I) κ (dG c (10 + d))) ∗ reached ER (dG c (10 + d)) 0) :=
  have hd : (d : ℕ) < 8 := d.isLt
  recs_at I (c, ⟨8 + d, by omega⟩) (by
    show (_, csem _) = _; rw [csem, if_neg (show ¬ 8 + (d : ℕ) = 16 by omega)]
    show (_, smx (2 + (8 + (d : ℕ)))) = _
    rw [← Nat.add_assoc])

/-! ## The exchange's operations -/

section Exchange

variable (I : Inp F) (c : Dev nD)

/-- A signal of the handshake: it hands its target the own slot for it. -/
theorem sig_op (k : ℕ) (n : Dev nD) (hk : k < 7) (hn : n = dv (c + (7 - k))) {w : BitVec 32} (hw : w = 1#32)
    {α : Type} {Q : α → sProp 𝕄} {K : PUnit → Prog (TpuEff nD τ sig (Elt F) Λ₀ .tc) α} :
    iprop(ctx I ∗ ow c (OB c (k + 1)) ∗ dutyTok ER (barG (dv (c + (7 - k)))) 0 c ∗ (∃ f, cmP c (dv (c + (7 - k)) : ℕ) f) : sProp 𝕄)
      ⊢ iprop((ow c (OB c k) -∗ WP c (K ⟨⟩) Q) -∗ WP c (.op (.semSignal (Dev.tc n) barS w.toInt) K) Q) := by
  subst hn hw
  rw [show (1#32 : BitVec 32).toInt = ((1#32 : BitVec 32).toNat : Int) from rfl]
  unfold ow ctx
  iintro ⟨⟨#HR, -⟩, ⟨%W, HO⟩, Ht, Hp⟩ Hk
  ihave #Hb := (recs_bar I (dv (c + (7 - k)))) $$ HR
  icases Hb with ⟨⟨%κ, #Hi⟩, #Hr⟩
  have hne : c ≠ dv (c + (7 - k)) := fun h => by
    have h1 := congrArg (fun x : Dev nD => (x : ℕ)) h
    have h2 : (c : ℕ) = (c + (7 - k)) % 8 := h1
    have hc : (c : ℕ) < 8 := c.isLt
    omega
  iapply (Rounds.wp_signal 𝒱₀ ER (rd I) (c : Thread nD τ) none (dst := (dv (c + (7 - k)) : Thread nD τ)) (κ := κ) (d := c) (r := 0)
      (by rw [duties_bar]; exact Finset.mem_erase.mpr ⟨hne, Finset.mem_univ _⟩)
      (show (rd I).amount (barG (dv (c + (7 - k)))) 0 c = (1#32 : BitVec 32).toNat from rfl) () (O₀ := OB c (k + 1)) (OB c k) rfl) $$ [HO Ht Hp]
  · isplitr; · iexact Hi
    isplitl [HO]; · iexact HO
    isplitl [Ht]; · iexact Ht
    isplitl [Hp]; · rw [payload_bar]; iexact Hp
    iexact Hr
  iintro HO
  iapply Hk
  iexists _
  iexact HO

/-- The handshake's wait: every other device's slot for this one. -/
theorem bar_op {w : BitVec 32} (hw : w = 7#32)
    {α : Type} {Q : α → sProp 𝕄} {K : PUnit → Prog (TpuEff nD τ sig (Elt F) Λ₀ .tc) α} :
    iprop(ctx I ∗ ow c (OB c 0) ∗ cred (tallyAt (barG c) () 7) ∗ atPos ER (barG c) 0 ∅ 0 : sProp 𝕄)
      ⊢ iprop(((ow c (OS c 8) ∗ semVal (barG c) 0 ∗ bigSep (Finset.univ.erase c) fun d : Dev nD => iprop(∃ f, cmP d (c : ℕ) f)) -∗ WP c (K ⟨⟩) Q)
        -∗ WP c (.op (.semWait barS w.toInt) K) Q) := by
  subst hw
  rw [show (7#32 : BitVec 32).toInt = ((7#32 : BitVec 32).toNat : Int) from rfl]
  unfold ow ctx
  iintro ⟨⟨#HR, #Hlev⟩, ⟨%W, HO⟩, Hc, Hat⟩ Hk
  ihave #Hb := (recs_bar I c) $$ HR
  icases Hb with ⟨⟨%κ, #Hi⟩, #Hr⟩
  iapply (Rounds.wp_wait_rest_token 𝒱₀ ER (rd I) (c : Thread nD τ) none (κ := κ)
      (wpE_semWait_eq 𝒱₀ (c : Thread nD τ) none Set.univ) (Set.mem_univ _) () (O := OB c 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact Hlev
    iexact Hat
  iintro ⟨HO, Hat, -, Hp⟩
  imod (Rounds.cell_close ER (rd I) (Set.mem_univ κ) (fun h => h) (R := 0 + 1) (duties_later I (barG c))) $$ [Hat] with Hz
  · isplitr; · iexact Hi
    iexact Hat
  iapply Hk
  isplitl [HO]; · iexists _; iexact HO
  isplitl [Hz]; · iexact Hz
  rw [Finset.sdiff_empty, duties_bar]
  iexact Hp

/-- The receipt of slab `c` from device `s`. -/
theorem rcv_op (s : Dev nD) (h : s ≠ c) {S S' : Shape} {e e' : EltTy} {sp sp' : Space} {κ' : Kind} {sem : DmaSem sig} {srcw : Memref sig .tc sp' S' e'} {dstw : Memref sig κ' sp S e} {h1 : srcw.view.WordExact} {h2 : dstw.view.WordExact}
    (hn : (sem : ℕ) = 10 + s) (hN : dstw.view.dmaCredit = 8192) {α : Type} {Q : α → sProp 𝕄} {K : PUnit → Prog (TpuEff nD τ sig (Elt F) Λ₀ .tc) α} :
    iprop(ctx I ∗ ow c 0 ∗ cred (tallyAt (dG c (10 + s)) () 8192) ∗ atPos ER (dG c (10 + s)) 0 ∅ 0 : sProp 𝕄)
      ⊢ iprop(((ow c 0 ∗ sm0 c (10 + s) ∗ cmP c (s : ℕ) (cmF I c)) -∗ WP c (K ⟨⟩) Q)
        -∗ WP c (.op (.waitDma2 sem srcw dstw h1 h2) K) Q) := by
  have hs := smx_of hn
  unfold ow ctx
  iintro ⟨⟨#HR, #Hlev⟩, ⟨%W, HO⟩, Hc, Hat⟩ Hk
  ihave #Hb := (recs_rcv I c s) $$ HR
  icases Hb with ⟨⟨%κ, #Hi⟩, #Hr⟩
  iapply (Rounds.wp_wait_rest_token 𝒱₀ ER (rd I) (c : Thread nD τ) none (κ := κ) (sm := smx (10 + s)) (k' := 8192)
      (by rw [← hs, ← hN]; exact wpE_waitDma2_eq 𝒱₀ (c : Thread nD τ) none Set.univ) (Set.mem_univ _) () (O := 0) (W := W) (R := 0) (m := 0) (T := ∅)
      (by rw [expect_rcv I c s h])) $$ [Hc HO Hat]
  · isplitr; · iexact Hi
    isplitl [Hc]; · iexact Hc
    isplitl [HO]; · iexact HO
    isplitr; · rw [MayWait_zero]; iempintro
    iexact Hat
  iintro ⟨HO, Hat, -, Hp⟩
  imod (Rounds.cell_close ER (rd I) (Set.mem_univ κ) (fun h => h) (R := 0 + 1) (duties_later I (dG c (10 + s)))) $$ [Hat] with Hz
  · isplitr; · iexact Hi
    iexact Hat
  iapply Hk
  isplitl [HO]; · iexists _; iexact HO
  isplitl [Hz]; · iexact Hz
  ihave Hp' := (Entails.of_eq (rest_rcv I c s h)) $$ Hp
  iexact Hp'

/-- The wait for the own send to device `d`: its slab back. -/
theorem snd_wait (d : Dev nD) (h : d ≠ c) {S S' : Shape} {e e' : EltTy} {sp sp' : Space} {κ' : Kind} {sem : DmaSem sig} {srcw : Memref sig .tc sp' S' e'} {dstw : Memref sig κ' sp S e} {h1 : srcw.view.WordExact} {h2 : dstw.view.WordExact}
    (hn : (sem : ℕ) = 2 + d) (hN : dstw.view.dmaCredit = 8192) {α : Type} {Q : α → sProp 𝕄} {K : PUnit → Prog (TpuEff nD τ sig (Elt F) Λ₀ .tc) α} :
    iprop(ctx I ∗ ow c 0 ∗ cred (tallyAt (dG c (2 + d)) () 8192) ∗ atPos ER (dG c (2 + d)) 0 ∅ 0 : sProp 𝕄)
      ⊢ iprop(((ow c 0 ∗ sm0 c (2 + d) ∗ xsP c (d : ℕ) (xsF I c)) -∗ WP c (K ⟨⟩) Q)
        -∗ WP c (.op (.waitDma2 sem srcw dstw h1 h2) K) Q) := by
  have hs := smx_of hn
  unfold ow ctx
  iintro ⟨⟨#HR, #Hlev⟩, ⟨%W, HO⟩, Hc, Hat⟩ Hk
  ihave #Hb := (recs_snd I c d) $$ HR
  icases Hb with ⟨⟨%κ, #Hi⟩, #Hr⟩
  iapply (Rounds.wp_wait_rest_token 𝒱₀ ER (rd I) (c : Thread nD τ) none (κ := κ) (sm := smx (2 + d)) (k' := 8192)
      (by rw [← hs, ← hN]; exact wpE_waitDma2_eq 𝒱₀ (c : Thread nD τ) none Set.univ) (Set.mem_univ _) () (O := 0) (W := W) (R := 0) (m := 0) (T := ∅)
      (by rw [expect_snd I c d h])) $$ [Hc HO Hat]
  · isplitr; · iexact Hi
    isplitl [Hc]; · iexact Hc
    isplitl [HO]; · iexact HO
    isplitr; · rw [MayWait_zero]; iempintro
    iexact Hat
  iintro ⟨HO, Hat, -, Hp⟩
  imod (Rounds.cell_close ER (rd I) (Set.mem_univ κ) (fun h => h) (R := 0 + 1) (duties_later I (dG c (2 + d)))) $$ [Hat] with Hz
  · isplitr; · iexact Hi
    iexact Hat
  iapply Hk
  isplitl [HO]; · iexists _; iexact HO
  isplitl [Hz]; · iexact Hz
  ihave Hp' := (Entails.of_eq (rest_snd I c d h)) $$ Hp
  iexact Hp'

/-- A shared cell nothing is ever paid on is at rest. -/
theorem close_snd : iprop(ctx I ∗ atPos ER (dG c (2 + c)) 0 ∅ 0 : sProp 𝕄) ⊢ |={Set.univ}=> sm0 c (2 + c) := by
  unfold ctx
  iintro ⟨⟨#HR, -⟩, Hat⟩
  ihave #Hb := (recs_snd I c c) $$ HR
  icases Hb with ⟨⟨%κ, #Hi⟩, -⟩
  iapply (Rounds.cell_close ER (rd I) (Set.mem_univ κ) (fun h => h) (R := 0) (duties_none I (duties_self_snd I c)))
  isplitr; · iexact Hi
  iexact Hat
theorem close_rcv : iprop(ctx I ∗ atPos ER (dG c (10 + c)) 0 ∅ 0 : sProp 𝕄) ⊢ |={Set.univ}=> sm0 c (10 + c) := by
  unfold ctx
  iintro ⟨⟨#HR, -⟩, Hat⟩
  ihave #Hb := (recs_rcv I c c) $$ HR
  icases Hb with ⟨⟨%κ, #Hi⟩, -⟩
  iapply (Rounds.cell_close ER (rd I) (Set.mem_univ κ) (fun h => h) (R := 0) (duties_none I (duties_self_rcv I c)))
  isplitr; · iexact Hi
  iexact Hat

/-- The send of slab `j` to device `j`. -/
theorem snd_op (k : ℕ) (j : Dev nD) (hk : k + j = 7) (hj : j ≠ c) (n : Dev nD) (hn : n = j) {off1 : Fin 2 → ℕ} {off2 : Fin 3 → ℕ} {ss rs : DmaSem sig}
    {inb1 : ∀ a, off1 a + S512x512.size a ≤ S4096x512.size a} {inb2 : ∀ a, off2 a + S1x512x512.size a ≤ S8x512x512.size a} {hs1 : ∀ a, (Rect.unit (s := S4096x512) off1 S512x512.size inb1).stride a = 1}
    {hs2 : ∀ a, (Rect.unit (s := S8x512x512) off2 S1x512x512.size inb2).stride a = 1} {hq : S1x512x512.Squeezes S512x512}
    {hsc : ((cmM.slice (Rect.unit (s := S8x512x512) off2 S1x512x512.size inb2) hs2).squeeze S512x512 hq : Memref sig (Dev.tc n : Thread nD τ).2.kind .vmem S512x512 .fp8e4m3).view.ref.isScScratch = false}
    {h1 : (xsM.slice (Rect.unit (s := S4096x512) off1 S512x512.size inb1) hs1).view.WordExact} {h2 : ((cmM.slice (Rect.unit (s := S8x512x512) off2 S1x512x512.size inb2) hs2).squeeze S512x512 hq).view.WordExact}
    {h3 : (DmaTarget.remote (Dev.tc n : Thread nD τ) ((cmM.slice (Rect.unit (s := S8x512x512) off2 S1x512x512.size inb2) hs2).squeeze S512x512 hq) (.dma ss) hsc : DmaTarget nD τ sig Proc.tc .vmem S512x512 .fp8e4m3).Typed .vmem (.dma rs)}
    (ho1 : off1 = ![512 * (j : ℕ), 0]) (ho2 : off2 = ![(c : ℕ), 0, 0]) (hs : (ss : ℕ) = 2 + j) (hr : (rs : ℕ) = 10 + c) {α : Type} {Q : α → sProp 𝕄} {K : PUnit → Prog (TpuEff nD τ sig (Elt F) Λ₀ .tc) α} :
    iprop(ctx I ∗ xsP c (j : ℕ) (xsF I c) ∗ (∃ f, cmP j (c : ℕ) f) ∗ ow c (OS c (k + 1)) ∗ dutyTok ER (dG c (2 + j)) 0 j ∗ dutyTok ER (dG j (10 + c)) 0 c : sProp 𝕄)
      ⊢ iprop(((cred (tallyAt (dG c (2 + j)) () 8192) ∗ ow c (OS c k)) -∗ WP c (K ⟨⟩) Q)
        -∗ WP c (.op (.enqueueDma (xsM.slice (Rect.unit (s := S4096x512) off1 S512x512.size inb1) hs1) (.remote (Dev.tc n : Thread nD τ) ((cmM.slice (Rect.unit (s := S8x512x512) off2 S1x512x512.size inb2) hs2).squeeze S512x512 hq) (.dma ss) hsc) (.dma rs) h1 h2 h3) K) Q) := by
  subst hn ho1 ho2
  have hes := smx_of hs
  have her := smx_of hr
  have hO : OS c (k + 1) = OS c k + tallyAt (dG n (10 + c)) () 8192 := by
    rw [OS, dv_n n (7 - k) (by omega), if_neg hj]
  unfold ow ctx
  iintro ⟨⟨#HR, #Hlev⟩, Hx, ⟨%f, Hc⟩, ⟨%W, HO⟩, Hts, Htr⟩ Hk
  ihave #Hb := (recs_snd I c n) $$ HR
  icases Hb with ⟨⟨%κ, #Hi⟩, #Hrr⟩
  ihave #Hb' := (recs_rcv I n c) $$ HR
  icases Hb' with ⟨⟨%κ', #Hi'⟩, #Hrr'⟩
  iapply (Rounds.wp_send_pointsTo 𝒱₀ ER (rd I) (c : Thread nD τ) none (κ₁ := κ) (κ₂ := κ') (c' := (Dev.tc n : Thread nD τ))
      (src := xsM.slice (Rect.unit (s := S4096x512) ![512 * (n : ℕ), 0] S512x512.size inb1) hs1)
      (dst := (cmM.slice (Rect.unit (s := S8x512x512) ![(c : ℕ), 0, 0] S1x512x512.size inb2) hs2).squeeze S512x512 hq)
      (sS := .dma ss) (sem := .dma rs) (hsrc := h1) (hdst := h2) (hsem := h3) (hsc := hsc) (k := K) (q := fullShare) (fs := xsF I c) (fd := f)
      (r₁ := 0) (r₂ := 0) (d₁ := n) (d₂ := c) (W := W) (Es := Set.univ)
      (by rw [hes, duties_snd I c n hj]; exact Finset.mem_singleton_self _) (by rw [her, duties_rcv I n c hj.symm]; exact Finset.mem_singleton_self _)
      () () 8192 cr_cm (by rw [hes]; rfl) (by rw [her]; rfl) (OS c k) (hO.trans (by rw [her]))
      (by rw [hes, payload_snd, xs_sl]; exact BI.Entails.refl _)
      (by
        rw [her, payload_rcv, cm_sq]
        refine Entails.of_eq (pointsTo_congr fun i hi => ?_)
        rw [← cm_sq (c : ℕ) inb2 hs2 hq] at hi
        obtain ⟨x, -, rfl⟩ := Finset.mem_map.mp hi
        rw [View.write_emb_of_mem _ _ (Finset.mem_univ _)]
        have hc : (c : ℕ) < 8 := c.isLt
        have e1 := rd_cm_sq I n c hc inb2 (Shape.Squeezes.numel_eq hq) x
        have e2 := rd_xs I c n inb1 x
        rw [dv_val] at e1
        refine Eq.trans ?_ e1.symm
        exact e2)) $$ [Hx Hc HO Hts Htr]
  · rw [hes, her]
    isplitr; · iexact Hi
    isplitr; · iexact Hi'
    isplitl [Hx]; · rw [xs_sl]; unfold xsP; iexact Hx
    isplitl [Hc]; · rw [cm_sq]; unfold cmP; iexact Hc
    isplitl [HO]; · iexact HO
    isplitl [Hts]; · iexact Hts
    isplitr; · iexact Hrr
    isplitl [Htr]; · iexact Htr
    iexact Hrr'
  iintro ⟨Hcr, HO⟩
  iapply Hk
  isplitl [Hcr]; · rw [hes]; iexact Hcr
  iexists _
  iexact HO

end Exchange

end Cert.KProof
-- ==== Proof.Offs.lean ====
/-
# Branches, places, and the own slab

Which device takes which branch, where the second half's operations lie as functions of the column block, and the
states of one slab of `x` between the start and its being sent or kept.
-/
module

public import proofs.«01_k».proof.Proof.Sched

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Which branches a device takes -/

theorem own_y0 : ∀ {c : Dev nD}, c = dv 0 → k0_cond2 c = 1#1 := by decide +kernel
theorem own_n0 : ∀ {c : Dev nD}, ¬ c = dv 0 → ¬ k0_cond2 c = 1#1 := by decide +kernel
theorem snd_n0 : ∀ {c : Dev nD}, c = dv 0 → ¬ k0_cond3 c = 1#1 := by decide +kernel
theorem snd_y0 : ∀ {c : Dev nD}, ¬ c = dv 0 → k0_cond3 c = 1#1 := by decide +kernel
theorem own_y1 : ∀ {c : Dev nD}, c = dv 1 → k0_cond4 c = 1#1 := by decide +kernel
theorem own_n1 : ∀ {c : Dev nD}, ¬ c = dv 1 → ¬ k0_cond4 c = 1#1 := by decide +kernel
theorem snd_n1 : ∀ {c : Dev nD}, c = dv 1 → ¬ k0_cond5 c = 1#1 := by decide +kernel
theorem snd_y1 : ∀ {c : Dev nD}, ¬ c = dv 1 → k0_cond5 c = 1#1 := by decide +kernel
theorem own_y2 : ∀ {c : Dev nD}, c = dv 2 → k0_cond6 c = 1#1 := by decide +kernel
theorem own_n2 : ∀ {c : Dev nD}, ¬ c = dv 2 → ¬ k0_cond6 c = 1#1 := by decide +kernel
theorem snd_n2 : ∀ {c : Dev nD}, c = dv 2 → ¬ k0_cond7 c = 1#1 := by decide +kernel
theorem snd_y2 : ∀ {c : Dev nD}, ¬ c = dv 2 → k0_cond7 c = 1#1 := by decide +kernel
theorem own_y3 : ∀ {c : Dev nD}, c = dv 3 → k0_cond8 c = 1#1 := by decide +kernel
theorem own_n3 : ∀ {c : Dev nD}, ¬ c = dv 3 → ¬ k0_cond8 c = 1#1 := by decide +kernel
theorem snd_n3 : ∀ {c : Dev nD}, c = dv 3 → ¬ k0_cond9 c = 1#1 := by decide +kernel
theorem snd_y3 : ∀ {c : Dev nD}, ¬ c = dv 3 → k0_cond9 c = 1#1 := by decide +kernel
theorem own_y4 : ∀ {c : Dev nD}, c = dv 4 → k0_cond10 c = 1#1 := by decide +kernel
theorem own_n4 : ∀ {c : Dev nD}, ¬ c = dv 4 → ¬ k0_cond10 c = 1#1 := by decide +kernel
theorem snd_n4 : ∀ {c : Dev nD}, c = dv 4 → ¬ k0_cond11 c = 1#1 := by decide +kernel
theorem snd_y4 : ∀ {c : Dev nD}, ¬ c = dv 4 → k0_cond11 c = 1#1 := by decide +kernel
theorem own_y5 : ∀ {c : Dev nD}, c = dv 5 → k0_cond12 c = 1#1 := by decide +kernel
theorem own_n5 : ∀ {c : Dev nD}, ¬ c = dv 5 → ¬ k0_cond12 c = 1#1 := by decide +kernel
theorem snd_n5 : ∀ {c : Dev nD}, c = dv 5 → ¬ k0_cond13 c = 1#1 := by decide +kernel
theorem snd_y5 : ∀ {c : Dev nD}, ¬ c = dv 5 → k0_cond13 c = 1#1 := by decide +kernel
theorem own_y6 : ∀ {c : Dev nD}, c = dv 6 → k0_cond14 c = 1#1 := by decide +kernel
theorem own_n6 : ∀ {c : Dev nD}, ¬ c = dv 6 → ¬ k0_cond14 c = 1#1 := by decide +kernel
theorem snd_n6 : ∀ {c : Dev nD}, c = dv 6 → ¬ k0_cond15 c = 1#1 := by decide +kernel
theorem snd_y6 : ∀ {c : Dev nD}, ¬ c = dv 6 → k0_cond15 c = 1#1 := by decide +kernel
theorem own_y7 : ∀ {c : Dev nD}, c = dv 7 → k0_cond16 c = 1#1 := by decide +kernel
theorem own_n7 : ∀ {c : Dev nD}, ¬ c = dv 7 → ¬ k0_cond16 c = 1#1 := by decide +kernel
theorem snd_n7 : ∀ {c : Dev nD}, c = dv 7 → ¬ k0_cond17 c = 1#1 := by decide +kernel
theorem snd_y7 : ∀ {c : Dev nD}, ¬ c = dv 7 → k0_cond17 c = 1#1 := by decide +kernel
theorem c1_y : ∀ i : grid0.Coords, (i 0 : ℕ) = 0 → k0_cond1 i = 1#1 := by decide +kernel
theorem c1_n : ∀ i : grid0.Coords, ¬ ((i 0 : ℕ) = 0) → ¬ k0_cond1 i = 1#1 := by decide +kernel
theorem c18_y : ∀ i : grid0.Coords, (i 0 : ℕ) < 16 → k0_cond18 i = 1#1 := by decide +kernel
theorem c18_n : ∀ i : grid0.Coords, ¬ ((i 0 : ℕ) < 16) → ¬ k0_cond18 i = 1#1 := by decide +kernel
theorem c19_y : ∀ i : grid0.Coords, (i 0 : ℕ) + 2 < 16 → k0_cond19 i = 1#1 := by decide +kernel
theorem c19_n : ∀ i : grid0.Coords, ¬ ((i 0 : ℕ) + 2 < 16) → ¬ k0_cond19 i = 1#1 := by decide +kernel
theorem c20_y : ∀ i : grid0.Coords, (i 0 : ℕ) = 16 → k0_cond20 i = 1#1 := by decide +kernel
theorem c20_n : ∀ i : grid0.Coords, ¬ ((i 0 : ℕ) = 16) → ¬ k0_cond20 i = 1#1 := by decide +kernel
theorem c21_y : ∀ i : grid0.Coords, 16 ≤ (i 0 : ℕ) → k0_cond21 i = 1#1 := by decide +kernel
theorem c21_n : ∀ i : grid0.Coords, ¬ (16 ≤ (i 0 : ℕ)) → ¬ k0_cond21 i = 1#1 := by decide +kernel
theorem c22_y : ∀ i : grid0.Coords, (i 0 : ℕ) < 29 → k0_cond22 i = 1#1 := by decide +kernel
theorem c22_n : ∀ i : grid0.Coords, ¬ ((i 0 : ℕ) < 29) → ¬ k0_cond22 i = 1#1 := by decide +kernel
theorem c23_y : ∀ i : grid0.Coords, (i 0 : ℕ) = 31 → k0_cond23 i = 1#1 := by decide +kernel
theorem c23_n : ∀ i : grid0.Coords, ¬ ((i 0 : ℕ) = 31) → ¬ k0_cond23 i = 1#1 := by decide +kernel

/-! ## Where the second half's operations lie: at grid point `b + 16` -/

theorem g58 : ∀ i : grid0.Coords, 16 ≤ (i 0 : ℕ) → k0_off58 i = ![((i 0 : ℕ) - 16) % 4, 0] := by decide +kernel
theorem f58 {i : grid0.Coords} {b : ℕ} (hb : (i 0 : ℕ) = b + 16) : k0_off58 i = ![b % 4, 0] := by
  rw [g58 i (by omega), hb, Nat.add_sub_cancel]
theorem g59 : ∀ i : grid0.Coords, 16 ≤ (i 0 : ℕ) → k0_off59 i = ![((i 0 : ℕ) - 16) % 4, 512 * 0, 0] := by decide +kernel
theorem f59 {i : grid0.Coords} {b : ℕ} (hb : (i 0 : ℕ) = b + 16) : k0_off59 i = ![b % 4, 512 * 0, 0] := by
  rw [g59 i (by omega), hb, Nat.add_sub_cancel]
theorem g61 : ∀ i : grid0.Coords, 16 ≤ (i 0 : ℕ) → k0_off61 i = ![((i 0 : ℕ) - 16) % 4, 1] := by decide +kernel
theorem f61 {i : grid0.Coords} {b : ℕ} (hb : (i 0 : ℕ) = b + 16) : k0_off61 i = ![b % 4, 1] := by
  rw [g61 i (by omega), hb, Nat.add_sub_cancel]
theorem g62 : ∀ i : grid0.Coords, 16 ≤ (i 0 : ℕ) → k0_off62 i = ![((i 0 : ℕ) - 16) % 4, 512 * 1, 0] := by decide +kernel
theorem f62 {i : grid0.Coords} {b : ℕ} (hb : (i 0 : ℕ) = b + 16) : k0_off62 i = ![b % 4, 512 * 1, 0] := by
  rw [g62 i (by omega), hb, Nat.add_sub_cancel]
theorem g63 : ∀ i : grid0.Coords, 16 ≤ (i 0 : ℕ) → k0_off63 i = ![((i 0 : ℕ) - 16) % 4, 2] := by decide +kernel
theorem f63 {i : grid0.Coords} {b : ℕ} (hb : (i 0 : ℕ) = b + 16) : k0_off63 i = ![b % 4, 2] := by
  rw [g63 i (by omega), hb, Nat.add_sub_cancel]
theorem g64 : ∀ i : grid0.Coords, 16 ≤ (i 0 : ℕ) → k0_off64 i = ![((i 0 : ℕ) - 16) % 4, 512 * 2, 0] := by decide +kernel
theorem f64 {i : grid0.Coords} {b : ℕ} (hb : (i 0 : ℕ) = b + 16) : k0_off64 i = ![b % 4, 512 * 2, 0] := by
  rw [g64 i (by omega), hb, Nat.add_sub_cancel]
theorem g65 : ∀ i : grid0.Coords, 16 ≤ (i 0 : ℕ) → k0_off65 i = ![((i 0 : ℕ) - 16) % 4, 3] := by decide +kernel
theorem f65 {i : grid0.Coords} {b : ℕ} (hb : (i 0 : ℕ) = b + 16) : k0_off65 i = ![b % 4, 3] := by
  rw [g65 i (by omega), hb, Nat.add_sub_cancel]
theorem g66 : ∀ i : grid0.Coords, 16 ≤ (i 0 : ℕ) → k0_off66 i = ![((i 0 : ℕ) - 16) % 4, 512 * 3, 0] := by decide +kernel
theorem f66 {i : grid0.Coords} {b : ℕ} (hb : (i 0 : ℕ) = b + 16) : k0_off66 i = ![b % 4, 512 * 3, 0] := by
  rw [g66 i (by omega), hb, Nat.add_sub_cancel]
theorem g67 : ∀ i : grid0.Coords, 16 ≤ (i 0 : ℕ) → k0_off67 i = ![((i 0 : ℕ) - 16) % 4, 4] := by decide +kernel
theorem f67 {i : grid0.Coords} {b : ℕ} (hb : (i 0 : ℕ) = b + 16) : k0_off67 i = ![b % 4, 4] := by
  rw [g67 i (by omega), hb, Nat.add_sub_cancel]
theorem g68 : ∀ i : grid0.Coords, 16 ≤ (i 0 : ℕ) → k0_off68 i = ![((i 0 : ℕ) - 16) % 4, 512 * 4, 0] := by decide +kernel
theorem f68 {i : grid0.Coords} {b : ℕ} (hb : (i 0 : ℕ) = b + 16) : k0_off68 i = ![b % 4, 512 * 4, 0] := by
  rw [g68 i (by omega), hb, Nat.add_sub_cancel]
theorem g69 : ∀ i : grid0.Coords, 16 ≤ (i 0 : ℕ) → k0_off69 i = ![((i 0 : ℕ) - 16) % 4, 5] := by decide +kernel
theorem f69 {i : grid0.Coords} {b : ℕ} (hb : (i 0 : ℕ) = b + 16) : k0_off69 i = ![b % 4, 5] := by
  rw [g69 i (by omega), hb, Nat.add_sub_cancel]
theorem g70 : ∀ i : grid0.Coords, 16 ≤ (i 0 : ℕ) → k0_off70 i = ![((i 0 : ℕ) - 16) % 4, 512 * 5, 0] := by decide +kernel
theorem f70 {i : grid0.Coords} {b : ℕ} (hb : (i 0 : ℕ) = b + 16) : k0_off70 i = ![b % 4, 512 * 5, 0] := by
  rw [g70 i (by omega), hb, Nat.add_sub_cancel]
theorem g71 : ∀ i : grid0.Coords, 16 ≤ (i 0 : ℕ) → k0_off71 i = ![((i 0 : ℕ) - 16) % 4, 6] := by decide +kernel
theorem f71 {i : grid0.Coords} {b : ℕ} (hb : (i 0 : ℕ) = b + 16) : k0_off71 i = ![b % 4, 6] := by
  rw [g71 i (by omega), hb, Nat.add_sub_cancel]
theorem g72 : ∀ i : grid0.Coords, 16 ≤ (i 0 : ℕ) → k0_off72 i = ![((i 0 : ℕ) - 16) % 4, 512 * 6, 0] := by decide +kernel
theorem f72 {i : grid0.Coords} {b : ℕ} (hb : (i 0 : ℕ) = b + 16) : k0_off72 i = ![b % 4, 512 * 6, 0] := by
  rw [g72 i (by omega), hb, Nat.add_sub_cancel]
theorem g73 : ∀ i : grid0.Coords, 16 ≤ (i 0 : ℕ) → k0_off73 i = ![((i 0 : ℕ) - 16) % 4, 0, 0] := by decide +kernel
theorem f73 {i : grid0.Coords} {b : ℕ} (hb : (i 0 : ℕ) = b + 16) : k0_off73 i = ![b % 4, 0, 0] := by
  rw [g73 i (by omega), hb, Nat.add_sub_cancel]
theorem g74 : ∀ i : grid0.Coords, 16 ≤ (i 0 : ℕ) → k0_off74 i = ![0, 512 * ((i 0 : ℕ) - 16)] := by decide +kernel
theorem f74 {i : grid0.Coords} {b : ℕ} (hb : (i 0 : ℕ) = b + 16) : k0_off74 i = ![0, 512 * b] := by
  rw [g74 i (by omega), hb, Nat.add_sub_cancel]
theorem g75 : ∀ i : grid0.Coords, 16 ≤ (i 0 : ℕ) → k0_off75 i = ![((i 0 : ℕ) - 16)] := by decide +kernel
theorem f75 {i : grid0.Coords} {b : ℕ} (hb : (i 0 : ℕ) = b + 16) : k0_off75 i = ![b] := by
  rw [g75 i (by omega), hb, Nat.add_sub_cancel]
theorem g76 : ∀ i : grid0.Coords, 16 ≤ (i 0 : ℕ) → k0_off76 i = ![0, 512 * ((i 0 : ℕ) - 16)] := by decide +kernel
theorem f76 {i : grid0.Coords} {b : ℕ} (hb : (i 0 : ℕ) = b + 16) : k0_off76 i = ![0, 512 * b] := by
  rw [g76 i (by omega), hb, Nat.add_sub_cancel]
theorem g77 : ∀ i : grid0.Coords, 16 ≤ (i 0 : ℕ) → (i 0 : ℕ) < 29 → k0_off77 i = ![(((i 0 : ℕ) - 16) + 3) % 4, 0] := by decide +kernel
theorem f77 {i : grid0.Coords} {b : ℕ} (hb : (i 0 : ℕ) = b + 16) (hl : b < 13) : k0_off77 i = ![(b + 3) % 4, 0] := by
  rw [g77 i (by omega) (by omega), hb, Nat.add_sub_cancel]
theorem g78 : ∀ i : grid0.Coords, 16 ≤ (i 0 : ℕ) → (i 0 : ℕ) < 29 → k0_off78 i = ![(((i 0 : ℕ) - 16) + 3) % 4, 512 * 0, 0] := by decide +kernel
theorem f78 {i : grid0.Coords} {b : ℕ} (hb : (i 0 : ℕ) = b + 16) (hl : b < 13) : k0_off78 i = ![(b + 3) % 4, 512 * 0, 0] := by
  rw [g78 i (by omega) (by omega), hb, Nat.add_sub_cancel]
theorem g80 : ∀ i : grid0.Coords, 16 ≤ (i 0 : ℕ) → (i 0 : ℕ) < 29 → k0_off80 i = ![(((i 0 : ℕ) - 16) + 3) % 4, 1] := by decide +kernel
theorem f80 {i : grid0.Coords} {b : ℕ} (hb : (i 0 : ℕ) = b + 16) (hl : b < 13) : k0_off80 i = ![(b + 3) % 4, 1] := by
  rw [g80 i (by omega) (by omega), hb, Nat.add_sub_cancel]
theorem g81 : ∀ i : grid0.Coords, 16 ≤ (i 0 : ℕ) → (i 0 : ℕ) < 29 → k0_off81 i = ![(((i 0 : ℕ) - 16) + 3) % 4, 512 * 1, 0] := by decide +kernel
theorem f81 {i : grid0.Coords} {b : ℕ} (hb : (i 0 : ℕ) = b + 16) (hl : b < 13) : k0_off81 i = ![(b + 3) % 4, 512 * 1, 0] := by
  rw [g81 i (by omega) (by omega), hb, Nat.add_sub_cancel]
theorem g82 : ∀ i : grid0.Coords, 16 ≤ (i 0 : ℕ) → (i 0 : ℕ) < 29 → k0_off82 i = ![(((i 0 : ℕ) - 16) + 3) % 4, 2] := by decide +kernel
theorem f82 {i : grid0.Coords} {b : ℕ} (hb : (i 0 : ℕ) = b + 16) (hl : b < 13) : k0_off82 i = ![(b + 3) % 4, 2] := by
  rw [g82 i (by omega) (by omega), hb, Nat.add_sub_cancel]
theorem g83 : ∀ i : grid0.Coords, 16 ≤ (i 0 : ℕ) → (i 0 : ℕ) < 29 → k0_off83 i = ![(((i 0 : ℕ) - 16) + 3) % 4, 512 * 2, 0] := by decide +kernel
theorem f83 {i : grid0.Coords} {b : ℕ} (hb : (i 0 : ℕ) = b + 16) (hl : b < 13) : k0_off83 i = ![(b + 3) % 4, 512 * 2, 0] := by
  rw [g83 i (by omega) (by omega), hb, Nat.add_sub_cancel]
theorem g84 : ∀ i : grid0.Coords, 16 ≤ (i 0 : ℕ) → (i 0 : ℕ) < 29 → k0_off84 i = ![(((i 0 : ℕ) - 16) + 3) % 4, 3] := by decide +kernel
theorem f84 {i : grid0.Coords} {b : ℕ} (hb : (i 0 : ℕ) = b + 16) (hl : b < 13) : k0_off84 i = ![(b + 3) % 4, 3] := by
  rw [g84 i (by omega) (by omega), hb, Nat.add_sub_cancel]
theorem g85 : ∀ i : grid0.Coords, 16 ≤ (i 0 : ℕ) → (i 0 : ℕ) < 29 → k0_off85 i = ![(((i 0 : ℕ) - 16) + 3) % 4, 512 * 3, 0] := by decide +kernel
theorem f85 {i : grid0.Coords} {b : ℕ} (hb : (i 0 : ℕ) = b + 16) (hl : b < 13) : k0_off85 i = ![(b + 3) % 4, 512 * 3, 0] := by
  rw [g85 i (by omega) (by omega), hb, Nat.add_sub_cancel]
theorem g86 : ∀ i : grid0.Coords, 16 ≤ (i 0 : ℕ) → (i 0 : ℕ) < 29 → k0_off86 i = ![(((i 0 : ℕ) - 16) + 3) % 4, 4] := by decide +kernel
theorem f86 {i : grid0.Coords} {b : ℕ} (hb : (i 0 : ℕ) = b + 16) (hl : b < 13) : k0_off86 i = ![(b + 3) % 4, 4] := by
  rw [g86 i (by omega) (by omega), hb, Nat.add_sub_cancel]
theorem g87 : ∀ i : grid0.Coords, 16 ≤ (i 0 : ℕ) → (i 0 : ℕ) < 29 → k0_off87 i = ![(((i 0 : ℕ) - 16) + 3) % 4, 512 * 4, 0] := by decide +kernel
theorem f87 {i : grid0.Coords} {b : ℕ} (hb : (i 0 : ℕ) = b + 16) (hl : b < 13) : k0_off87 i = ![(b + 3) % 4, 512 * 4, 0] := by
  rw [g87 i (by omega) (by omega), hb, Nat.add_sub_cancel]
theorem g88 : ∀ i : grid0.Coords, 16 ≤ (i 0 : ℕ) → (i 0 : ℕ) < 29 → k0_off88 i = ![(((i 0 : ℕ) - 16) + 3) % 4, 5] := by decide +kernel
theorem f88 {i : grid0.Coords} {b : ℕ} (hb : (i 0 : ℕ) = b + 16) (hl : b < 13) : k0_off88 i = ![(b + 3) % 4, 5] := by
  rw [g88 i (by omega) (by omega), hb, Nat.add_sub_cancel]
theorem g89 : ∀ i : grid0.Coords, 16 ≤ (i 0 : ℕ) → (i 0 : ℕ) < 29 → k0_off89 i = ![(((i 0 : ℕ) - 16) + 3) % 4, 512 * 5, 0] := by decide +kernel
theorem f89 {i : grid0.Coords} {b : ℕ} (hb : (i 0 : ℕ) = b + 16) (hl : b < 13) : k0_off89 i = ![(b + 3) % 4, 512 * 5, 0] := by
  rw [g89 i (by omega) (by omega), hb, Nat.add_sub_cancel]
theorem g90 : ∀ i : grid0.Coords, 16 ≤ (i 0 : ℕ) → (i 0 : ℕ) < 29 → k0_off90 i = ![(((i 0 : ℕ) - 16) + 3) % 4, 6] := by decide +kernel
theorem f90 {i : grid0.Coords} {b : ℕ} (hb : (i 0 : ℕ) = b + 16) (hl : b < 13) : k0_off90 i = ![(b + 3) % 4, 6] := by
  rw [g90 i (by omega) (by omega), hb, Nat.add_sub_cancel]
theorem g91 : ∀ i : grid0.Coords, 16 ≤ (i 0 : ℕ) → (i 0 : ℕ) < 29 → k0_off91 i = ![(((i 0 : ℕ) - 16) + 3) % 4, 512 * 6, 0] := by decide +kernel
theorem f91 {i : grid0.Coords} {b : ℕ} (hb : (i 0 : ℕ) = b + 16) (hl : b < 13) : k0_off91 i = ![(b + 3) % 4, 512 * 6, 0] := by
  rw [g91 i (by omega) (by omega), hb, Nat.add_sub_cancel]
theorem g79 : ∀ (r : Fin 7) (d : Dev nD) (i : grid0.Coords), 16 ≤ (i 0 : ℕ) → (i 0 : ℕ) < 29 →
    k0_off79 i d (BitVec.ofNat 32 r.val) = ![512 * ((d.val + r.val + 1) % 8), 512 * ((i 0 : ℕ) - 16 + 3)] := by decide +kernel
theorem f79 (r : Fin 7) (d : Dev nD) {i : grid0.Coords} {b : ℕ} (hb : (i 0 : ℕ) = b + 16) (hl : b < 13) :
    k0_off79 i d (BitVec.ofNat 32 r.val) = ![512 * ((d.val + r.val + 1) % 8), 512 * (b + 3)] := by
  rw [g79 r d i (by omega) (by omega), hb, Nat.add_sub_cancel]

/-! ## The own slab -/

section Own

variable (I : Inp F) (c : Dev nD)

/-- Before slab `j` is dealt with: for another device's slab, its slot for this device, and the right to the two
    signals; for the own slab, the own slot and column block 0 of the gathered rows. -/
def Pre (j : Dev nD) : sProp 𝕄 :=
  if j = c then iprop((∃ f, cmP c (c : ℕ) f) ∗ ∃ f, aP c 0 f)
  else iprop((∃ f, cmP j (c : ℕ) f) ∗ dutyTok ER (dG c (2 + j)) 0 j ∗ dutyTok ER (dG j (10 + c)) 0 c)
/-- The own slab is in place, the others not sent yet. -/
def Mid (j : Dev nD) : sProp 𝕄 :=
  if j = c then iprop(cmP c (c : ℕ) (cmF I c) ∗ aP c 0 (aF I c))
  else iprop((∃ f, cmP j (c : ℕ) f) ∗ dutyTok ER (dG c (2 + j)) 0 j ∗ dutyTok ER (dG j (10 + c)) 0 c)
/-- Slab `j` dealt with. -/
def Pst (j : Dev nD) : sProp 𝕄 :=
  if j = c then iprop((cmP c (c : ℕ) (cmF I c) ∗ aP c 0 (aF I c)) ∗ xsP c (j : ℕ) (xsF I c))
  else cred (tallyAt (dG c (2 + j)) () 8192)

variable {I c}

theorem Pre_own {j : Dev nD} (h : c = j) : Pre c j = iprop((∃ f, cmP c (c : ℕ) f) ∗ ∃ f, aP c 0 f : sProp 𝕄) := if_pos h.symm
theorem Pre_oth {j : Dev nD} (h : ¬ c = j) : Pre c j = iprop((∃ f, cmP j (c : ℕ) f) ∗ dutyTok ER (dG c (2 + j)) 0 j ∗ dutyTok ER (dG j (10 + c)) 0 c : sProp 𝕄) :=
  if_neg (fun hh => h hh.symm)
theorem Mid_own {j : Dev nD} (h : c = j) : Mid I c j = iprop(cmP c (c : ℕ) (cmF I c) ∗ aP c 0 (aF I c)) := if_pos h.symm
theorem Mid_oth {j : Dev nD} (h : ¬ c = j) : Mid I c j = iprop((∃ f, cmP j (c : ℕ) f) ∗ dutyTok ER (dG c (2 + j)) 0 j ∗ dutyTok ER (dG j (10 + c)) 0 c) :=
  if_neg (fun hh => h hh.symm)
theorem Pst_own {j : Dev nD} (h : c = j) : Pst I c j = iprop((cmP c (c : ℕ) (cmF I c) ∗ aP c 0 (aF I c)) ∗ xsP c (j : ℕ) (xsF I c)) := if_pos h.symm
theorem Pst_oth {j : Dev nD} (h : ¬ c = j) : Pst I c j = cred (tallyAt (dG c (2 + j)) () 8192) := if_neg (fun hh => h hh.symm)

theorem OS_own {k : ℕ} {j : Dev nD} (h : c = j) (hk : k + j = 7) : (ow c (OS c (k + 1)) : sProp 𝕄) = ow c (OS c k) := by
  rw [OS, dv_n j (7 - k) (by omega), if_pos h.symm, add_zero]

/-- The own block as stored in the exchange buffer. -/
theorem slot_eq (B : Blk F .fp8e4m3) : k0_pay7 B = (pl3 B : S1x512x512.Idx → Elt F .fp8e4m3) := by
  funext i
  have h0 : i = ix3 (i 0) (i 1) (i 2) := by
    funext a
    match a with | ⟨0, _⟩ => rfl | ⟨1, _⟩ => rfl | ⟨2, _⟩ => rfl
  have ha : (i 1 : ℕ) < 512 := (i 1).isLt
  have hb : (i 2 : ℕ) < 512 := (i 2).isLt
  refine Eq.trans (congrArg (k0_pay7 B) h0) ((shapeCast_ab_1ab_apply (a := 512) (b := 512) B shapeCasts_S512x512_S1x512x512 (i 0) (i 1) (i 2)).trans ?_)
  exact (congrArg B (ix2_congr (Nat.mod_eq_of_lt ha) (Nat.mod_eq_of_lt hb))).symm
theorem slot_own {j : ℕ} (h : c = dv j) (hj : j < 8) : k0_pay7 (xsb I c j) = (pl3 (xsb I (dv (c : ℕ)) (c : ℕ)) : S1x512x512.Idx → Elt F .fp8e4m3) := by
  have hc : (c : ℕ) = j := by rw [h]; exact Nat.mod_eq_of_lt hj
  rw [slot_eq, dv_val, hc]

variable (I c)

/-- A local transfer's wait while sends are owed. -/
theorem wt_x (n : ℕ) (D : sProp 𝕄) (k : ℕ) (hl : lv ((c : Thread nD τ), smx n) () = 0) {s s' : Shape} {e e' : EltTy} {sp sp' : Space} {κ' : Kind} {sem : DmaSem sig}
    {srcw : Memref sig .tc sp' s' e'} {dstw : Memref sig κ' sp s e} {h1 : srcw.view.WordExact} {h2 : dstw.view.WordExact}
    (hn : (sem : ℕ) = n) (hN : dstw.view.dmaCredit = 32768) {α : Type} {Q : α → sProp 𝕄} {K : PUnit → Prog (TpuEff nD τ sig (Elt F) Λ₀ .tc) α} :
    iprop(ctx I ∗ Fly c n D ∗ ow c (OS c k) : sProp 𝕄) ⊢ iprop(((D ∗ sm0 c n ∗ ow c (OS c k)) -∗ WP c (K ⟨⟩) Q)
      -∗ WP c (.op (.waitDma2 sem srcw dstw h1 h2) K) Q) := by
  refine BIBase.Entails.trans ?_ (wt_flyO c n D (OS c k) hn hN)
  unfold ctx
  iintro ⟨⟨-, #Hlev⟩, H1, H2⟩
  isplitl [H1]; · iexact H1
  isplitl [H2]; · iexact H2
  iapply (mayWait_lowS c (smx n) hl k)
  iexact Hlev

/-! ## The two scales -/

/-- The staged scales. -/
def sxP : sProp 𝕄 := iprop(((c : Thread nD τ).loc cc0_stg0_0) ↦{fullShare} (fun _ => I.sx c : cc0_stg0_0.ty.Contents (Elt F)))
def swP : sProp 𝕄 := iprop(((c : Thread nD τ).loc cc0_stg1_0) ↦{fullShare} (fun _ => I.sw c : cc0_stg1_0.ty.Contents (Elt F)))

theorem ld_sx {r : Rect S1} {hw : ((Memref.whole cc0_stg0_0 : Memref sig .tc .smem S1 .f32).access r).Loads} {x : r.shape.Idx}
    {α : Type} {Q : α → sProp 𝕄} {K : Elt F .f32 → Prog (TpuEff nD τ sig (Elt F) Λ₀ .tc) α} :
    (sxP I c : sProp 𝕄) ⊢ iprop((sxP I c -∗ WP c (K (I.sx c)) Q) -∗ WP c (smemLoadElt (Memref.whole cc0_stg0_0 : Memref sig .tc .smem S1 .f32) r hw x K) Q) := by
  unfold sxP
  exact wp_smemLoadElt (defs := defs₀ (F := F)) (Name := ℕ) (Ix := Unit) (U := UU) (Lvl := ℕ) 𝒱₀ (c : Thread nD τ) none Set.univ (m := (Memref.whole cc0_stg0_0 : Memref sig .tc .smem S1 .f32)) (r := r) (hw := hw) (x := x) (S := Finset.univ)
    (f := (fun _ => I.sx c)) (Finset.subset_univ _)
theorem ld_sw {r : Rect S1} {hw : ((Memref.whole cc0_stg1_0 : Memref sig .tc .smem S1 .f32).access r).Loads} {x : r.shape.Idx}
    {α : Type} {Q : α → sProp 𝕄} {K : Elt F .f32 → Prog (TpuEff nD τ sig (Elt F) Λ₀ .tc) α} :
    (swP I c : sProp 𝕄) ⊢ iprop((swP I c -∗ WP c (K (I.sw c)) Q) -∗ WP c (smemLoadElt (Memref.whole cc0_stg1_0 : Memref sig .tc .smem S1 .f32) r hw x K) Q) := by
  unfold swP
  exact wp_smemLoadElt (defs := defs₀ (F := F)) (Name := ℕ) (Ix := Unit) (U := UU) (Lvl := ℕ) 𝒱₀ (c : Thread nD τ) none Set.univ (m := (Memref.whole cc0_stg1_0 : Memref sig .tc .smem S1 .f32)) (r := r) (hw := hw) (x := x) (S := Finset.univ)
    (f := (fun _ => I.sw c)) (Finset.subset_univ _)

end Own

end Cert.KProof
-- ==== Proof.Ext.lean ====
/-
The last of the small lemmas: sequencing, the offsets at a named step, the other devices
-/
module

public import proofs.«01_k».proof.Proof.Offs

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

theorem WP_bind (c : Dev nD) {α β : Type} (p : Prog (TpuEff nD τ sig (Elt F) Λ₀ .tc) α)
    (k : α → Prog (TpuEff nD τ sig (Elt F) Λ₀ .tc) β) (Q : β → sProp 𝕄) :
    WP c (p >>= k) Q = WP c p (fun a => WP c (k a) Q) := wp_bind _ _ _ p k Q

theorem WP_ret (c : Dev nD) {α : Type} (a : α) (Q : α → sProp 𝕄) :
    Q a ⊢ WP c (.ret a) Q := by
  unfold WP; rw [wp_ret]; exact fupd_intro

/-! ## The offsets of the own row's blocks, at a named step -/

theorem e46 {i : grid0.Coords} {t : ℕ} (ht : (i 0 : ℕ) = t) : k0_off46 i = ![t % 2] := by
  subst ht; exact k0_off46_eq i

theorem e47 {i : grid0.Coords} {t : ℕ} (ht : (i 0 : ℕ) = t) : k0_off47 i = ![t % 2, 0, 0] := by
  subst ht; exact k0_off47_eq i

theorem e49 {i : grid0.Coords} {t : ℕ} (ht : (i 0 : ℕ) = t) : k0_off49 i = ![t % 2, 0, 0] := by
  subst ht; exact k0_off49_eq i

theorem e50 {i : grid0.Coords} {t : ℕ} (ht : (i 0 : ℕ) = t) : k0_off50 i = ![0, 512 * t] := by
  subst ht; exact k0_off50_eq i

theorem e51 {i : grid0.Coords} {t : ℕ} (ht : (i 0 : ℕ) = t) : k0_off51 i = ![t % 2] := by
  subst ht; rw [← Nat.add_mod_right]; exact k0_off51_eq i

theorem e52 {i : grid0.Coords} {t : ℕ} (ht : (i 0 : ℕ) = t) : k0_off52 i = ![t % 2, 0, 0] := by
  subst ht; rw [← Nat.add_mod_right]; exact k0_off52_eq i

theorem e48 {i : grid0.Coords} {t : ℕ} (c : Dev nD) (ht : (i 0 : ℕ) = t) : k0_off48 i c = ![512 * (c : ℕ), 512 * t] := by
  subst ht; exact k0_off48_eq i c

theorem e53 {i : grid0.Coords} {t : ℕ} (c : Dev nD) (ht : (i 0 : ℕ) = t) : k0_off53 i c = ![512 * (c : ℕ), 512 * (t + 2)] := by
  subst ht; exact k0_off53_eq i c

theorem cr_xs : xsM.view.ref.dmaCredit S512x512 .fp8e4m3 = 8192 := by decide +kernel

/-- Another device is not this one. -/
theorem dv_ne (c : Dev nD) {k : ℕ} (hk : k < 7) : dv ((c : ℕ) + k + 1) ≠ c := by
  intro h
  have h1 : ((c : ℕ) + k + 1) % 8 = (c : ℕ) := congrArg Fin.val h
  have h2 : (c : ℕ) < 8 := c.isLt
  omega

/-- The block that another device sent, spread, is the block of the gathered operand. -/
theorem gat (I : Inp F) (c : Dev nD) (k : ℕ) :
    k0_pay2 (pl3 (xsb I (dv ((dv ((c : ℕ) + k + 1) : Dev nD) : ℕ)) (c : ℕ))) = ab I c (k + 1) := by
  have h : dv ((dv ((c : ℕ) + k + 1) : Dev nD) : ℕ) = dv ((c : ℕ) + (k + 1)) := by rw [dv_val]; rfl
  rw [h]; rfl

end Cert.KProof
-- ==== Proof.Pieces.lean ====
/-
The buffers as the pieces the kernel works on, and families of pieces of which one or two change
-/
module

public import proofs.«01_k».proof.Proof.Ext
public import Idealize.SL.BI.BigOpNat
public import Idealize.ShloMosaic.Lib.Exec.Context

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Explicit products -/

section Big
variable {M : Type} [URA M]

theorem sp2 (A : ℕ → sProp M) : bigSep (Finset.range 2) A = iprop(A 0 ∗ A 1) := by
  rw [Finset.range_eq_Ico, bigSep_Ico_succ_bot (by decide)]
  exact congrArg _ (bigSep_Ico_one _ _)

theorem sp4 (A : ℕ → sProp M) : bigSep (Finset.range 4) A = iprop(A 0 ∗ A 1 ∗ A 2 ∗ A 3) := by
  rw [Finset.range_eq_Ico, bigSep_Ico_succ_bot (by decide), bigSep_Ico_succ_bot (by decide), bigSep_Ico_succ_bot (by decide)]
  exact congrArg _ (congrArg _ (congrArg _ (bigSep_Ico_one _ _)))

theorem sp7 (A : ℕ → sProp M) : bigSep (Finset.range 7) A = iprop(A 0 ∗ A 1 ∗ A 2 ∗ A 3 ∗ A 4 ∗ A 5 ∗ A 6) := by
  rw [Finset.range_eq_Ico, bigSep_Ico_succ_bot (by decide), bigSep_Ico_succ_bot (by decide), bigSep_Ico_succ_bot (by decide), bigSep_Ico_succ_bot (by decide), bigSep_Ico_succ_bot (by decide), bigSep_Ico_succ_bot (by decide)]
  exact congrArg _ (congrArg _ (congrArg _ (congrArg _ (congrArg _ (congrArg _ (bigSep_Ico_one _ _))))))

theorem sp8 (A : ℕ → sProp M) : bigSep (Finset.range 8) A = iprop(A 0 ∗ A 1 ∗ A 2 ∗ A 3 ∗ A 4 ∗ A 5 ∗ A 6 ∗ A 7) := by
  rw [Finset.range_eq_Ico, bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide)]
  exact congrArg _ (congrArg _ (congrArg _ (congrArg _ (congrArg _ (congrArg _ (congrArg _ (bigSep_Ico_one _ _)))))))

theorem sp16 (A : ℕ → sProp M) : bigSep (Finset.range 16) A = iprop(A 0 ∗ A 1 ∗ A 2 ∗ A 3 ∗ A 4 ∗ A 5 ∗ A 6 ∗ A 7 ∗ A 8 ∗ A 9 ∗ A 10 ∗ A 11 ∗ A 12 ∗ A 13 ∗ A 14 ∗ A 15) := by
  rw [Finset.range_eq_Ico, bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide), bigSep_Ico_succ_bot (by decide)]
  exact congrArg _ (congrArg _ (congrArg _ (congrArg _ (congrArg _ (congrArg _ (congrArg _ (congrArg _ (congrArg _ (congrArg _ (congrArg _ (congrArg _ (congrArg _ (congrArg _ (congrArg _ (bigSep_Ico_one _ _)))))))))))))))

/-- One member of a family changes. -/
theorem fam1 {S : Finset ℕ} {P Q : ℕ → sProp M} (i : ℕ) (hi : i ∈ S) (h : ∀ j ∈ S, j ≠ i → P j = Q j) :
    bigSep S P ⊢ iprop(P i ∗ (Q i -∗ bigSep S Q)) := by
  have e : bigSep (S.erase i) P = bigSep (S.erase i) Q :=
    bigSep_congr fun j hj => h j (Finset.mem_of_mem_erase hj) (Finset.ne_of_mem_erase hj)
  have e1 : bigSep S P = iprop(P i ∗ bigSep (S.erase i) P) := bigSep_erase hi
  have e2 : bigSep S Q = iprop(Q i ∗ bigSep (S.erase i) Q) := bigSep_erase hi
  rw [e1, e2, e]
  iintro ⟨HP, HR⟩
  isplitl [HP]; · iexact HP
  iintro HQ
  isplitl [HQ]; · iexact HQ
  iexact HR

/-- Two members of a family change. -/
theorem fam2 {S : Finset ℕ} {P Q : ℕ → sProp M} (i j : ℕ) (hi : i ∈ S) (hj : j ∈ S) (hij : j ≠ i)
    (h : ∀ k ∈ S, k ≠ i → k ≠ j → P k = Q k) :
    bigSep S P ⊢ iprop(P i ∗ P j ∗ (Q i -∗ Q j -∗ bigSep S Q)) := by
  have hj' : j ∈ S.erase i := Finset.mem_erase.mpr ⟨hij, hj⟩
  have e : bigSep ((S.erase i).erase j) P = bigSep ((S.erase i).erase j) Q :=
    bigSep_congr fun k hk => h k (Finset.mem_of_mem_erase (Finset.mem_of_mem_erase hk))
      (Finset.ne_of_mem_erase (Finset.mem_of_mem_erase hk)) (Finset.ne_of_mem_erase hk)
  have e1 : bigSep S P = iprop(P i ∗ P j ∗ bigSep ((S.erase i).erase j) P) :=
    (bigSep_erase hi).trans (congrArg _ (bigSep_erase hj'))
  have e2 : bigSep S Q = iprop(Q i ∗ Q j ∗ bigSep ((S.erase i).erase j) Q) :=
    (bigSep_erase hi).trans (congrArg _ (bigSep_erase hj'))
  rw [e1, e2, e]
  iintro ⟨HP, HP', HR⟩
  isplitl [HP]; · iexact HP
  isplitl [HP']; · iexact HP'
  iintro HQ HQ'
  isplitl [HQ]; · iexact HQ
  isplitl [HQ']; · iexact HQ'
  iexact HR

theorem big_fin (n : ℕ) (A : ℕ → sProp M) : bigSep (Finset.range n) A = bigSep Finset.univ fun k : Fin n => A k := by
  have e : Finset.range n = (Finset.univ : Finset (Fin n)).map Fin.valEmbedding := by
    rw [Fin.map_valEmbedding_univ]; ext a; simp
  rw [e, bigSep_map]
  rfl

end Big

/-! ## The other devices, from this one on -/

def rotE (c : Dev nD) : Fin 7 ↪ Dev nD :=
  ⟨fun k => dv ((c : ℕ) + k + 1), fun a b h => by
    have h' : ((c : ℕ) + a + 1) % 8 = ((c : ℕ) + b + 1) % 8 := congrArg Fin.val h
    have := a.isLt; have := b.isLt; exact Fin.ext (by omega)⟩

theorem rot_erase (c : Dev nD) : Finset.univ.erase c = Finset.univ.map (rotE c) := by
  revert c; decide

theorem rot (c : Dev nD) {M : Type} [URA M] (Φ : Dev nD → sProp M) :
    bigSep (Finset.univ.erase c) Φ = bigSep (Finset.range 7) fun k => Φ (dv ((c : ℕ) + k + 1)) := by
  rw [rot_erase, bigSep_map, big_fin]
  rfl

theorem rot_univ (c : Dev nD) {M : Type} [URA M] (Φ : Dev nD → sProp M) :
    bigSep Finset.univ Φ = iprop(Φ c ∗ bigSep (Finset.range 7) fun k => Φ (dv ((c : ℕ) + k + 1))) := by
  rw [← rot]; exact bigSep_univ_at Φ c

theorem rot8 (c : Dev nD) {M : Type} [URA M] (A : ℕ → sProp M) :
    bigSep (Finset.range 8) A = iprop(A (c : ℕ) ∗ bigSep (Finset.range 7) fun k => A ((dv ((c : ℕ) + k + 1) : Dev nD) : ℕ)) := by
  rw [big_fin]; exact rot_univ c (fun d : Dev nD => A (d : ℕ))

/-! ## Buffers and their pieces -/

section Cut
variable {ℓ : Loc nD τ sig} {q : PosShare TreeShare}

theorem cut (f : Buf (Elt F) ℓ) {S : Finset (Idx ℓ)} (n : ℕ) (K : ℕ → Finset (Idx ℓ)) (hc : ∀ i, i ∈ S ↔ ∃ k, k < n ∧ i ∈ K k)
    (hd : ∀ k k', k < n → k' < n → k ≠ k' → Disjoint (K k) (K k')) :
    (ℓ ↦[S]{q} f : sProp 𝕄) = bigSep (Finset.range n) fun k => iprop(ℓ ↦[K k]{q} f) := by
  classical
  rw [show S = (Finset.range n).biUnion K from by
    ext i; rw [hc i, Finset.mem_biUnion]; simp only [Finset.mem_range]]
  exact pointsTo_biUnion _ _ fun k hk k' hk' h => hd k k' (Finset.mem_range.mp hk) (Finset.mem_range.mp hk') h

theorem glue (f₀ : Buf (Elt F) ℓ) {S : Finset (Idx ℓ)} (n : ℕ) (K : ℕ → Finset (Idx ℓ)) (hc : ∀ i, i ∈ S ↔ ∃ k, k < n ∧ i ∈ K k)
    (hd : ∀ k k', k < n → k' < n → k ≠ k' → Disjoint (K k) (K k')) :
    (bigSep (Finset.range n) fun k => iprop(∃ f, ℓ ↦[K k]{q} f) : sProp 𝕄) ⊢ iprop(∃ f, ℓ ↦[S]{q} f) := by
  classical
  haveI : Nonempty (Buf (Elt F) ℓ) := ⟨f₀⟩
  rw [show S = (Finset.range n).biUnion K from by
    ext i; rw [hc i, Finset.mem_biUnion]; simp only [Finset.mem_range]]
  refine (bigSep_exists_pi (Y := fun _ => Buf (Elt F) ℓ) (Finset.range n) fun k f => iprop(ℓ ↦[K k]{q} f : sProp 𝕄)).trans ?_
  iintro ⟨%fs, H⟩
  ihave H := (pointsTo_biUnion_join (Finset.range n) K fs f₀ fun k hk k' hk' h => hd k k' (Finset.mem_range.mp hk) (Finset.mem_range.mp hk') h) $$ H
  icases H with ⟨%g, -, H⟩
  iexists g
  iexact H

end Cut

theorem x_hc (i : S4096x512.Idx) : i ∈ (Finset.univ : Finset S4096x512.Idx) ↔ ∃ k, k < 8 ∧ i ∈ box S4096x512 ![512 * k, 0] S512x512.size := by
  refine ⟨fun _ => ⟨(i 0 : ℕ) / 512, ?_, mem_box.mpr fun a => ?_⟩, fun _ => Finset.mem_univ _⟩
  · have h := (i 0).isLt; change (i 0 : ℕ) < 4096 at h; omega
  · have h0 := (i 0).isLt; have h1 := (i 1).isLt
    change (i 0 : ℕ) < 4096 at h0; change (i 1 : ℕ) < 512 at h1
    match a with
    | 0 => change 512 * ((i 0 : ℕ) / 512) ≤ (i 0 : ℕ) ∧ (i 0 : ℕ) < 512 * ((i 0 : ℕ) / 512) + 512; omega
    | 1 => change 0 ≤ (i 1 : ℕ) ∧ (i 1 : ℕ) < 0 + 512; omega
theorem x_hd (k k' : ℕ) (h : k ≠ k') : Disjoint (box S4096x512 ![512 * k, 0] S512x512.size) (box S4096x512 ![512 * k', 0] S512x512.size) :=
  box_disjoint 0 (by change 512 * k + 512 ≤ 512 * k' ∨ 512 * k' + 512 ≤ 512 * k; omega)
theorem x_cut (c : Dev nD) (f : S4096x512.Idx → Elt F .f32) :
    (xA.view.loc (c : Thread nD τ) ↦{fullShare} f : sProp 𝕄) = bigSep (Finset.range 8) fun k => xP c k f :=
  cut (ℓ := xA.view.loc (c : Thread nD τ)) f 8 (fun k => box S4096x512 ![512 * k, 0] S512x512.size) x_hc fun k k' _ _ h => x_hd k k' h

theorem o_hc (i : S512x8192.Idx) : i ∈ (Finset.univ : Finset S512x8192.Idx) ↔ ∃ k, k < 16 ∧ i ∈ box S512x8192 ![0, 512 * k] S512x512.size := by
  refine ⟨fun _ => ⟨(i 1 : ℕ) / 512, ?_, mem_box.mpr fun a => ?_⟩, fun _ => Finset.mem_univ _⟩
  · have h := (i 1).isLt; change (i 1 : ℕ) < 8192 at h; omega
  · have h0 := (i 0).isLt; have h1 := (i 1).isLt
    change (i 0 : ℕ) < 512 at h0; change (i 1 : ℕ) < 8192 at h1
    match a with
    | 0 => change 0 ≤ (i 0 : ℕ) ∧ (i 0 : ℕ) < 0 + 512; omega
    | 1 => change 512 * ((i 1 : ℕ) / 512) ≤ (i 1 : ℕ) ∧ (i 1 : ℕ) < 512 * ((i 1 : ℕ) / 512) + 512; omega
theorem o_hd (k k' : ℕ) (h : k ≠ k') : Disjoint (box S512x8192 ![0, 512 * k] S512x512.size) (box S512x8192 ![0, 512 * k'] S512x512.size) :=
  box_disjoint 1 (by change 512 * k + 512 ≤ 512 * k' ∨ 512 * k' + 512 ≤ 512 * k; omega)
theorem o_cut (c : Dev nD) (f : S512x8192.Idx → Elt F .f32) :
    (oA.view.loc (c : Thread nD τ) ↦{fullShare} f : sProp 𝕄) = bigSep (Finset.range 16) fun k => oP c k f :=
  cut (ℓ := oA.view.loc (c : Thread nD τ)) f 16 (fun k => box S512x8192 ![0, 512 * k] S512x512.size) o_hc fun k k' _ _ h => o_hd k k' h

theorem xs_hc (i : S4096x512.Idx) : i ∈ (Finset.univ : Finset S4096x512.Idx) ↔ ∃ k, k < 8 ∧ i ∈ box S4096x512 ![512 * k, 0] S512x512.size := by
  refine ⟨fun _ => ⟨(i 0 : ℕ) / 512, ?_, mem_box.mpr fun a => ?_⟩, fun _ => Finset.mem_univ _⟩
  · have h := (i 0).isLt; change (i 0 : ℕ) < 4096 at h; omega
  · have h0 := (i 0).isLt; have h1 := (i 1).isLt
    change (i 0 : ℕ) < 4096 at h0; change (i 1 : ℕ) < 512 at h1
    match a with
    | 0 => change 512 * ((i 0 : ℕ) / 512) ≤ (i 0 : ℕ) ∧ (i 0 : ℕ) < 512 * ((i 0 : ℕ) / 512) + 512; omega
    | 1 => change 0 ≤ (i 1 : ℕ) ∧ (i 1 : ℕ) < 0 + 512; omega
theorem xs_hd (k k' : ℕ) (h : k ≠ k') : Disjoint (box S4096x512 ![512 * k, 0] S512x512.size) (box S4096x512 ![512 * k', 0] S512x512.size) :=
  box_disjoint 0 (by change 512 * k + 512 ≤ 512 * k' ∨ 512 * k' + 512 ≤ 512 * k; omega)
theorem xs_cut (c : Dev nD) (f : S4096x512.Idx → Elt F .fp8e4m3) :
    (xsM.view.loc (c : Thread nD τ) ↦{fullShare} f : sProp 𝕄) = bigSep (Finset.range 8) fun k => xsP c k f :=
  cut (ℓ := xsM.view.loc (c : Thread nD τ)) f 8 (fun k => box S4096x512 ![512 * k, 0] S512x512.size) xs_hc fun k k' _ _ h => xs_hd k k' h

theorem a_hc (i : S512x4096.Idx) : i ∈ (Finset.univ : Finset S512x4096.Idx) ↔ ∃ k, k < 8 ∧ i ∈ box S512x4096 ![0, 512 * k] S512x512.size := by
  refine ⟨fun _ => ⟨(i 1 : ℕ) / 512, ?_, mem_box.mpr fun a => ?_⟩, fun _ => Finset.mem_univ _⟩
  · have h := (i 1).isLt; change (i 1 : ℕ) < 4096 at h; omega
  · have h0 := (i 0).isLt; have h1 := (i 1).isLt
    change (i 0 : ℕ) < 512 at h0; change (i 1 : ℕ) < 4096 at h1
    match a with
    | 0 => change 0 ≤ (i 0 : ℕ) ∧ (i 0 : ℕ) < 0 + 512; omega
    | 1 => change 512 * ((i 1 : ℕ) / 512) ≤ (i 1 : ℕ) ∧ (i 1 : ℕ) < 512 * ((i 1 : ℕ) / 512) + 512; omega
theorem a_hd (k k' : ℕ) (h : k ≠ k') : Disjoint (box S512x4096 ![0, 512 * k] S512x512.size) (box S512x4096 ![0, 512 * k'] S512x512.size) :=
  box_disjoint 1 (by change 512 * k + 512 ≤ 512 * k' ∨ 512 * k' + 512 ≤ 512 * k; omega)
theorem a_cut (c : Dev nD) (f : S512x4096.Idx → Elt F .bf16) :
    (aM.view.loc (c : Thread nD τ) ↦{fullShare} f : sProp 𝕄) = bigSep (Finset.range 8) fun k => aP c k f :=
  cut (ℓ := aM.view.loc (c : Thread nD τ)) f 8 (fun k => box S512x4096 ![0, 512 * k] S512x512.size) a_hc fun k k' _ _ h => a_hd k k' h

theorem ac_hc (i : S512x8192.Idx) : i ∈ (Finset.univ : Finset S512x8192.Idx) ↔ ∃ k, k < 16 ∧ i ∈ box S512x8192 ![0, 512 * k] S512x512.size := by
  refine ⟨fun _ => ⟨(i 1 : ℕ) / 512, ?_, mem_box.mpr fun a => ?_⟩, fun _ => Finset.mem_univ _⟩
  · have h := (i 1).isLt; change (i 1 : ℕ) < 8192 at h; omega
  · have h0 := (i 0).isLt; have h1 := (i 1).isLt
    change (i 0 : ℕ) < 512 at h0; change (i 1 : ℕ) < 8192 at h1
    match a with
    | 0 => change 0 ≤ (i 0 : ℕ) ∧ (i 0 : ℕ) < 0 + 512; omega
    | 1 => change 512 * ((i 1 : ℕ) / 512) ≤ (i 1 : ℕ) ∧ (i 1 : ℕ) < 512 * ((i 1 : ℕ) / 512) + 512; omega
theorem ac_hd (k k' : ℕ) (h : k ≠ k') : Disjoint (box S512x8192 ![0, 512 * k] S512x512.size) (box S512x8192 ![0, 512 * k'] S512x512.size) :=
  box_disjoint 1 (by change 512 * k + 512 ≤ 512 * k' ∨ 512 * k' + 512 ≤ 512 * k; omega)
theorem ac_cut (c : Dev nD) (f : S512x8192.Idx → Elt F .f32) :
    (acM.view.loc (c : Thread nD τ) ↦{fullShare} f : sProp 𝕄) = bigSep (Finset.range 16) fun k => acP c k f :=
  cut (ℓ := acM.view.loc (c : Thread nD τ)) f 16 (fun k => box S512x8192 ![0, 512 * k] S512x512.size) ac_hc fun k k' _ _ h => ac_hd k k' h

theorem cm_hc (i : S8x512x512.Idx) : i ∈ (Finset.univ : Finset S8x512x512.Idx) ↔ ∃ k, k < 8 ∧ i ∈ box S8x512x512 ![k, 0, 0] S1x512x512.size := by
  refine ⟨fun _ => ⟨(i 0 : ℕ), (i 0).isLt, mem_box.mpr fun a => ?_⟩, fun _ => Finset.mem_univ _⟩
  have h1 := (i 1).isLt; have h2 := (i 2).isLt
  change (i 1 : ℕ) < 512 at h1; change (i 2 : ℕ) < 512 at h2
  match a with
  | 0 => change (i 0 : ℕ) ≤ (i 0 : ℕ) ∧ (i 0 : ℕ) < (i 0 : ℕ) + 1; omega
  | 1 => change 0 ≤ (i 1 : ℕ) ∧ (i 1 : ℕ) < 0 + 512; omega
  | 2 => change 0 ≤ (i 2 : ℕ) ∧ (i 2 : ℕ) < 0 + 512; omega
theorem cm_hd (k k' : ℕ) (h : k ≠ k') : Disjoint (box S8x512x512 ![k, 0, 0] S1x512x512.size) (box S8x512x512 ![k', 0, 0] S1x512x512.size) :=
  box_disjoint 0 (by change k + 1 ≤ k' ∨ k' + 1 ≤ k; omega)
theorem cm_cut (c : Dev nD) (f : S8x512x512.Idx → Elt F .fp8e4m3) :
    (cmM.view.loc (c : Thread nD τ) ↦{fullShare} f : sProp 𝕄) = bigSep (Finset.range 8) fun k => cmP c k f :=
  cut (ℓ := cmM.view.loc (c : Thread nD τ)) f 8 (fun k => box S8x512x512 ![k, 0, 0] S1x512x512.size) cm_hc fun k k' _ _ h => cm_hd k k' h
theorem cm_glue (c : Dev nD) (f₀ : S8x512x512.Idx → Elt F .fp8e4m3) :
    (bigSep (Finset.range 8) fun k => iprop(∃ f, cmP c k f) : sProp 𝕄) ⊢ iprop(∃ f, cmM.view.loc (c : Thread nD τ) ↦{fullShare} f) :=
  glue (ℓ := cmM.view.loc (c : Thread nD τ)) f₀ 8 (fun k => box S8x512x512 ![k, 0, 0] S1x512x512.size) cm_hc fun k k' _ _ h => cm_hd k k' h

theorem wa_hc (i : S2x512x512.Idx) : i ∈ (Finset.univ : Finset S2x512x512.Idx) ↔ ∃ k, k < 2 ∧ i ∈ box S2x512x512 ![k, 0, 0] S1x512x512.size := by
  refine ⟨fun _ => ⟨(i 0 : ℕ), (i 0).isLt, mem_box.mpr fun a => ?_⟩, fun _ => Finset.mem_univ _⟩
  have h1 := (i 1).isLt; have h2 := (i 2).isLt
  change (i 1 : ℕ) < 512 at h1; change (i 2 : ℕ) < 512 at h2
  match a with
  | 0 => change (i 0 : ℕ) ≤ (i 0 : ℕ) ∧ (i 0 : ℕ) < (i 0 : ℕ) + 1; omega
  | 1 => change 0 ≤ (i 1 : ℕ) ∧ (i 1 : ℕ) < 0 + 512; omega
  | 2 => change 0 ≤ (i 2 : ℕ) ∧ (i 2 : ℕ) < 0 + 512; omega
theorem wa_hd (k k' : ℕ) (h : k ≠ k') : Disjoint (box S2x512x512 ![k, 0, 0] S1x512x512.size) (box S2x512x512 ![k', 0, 0] S1x512x512.size) :=
  box_disjoint 0 (by change k + 1 ≤ k' ∨ k' + 1 ≤ k; omega)
theorem wa_cut (c : Dev nD) (f : S2x512x512.Idx → Elt F .f32) :
    (waM.view.loc (c : Thread nD τ) ↦{fullShare} f : sProp 𝕄) = bigSep (Finset.range 2) fun k => waP c k f :=
  cut (ℓ := waM.view.loc (c : Thread nD τ)) f 2 (fun k => box S2x512x512 ![k, 0, 0] S1x512x512.size) wa_hc fun k k' _ _ h => wa_hd k k' h
theorem wa_glue (c : Dev nD) (f₀ : S2x512x512.Idx → Elt F .f32) :
    (bigSep (Finset.range 2) fun k => iprop(∃ f, waP c k f) : sProp 𝕄) ⊢ iprop(∃ f, waM.view.loc (c : Thread nD τ) ↦{fullShare} f) :=
  glue (ℓ := waM.view.loc (c : Thread nD τ)) f₀ 2 (fun k => box S2x512x512 ![k, 0, 0] S1x512x512.size) wa_hc fun k k' _ _ h => wa_hd k k' h

theorem st_hc (i : S2x512x512.Idx) : i ∈ (Finset.univ : Finset S2x512x512.Idx) ↔ ∃ k, k < 2 ∧ i ∈ box S2x512x512 ![k, 0, 0] S1x512x512.size := by
  refine ⟨fun _ => ⟨(i 0 : ℕ), (i 0).isLt, mem_box.mpr fun a => ?_⟩, fun _ => Finset.mem_univ _⟩
  have h1 := (i 1).isLt; have h2 := (i 2).isLt
  change (i 1 : ℕ) < 512 at h1; change (i 2 : ℕ) < 512 at h2
  match a with
  | 0 => change (i 0 : ℕ) ≤ (i 0 : ℕ) ∧ (i 0 : ℕ) < (i 0 : ℕ) + 1; omega
  | 1 => change 0 ≤ (i 1 : ℕ) ∧ (i 1 : ℕ) < 0 + 512; omega
  | 2 => change 0 ≤ (i 2 : ℕ) ∧ (i 2 : ℕ) < 0 + 512; omega
theorem st_hd (k k' : ℕ) (h : k ≠ k') : Disjoint (box S2x512x512 ![k, 0, 0] S1x512x512.size) (box S2x512x512 ![k', 0, 0] S1x512x512.size) :=
  box_disjoint 0 (by change k + 1 ≤ k' ∨ k' + 1 ≤ k; omega)
theorem st_cut (c : Dev nD) (f : S2x512x512.Idx → Elt F .f32) :
    (stM.view.loc (c : Thread nD τ) ↦{fullShare} f : sProp 𝕄) = bigSep (Finset.range 2) fun k => stP c k f :=
  cut (ℓ := stM.view.loc (c : Thread nD τ)) f 2 (fun k => box S2x512x512 ![k, 0, 0] S1x512x512.size) st_hc fun k k' _ _ h => st_hd k k' h
theorem st_glue (c : Dev nD) (f₀ : S2x512x512.Idx → Elt F .f32) :
    (bigSep (Finset.range 2) fun k => iprop(∃ f, stP c k f) : sProp 𝕄) ⊢ iprop(∃ f, stM.view.loc (c : Thread nD τ) ↦{fullShare} f) :=
  glue (ℓ := stM.view.loc (c : Thread nD τ)) f₀ 2 (fun k => box S2x512x512 ![k, 0, 0] S1x512x512.size) st_hc fun k k' _ _ h => st_hd k k' h

theorem wbs_hc (i : S4x3584x512.Idx) : i ∈ (Finset.univ : Finset S4x3584x512.Idx) ↔ ∃ k, k < 4 ∧ i ∈ box S4x3584x512 ![k, 0, 0] S1x3584x512.size := by
  refine ⟨fun _ => ⟨(i 0 : ℕ), (i 0).isLt, mem_box.mpr fun a => ?_⟩, fun _ => Finset.mem_univ _⟩
  have h1 := (i 1).isLt; have h2 := (i 2).isLt
  change (i 1 : ℕ) < 3584 at h1; change (i 2 : ℕ) < 512 at h2
  match a with
  | 0 => change (i 0 : ℕ) ≤ (i 0 : ℕ) ∧ (i 0 : ℕ) < (i 0 : ℕ) + 1; omega
  | 1 => change 0 ≤ (i 1 : ℕ) ∧ (i 1 : ℕ) < 0 + 3584; omega
  | 2 => change 0 ≤ (i 2 : ℕ) ∧ (i 2 : ℕ) < 0 + 512; omega
theorem wbs_hd (k k' : ℕ) (h : k ≠ k') : Disjoint (box S4x3584x512 ![k, 0, 0] S1x3584x512.size) (box S4x3584x512 ![k', 0, 0] S1x3584x512.size) :=
  box_disjoint 0 (by change k + 1 ≤ k' ∨ k' + 1 ≤ k; omega)
theorem wbs_cut (c : Dev nD) (f : S4x3584x512.Idx → Elt F .f32) :
    (wbM.view.loc (c : Thread nD τ) ↦{fullShare} f : sProp 𝕄) = bigSep (Finset.range 4) fun k => wbsP c k f :=
  cut (ℓ := wbM.view.loc (c : Thread nD τ)) f 4 (fun k => box S4x3584x512 ![k, 0, 0] S1x3584x512.size) wbs_hc fun k k' _ _ h => wbs_hd k k' h
theorem wbs_glue (c : Dev nD) (f₀ : S4x3584x512.Idx → Elt F .f32) :
    (bigSep (Finset.range 4) fun k => iprop(∃ f, wbsP c k f) : sProp 𝕄) ⊢ iprop(∃ f, wbM.view.loc (c : Thread nD τ) ↦{fullShare} f) :=
  glue (ℓ := wbM.view.loc (c : Thread nD τ)) f₀ 4 (fun k => box S4x3584x512 ![k, 0, 0] S1x3584x512.size) wbs_hc fun k k' _ _ h => wbs_hd k k' h

theorem wb_hc (p : ℕ) (i : S4x3584x512.Idx) : i ∈ box S4x3584x512 ![p, 0, 0] S1x3584x512.size ↔ ∃ k, k < 7 ∧ i ∈ box S4x3584x512 ![p, 512 * k, 0] S1x512x512.size := by
  have h1 := (i 1).isLt; change (i 1 : ℕ) < 3584 at h1
  constructor
  · intro h
    refine ⟨(i 1 : ℕ) / 512, by omega, mem_box.mpr fun a => ?_⟩
    match a with
    | 0 => exact mem_box.mp h 0
    | 1 => change 512 * ((i 1 : ℕ) / 512) ≤ (i 1 : ℕ) ∧ (i 1 : ℕ) < 512 * ((i 1 : ℕ) / 512) + 512; omega
    | 2 => exact mem_box.mp h 2
  · rintro ⟨k, hk, h⟩
    refine mem_box.mpr fun a => ?_
    match a with
    | 0 => exact mem_box.mp h 0
    | 1 => change 0 ≤ (i 1 : ℕ) ∧ (i 1 : ℕ) < 0 + 3584; omega
    | 2 => exact mem_box.mp h 2
theorem wb_hd (p k k' : ℕ) (h : k ≠ k') : Disjoint (box S4x3584x512 ![p, 512 * k, 0] S1x512x512.size) (box S4x3584x512 ![p, 512 * k', 0] S1x512x512.size) :=
  box_disjoint 1 (by change 512 * k + 512 ≤ 512 * k' ∨ 512 * k' + 512 ≤ 512 * k; omega)
theorem wb_cut (c : Dev nD) (p : ℕ) (f : S4x3584x512.Idx → Elt F .f32) :
    (wbsP c p f : sProp 𝕄) = bigSep (Finset.range 7) fun k => wbP c p k f :=
  cut (ℓ := wbM.view.loc (c : Thread nD τ)) f 7 (fun k => box S4x3584x512 ![p, 512 * k, 0] S1x512x512.size) (wb_hc p) fun k k' _ _ h => wb_hd p k k' h
theorem wb_glue (c : Dev nD) (p : ℕ) (f₀ : S4x3584x512.Idx → Elt F .f32) :
    (bigSep (Finset.range 7) fun k => iprop(∃ f, wbP c p k f) : sProp 𝕄) ⊢ iprop(∃ f, wbsP c p f) :=
  glue (ℓ := wbM.view.loc (c : Thread nD τ)) f₀ 7 (fun k => box S4x3584x512 ![p, 512 * k, 0] S1x512x512.size) (wb_hc p) fun k k' _ _ h => wb_hd p k k' h

theorem as_hc (i : S512x4096.Idx) : i ∈ box S512x4096 ![0, 512] S512x3584.size ↔ ∃ k, k < 7 ∧ i ∈ box S512x4096 ![0, 512 * (k + 1)] S512x512.size := by
  have h1 := (i 1).isLt; change (i 1 : ℕ) < 4096 at h1
  constructor
  · intro h
    have h2 : 512 ≤ (i 1 : ℕ) ∧ (i 1 : ℕ) < 512 + 3584 := mem_box.mp h 1
    refine ⟨(i 1 : ℕ) / 512 - 1, by omega, mem_box.mpr fun a => ?_⟩
    match a with
    | 0 => exact mem_box.mp h 0
    | 1 => change 512 * ((i 1 : ℕ) / 512 - 1 + 1) ≤ (i 1 : ℕ) ∧ (i 1 : ℕ) < 512 * ((i 1 : ℕ) / 512 - 1 + 1) + 512; omega
  · rintro ⟨k, hk, h⟩
    have h2 : 512 * (k + 1) ≤ (i 1 : ℕ) ∧ (i 1 : ℕ) < 512 * (k + 1) + 512 := mem_box.mp h 1
    refine mem_box.mpr fun a => ?_
    match a with
    | 0 => exact mem_box.mp h 0
    | 1 => change 512 ≤ (i 1 : ℕ) ∧ (i 1 : ℕ) < 512 + 3584; omega
theorem as_cut (c : Dev nD) (f : S512x4096.Idx → Elt F .bf16) :
    (asP c f : sProp 𝕄) = bigSep (Finset.range 7) fun k => aP c (k + 1) f :=
  cut (ℓ := aM.view.loc (c : Thread nD τ)) f 7 (fun k => box S512x4096 ![0, 512 * (k + 1)] S512x512.size) as_hc fun k k' _ _ h => a_hd (k + 1) (k' + 1) (by omega)

theorem wrow_hc (b : ℕ) (i : S4096x8192.Idx) : i ∈ box S4096x8192 ![0, 512 * b] ![4096, 512] ↔ ∃ k, k < 8 ∧ i ∈ box S4096x8192 ![512 * k, 512 * b] S512x512.size := by
  have h0 := (i 0).isLt; change (i 0 : ℕ) < 4096 at h0
  constructor
  · intro h
    refine ⟨(i 0 : ℕ) / 512, by omega, mem_box.mpr fun a => ?_⟩
    match a with
    | 0 => change 512 * ((i 0 : ℕ) / 512) ≤ (i 0 : ℕ) ∧ (i 0 : ℕ) < 512 * ((i 0 : ℕ) / 512) + 512; omega
    | 1 => exact mem_box.mp h 1
  · rintro ⟨k, hk, h⟩
    refine mem_box.mpr fun a => ?_
    match a with
    | 0 => change 0 ≤ (i 0 : ℕ) ∧ (i 0 : ℕ) < 0 + 4096; omega
    | 1 => exact mem_box.mp h 1
theorem wcol_hc (i : S4096x8192.Idx) : i ∈ (Finset.univ : Finset S4096x8192.Idx) ↔ ∃ b, b < 16 ∧ i ∈ box S4096x8192 ![0, 512 * b] ![4096, 512] := by
  have h0 := (i 0).isLt; have h1 := (i 1).isLt
  change (i 0 : ℕ) < 4096 at h0; change (i 1 : ℕ) < 8192 at h1
  refine ⟨fun _ => ⟨(i 1 : ℕ) / 512, by omega, mem_box.mpr fun a => ?_⟩, fun _ => Finset.mem_univ _⟩
  match a with
  | 0 => change 0 ≤ (i 0 : ℕ) ∧ (i 0 : ℕ) < 0 + 4096; omega
  | 1 => change 512 * ((i 1 : ℕ) / 512) ≤ (i 1 : ℕ) ∧ (i 1 : ℕ) < 512 * ((i 1 : ℕ) / 512) + 512; omega
/-- The weights: column block by column block, the own row block first. -/
theorem w_cut (c : Dev nD) (f : S4096x8192.Idx → Elt F .f32) :
    (wA.view.loc (c : Thread nD τ) ↦{fullShare} f : sProp 𝕄)
      = bigSep (Finset.range 16) fun b => iprop(wP c (c : ℕ) b f ∗ bigSep (Finset.range 7) fun k => wP c ((dv ((c : ℕ) + k + 1) : Dev nD) : ℕ) b f) := by
  refine (cut (ℓ := wA.view.loc (c : Thread nD τ)) f 16 (fun b => box S4096x8192 ![0, 512 * b] ![4096, 512]) wcol_hc fun k k' _ _ h =>
    box_disjoint 1 (by change 512 * k + 512 ≤ 512 * k' ∨ 512 * k' + 512 ≤ 512 * k; omega)).trans (bigSep_congr fun b _ => ?_)
  refine (cut (ℓ := wA.view.loc (c : Thread nD τ)) f 8 (fun r => box S4096x8192 ![512 * r, 512 * b] S512x512.size) (wrow_hc b) fun k k' _ _ h =>
    box_disjoint 0 (by change 512 * k + 512 ≤ 512 * k' ∨ 512 * k' + 512 ≤ 512 * k; omega)).trans ?_
  exact rot8 c fun r => wP c r b f

/-- The seven blocks of one slot of the second weight buffer are the slot. -/
theorem wbs_join (c : Dev nD) (p : ℕ) (f : S4x3584x512.Idx → Elt F .f32) :
    iprop(wbP c p 0 f ∗ wbP c p 1 f ∗ wbP c p 2 f ∗ wbP c p 3 f ∗ wbP c p 4 f ∗ wbP c p 5 f ∗ wbP c p 6 f : sProp 𝕄) ⊢ wbsP c p f :=
  Entails.of_eq ((sp7 fun k => wbP c p k f).symm.trans (wb_cut c p f).symm)
theorem wbs_split (c : Dev nD) (p : ℕ) (f : S4x3584x512.Idx → Elt F .f32) :
    wbsP c p f ⊢ iprop(wbP c p 0 f ∗ wbP c p 1 f ∗ wbP c p 2 f ∗ wbP c p 3 f ∗ wbP c p 4 f ∗ wbP c p 5 f ∗ wbP c p 6 f : sProp 𝕄) :=
  Entails.of_eq ((wb_cut c p f).trans (sp7 fun k => wbP c p k f))
theorem as_join (c : Dev nD) (f : S512x4096.Idx → Elt F .bf16) :
    iprop(aP c 1 f ∗ aP c 2 f ∗ aP c 3 f ∗ aP c 4 f ∗ aP c 5 f ∗ aP c 6 f ∗ aP c 7 f : sProp 𝕄) ⊢ asP c f :=
  Entails.of_eq ((sp7 fun k => aP c (k + 1) f).symm.trans (as_cut c f).symm)

end Cert.KProof
-- ==== Proof.PartsA.lean ====
/-
The parts of the body at the first step: the handshake and the slabs, quantised, kept or sent
-/
module

public import proofs.«01_k».proof.Proof.Pieces

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- Part 1 of the body. -/
theorem pr1 (I : Inp F) (c : Dev nD) (i : grid0.Coords) (v2 : BitVec 32) (k0_h1 : k0_cond1 i = 1#1)
    {α : Type} {Q : α → sProp 𝕄} {K : (Sems sig S_) → Prog (TpuEff nD τ sig (Elt F) Λ₀ .tc) α} :
    iprop(ctx I ∗ ow c (OB c (6 + 1)) ∗ dutyTok ER (barG (dv (c + (7 - 6)))) 0 c ∗ (∃ f, cmP c (dv (c + (7 - 6)) : ℕ) f) ∗ dutyTok ER (barG (dv (c + (7 - 5)))) 0 c ∗ (∃ f, cmP c (dv (c + (7 - 5)) : ℕ) f) ∗ dutyTok ER (barG (dv (c + (7 - 4)))) 0 c ∗ (∃ f, cmP c (dv (c + (7 - 4)) : ℕ) f) ∗ dutyTok ER (barG (dv (c + (7 - 3)))) 0 c ∗ (∃ f, cmP c (dv (c + (7 - 3)) : ℕ) f) ∗ dutyTok ER (barG (dv (c + (7 - 2)))) 0 c ∗ (∃ f, cmP c (dv (c + (7 - 2)) : ℕ) f) : sProp 𝕄)
      ⊢ iprop(((ow c (OB c 2)) -∗ WP c (K (SemArray.scalar (sig.barrier 0 rfl) : Sems sig S_)) Q)
        -∗ WP c (k0_part1 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 >>= K) Q) := by
  rw [WP_bind, k0_part1_eq_skeleton]; unfold k0_part1_skel
  simp only [semSignalWord, semWaitWord, smemLoad, Prog.lift, Prog.bind_op, Prog.bind_ret, Prog.pure_eq_ret, Prog.bind_assoc]
  iintro ⟨#HC, How, Htokbar6, ⟨%fHslot6, Hslot6⟩, Htokbar5, ⟨%fHslot5, Hslot5⟩, Htokbar4, ⟨%fHslot4, Hslot4⟩, Htokbar3, ⟨%fHslot3, Hslot3⟩, Htokbar2, ⟨%fHslot2, Hslot2⟩⟩ Hk
  iapply (sig_op I c 6 _ (by decide) (Fin.ext (k0_dev1_eq c)) rfl) $$ [How Htokbar6 Hslot6]
  · isplitr; · iexact HC
    isplitl [How]; · iexact How
    isplitl [Htokbar6]; · iexact Htokbar6
    iexists _; iexact Hslot6
  iintro How
  iapply (sig_op I c 5 _ (by decide) (Fin.ext (k0_dev2_eq c)) rfl) $$ [How Htokbar5 Hslot5]
  · isplitr; · iexact HC
    isplitl [How]; · iexact How
    isplitl [Htokbar5]; · iexact Htokbar5
    iexists _; iexact Hslot5
  iintro How
  iapply (sig_op I c 4 _ (by decide) (Fin.ext (k0_dev3_eq c)) rfl) $$ [How Htokbar4 Hslot4]
  · isplitr; · iexact HC
    isplitl [How]; · iexact How
    isplitl [Htokbar4]; · iexact Htokbar4
    iexists _; iexact Hslot4
  iintro How
  iapply (sig_op I c 3 _ (by decide) (Fin.ext (k0_dev4_eq c)) rfl) $$ [How Htokbar3 Hslot3]
  · isplitr; · iexact HC
    isplitl [How]; · iexact How
    isplitl [Htokbar3]; · iexact Htokbar3
    iexists _; iexact Hslot3
  iintro How
  iapply (sig_op I c 2 _ (by decide) (Fin.ext (k0_dev5_eq c)) rfl) $$ [How Htokbar2 Hslot2]
  · isplitr; · iexact HC
    isplitl [How]; · iexact How
    isplitl [Htokbar2]; · iexact Htokbar2
    iexists _; iexact Hslot2
  iintro How
  iapply (WP_ret c)
  iapply Hk
  iexact How

/-- Part 2 of the body. -/
theorem pr2 (I : Inp F) (c : Dev nD) (i : grid0.Coords) (v2 : BitVec 32) (k0_h1 : k0_cond1 i = 1#1)
    {α : Type} {Q : α → sProp 𝕄} {K : (FVec F S512x512 .fp8e4m3) → Prog (TpuEff nD τ sig (Elt F) Λ₀ .tc) α} :
    iprop(ctx I ∗ ow c (OB c 2) ∗ dutyTok ER (barG (dv (c + (7 - 1)))) 0 c ∗ (∃ f, cmP c (dv (c + (7 - 1)) : ℕ) f) ∗ dutyTok ER (barG (dv (c + (7 - 0)))) 0 c ∗ (∃ f, cmP c (dv (c + (7 - 0)) : ℕ) f) ∗ cred (tallyAt (barG c) () 7) ∗ atPos ER (barG c) 0 ∅ 0 ∗ xP c 0 (I.X c) ∗ (∃ f, stP c 0 f) ∗ sm0 c 48 ∗ xP c 1 (I.X c) ∗ (∃ f, stP c 1 f) ∗ sm0 c 49 ∗ (∃ f, xsP c 0 f) : sProp 𝕄)
      ⊢ iprop(((ow c (OS c 8) ∗ xP c 0 (I.X c) ∗ stP c 0 (pl3 (xb I c 0)) ∗ sm0 c 48 ∗ Fly c 49 iprop(stP c 1 (pl3 (xb I c 1)) ∗ xP c 1 (I.X c)) ∗ (∃ f, xsP c 0 f) ∗ semVal (barG c) 0 ∗ (bigSep (Finset.univ.erase c) fun d : Dev nD => iprop(∃ f, cmP d (c : ℕ) f))) -∗ WP c (K (k0_pay5 (pl3 (xb I c 0)))) Q)
        -∗ WP c (k0_part2 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 (SemArray.scalar (sig.barrier 0 rfl) : Sems sig S_) >>= K) Q) := by
  rw [WP_bind, k0_part2_eq_skeleton]; unfold k0_part2_skel
  simp only [semSignalWord, semWaitWord, smemLoad, Prog.lift, Prog.bind_op, Prog.bind_ret, Prog.pure_eq_ret, Prog.bind_assoc]
  iintro ⟨#HC, How, Htokbar1, ⟨%fHslot1, Hslot1⟩, Htokbar0, ⟨%fHslot0, Hslot0⟩, Hcredbar, Hatbar, Hx0, ⟨%fHst0, Hst0⟩, Hsm48, Hx1, ⟨%fHst1, Hst1⟩, Hsm49, ⟨%fHxs0, Hxs0⟩⟩ Hk
  iapply (sig_op I c 1 _ (by decide) (Fin.ext (k0_dev6_eq c)) rfl) $$ [How Htokbar1 Hslot1]
  · isplitr; · iexact HC
    isplitl [How]; · iexact How
    isplitl [Htokbar1]; · iexact Htokbar1
    iexists _; iexact Hslot1
  iintro How
  iapply (sig_op I c 0 _ (by decide) (Fin.ext (k0_dev7_eq c)) rfl) $$ [How Htokbar0 Hslot0]
  · isplitr; · iexact HC
    isplitl [How]; · iexact How
    isplitl [Htokbar0]; · iexact Htokbar0
    iexists _; iexact Hslot0
  iintro How
  iapply (bar_op I c rfl) $$ [How Hcredbar Hatbar]
  · isplitr; · iexact HC
    isplitl [How]; · iexact How
    isplitl [Hcredbar]; · iexact Hcredbar
    iexact Hatbar
  iintro ⟨How, Hsmbar, Hbars⟩
  iapply (cp_x I c 0 0 48 rfl rfl (s1 rfl)) $$ [Hx0 Hst0 Hsm48]
  · isplitl [Hx0]; · iexact Hx0
    isplitl [Hst0]; · iexact Hst0
    iexact Hsm48
  iintro Hsm48
  iapply (cp_x I c 1 1 49 rfl rfl (s1 rfl)) $$ [Hx1 Hst1 Hsm49]
  · isplitl [Hx1]; · iexact Hx1
    isplitl [Hst1]; · iexact Hst1
    iexact Hsm49
  iintro Hsm49
  iapply (wt_x I c 48 iprop(stP c 0 (pl3 (xb I c 0)) ∗ xP c 0 (I.X c)) 8 rfl (s1 rfl) cr_st) $$ [Hsm48 How]
  · isplitr; · iexact HC
    isplitl [Hsm48]; · iexact Hsm48
    iexact How
  iintro ⟨⟨Hst0, Hx0⟩, Hsm48, How⟩
  iapply (ld_st c 0 (xb I c 0) rfl) $$ [Hst0]
  · iexact Hst0
  iintro Hst0
  iapply (ldd_xs c 0 rfl) $$ [Hxs0]
  · iexact Hxs0
  iintro Hxs0
  iexists _
  isplitr
  · ipureintro; intro _; rfl
  iapply (WP_ret c)
  iapply Hk
  isplitl [How]
  · iexact How
  isplitl [Hx0]
  · iexact Hx0
  isplitl [Hst0]
  · iexact Hst0
  isplitl [Hsm48]
  · iexact Hsm48
  isplitl [Hsm49]
  · iexact Hsm49
  isplitl [Hxs0]
  · iexists _; iexact Hxs0
  isplitl [Hsmbar]
  · iexact Hsmbar
  iexact Hbars

/-- Part 3 of the body. -/
theorem pr3 (I : Inp F) (c : Dev nD) (i : grid0.Coords) (v2 : BitVec 32) (k0_h1 : k0_cond1 i = 1#1)
    {α : Type} {Q : α → sProp 𝕄} {K : (PUnit) → Prog (TpuEff nD τ sig (Elt F) Λ₀ .tc) α} :
    iprop(ctx I ∗ (∃ f, xsP c 0 f) ∗ xP c 2 (I.X c) ∗ stP c 0 (pl3 (xb I c 0)) ∗ sm0 c 48 ∗ Pre c (dv 0) ∗ ow c (OS c 8) ∗ Fly c 49 iprop(stP c 1 (pl3 (xb I c 1)) ∗ xP c 1 (I.X c)) ∗ (∃ f, xsP c 1 f) : sProp 𝕄)
      ⊢ iprop(((Fly c 48 iprop(stP c 0 (pl3 (xb I c 2)) ∗ xP c 2 (I.X c)) ∗ Pst I c (dv 0) ∗ ow c (OS c 7) ∗ sm0 c 49 ∗ xsP c 1 (xsF I c) ∗ stP c 1 (pl3 (xb I c 1)) ∗ xP c 1 (I.X c)) -∗ WP c (K ⟨⟩) Q)
        -∗ WP c (k0_part3 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 (k0_pay5 (pl3 (xb I c 0))) >>= K) Q) := by
  rw [WP_bind, k0_part3_eq_skeleton]; unfold k0_part3_skel
  by_cases hj0 : c = dv 0
  · simp only [↓dif_pos (own_y0 hj0), ↓dif_neg (snd_n0 hj0), Prog.lift, Prog.bind_op, Prog.bind_ret, Prog.pure_eq_ret, Prog.bind_assoc]
    iintro ⟨#HC, ⟨%fHxs0, Hxs0⟩, Hx2, Hst0, Hsm48, Hslab0, How, Hsm49, ⟨%fHxs1, Hxs1⟩⟩ Hk
    iapply (st_xs I c 0 rfl rfl) $$ [Hxs0]
    · iexact Hxs0
    iintro Hxs0
    iapply (cp_x I c 2 0 48 rfl rfl (s1 rfl)) $$ [Hx2 Hst0 Hsm48]
    · isplitl [Hx2]; · iexact Hx2
      isplitl [Hst0]; · iexact Hst0
      iexact Hsm48
    iintro Hsm48
    ihave Hopen := (Entails.of_eq (Pre_own hj0)) $$ Hslab0
    icases Hopen with ⟨⟨%fHcmown, Hcmown⟩, ⟨%fHa_0, Ha_0⟩⟩
    iapply (ld_xs I c 0 rfl) $$ [Hxs0]
    · iexact Hxs0
    iintro Hxs0
    iapply (ldd_cm c (c : ℕ) (k0_off1_eq c)) $$ [Hcmown]
    · iexact Hcmown
    iintro Hcmown
    iexists _
    isplitr
    · ipureintro; intro _; rfl
    iapply (st_cm I c (c : ℕ) (show (c : ℕ) < 8 from c.isLt) (k0_off1_eq c) (slot_own hj0 (by decide))) $$ [Hcmown]
    · iexact Hcmown
    iintro Hcmown
    iapply (ld_cm I c (c : ℕ) (show (c : ℕ) < 8 from c.isLt) (k0_off1_eq c)) $$ [Hcmown]
    · iexact Hcmown
    iintro Hcmown
    iapply (ldd_a c 0 rfl) $$ [Ha_0]
    · iexact Ha_0
    iintro Ha_0
    iexists _
    isplitr
    · ipureintro; intro _; rfl
    iapply (st_a I c 0 rfl rfl) $$ [Ha_0]
    · iexact Ha_0
    iintro Ha_0
    ihave How := (Entails.of_eq (OS_own (k := 7) hj0 (by rfl))) $$ How
    iapply (wt_x I c 49 iprop(stP c 1 (pl3 (xb I c 1)) ∗ xP c 1 (I.X c)) 7 rfl (s1 rfl) cr_st) $$ [Hsm49 How]
    · isplitr; · iexact HC
      isplitl [Hsm49]; · iexact Hsm49
      iexact How
    iintro ⟨⟨Hst1, Hx1⟩, Hsm49, How⟩
    iapply (ld_st c 1 (xb I c 1) rfl) $$ [Hst1]
    · iexact Hst1
    iintro Hst1
    iapply (ldd_xs c 1 rfl) $$ [Hxs1]
    · iexact Hxs1
    iintro Hxs1
    iexists _
    isplitr
    · ipureintro; intro _; rfl
    iapply (st_xs I c 1 rfl rfl) $$ [Hxs1]
    · iexact Hxs1
    iintro Hxs1
    iapply (WP_ret c)
    iapply Hk
    isplitl [Hsm48]
    · iexact Hsm48
    isplitl [Hcmown Ha_0 Hxs0]
    · iapply (Entails.of_eq (Pst_own (I := I) hj0).symm)
      isplitl [Hcmown Ha_0]
      · isplitl [Hcmown]; · iexact Hcmown
        iexact Ha_0
      iexact Hxs0
    isplitl [How]
    · iexact How
    isplitl [Hsm49]
    · iexact Hsm49
    isplitl [Hxs1]
    · iexact Hxs1
    isplitl [Hst1]
    · iexact Hst1
    iexact Hx1
  simp only [↓dif_neg (own_n0 hj0), ↓dif_pos (snd_y0 hj0), Prog.lift, Prog.bind_op, Prog.bind_ret, Prog.pure_eq_ret, Prog.bind_assoc]
  iintro ⟨#HC, ⟨%fHxs0, Hxs0⟩, Hx2, Hst0, Hsm48, Hslab0, How, Hsm49, ⟨%fHxs1, Hxs1⟩⟩ Hk
  iapply (st_xs I c 0 rfl rfl) $$ [Hxs0]
  · iexact Hxs0
  iintro Hxs0
  iapply (cp_x I c 2 0 48 rfl rfl (s1 rfl)) $$ [Hx2 Hst0 Hsm48]
  · isplitl [Hx2]; · iexact Hx2
    isplitl [Hst0]; · iexact Hst0
    iexact Hsm48
  iintro Hsm48
  ihave Hslab0 := (Entails.of_eq ((Pre_oth hj0).trans (Mid_oth (I := I) hj0).symm)) $$ Hslab0
  ihave Hopen := (Entails.of_eq (Mid_oth hj0)) $$ Hslab0
  icases Hopen with ⟨Hq1, Hq2, Hq3⟩
  iapply (snd_op I c 7 (dv 0) (by rfl) (fun h => hj0 h.symm) _ (Fin.ext k0_dev8_eq) rfl (k0_off3_eq c) (s1 rfl) (s1 (k0_off2_eq c))) $$ [Hxs0 Hq1 How Hq2 Hq3]
  · isplitr; · iexact HC
    isplitl [Hxs0]; · iexact Hxs0
    isplitl [Hq1]; · iexact Hq1
    isplitl [How]; · iexact How
    isplitl [Hq2]; · iexact Hq2
    iexact Hq3
  iintro ⟨Hq4, How⟩
  ihave Hslab0 := (Entails.of_eq (Pst_oth (I := I) hj0).symm) $$ Hq4
  iapply (wt_x I c 49 iprop(stP c 1 (pl3 (xb I c 1)) ∗ xP c 1 (I.X c)) 7 rfl (s1 rfl) cr_st) $$ [Hsm49 How]
  · isplitr; · iexact HC
    isplitl [Hsm49]; · iexact Hsm49
    iexact How
  iintro ⟨⟨Hst1, Hx1⟩, Hsm49, How⟩
  iapply (ld_st c 1 (xb I c 1) rfl) $$ [Hst1]
  · iexact Hst1
  iintro Hst1
  iapply (ldd_xs c 1 rfl) $$ [Hxs1]
  · iexact Hxs1
  iintro Hxs1
  iexists _
  isplitr
  · ipureintro; intro _; rfl
  iapply (st_xs I c 1 rfl rfl) $$ [Hxs1]
  · iexact Hxs1
  iintro Hxs1
  iapply (WP_ret c)
  iapply Hk
  isplitl [Hsm48]
  · iexact Hsm48
  isplitl [Hslab0]
  · iexact Hslab0
  isplitl [How]
  · iexact How
  isplitl [Hsm49]
  · iexact Hsm49
  isplitl [Hxs1]
  · iexact Hxs1
  isplitl [Hst1]
  · iexact Hst1
  iexact Hx1

/-- Part 4 of the body. -/
theorem pr4 (I : Inp F) (c : Dev nD) (i : grid0.Coords) (v2 : BitVec 32) (k0_h1 : k0_cond1 i = 1#1)
    {α : Type} {Q : α → sProp 𝕄} {K : (Σ' (v121 : BitVec 32), BitVec 32) → Prog (TpuEff nD τ sig (Elt F) Λ₀ .tc) α} :
    iprop(ctx I ∗ xP c 3 (I.X c) ∗ stP c 1 (pl3 (xb I c 1)) ∗ sm0 c 49 ∗ Pre c (dv 1) ∗ xsP c 1 (xsF I c) ∗ ow c (OS c 7) ∗ Fly c 48 iprop(stP c 0 (pl3 (xb I c 2)) ∗ xP c 2 (I.X c)) ∗ (∃ f, xsP c 2 f) ∗ xP c 4 (I.X c) ∗ Pre c (dv 2) : sProp 𝕄)
      ⊢ iprop((∀ r q, (Fly c 49 iprop(stP c 1 (pl3 (xb I c 3)) ∗ xP c 3 (I.X c)) ∗ Pst I c (dv 1) ∗ ow c (OS c 6) ∗ Fly c 48 iprop(stP c 0 (pl3 (xb I c 4)) ∗ xP c 4 (I.X c)) ∗ xsP c 2 (xsF I c) ∗ Mid I c (dv 2) ∗ xP c 2 (I.X c)) -∗ WP c (K ⟨r, q⟩) Q)
        -∗ WP c (k0_part4 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 >>= K) Q) := by
  rw [WP_bind, k0_part4_eq_skeleton]; unfold k0_part4_skel
  by_cases hj1 : c = dv 1
  · have hj2 : ¬ c = dv 2 := by rw [hj1]; decide
    simp only [↓dif_pos (own_y1 hj1), ↓dif_neg (snd_n1 hj1), ↓dif_neg (own_n2 hj2), Prog.lift, Prog.bind_op, Prog.bind_ret, Prog.pure_eq_ret, Prog.bind_assoc]
    iintro ⟨#HC, Hx3, Hst1, Hsm49, Hslab1, Hxs1, How, Hsm48, ⟨%fHxs2, Hxs2⟩, Hx4, Hslab2⟩ Hk
    iapply (cp_x I c 3 1 49 rfl rfl (s1 rfl)) $$ [Hx3 Hst1 Hsm49]
    · isplitl [Hx3]; · iexact Hx3
      isplitl [Hst1]; · iexact Hst1
      iexact Hsm49
    iintro Hsm49
    ihave Hopen := (Entails.of_eq (Pre_own hj1)) $$ Hslab1
    icases Hopen with ⟨⟨%fHcmown, Hcmown⟩, ⟨%fHa_0, Ha_0⟩⟩
    iapply (ld_xs I c 1 rfl) $$ [Hxs1]
    · iexact Hxs1
    iintro Hxs1
    iapply (ldd_cm c (c : ℕ) (k0_off4_eq c)) $$ [Hcmown]
    · iexact Hcmown
    iintro Hcmown
    iexists _
    isplitr
    · ipureintro; intro _; rfl
    iapply (st_cm I c (c : ℕ) (show (c : ℕ) < 8 from c.isLt) (k0_off4_eq c) (slot_own hj1 (by decide))) $$ [Hcmown]
    · iexact Hcmown
    iintro Hcmown
    iapply (ld_cm I c (c : ℕ) (show (c : ℕ) < 8 from c.isLt) (k0_off4_eq c)) $$ [Hcmown]
    · iexact Hcmown
    iintro Hcmown
    iapply (ldd_a c 0 rfl) $$ [Ha_0]
    · iexact Ha_0
    iintro Ha_0
    iexists _
    isplitr
    · ipureintro; intro _; rfl
    iapply (st_a I c 0 rfl rfl) $$ [Ha_0]
    · iexact Ha_0
    iintro Ha_0
    ihave How := (Entails.of_eq (OS_own (k := 6) hj1 (by rfl))) $$ How
    iapply (wt_x I c 48 iprop(stP c 0 (pl3 (xb I c 2)) ∗ xP c 2 (I.X c)) 6 rfl (s1 rfl) cr_st) $$ [Hsm48 How]
    · isplitr; · iexact HC
      isplitl [Hsm48]; · iexact Hsm48
      iexact How
    iintro ⟨⟨Hst0, Hx2⟩, Hsm48, How⟩
    iapply (ld_st c 0 (xb I c 2) rfl) $$ [Hst0]
    · iexact Hst0
    iintro Hst0
    iapply (ldd_xs c 2 rfl) $$ [Hxs2]
    · iexact Hxs2
    iintro Hxs2
    iexists _
    isplitr
    · ipureintro; intro _; rfl
    iapply (st_xs I c 2 rfl rfl) $$ [Hxs2]
    · iexact Hxs2
    iintro Hxs2
    iapply (cp_x I c 4 0 48 rfl rfl (s1 rfl)) $$ [Hx4 Hst0 Hsm48]
    · isplitl [Hx4]; · iexact Hx4
      isplitl [Hst0]; · iexact Hst0
      iexact Hsm48
    iintro Hsm48
    ihave Hslab2 := (Entails.of_eq ((Pre_oth hj2).trans (Mid_oth (I := I) hj2).symm)) $$ Hslab2
    iapply (WP_ret c)
    iapply Hk
    isplitl [Hsm49]
    · iexact Hsm49
    isplitl [Hcmown Ha_0 Hxs1]
    · iapply (Entails.of_eq (Pst_own (I := I) hj1).symm)
      isplitl [Hcmown Ha_0]
      · isplitl [Hcmown]; · iexact Hcmown
        iexact Ha_0
      iexact Hxs1
    isplitl [How]
    · iexact How
    isplitl [Hsm48]
    · iexact Hsm48
    isplitl [Hxs2]
    · iexact Hxs2
    isplitl [Hslab2]
    · iexact Hslab2
    iexact Hx2
  by_cases hj2 : c = dv 2
  · simp only [↓dif_neg (own_n1 hj1), ↓dif_pos (snd_y1 hj1), ↓dif_pos (own_y2 hj2), Prog.lift, Prog.bind_op, Prog.bind_ret, Prog.pure_eq_ret, Prog.bind_assoc]
    iintro ⟨#HC, Hx3, Hst1, Hsm49, Hslab1, Hxs1, How, Hsm48, ⟨%fHxs2, Hxs2⟩, Hx4, Hslab2⟩ Hk
    iapply (cp_x I c 3 1 49 rfl rfl (s1 rfl)) $$ [Hx3 Hst1 Hsm49]
    · isplitl [Hx3]; · iexact Hx3
      isplitl [Hst1]; · iexact Hst1
      iexact Hsm49
    iintro Hsm49
    ihave Hslab1 := (Entails.of_eq ((Pre_oth hj1).trans (Mid_oth (I := I) hj1).symm)) $$ Hslab1
    ihave Hopen := (Entails.of_eq (Mid_oth hj1)) $$ Hslab1
    icases Hopen with ⟨Hq1, Hq2, Hq3⟩
    iapply (snd_op I c 6 (dv 1) (by rfl) (fun h => hj1 h.symm) _ (Fin.ext k0_dev9_eq) rfl (k0_off6_eq c) (s1 rfl) (s1 (k0_off5_eq c))) $$ [Hxs1 Hq1 How Hq2 Hq3]
    · isplitr; · iexact HC
      isplitl [Hxs1]; · iexact Hxs1
      isplitl [Hq1]; · iexact Hq1
      isplitl [How]; · iexact How
      isplitl [Hq2]; · iexact Hq2
      iexact Hq3
    iintro ⟨Hq4, How⟩
    ihave Hslab1 := (Entails.of_eq (Pst_oth (I := I) hj1).symm) $$ Hq4
    iapply (wt_x I c 48 iprop(stP c 0 (pl3 (xb I c 2)) ∗ xP c 2 (I.X c)) 6 rfl (s1 rfl) cr_st) $$ [Hsm48 How]
    · isplitr; · iexact HC
      isplitl [Hsm48]; · iexact Hsm48
      iexact How
    iintro ⟨⟨Hst0, Hx2⟩, Hsm48, How⟩
    iapply (ld_st c 0 (xb I c 2) rfl) $$ [Hst0]
    · iexact Hst0
    iintro Hst0
    iapply (ldd_xs c 2 rfl) $$ [Hxs2]
    · iexact Hxs2
    iintro Hxs2
    iexists _
    isplitr
    · ipureintro; intro _; rfl
    iapply (st_xs I c 2 rfl rfl) $$ [Hxs2]
    · iexact Hxs2
    iintro Hxs2
    iapply (cp_x I c 4 0 48 rfl rfl (s1 rfl)) $$ [Hx4 Hst0 Hsm48]
    · isplitl [Hx4]; · iexact Hx4
      isplitl [Hst0]; · iexact Hst0
      iexact Hsm48
    iintro Hsm48
    ihave Hopen := (Entails.of_eq (Pre_own hj2)) $$ Hslab2
    icases Hopen with ⟨⟨%fHcmown, Hcmown⟩, ⟨%fHa_0, Ha_0⟩⟩
    iapply (ld_xs I c 2 rfl) $$ [Hxs2]
    · iexact Hxs2
    iintro Hxs2
    iapply (ldd_cm c (c : ℕ) (k0_off7_eq c)) $$ [Hcmown]
    · iexact Hcmown
    iintro Hcmown
    iexists _
    isplitr
    · ipureintro; intro _; rfl
    iapply (st_cm I c (c : ℕ) (show (c : ℕ) < 8 from c.isLt) (k0_off7_eq c) (slot_own hj2 (by decide))) $$ [Hcmown]
    · iexact Hcmown
    iintro Hcmown
    iapply (ld_cm I c (c : ℕ) (show (c : ℕ) < 8 from c.isLt) (k0_off7_eq c)) $$ [Hcmown]
    · iexact Hcmown
    iintro Hcmown
    iapply (ldd_a c 0 rfl) $$ [Ha_0]
    · iexact Ha_0
    iintro Ha_0
    iexists _
    isplitr
    · ipureintro; intro _; rfl
    iapply (st_a I c 0 rfl rfl) $$ [Ha_0]
    · iexact Ha_0
    iintro Ha_0
    iapply (WP_ret c)
    iapply Hk
    isplitl [Hsm49]
    · iexact Hsm49
    isplitl [Hslab1]
    · iexact Hslab1
    isplitl [How]
    · iexact How
    isplitl [Hsm48]
    · iexact Hsm48
    isplitl [Hxs2]
    · iexact Hxs2
    isplitl [Hcmown Ha_0]
    · iapply (Entails.of_eq (Mid_own (I := I) hj2).symm)
      isplitl [Hcmown]; · iexact Hcmown
      iexact Ha_0
    iexact Hx2
  simp only [↓dif_neg (own_n1 hj1), ↓dif_pos (snd_y1 hj1), ↓dif_neg (own_n2 hj2), Prog.lift, Prog.bind_op, Prog.bind_ret, Prog.pure_eq_ret, Prog.bind_assoc]
  iintro ⟨#HC, Hx3, Hst1, Hsm49, Hslab1, Hxs1, How, Hsm48, ⟨%fHxs2, Hxs2⟩, Hx4, Hslab2⟩ Hk
  iapply (cp_x I c 3 1 49 rfl rfl (s1 rfl)) $$ [Hx3 Hst1 Hsm49]
  · isplitl [Hx3]; · iexact Hx3
    isplitl [Hst1]; · iexact Hst1
    iexact Hsm49
  iintro Hsm49
  ihave Hslab1 := (Entails.of_eq ((Pre_oth hj1).trans (Mid_oth (I := I) hj1).symm)) $$ Hslab1
  ihave Hopen := (Entails.of_eq (Mid_oth hj1)) $$ Hslab1
  icases Hopen with ⟨Hq1, Hq2, Hq3⟩
  iapply (snd_op I c 6 (dv 1) (by rfl) (fun h => hj1 h.symm) _ (Fin.ext k0_dev9_eq) rfl (k0_off6_eq c) (s1 rfl) (s1 (k0_off5_eq c))) $$ [Hxs1 Hq1 How Hq2 Hq3]
  · isplitr; · iexact HC
    isplitl [Hxs1]; · iexact Hxs1
    isplitl [Hq1]; · iexact Hq1
    isplitl [How]; · iexact How
    isplitl [Hq2]; · iexact Hq2
    iexact Hq3
  iintro ⟨Hq4, How⟩
  ihave Hslab1 := (Entails.of_eq (Pst_oth (I := I) hj1).symm) $$ Hq4
  iapply (wt_x I c 48 iprop(stP c 0 (pl3 (xb I c 2)) ∗ xP c 2 (I.X c)) 6 rfl (s1 rfl) cr_st) $$ [Hsm48 How]
  · isplitr; · iexact HC
    isplitl [Hsm48]; · iexact Hsm48
    iexact How
  iintro ⟨⟨Hst0, Hx2⟩, Hsm48, How⟩
  iapply (ld_st c 0 (xb I c 2) rfl) $$ [Hst0]
  · iexact Hst0
  iintro Hst0
  iapply (ldd_xs c 2 rfl) $$ [Hxs2]
  · iexact Hxs2
  iintro Hxs2
  iexists _
  isplitr
  · ipureintro; intro _; rfl
  iapply (st_xs I c 2 rfl rfl) $$ [Hxs2]
  · iexact Hxs2
  iintro Hxs2
  iapply (cp_x I c 4 0 48 rfl rfl (s1 rfl)) $$ [Hx4 Hst0 Hsm48]
  · isplitl [Hx4]; · iexact Hx4
    isplitl [Hst0]; · iexact Hst0
    iexact Hsm48
  iintro Hsm48
  ihave Hslab2 := (Entails.of_eq ((Pre_oth hj2).trans (Mid_oth (I := I) hj2).symm)) $$ Hslab2
  iapply (WP_ret c)
  iapply Hk
  isplitl [Hsm49]
  · iexact Hsm49
  isplitl [Hslab1]
  · iexact Hslab1
  isplitl [How]
  · iexact How
  isplitl [Hsm48]
  · iexact Hsm48
  isplitl [Hxs2]
  · iexact Hxs2
  isplitl [Hslab2]
  · iexact Hslab2
  iexact Hx2

/-- Part 5 of the body. -/
theorem pr5 (I : Inp F) (c : Dev nD) (i : grid0.Coords) (v2 : BitVec 32) (k0_h1 : k0_cond1 i = 1#1) (v121 : BitVec 32) (c0_i32_103 : BitVec 32)
    {α : Type} {Q : α → sProp 𝕄} {K : (PUnit) → Prog (TpuEff nD τ sig (Elt F) Λ₀ .tc) α} :
    iprop(ctx I ∗ Mid I c (dv 2) ∗ ow c (OS c 6) ∗ xsP c 2 (xsF I c) ∗ Fly c 49 iprop(stP c 1 (pl3 (xb I c 3)) ∗ xP c 3 (I.X c)) ∗ (∃ f, xsP c 3 f) ∗ xP c 5 (I.X c) ∗ Pre c (dv 3) : sProp 𝕄)
      ⊢ iprop(((Pst I c (dv 2) ∗ ow c (OS c 4) ∗ Fly c 49 iprop(stP c 1 (pl3 (xb I c 5)) ∗ xP c 5 (I.X c)) ∗ Pst I c (dv 3) ∗ xP c 3 (I.X c)) -∗ WP c (K ⟨⟩) Q)
        -∗ WP c (k0_part5 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 v121 c0_i32_103 >>= K) Q) := by
  rw [WP_bind, k0_part5_eq_skeleton]; unfold k0_part5_skel
  by_cases hj2 : c = dv 2
  · have hj3 : ¬ c = dv 3 := by rw [hj2]; decide
    simp only [↓dif_neg (snd_n2 hj2), ↓dif_neg (own_n3 hj3), ↓dif_pos (snd_y3 hj3), Prog.lift, Prog.bind_op, Prog.bind_ret, Prog.pure_eq_ret, Prog.bind_assoc]
    iintro ⟨#HC, Hslab2, How, Hxs2, Hsm49, ⟨%fHxs3, Hxs3⟩, Hx5, Hslab3⟩ Hk
    ihave How := (Entails.of_eq (OS_own (k := 5) hj2 (by rfl))) $$ How
    ihave Hopen := (Entails.of_eq (Mid_own hj2)) $$ Hslab2
    icases Hopen with ⟨Hcmown, Ha_0⟩
    iapply (wt_x I c 49 iprop(stP c 1 (pl3 (xb I c 3)) ∗ xP c 3 (I.X c)) 5 rfl (s1 rfl) cr_st) $$ [Hsm49 How]
    · isplitr; · iexact HC
      isplitl [Hsm49]; · iexact Hsm49
      iexact How
    iintro ⟨⟨Hst1, Hx3⟩, Hsm49, How⟩
    iapply (ld_st c 1 (xb I c 3) rfl) $$ [Hst1]
    · iexact Hst1
    iintro Hst1
    iapply (ldd_xs c 3 rfl) $$ [Hxs3]
    · iexact Hxs3
    iintro Hxs3
    iexists _
    isplitr
    · ipureintro; intro _; rfl
    iapply (st_xs I c 3 rfl rfl) $$ [Hxs3]
    · iexact Hxs3
    iintro Hxs3
    iapply (cp_x I c 5 1 49 rfl rfl (s1 rfl)) $$ [Hx5 Hst1 Hsm49]
    · isplitl [Hx5]; · iexact Hx5
      isplitl [Hst1]; · iexact Hst1
      iexact Hsm49
    iintro Hsm49
    ihave Hslab3 := (Entails.of_eq ((Pre_oth hj3).trans (Mid_oth (I := I) hj3).symm)) $$ Hslab3
    ihave Hopen := (Entails.of_eq (Mid_oth hj3)) $$ Hslab3
    icases Hopen with ⟨Hq1, Hq2, Hq3⟩
    iapply (snd_op I c 4 (dv 3) (by rfl) (fun h => hj3 h.symm) _ (Fin.ext k0_dev11_eq) rfl (k0_off12_eq c) (s1 rfl) (s1 (k0_off11_eq c))) $$ [Hxs3 Hq1 How Hq2 Hq3]
    · isplitr; · iexact HC
      isplitl [Hxs3]; · iexact Hxs3
      isplitl [Hq1]; · iexact Hq1
      isplitl [How]; · iexact How
      isplitl [Hq2]; · iexact Hq2
      iexact Hq3
    iintro ⟨Hq4, How⟩
    ihave Hslab3 := (Entails.of_eq (Pst_oth (I := I) hj3).symm) $$ Hq4
    iapply (WP_ret c)
    iapply Hk
    isplitl [Hcmown Ha_0 Hxs2]
    · iapply (Entails.of_eq (Pst_own (I := I) hj2).symm)
      isplitl [Hcmown Ha_0]
      · isplitl [Hcmown]; · iexact Hcmown
        iexact Ha_0
      iexact Hxs2
    isplitl [How]
    · iexact How
    isplitl [Hsm49]
    · iexact Hsm49
    isplitl [Hslab3]
    · iexact Hslab3
    iexact Hx3
  by_cases hj3 : c = dv 3
  · simp only [↓dif_pos (snd_y2 hj2), ↓dif_pos (own_y3 hj3), ↓dif_neg (snd_n3 hj3), Prog.lift, Prog.bind_op, Prog.bind_ret, Prog.pure_eq_ret, Prog.bind_assoc]
    iintro ⟨#HC, Hslab2, How, Hxs2, Hsm49, ⟨%fHxs3, Hxs3⟩, Hx5, Hslab3⟩ Hk
    ihave Hopen := (Entails.of_eq (Mid_oth hj2)) $$ Hslab2
    icases Hopen with ⟨Hq1, Hq2, Hq3⟩
    iapply (snd_op I c 5 (dv 2) (by rfl) (fun h => hj2 h.symm) _ (Fin.ext k0_dev10_eq) rfl (k0_off9_eq c) (s1 rfl) (s1 (k0_off8_eq c))) $$ [Hxs2 Hq1 How Hq2 Hq3]
    · isplitr; · iexact HC
      isplitl [Hxs2]; · iexact Hxs2
      isplitl [Hq1]; · iexact Hq1
      isplitl [How]; · iexact How
      isplitl [Hq2]; · iexact Hq2
      iexact Hq3
    iintro ⟨Hq4, How⟩
    ihave Hslab2 := (Entails.of_eq (Pst_oth (I := I) hj2).symm) $$ Hq4
    iapply (wt_x I c 49 iprop(stP c 1 (pl3 (xb I c 3)) ∗ xP c 3 (I.X c)) 5 rfl (s1 rfl) cr_st) $$ [Hsm49 How]
    · isplitr; · iexact HC
      isplitl [Hsm49]; · iexact Hsm49
      iexact How
    iintro ⟨⟨Hst1, Hx3⟩, Hsm49, How⟩
    iapply (ld_st c 1 (xb I c 3) rfl) $$ [Hst1]
    · iexact Hst1
    iintro Hst1
    iapply (ldd_xs c 3 rfl) $$ [Hxs3]
    · iexact Hxs3
    iintro Hxs3
    iexists _
    isplitr
    · ipureintro; intro _; rfl
    iapply (st_xs I c 3 rfl rfl) $$ [Hxs3]
    · iexact Hxs3
    iintro Hxs3
    iapply (cp_x I c 5 1 49 rfl rfl (s1 rfl)) $$ [Hx5 Hst1 Hsm49]
    · isplitl [Hx5]; · iexact Hx5
      isplitl [Hst1]; · iexact Hst1
      iexact Hsm49
    iintro Hsm49
    ihave Hopen := (Entails.of_eq (Pre_own hj3)) $$ Hslab3
    icases Hopen with ⟨⟨%fHcmown, Hcmown⟩, ⟨%fHa_0, Ha_0⟩⟩
    iapply (ld_xs I c 3 rfl) $$ [Hxs3]
    · iexact Hxs3
    iintro Hxs3
    iapply (ldd_cm c (c : ℕ) (k0_off10_eq c)) $$ [Hcmown]
    · iexact Hcmown
    iintro Hcmown
    iexists _
    isplitr
    · ipureintro; intro _; rfl
    iapply (st_cm I c (c : ℕ) (show (c : ℕ) < 8 from c.isLt) (k0_off10_eq c) (slot_own hj3 (by decide))) $$ [Hcmown]
    · iexact Hcmown
    iintro Hcmown
    iapply (ld_cm I c (c : ℕ) (show (c : ℕ) < 8 from c.isLt) (k0_off10_eq c)) $$ [Hcmown]
    · iexact Hcmown
    iintro Hcmown
    iapply (ldd_a c 0 rfl) $$ [Ha_0]
    · iexact Ha_0
    iintro Ha_0
    iexists _
    isplitr
    · ipureintro; intro _; rfl
    iapply (st_a I c 0 rfl rfl) $$ [Ha_0]
    · iexact Ha_0
    iintro Ha_0
    ihave How := (Entails.of_eq (OS_own (k := 4) hj3 (by rfl))) $$ How
    iapply (WP_ret c)
    iapply Hk
    isplitl [Hslab2]
    · iexact Hslab2
    isplitl [How]
    · iexact How
    isplitl [Hsm49]
    · iexact Hsm49
    isplitl [Hcmown Ha_0 Hxs3]
    · iapply (Entails.of_eq (Pst_own (I := I) hj3).symm)
      isplitl [Hcmown Ha_0]
      · isplitl [Hcmown]; · iexact Hcmown
        iexact Ha_0
      iexact Hxs3
    iexact Hx3
  simp only [↓dif_pos (snd_y2 hj2), ↓dif_neg (own_n3 hj3), ↓dif_pos (snd_y3 hj3), Prog.lift, Prog.bind_op, Prog.bind_ret, Prog.pure_eq_ret, Prog.bind_assoc]
  iintro ⟨#HC, Hslab2, How, Hxs2, Hsm49, ⟨%fHxs3, Hxs3⟩, Hx5, Hslab3⟩ Hk
  ihave Hopen := (Entails.of_eq (Mid_oth hj2)) $$ Hslab2
  icases Hopen with ⟨Hq1, Hq2, Hq3⟩
  iapply (snd_op I c 5 (dv 2) (by rfl) (fun h => hj2 h.symm) _ (Fin.ext k0_dev10_eq) rfl (k0_off9_eq c) (s1 rfl) (s1 (k0_off8_eq c))) $$ [Hxs2 Hq1 How Hq2 Hq3]
  · isplitr; · iexact HC
    isplitl [Hxs2]; · iexact Hxs2
    isplitl [Hq1]; · iexact Hq1
    isplitl [How]; · iexact How
    isplitl [Hq2]; · iexact Hq2
    iexact Hq3
  iintro ⟨Hq4, How⟩
  ihave Hslab2 := (Entails.of_eq (Pst_oth (I := I) hj2).symm) $$ Hq4
  iapply (wt_x I c 49 iprop(stP c 1 (pl3 (xb I c 3)) ∗ xP c 3 (I.X c)) 5 rfl (s1 rfl) cr_st) $$ [Hsm49 How]
  · isplitr; · iexact HC
    isplitl [Hsm49]; · iexact Hsm49
    iexact How
  iintro ⟨⟨Hst1, Hx3⟩, Hsm49, How⟩
  iapply (ld_st c 1 (xb I c 3) rfl) $$ [Hst1]
  · iexact Hst1
  iintro Hst1
  iapply (ldd_xs c 3 rfl) $$ [Hxs3]
  · iexact Hxs3
  iintro Hxs3
  iexists _
  isplitr
  · ipureintro; intro _; rfl
  iapply (st_xs I c 3 rfl rfl) $$ [Hxs3]
  · iexact Hxs3
  iintro Hxs3
  iapply (cp_x I c 5 1 49 rfl rfl (s1 rfl)) $$ [Hx5 Hst1 Hsm49]
  · isplitl [Hx5]; · iexact Hx5
    isplitl [Hst1]; · iexact Hst1
    iexact Hsm49
  iintro Hsm49
  ihave Hslab3 := (Entails.of_eq ((Pre_oth hj3).trans (Mid_oth (I := I) hj3).symm)) $$ Hslab3
  ihave Hopen := (Entails.of_eq (Mid_oth hj3)) $$ Hslab3
  icases Hopen with ⟨Hq1, Hq2, Hq3⟩
  iapply (snd_op I c 4 (dv 3) (by rfl) (fun h => hj3 h.symm) _ (Fin.ext k0_dev11_eq) rfl (k0_off12_eq c) (s1 rfl) (s1 (k0_off11_eq c))) $$ [Hxs3 Hq1 How Hq2 Hq3]
  · isplitr; · iexact HC
    isplitl [Hxs3]; · iexact Hxs3
    isplitl [Hq1]; · iexact Hq1
    isplitl [How]; · iexact How
    isplitl [Hq2]; · iexact Hq2
    iexact Hq3
  iintro ⟨Hq4, How⟩
  ihave Hslab3 := (Entails.of_eq (Pst_oth (I := I) hj3).symm) $$ Hq4
  iapply (WP_ret c)
  iapply Hk
  isplitl [Hslab2]
  · iexact Hslab2
  isplitl [How]
  · iexact How
  isplitl [Hsm49]
  · iexact Hsm49
  isplitl [Hslab3]
  · iexact Hslab3
  iexact Hx3

/-- Part 6 of the body. -/
theorem pr6 (I : Inp F) (c : Dev nD) (i : grid0.Coords) (v2 : BitVec 32) (k0_h1 : k0_cond1 i = 1#1)
    {α : Type} {Q : α → sProp 𝕄} {K : (FVec F S512x512 .fp8e4m3) → Prog (TpuEff nD τ sig (Elt F) Λ₀ .tc) α} :
    iprop(ctx I ∗ Fly c 48 iprop(stP c 0 (pl3 (xb I c 4)) ∗ xP c 4 (I.X c)) ∗ ow c (OS c 4) ∗ (∃ f, xsP c 4 f) ∗ xP c 6 (I.X c) ∗ Pre c (dv 4) ∗ Fly c 49 iprop(stP c 1 (pl3 (xb I c 5)) ∗ xP c 5 (I.X c)) ∗ (∃ f, xsP c 5 f) : sProp 𝕄)
      ⊢ iprop(((Fly c 48 iprop(stP c 0 (pl3 (xb I c 6)) ∗ xP c 6 (I.X c)) ∗ ow c (OS c 3) ∗ Pst I c (dv 4) ∗ sm0 c 49 ∗ (∃ f, xsP c 5 f) ∗ xP c 4 (I.X c) ∗ stP c 1 (pl3 (xb I c 5)) ∗ xP c 5 (I.X c)) -∗ WP c (K (k0_pay21 (pl3 (xb I c 5)))) Q)
        -∗ WP c (k0_part6 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 >>= K) Q) := by
  rw [WP_bind, k0_part6_eq_skeleton]; unfold k0_part6_skel
  by_cases hj4 : c = dv 4
  · simp only [↓dif_pos (own_y4 hj4), ↓dif_neg (snd_n4 hj4), Prog.lift, Prog.bind_op, Prog.bind_ret, Prog.pure_eq_ret, Prog.bind_assoc]
    iintro ⟨#HC, Hsm48, How, ⟨%fHxs4, Hxs4⟩, Hx6, Hslab4, Hsm49, ⟨%fHxs5, Hxs5⟩⟩ Hk
    iapply (wt_x I c 48 iprop(stP c 0 (pl3 (xb I c 4)) ∗ xP c 4 (I.X c)) 4 rfl (s1 rfl) cr_st) $$ [Hsm48 How]
    · isplitr; · iexact HC
      isplitl [Hsm48]; · iexact Hsm48
      iexact How
    iintro ⟨⟨Hst0, Hx4⟩, Hsm48, How⟩
    iapply (ld_st c 0 (xb I c 4) rfl) $$ [Hst0]
    · iexact Hst0
    iintro Hst0
    iapply (ldd_xs c 4 rfl) $$ [Hxs4]
    · iexact Hxs4
    iintro Hxs4
    iexists _
    isplitr
    · ipureintro; intro _; rfl
    iapply (st_xs I c 4 rfl rfl) $$ [Hxs4]
    · iexact Hxs4
    iintro Hxs4
    iapply (cp_x I c 6 0 48 rfl rfl (s1 rfl)) $$ [Hx6 Hst0 Hsm48]
    · isplitl [Hx6]; · iexact Hx6
      isplitl [Hst0]; · iexact Hst0
      iexact Hsm48
    iintro Hsm48
    ihave Hopen := (Entails.of_eq (Pre_own hj4)) $$ Hslab4
    icases Hopen with ⟨⟨%fHcmown, Hcmown⟩, ⟨%fHa_0, Ha_0⟩⟩
    iapply (ld_xs I c 4 rfl) $$ [Hxs4]
    · iexact Hxs4
    iintro Hxs4
    iapply (ldd_cm c (c : ℕ) (k0_off13_eq c)) $$ [Hcmown]
    · iexact Hcmown
    iintro Hcmown
    iexists _
    isplitr
    · ipureintro; intro _; rfl
    iapply (st_cm I c (c : ℕ) (show (c : ℕ) < 8 from c.isLt) (k0_off13_eq c) (slot_own hj4 (by decide))) $$ [Hcmown]
    · iexact Hcmown
    iintro Hcmown
    iapply (ld_cm I c (c : ℕ) (show (c : ℕ) < 8 from c.isLt) (k0_off13_eq c)) $$ [Hcmown]
    · iexact Hcmown
    iintro Hcmown
    iapply (ldd_a c 0 rfl) $$ [Ha_0]
    · iexact Ha_0
    iintro Ha_0
    iexists _
    isplitr
    · ipureintro; intro _; rfl
    iapply (st_a I c 0 rfl rfl) $$ [Ha_0]
    · iexact Ha_0
    iintro Ha_0
    ihave How := (Entails.of_eq (OS_own (k := 3) hj4 (by rfl))) $$ How
    iapply (wt_x I c 49 iprop(stP c 1 (pl3 (xb I c 5)) ∗ xP c 5 (I.X c)) 3 rfl (s1 rfl) cr_st) $$ [Hsm49 How]
    · isplitr; · iexact HC
      isplitl [Hsm49]; · iexact Hsm49
      iexact How
    iintro ⟨⟨Hst1, Hx5⟩, Hsm49, How⟩
    iapply (ld_st c 1 (xb I c 5) rfl) $$ [Hst1]
    · iexact Hst1
    iintro Hst1
    iapply (ldd_xs c 5 rfl) $$ [Hxs5]
    · iexact Hxs5
    iintro Hxs5
    iexists _
    isplitr
    · ipureintro; intro _; rfl
    iapply (WP_ret c)
    iapply Hk
    isplitl [Hsm48]
    · iexact Hsm48
    isplitl [How]
    · iexact How
    isplitl [Hcmown Ha_0 Hxs4]
    · iapply (Entails.of_eq (Pst_own (I := I) hj4).symm)
      isplitl [Hcmown Ha_0]
      · isplitl [Hcmown]; · iexact Hcmown
        iexact Ha_0
      iexact Hxs4
    isplitl [Hsm49]
    · iexact Hsm49
    isplitl [Hxs5]
    · iexists _; iexact Hxs5
    isplitl [Hx4]
    · iexact Hx4
    isplitl [Hst1]
    · iexact Hst1
    iexact Hx5
  simp only [↓dif_neg (own_n4 hj4), ↓dif_pos (snd_y4 hj4), Prog.lift, Prog.bind_op, Prog.bind_ret, Prog.pure_eq_ret, Prog.bind_assoc]
  iintro ⟨#HC, Hsm48, How, ⟨%fHxs4, Hxs4⟩, Hx6, Hslab4, Hsm49, ⟨%fHxs5, Hxs5⟩⟩ Hk
  iapply (wt_x I c 48 iprop(stP c 0 (pl3 (xb I c 4)) ∗ xP c 4 (I.X c)) 4 rfl (s1 rfl) cr_st) $$ [Hsm48 How]
  · isplitr; · iexact HC
    isplitl [Hsm48]; · iexact Hsm48
    iexact How
  iintro ⟨⟨Hst0, Hx4⟩, Hsm48, How⟩
  iapply (ld_st c 0 (xb I c 4) rfl) $$ [Hst0]
  · iexact Hst0
  iintro Hst0
  iapply (ldd_xs c 4 rfl) $$ [Hxs4]
  · iexact Hxs4
  iintro Hxs4
  iexists _
  isplitr
  · ipureintro; intro _; rfl
  iapply (st_xs I c 4 rfl rfl) $$ [Hxs4]
  · iexact Hxs4
  iintro Hxs4
  iapply (cp_x I c 6 0 48 rfl rfl (s1 rfl)) $$ [Hx6 Hst0 Hsm48]
  · isplitl [Hx6]; · iexact Hx6
    isplitl [Hst0]; · iexact Hst0
    iexact Hsm48
  iintro Hsm48
  ihave Hslab4 := (Entails.of_eq ((Pre_oth hj4).trans (Mid_oth (I := I) hj4).symm)) $$ Hslab4
  ihave Hopen := (Entails.of_eq (Mid_oth hj4)) $$ Hslab4
  icases Hopen with ⟨Hq1, Hq2, Hq3⟩
  iapply (snd_op I c 3 (dv 4) (by rfl) (fun h => hj4 h.symm) _ (Fin.ext k0_dev12_eq) rfl (k0_off15_eq c) (s1 rfl) (s1 (k0_off14_eq c))) $$ [Hxs4 Hq1 How Hq2 Hq3]
  · isplitr; · iexact HC
    isplitl [Hxs4]; · iexact Hxs4
    isplitl [Hq1]; · iexact Hq1
    isplitl [How]; · iexact How
    isplitl [Hq2]; · iexact Hq2
    iexact Hq3
  iintro ⟨Hq4, How⟩
  ihave Hslab4 := (Entails.of_eq (Pst_oth (I := I) hj4).symm) $$ Hq4
  iapply (wt_x I c 49 iprop(stP c 1 (pl3 (xb I c 5)) ∗ xP c 5 (I.X c)) 3 rfl (s1 rfl) cr_st) $$ [Hsm49 How]
  · isplitr; · iexact HC
    isplitl [Hsm49]; · iexact Hsm49
    iexact How
  iintro ⟨⟨Hst1, Hx5⟩, Hsm49, How⟩
  iapply (ld_st c 1 (xb I c 5) rfl) $$ [Hst1]
  · iexact Hst1
  iintro Hst1
  iapply (ldd_xs c 5 rfl) $$ [Hxs5]
  · iexact Hxs5
  iintro Hxs5
  iexists _
  isplitr
  · ipureintro; intro _; rfl
  iapply (WP_ret c)
  iapply Hk
  isplitl [Hsm48]
  · iexact Hsm48
  isplitl [How]
  · iexact How
  isplitl [Hslab4]
  · iexact Hslab4
  isplitl [Hsm49]
  · iexact Hsm49
  isplitl [Hxs5]
  · iexists _; iexact Hxs5
  isplitl [Hx4]
  · iexact Hx4
  isplitl [Hst1]
  · iexact Hst1
  iexact Hx5

/-- Part 7 of the body. -/
theorem pr7 (I : Inp F) (c : Dev nD) (i : grid0.Coords) (v2 : BitVec 32) (k0_h1 : k0_cond1 i = 1#1)
    {α : Type} {Q : α → sProp 𝕄} {K : (Σ' (v204 : BitVec 32), BitVec 32) → Prog (TpuEff nD τ sig (Elt F) Λ₀ .tc) α} :
    iprop(ctx I ∗ (∃ f, xsP c 5 f) ∗ xP c 7 (I.X c) ∗ stP c 1 (pl3 (xb I c 5)) ∗ sm0 c 49 ∗ Pre c (dv 5) ∗ ow c (OS c 3) ∗ Fly c 48 iprop(stP c 0 (pl3 (xb I c 6)) ∗ xP c 6 (I.X c)) ∗ (∃ f, xsP c 6 f) ∗ Pre c (dv 6) : sProp 𝕄)
      ⊢ iprop((∀ r q, (Fly c 49 iprop(stP c 1 (pl3 (xb I c 7)) ∗ xP c 7 (I.X c)) ∗ Pst I c (dv 5) ∗ ow c (OS c 2) ∗ sm0 c 48 ∗ xsP c 6 (xsF I c) ∗ Mid I c (dv 6) ∗ stP c 0 (pl3 (xb I c 6)) ∗ xP c 6 (I.X c)) -∗ WP c (K ⟨r, q⟩) Q)
        -∗ WP c (k0_part7 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 (k0_pay21 (pl3 (xb I c 5))) >>= K) Q) := by
  rw [WP_bind, k0_part7_eq_skeleton]; unfold k0_part7_skel
  by_cases hj5 : c = dv 5
  · have hj6 : ¬ c = dv 6 := by rw [hj5]; decide
    simp only [↓dif_pos (own_y5 hj5), ↓dif_neg (snd_n5 hj5), ↓dif_neg (own_n6 hj6), Prog.lift, Prog.bind_op, Prog.bind_ret, Prog.pure_eq_ret, Prog.bind_assoc]
    iintro ⟨#HC, ⟨%fHxs5, Hxs5⟩, Hx7, Hst1, Hsm49, Hslab5, How, Hsm48, ⟨%fHxs6, Hxs6⟩, Hslab6⟩ Hk
    iapply (st_xs I c 5 rfl rfl) $$ [Hxs5]
    · iexact Hxs5
    iintro Hxs5
    iapply (cp_x I c 7 1 49 rfl rfl (s1 rfl)) $$ [Hx7 Hst1 Hsm49]
    · isplitl [Hx7]; · iexact Hx7
      isplitl [Hst1]; · iexact Hst1
      iexact Hsm49
    iintro Hsm49
    ihave Hopen := (Entails.of_eq (Pre_own hj5)) $$ Hslab5
    icases Hopen with ⟨⟨%fHcmown, Hcmown⟩, ⟨%fHa_0, Ha_0⟩⟩
    iapply (ld_xs I c 5 rfl) $$ [Hxs5]
    · iexact Hxs5
    iintro Hxs5
    iapply (ldd_cm c (c : ℕ) (k0_off16_eq c)) $$ [Hcmown]
    · iexact Hcmown
    iintro Hcmown
    iexists _
    isplitr
    · ipureintro; intro _; rfl
    iapply (st_cm I c (c : ℕ) (show (c : ℕ) < 8 from c.isLt) (k0_off16_eq c) (slot_own hj5 (by decide))) $$ [Hcmown]
    · iexact Hcmown
    iintro Hcmown
    iapply (ld_cm I c (c : ℕ) (show (c : ℕ) < 8 from c.isLt) (k0_off16_eq c)) $$ [Hcmown]
    · iexact Hcmown
    iintro Hcmown
    iapply (ldd_a c 0 rfl) $$ [Ha_0]
    · iexact Ha_0
    iintro Ha_0
    iexists _
    isplitr
    · ipureintro; intro _; rfl
    iapply (st_a I c 0 rfl rfl) $$ [Ha_0]
    · iexact Ha_0
    iintro Ha_0
    ihave How := (Entails.of_eq (OS_own (k := 2) hj5 (by rfl))) $$ How
    iapply (wt_x I c 48 iprop(stP c 0 (pl3 (xb I c 6)) ∗ xP c 6 (I.X c)) 2 rfl (s1 rfl) cr_st) $$ [Hsm48 How]
    · isplitr; · iexact HC
      isplitl [Hsm48]; · iexact Hsm48
      iexact How
    iintro ⟨⟨Hst0, Hx6⟩, Hsm48, How⟩
    iapply (ld_st c 0 (xb I c 6) rfl) $$ [Hst0]
    · iexact Hst0
    iintro Hst0
    iapply (ldd_xs c 6 rfl) $$ [Hxs6]
    · iexact Hxs6
    iintro Hxs6
    iexists _
    isplitr
    · ipureintro; intro _; rfl
    iapply (st_xs I c 6 rfl rfl) $$ [Hxs6]
    · iexact Hxs6
    iintro Hxs6
    ihave Hslab6 := (Entails.of_eq ((Pre_oth hj6).trans (Mid_oth (I := I) hj6).symm)) $$ Hslab6
    iapply (WP_ret c)
    iapply Hk
    isplitl [Hsm49]
    · iexact Hsm49
    isplitl [Hcmown Ha_0 Hxs5]
    · iapply (Entails.of_eq (Pst_own (I := I) hj5).symm)
      isplitl [Hcmown Ha_0]
      · isplitl [Hcmown]; · iexact Hcmown
        iexact Ha_0
      iexact Hxs5
    isplitl [How]
    · iexact How
    isplitl [Hsm48]
    · iexact Hsm48
    isplitl [Hxs6]
    · iexact Hxs6
    isplitl [Hslab6]
    · iexact Hslab6
    isplitl [Hst0]
    · iexact Hst0
    iexact Hx6
  by_cases hj6 : c = dv 6
  · simp only [↓dif_neg (own_n5 hj5), ↓dif_pos (snd_y5 hj5), ↓dif_pos (own_y6 hj6), Prog.lift, Prog.bind_op, Prog.bind_ret, Prog.pure_eq_ret, Prog.bind_assoc]
    iintro ⟨#HC, ⟨%fHxs5, Hxs5⟩, Hx7, Hst1, Hsm49, Hslab5, How, Hsm48, ⟨%fHxs6, Hxs6⟩, Hslab6⟩ Hk
    iapply (st_xs I c 5 rfl rfl) $$ [Hxs5]
    · iexact Hxs5
    iintro Hxs5
    iapply (cp_x I c 7 1 49 rfl rfl (s1 rfl)) $$ [Hx7 Hst1 Hsm49]
    · isplitl [Hx7]; · iexact Hx7
      isplitl [Hst1]; · iexact Hst1
      iexact Hsm49
    iintro Hsm49
    ihave Hslab5 := (Entails.of_eq ((Pre_oth hj5).trans (Mid_oth (I := I) hj5).symm)) $$ Hslab5
    ihave Hopen := (Entails.of_eq (Mid_oth hj5)) $$ Hslab5
    icases Hopen with ⟨Hq1, Hq2, Hq3⟩
    iapply (snd_op I c 2 (dv 5) (by rfl) (fun h => hj5 h.symm) _ (Fin.ext k0_dev13_eq) rfl (k0_off18_eq c) (s1 rfl) (s1 (k0_off17_eq c))) $$ [Hxs5 Hq1 How Hq2 Hq3]
    · isplitr; · iexact HC
      isplitl [Hxs5]; · iexact Hxs5
      isplitl [Hq1]; · iexact Hq1
      isplitl [How]; · iexact How
      isplitl [Hq2]; · iexact Hq2
      iexact Hq3
    iintro ⟨Hq4, How⟩
    ihave Hslab5 := (Entails.of_eq (Pst_oth (I := I) hj5).symm) $$ Hq4
    iapply (wt_x I c 48 iprop(stP c 0 (pl3 (xb I c 6)) ∗ xP c 6 (I.X c)) 2 rfl (s1 rfl) cr_st) $$ [Hsm48 How]
    · isplitr; · iexact HC
      isplitl [Hsm48]; · iexact Hsm48
      iexact How
    iintro ⟨⟨Hst0, Hx6⟩, Hsm48, How⟩
    iapply (ld_st c 0 (xb I c 6) rfl) $$ [Hst0]
    · iexact Hst0
    iintro Hst0
    iapply (ldd_xs c 6 rfl) $$ [Hxs6]
    · iexact Hxs6
    iintro Hxs6
    iexists _
    isplitr
    · ipureintro; intro _; rfl
    iapply (st_xs I c 6 rfl rfl) $$ [Hxs6]
    · iexact Hxs6
    iintro Hxs6
    ihave Hopen := (Entails.of_eq (Pre_own hj6)) $$ Hslab6
    icases Hopen with ⟨⟨%fHcmown, Hcmown⟩, ⟨%fHa_0, Ha_0⟩⟩
    iapply (ld_xs I c 6 rfl) $$ [Hxs6]
    · iexact Hxs6
    iintro Hxs6
    iapply (ldd_cm c (c : ℕ) (k0_off19_eq c)) $$ [Hcmown]
    · iexact Hcmown
    iintro Hcmown
    iexists _
    isplitr
    · ipureintro; intro _; rfl
    iapply (st_cm I c (c : ℕ) (show (c : ℕ) < 8 from c.isLt) (k0_off19_eq c) (slot_own hj6 (by decide))) $$ [Hcmown]
    · iexact Hcmown
    iintro Hcmown
    iapply (ld_cm I c (c : ℕ) (show (c : ℕ) < 8 from c.isLt) (k0_off19_eq c)) $$ [Hcmown]
    · iexact Hcmown
    iintro Hcmown
    iapply (ldd_a c 0 rfl) $$ [Ha_0]
    · iexact Ha_0
    iintro Ha_0
    iexists _
    isplitr
    · ipureintro; intro _; rfl
    iapply (st_a I c 0 rfl rfl) $$ [Ha_0]
    · iexact Ha_0
    iintro Ha_0
    iapply (WP_ret c)
    iapply Hk
    isplitl [Hsm49]
    · iexact Hsm49
    isplitl [Hslab5]
    · iexact Hslab5
    isplitl [How]
    · iexact How
    isplitl [Hsm48]
    · iexact Hsm48
    isplitl [Hxs6]
    · iexact Hxs6
    isplitl [Hcmown Ha_0]
    · iapply (Entails.of_eq (Mid_own (I := I) hj6).symm)
      isplitl [Hcmown]; · iexact Hcmown
      iexact Ha_0
    isplitl [Hst0]
    · iexact Hst0
    iexact Hx6
  simp only [↓dif_neg (own_n5 hj5), ↓dif_pos (snd_y5 hj5), ↓dif_neg (own_n6 hj6), Prog.lift, Prog.bind_op, Prog.bind_ret, Prog.pure_eq_ret, Prog.bind_assoc]
  iintro ⟨#HC, ⟨%fHxs5, Hxs5⟩, Hx7, Hst1, Hsm49, Hslab5, How, Hsm48, ⟨%fHxs6, Hxs6⟩, Hslab6⟩ Hk
  iapply (st_xs I c 5 rfl rfl) $$ [Hxs5]
  · iexact Hxs5
  iintro Hxs5
  iapply (cp_x I c 7 1 49 rfl rfl (s1 rfl)) $$ [Hx7 Hst1 Hsm49]
  · isplitl [Hx7]; · iexact Hx7
    isplitl [Hst1]; · iexact Hst1
    iexact Hsm49
  iintro Hsm49
  ihave Hslab5 := (Entails.of_eq ((Pre_oth hj5).trans (Mid_oth (I := I) hj5).symm)) $$ Hslab5
  ihave Hopen := (Entails.of_eq (Mid_oth hj5)) $$ Hslab5
  icases Hopen with ⟨Hq1, Hq2, Hq3⟩
  iapply (snd_op I c 2 (dv 5) (by rfl) (fun h => hj5 h.symm) _ (Fin.ext k0_dev13_eq) rfl (k0_off18_eq c) (s1 rfl) (s1 (k0_off17_eq c))) $$ [Hxs5 Hq1 How Hq2 Hq3]
  · isplitr; · iexact HC
    isplitl [Hxs5]; · iexact Hxs5
    isplitl [Hq1]; · iexact Hq1
    isplitl [How]; · iexact How
    isplitl [Hq2]; · iexact Hq2
    iexact Hq3
  iintro ⟨Hq4, How⟩
  ihave Hslab5 := (Entails.of_eq (Pst_oth (I := I) hj5).symm) $$ Hq4
  iapply (wt_x I c 48 iprop(stP c 0 (pl3 (xb I c 6)) ∗ xP c 6 (I.X c)) 2 rfl (s1 rfl) cr_st) $$ [Hsm48 How]
  · isplitr; · iexact HC
    isplitl [Hsm48]; · iexact Hsm48
    iexact How
  iintro ⟨⟨Hst0, Hx6⟩, Hsm48, How⟩
  iapply (ld_st c 0 (xb I c 6) rfl) $$ [Hst0]
  · iexact Hst0
  iintro Hst0
  iapply (ldd_xs c 6 rfl) $$ [Hxs6]
  · iexact Hxs6
  iintro Hxs6
  iexists _
  isplitr
  · ipureintro; intro _; rfl
  iapply (st_xs I c 6 rfl rfl) $$ [Hxs6]
  · iexact Hxs6
  iintro Hxs6
  ihave Hslab6 := (Entails.of_eq ((Pre_oth hj6).trans (Mid_oth (I := I) hj6).symm)) $$ Hslab6
  iapply (WP_ret c)
  iapply Hk
  isplitl [Hsm49]
  · iexact Hsm49
  isplitl [Hslab5]
  · iexact Hslab5
  isplitl [How]
  · iexact How
  isplitl [Hsm48]
  · iexact Hsm48
  isplitl [Hxs6]
  · iexact Hxs6
  isplitl [Hslab6]
  · iexact Hslab6
  isplitl [Hst0]
  · iexact Hst0
  iexact Hx6

/-- Part 8 of the body. -/
theorem pr8 (I : Inp F) (c : Dev nD) (i : grid0.Coords) (v2 : BitVec 32) (k0_h1 : k0_cond1 i = 1#1) (v204 : BitVec 32) (c0_i32_174 : BitVec 32)
    {α : Type} {Q : α → sProp 𝕄} {K : (PUnit) → Prog (TpuEff nD τ sig (Elt F) Λ₀ .tc) α} :
    iprop(ctx I ∗ Mid I c (dv 6) ∗ ow c (OS c 2) ∗ xsP c 6 (xsF I c) ∗ Fly c 49 iprop(stP c 1 (pl3 (xb I c 7)) ∗ xP c 7 (I.X c)) ∗ (∃ f, xsP c 7 f) ∗ Pre c (dv 7) ∗ wP c (c : ℕ) 0 (I.W c) ∗ (∃ f, waP c 0 f) ∗ sm0 c 18 : sProp 𝕄)
      ⊢ iprop(((Pst I c (dv 6) ∗ ow c (OS c 0) ∗ sm0 c 49 ∗ Pst I c (dv 7) ∗ Fly c 18 iprop(waP c 0 (pl3 (wblk I c (c : ℕ) 0)) ∗ wP c (c : ℕ) 0 (I.W c)) ∗ stP c 1 (pl3 (xb I c 7)) ∗ xP c 7 (I.X c)) -∗ WP c (K ⟨⟩) Q)
        -∗ WP c (k0_part8 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 v204 c0_i32_174 >>= K) Q) := by
  rw [WP_bind, k0_part8_eq_skeleton]; unfold k0_part8_skel
  by_cases hj6 : c = dv 6
  · have hj7 : ¬ c = dv 7 := by rw [hj6]; decide
    simp only [↓dif_neg (snd_n6 hj6), ↓dif_neg (own_n7 hj7), ↓dif_pos (snd_y7 hj7), Prog.lift, Prog.bind_op, Prog.bind_ret, Prog.pure_eq_ret, Prog.bind_assoc]
    iintro ⟨#HC, Hslab6, How, Hxs6, Hsm49, ⟨%fHxs7, Hxs7⟩, Hslab7, Hwo_0, ⟨%fHwa0, Hwa0⟩, Hsm18⟩ Hk
    ihave How := (Entails.of_eq (OS_own (k := 1) hj6 (by rfl))) $$ How
    ihave Hopen := (Entails.of_eq (Mid_own hj6)) $$ Hslab6
    icases Hopen with ⟨Hcmown, Ha_0⟩
    iapply (wt_x I c 49 iprop(stP c 1 (pl3 (xb I c 7)) ∗ xP c 7 (I.X c)) 1 rfl (s1 rfl) cr_st) $$ [Hsm49 How]
    · isplitr; · iexact HC
      isplitl [Hsm49]; · iexact Hsm49
      iexact How
    iintro ⟨⟨Hst1, Hx7⟩, Hsm49, How⟩
    iapply (ld_st c 1 (xb I c 7) rfl) $$ [Hst1]
    · iexact Hst1
    iintro Hst1
    iapply (ldd_xs c 7 rfl) $$ [Hxs7]
    · iexact Hxs7
    iintro Hxs7
    iexists _
    isplitr
    · ipureintro; intro _; rfl
    iapply (st_xs I c 7 rfl rfl) $$ [Hxs7]
    · iexact Hxs7
    iintro Hxs7
    ihave Hslab7 := (Entails.of_eq ((Pre_oth hj7).trans (Mid_oth (I := I) hj7).symm)) $$ Hslab7
    ihave Hopen := (Entails.of_eq (Mid_oth hj7)) $$ Hslab7
    icases Hopen with ⟨Hq1, Hq2, Hq3⟩
    iapply (snd_op I c 0 (dv 7) (by rfl) (fun h => hj7 h.symm) _ (Fin.ext k0_dev15_eq) rfl (k0_off24_eq c) (s1 rfl) (s1 (k0_off23_eq c))) $$ [Hxs7 Hq1 How Hq2 Hq3]
    · isplitr; · iexact HC
      isplitl [Hxs7]; · iexact Hxs7
      isplitl [Hq1]; · iexact Hq1
      isplitl [How]; · iexact How
      isplitl [Hq2]; · iexact Hq2
      iexact Hq3
    iintro ⟨Hq4, How⟩
    ihave Hslab7 := (Entails.of_eq (Pst_oth (I := I) hj7).symm) $$ Hq4
    iapply (cp_wa I c (c : ℕ) 0 0 18 (k0_off27_eq c) (k0_off26_eq 0) (s1 (k0_off25_eq 0))) $$ [Hwo_0 Hwa0 Hsm18]
    · isplitl [Hwo_0]; · iexact Hwo_0
      isplitl [Hwa0]; · iexact Hwa0
      iexact Hsm18
    iintro Hsm18
    iapply (WP_ret c)
    iapply Hk
    isplitl [Hcmown Ha_0 Hxs6]
    · iapply (Entails.of_eq (Pst_own (I := I) hj6).symm)
      isplitl [Hcmown Ha_0]
      · isplitl [Hcmown]; · iexact Hcmown
        iexact Ha_0
      iexact Hxs6
    isplitl [How]
    · iexact How
    isplitl [Hsm49]
    · iexact Hsm49
    isplitl [Hslab7]
    · iexact Hslab7
    isplitl [Hsm18]
    · iexact Hsm18
    isplitl [Hst1]
    · iexact Hst1
    iexact Hx7
  by_cases hj7 : c = dv 7
  · simp only [↓dif_pos (snd_y6 hj6), ↓dif_pos (own_y7 hj7), ↓dif_neg (snd_n7 hj7), Prog.lift, Prog.bind_op, Prog.bind_ret, Prog.pure_eq_ret, Prog.bind_assoc]
    iintro ⟨#HC, Hslab6, How, Hxs6, Hsm49, ⟨%fHxs7, Hxs7⟩, Hslab7, Hwo_0, ⟨%fHwa0, Hwa0⟩, Hsm18⟩ Hk
    ihave Hopen := (Entails.of_eq (Mid_oth hj6)) $$ Hslab6
    icases Hopen with ⟨Hq1, Hq2, Hq3⟩
    iapply (snd_op I c 1 (dv 6) (by rfl) (fun h => hj6 h.symm) _ (Fin.ext k0_dev14_eq) rfl (k0_off21_eq c) (s1 rfl) (s1 (k0_off20_eq c))) $$ [Hxs6 Hq1 How Hq2 Hq3]
    · isplitr; · iexact HC
      isplitl [Hxs6]; · iexact Hxs6
      isplitl [Hq1]; · iexact Hq1
      isplitl [How]; · iexact How
      isplitl [Hq2]; · iexact Hq2
      iexact Hq3
    iintro ⟨Hq4, How⟩
    ihave Hslab6 := (Entails.of_eq (Pst_oth (I := I) hj6).symm) $$ Hq4
    iapply (wt_x I c 49 iprop(stP c 1 (pl3 (xb I c 7)) ∗ xP c 7 (I.X c)) 1 rfl (s1 rfl) cr_st) $$ [Hsm49 How]
    · isplitr; · iexact HC
      isplitl [Hsm49]; · iexact Hsm49
      iexact How
    iintro ⟨⟨Hst1, Hx7⟩, Hsm49, How⟩
    iapply (ld_st c 1 (xb I c 7) rfl) $$ [Hst1]
    · iexact Hst1
    iintro Hst1
    iapply (ldd_xs c 7 rfl) $$ [Hxs7]
    · iexact Hxs7
    iintro Hxs7
    iexists _
    isplitr
    · ipureintro; intro _; rfl
    iapply (st_xs I c 7 rfl rfl) $$ [Hxs7]
    · iexact Hxs7
    iintro Hxs7
    ihave Hopen := (Entails.of_eq (Pre_own hj7)) $$ Hslab7
    icases Hopen with ⟨⟨%fHcmown, Hcmown⟩, ⟨%fHa_0, Ha_0⟩⟩
    iapply (ld_xs I c 7 rfl) $$ [Hxs7]
    · iexact Hxs7
    iintro Hxs7
    iapply (ldd_cm c (c : ℕ) (k0_off22_eq c)) $$ [Hcmown]
    · iexact Hcmown
    iintro Hcmown
    iexists _
    isplitr
    · ipureintro; intro _; rfl
    iapply (st_cm I c (c : ℕ) (show (c : ℕ) < 8 from c.isLt) (k0_off22_eq c) (slot_own hj7 (by decide))) $$ [Hcmown]
    · iexact Hcmown
    iintro Hcmown
    iapply (ld_cm I c (c : ℕ) (show (c : ℕ) < 8 from c.isLt) (k0_off22_eq c)) $$ [Hcmown]
    · iexact Hcmown
    iintro Hcmown
    iapply (ldd_a c 0 rfl) $$ [Ha_0]
    · iexact Ha_0
    iintro Ha_0
    iexists _
    isplitr
    · ipureintro; intro _; rfl
    iapply (st_a I c 0 rfl rfl) $$ [Ha_0]
    · iexact Ha_0
    iintro Ha_0
    ihave How := (Entails.of_eq (OS_own (k := 0) hj7 (by rfl))) $$ How
    iapply (cp_wa I c (c : ℕ) 0 0 18 (k0_off27_eq c) (k0_off26_eq 0) (s1 (k0_off25_eq 0))) $$ [Hwo_0 Hwa0 Hsm18]
    · isplitl [Hwo_0]; · iexact Hwo_0
      isplitl [Hwa0]; · iexact Hwa0
      iexact Hsm18
    iintro Hsm18
    iapply (WP_ret c)
    iapply Hk
    isplitl [Hslab6]
    · iexact Hslab6
    isplitl [How]
    · iexact How
    isplitl [Hsm49]
    · iexact Hsm49
    isplitl [Hcmown Ha_0 Hxs7]
    · iapply (Entails.of_eq (Pst_own (I := I) hj7).symm)
      isplitl [Hcmown Ha_0]
      · isplitl [Hcmown]; · iexact Hcmown
        iexact Ha_0
      iexact Hxs7
    isplitl [Hsm18]
    · iexact Hsm18
    isplitl [Hst1]
    · iexact Hst1
    iexact Hx7
  simp only [↓dif_pos (snd_y6 hj6), ↓dif_neg (own_n7 hj7), ↓dif_pos (snd_y7 hj7), Prog.lift, Prog.bind_op, Prog.bind_ret, Prog.pure_eq_ret, Prog.bind_assoc]
  iintro ⟨#HC, Hslab6, How, Hxs6, Hsm49, ⟨%fHxs7, Hxs7⟩, Hslab7, Hwo_0, ⟨%fHwa0, Hwa0⟩, Hsm18⟩ Hk
  ihave Hopen := (Entails.of_eq (Mid_oth hj6)) $$ Hslab6
  icases Hopen with ⟨Hq1, Hq2, Hq3⟩
  iapply (snd_op I c 1 (dv 6) (by rfl) (fun h => hj6 h.symm) _ (Fin.ext k0_dev14_eq) rfl (k0_off21_eq c) (s1 rfl) (s1 (k0_off20_eq c))) $$ [Hxs6 Hq1 How Hq2 Hq3]
  · isplitr; · iexact HC
    isplitl [Hxs6]; · iexact Hxs6
    isplitl [Hq1]; · iexact Hq1
    isplitl [How]; · iexact How
    isplitl [Hq2]; · iexact Hq2
    iexact Hq3
  iintro ⟨Hq4, How⟩
  ihave Hslab6 := (Entails.of_eq (Pst_oth (I := I) hj6).symm) $$ Hq4
  iapply (wt_x I c 49 iprop(stP c 1 (pl3 (xb I c 7)) ∗ xP c 7 (I.X c)) 1 rfl (s1 rfl) cr_st) $$ [Hsm49 How]
  · isplitr; · iexact HC
    isplitl [Hsm49]; · iexact Hsm49
    iexact How
  iintro ⟨⟨Hst1, Hx7⟩, Hsm49, How⟩
  iapply (ld_st c 1 (xb I c 7) rfl) $$ [Hst1]
  · iexact Hst1
  iintro Hst1
  iapply (ldd_xs c 7 rfl) $$ [Hxs7]
  · iexact Hxs7
  iintro Hxs7
  iexists _
  isplitr
  · ipureintro; intro _; rfl
  iapply (st_xs I c 7 rfl rfl) $$ [Hxs7]
  · iexact Hxs7
  iintro Hxs7
  ihave Hslab7 := (Entails.of_eq ((Pre_oth hj7).trans (Mid_oth (I := I) hj7).symm)) $$ Hslab7
  ihave Hopen := (Entails.of_eq (Mid_oth hj7)) $$ Hslab7
  icases Hopen with ⟨Hq1, Hq2, Hq3⟩
  iapply (snd_op I c 0 (dv 7) (by rfl) (fun h => hj7 h.symm) _ (Fin.ext k0_dev15_eq) rfl (k0_off24_eq c) (s1 rfl) (s1 (k0_off23_eq c))) $$ [Hxs7 Hq1 How Hq2 Hq3]
  · isplitr; · iexact HC
    isplitl [Hxs7]; · iexact Hxs7
    isplitl [Hq1]; · iexact Hq1
    isplitl [How]; · iexact How
    isplitl [Hq2]; · iexact Hq2
    iexact Hq3
  iintro ⟨Hq4, How⟩
  ihave Hslab7 := (Entails.of_eq (Pst_oth (I := I) hj7).symm) $$ Hq4
  iapply (cp_wa I c (c : ℕ) 0 0 18 (k0_off27_eq c) (k0_off26_eq 0) (s1 (k0_off25_eq 0))) $$ [Hwo_0 Hwa0 Hsm18]
  · isplitl [Hwo_0]; · iexact Hwo_0
    isplitl [Hwa0]; · iexact Hwa0
    iexact Hsm18
  iintro Hsm18
  iapply (WP_ret c)
  iapply Hk
  isplitl [Hslab6]
  · iexact Hslab6
  isplitl [How]
  · iexact How
  isplitl [Hsm49]
  · iexact Hsm49
  isplitl [Hslab7]
  · iexact Hslab7
  isplitl [Hsm18]
  · iexact Hsm18
  isplitl [Hst1]
  · iexact Hst1
  iexact Hx7

end Cert.KProof
-- ==== Proof.PartsB.lean ====
/-
The parts of the body at the first step: the first copies of the weights
-/
module

public import proofs.«01_k».proof.Proof.Pieces

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- Part 9 of the body. -/
theorem pr9 (I : Inp F) (c : Dev nD) (i : grid0.Coords) (v2 : BitVec 32) (k0_h1 : k0_cond1 i = 1#1)
    {α : Type} {Q : α → sProp 𝕄} {K : (BitVec 32) → Prog (TpuEff nD τ sig (Elt F) Λ₀ .tc) α} :
    iprop(ctx I ∗ wP c (c : ℕ) 1 (I.W c) ∗ (∃ f, waP c 1 f) ∗ sm0 c 19 ∗ wP c (dv (c + 0 + 1) : ℕ) 0 (I.W c) ∗ (∃ f, wbP c 0 0 f) ∗ sm0 c 20 ∗ wP c (dv (c + 1 + 1) : ℕ) 0 (I.W c) ∗ (∃ f, wbP c 0 1 f) ∗ sm0 c 21 : sProp 𝕄)
      ⊢ iprop((∀ r, (Fly c 19 iprop(waP c 1 (pl3 (wblk I c (c : ℕ) 1)) ∗ wP c (c : ℕ) 1 (I.W c)) ∗ Fly c 20 iprop(wbP c 0 0 (wbF I c 0) ∗ wP c (dv (c + 0 + 1) : ℕ) 0 (I.W c)) ∗ Fly c 21 iprop(wbP c 0 1 (wbF I c 0) ∗ wP c (dv (c + 1 + 1) : ℕ) 0 (I.W c))) -∗ WP c (K r) Q)
        -∗ WP c (k0_part9 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 >>= K) Q) := by
  rw [WP_bind, k0_part9_eq_skeleton]; unfold k0_part9_skel
  simp only [Prog.lift, Prog.bind_op, Prog.bind_ret, Prog.pure_eq_ret, Prog.bind_assoc]
  iintro ⟨#HC, Hwo_1, ⟨%fHwa1, Hwa1⟩, Hsm19, Hwr0_0, ⟨%fHwb0_0, Hwb0_0⟩, Hsm20, Hwr1_0, ⟨%fHwb0_1, Hwb0_1⟩, Hsm21⟩ Hk
  iapply (cp_wa I c (c : ℕ) 1 1 19 (k0_off28_eq c) (k0_off26_eq 1) (s1 (k0_off25_eq 1))) $$ [Hwo_1 Hwa1 Hsm19]
  · isplitl [Hwo_1]; · iexact Hwo_1
    isplitl [Hwa1]; · iexact Hwa1
    iexact Hsm19
  iintro Hsm19
  iapply (cp_wb I c (dv (c + 0 + 1) : ℕ) 0 0 0 rfl 20 (k0_off31_eq c 0) (k0_off30_eq 0) (s2 (k0_off29_eq 0))) $$ [Hwr0_0 Hwb0_0 Hsm20]
  · isplitl [Hwr0_0]; · iexact Hwr0_0
    isplitl [Hwb0_0]; · iexact Hwb0_0
    iexact Hsm20
  iintro Hsm20
  iapply (cp_wb I c (dv (c + 1 + 1) : ℕ) 0 0 1 rfl 21 (k0_off31_eq c 1) (k0_off33_eq 0) (s2 (k0_off32_eq 0))) $$ [Hwr1_0 Hwb0_1 Hsm21]
  · isplitl [Hwr1_0]; · iexact Hwr1_0
    isplitl [Hwb0_1]; · iexact Hwb0_1
    iexact Hsm21
  iintro Hsm21
  iapply (WP_ret c)
  iapply Hk
  isplitl [Hsm19]
  · iexact Hsm19
  isplitl [Hsm20]
  · iexact Hsm20
  iexact Hsm21

/-- Part 10 of the body. -/
theorem pr10 (I : Inp F) (c : Dev nD) (i : grid0.Coords) (v2 : BitVec 32) (k0_h1 : k0_cond1 i = 1#1) (v261 : BitVec 32)
    {α : Type} {Q : α → sProp 𝕄} {K : (Σ' (v289 : BitVec 32), BitVec 32) → Prog (TpuEff nD τ sig (Elt F) Λ₀ .tc) α} :
    iprop(ctx I ∗ wP c (dv (c + 2 + 1) : ℕ) 0 (I.W c) ∗ (∃ f, wbP c 0 2 f) ∗ sm0 c 22 ∗ wP c (dv (c + 3 + 1) : ℕ) 0 (I.W c) ∗ (∃ f, wbP c 0 3 f) ∗ sm0 c 23 ∗ wP c (dv (c + 4 + 1) : ℕ) 0 (I.W c) ∗ (∃ f, wbP c 0 4 f) ∗ sm0 c 24 : sProp 𝕄)
      ⊢ iprop((∀ r q, (Fly c 22 iprop(wbP c 0 2 (wbF I c 0) ∗ wP c (dv (c + 2 + 1) : ℕ) 0 (I.W c)) ∗ Fly c 23 iprop(wbP c 0 3 (wbF I c 0) ∗ wP c (dv (c + 3 + 1) : ℕ) 0 (I.W c)) ∗ Fly c 24 iprop(wbP c 0 4 (wbF I c 0) ∗ wP c (dv (c + 4 + 1) : ℕ) 0 (I.W c))) -∗ WP c (K ⟨r, q⟩) Q)
        -∗ WP c (k0_part10 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 v261 >>= K) Q) := by
  rw [WP_bind, k0_part10_eq_skeleton]; unfold k0_part10_skel
  simp only [Prog.lift, Prog.bind_op, Prog.bind_ret, Prog.pure_eq_ret, Prog.bind_assoc]
  iintro ⟨#HC, Hwr2_0, ⟨%fHwb0_2, Hwb0_2⟩, Hsm22, Hwr3_0, ⟨%fHwb0_3, Hwb0_3⟩, Hsm23, Hwr4_0, ⟨%fHwb0_4, Hwb0_4⟩, Hsm24⟩ Hk
  iapply (cp_wb I c (dv (c + 2 + 1) : ℕ) 0 0 2 rfl 22 (k0_off31_eq c 2) (k0_off35_eq 0) (s2 (k0_off34_eq 0))) $$ [Hwr2_0 Hwb0_2 Hsm22]
  · isplitl [Hwr2_0]; · iexact Hwr2_0
    isplitl [Hwb0_2]; · iexact Hwb0_2
    iexact Hsm22
  iintro Hsm22
  iapply (cp_wb I c (dv (c + 3 + 1) : ℕ) 0 0 3 rfl 23 (k0_off31_eq c 3) (k0_off37_eq 0) (s2 (k0_off36_eq 0))) $$ [Hwr3_0 Hwb0_3 Hsm23]
  · isplitl [Hwr3_0]; · iexact Hwr3_0
    isplitl [Hwb0_3]; · iexact Hwb0_3
    iexact Hsm23
  iintro Hsm23
  iapply (cp_wb I c (dv (c + 4 + 1) : ℕ) 0 0 4 rfl 24 (k0_off31_eq c 4) (k0_off39_eq 0) (s2 (k0_off38_eq 0))) $$ [Hwr4_0 Hwb0_4 Hsm24]
  · isplitl [Hwr4_0]; · iexact Hwr4_0
    isplitl [Hwb0_4]; · iexact Hwb0_4
    iexact Hsm24
  iintro Hsm24
  iapply (WP_ret c)
  iapply Hk
  isplitl [Hsm22]
  · iexact Hsm22
  isplitl [Hsm23]
  · iexact Hsm23
  iexact Hsm24

/-- Part 11 of the body. -/
theorem pr11 (I : Inp F) (c : Dev nD) (i : grid0.Coords) (v2 : BitVec 32) (k0_h1 : k0_cond1 i = 1#1) (v289 : BitVec 32) (c5_i32_256 : BitVec 32)
    {α : Type} {Q : α → sProp 𝕄} {K : (PUnit) → Prog (TpuEff nD τ sig (Elt F) Λ₀ .tc) α} :
    iprop(ctx I ∗ wP c (dv (c + 5 + 1) : ℕ) 0 (I.W c) ∗ (∃ f, wbP c 0 5 f) ∗ sm0 c 25 ∗ wP c (dv (c + 6 + 1) : ℕ) 0 (I.W c) ∗ (∃ f, wbP c 0 6 f) ∗ sm0 c 26 ∗ wP c (dv (c + 0 + 1) : ℕ) 1 (I.W c) ∗ (∃ f, wbP c 1 0 f) ∗ sm0 c 27 : sProp 𝕄)
      ⊢ iprop(((Fly c 25 iprop(wbP c 0 5 (wbF I c 0) ∗ wP c (dv (c + 5 + 1) : ℕ) 0 (I.W c)) ∗ Fly c 26 iprop(wbP c 0 6 (wbF I c 0) ∗ wP c (dv (c + 6 + 1) : ℕ) 0 (I.W c)) ∗ Fly c 27 iprop(wbP c 1 0 (wbF I c 1) ∗ wP c (dv (c + 0 + 1) : ℕ) 1 (I.W c))) -∗ WP c (K ⟨⟩) Q)
        -∗ WP c (k0_part11 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 v289 c5_i32_256 >>= K) Q) := by
  rw [WP_bind, k0_part11_eq_skeleton]; unfold k0_part11_skel
  simp only [Prog.lift, Prog.bind_op, Prog.bind_ret, Prog.pure_eq_ret, Prog.bind_assoc]
  iintro ⟨#HC, Hwr5_0, ⟨%fHwb0_5, Hwb0_5⟩, Hsm25, Hwr6_0, ⟨%fHwb0_6, Hwb0_6⟩, Hsm26, Hwr0_1, ⟨%fHwb1_0, Hwb1_0⟩, Hsm27⟩ Hk
  iapply (cp_wb I c (dv (c + 5 + 1) : ℕ) 0 0 5 rfl 25 (k0_off31_eq c 5) (k0_off41_eq 0) (s2 (k0_off40_eq 0))) $$ [Hwr5_0 Hwb0_5 Hsm25]
  · isplitl [Hwr5_0]; · iexact Hwr5_0
    isplitl [Hwb0_5]; · iexact Hwb0_5
    iexact Hsm25
  iintro Hsm25
  iapply (cp_wb I c (dv (c + 6 + 1) : ℕ) 0 0 6 rfl 26 (k0_off31_eq c 6) (k0_off43_eq 0) (s2 (k0_off42_eq 0))) $$ [Hwr6_0 Hwb0_6 Hsm26]
  · isplitl [Hwr6_0]; · iexact Hwr6_0
    isplitl [Hwb0_6]; · iexact Hwb0_6
    iexact Hsm26
  iintro Hsm26
  iapply (cp_wb I c (dv (c + 0 + 1) : ℕ) 1 1 0 rfl 27 (k0_off44_eq c 0) (k0_off30_eq 1) (s2 (k0_off29_eq 1))) $$ [Hwr0_1 Hwb1_0 Hsm27]
  · isplitl [Hwr0_1]; · iexact Hwr0_1
    isplitl [Hwb1_0]; · iexact Hwb1_0
    iexact Hsm27
  iintro Hsm27
  iapply (WP_ret c)
  iapply Hk
  isplitl [Hsm25]
  · iexact Hsm25
  isplitl [Hsm26]
  · iexact Hsm26
  iexact Hsm27

/-- Part 12 of the body. -/
theorem pr12 (I : Inp F) (c : Dev nD) (i : grid0.Coords) (v2 : BitVec 32) (k0_h1 : k0_cond1 i = 1#1)
    {α : Type} {Q : α → sProp 𝕄} {K : (PUnit) → Prog (TpuEff nD τ sig (Elt F) Λ₀ .tc) α} :
    iprop(ctx I ∗ wP c (dv (c + 1 + 1) : ℕ) 1 (I.W c) ∗ (∃ f, wbP c 1 1 f) ∗ sm0 c 28 ∗ wP c (dv (c + 2 + 1) : ℕ) 1 (I.W c) ∗ (∃ f, wbP c 1 2 f) ∗ sm0 c 29 : sProp 𝕄)
      ⊢ iprop(((Fly c 28 iprop(wbP c 1 1 (wbF I c 1) ∗ wP c (dv (c + 1 + 1) : ℕ) 1 (I.W c)) ∗ Fly c 29 iprop(wbP c 1 2 (wbF I c 1) ∗ wP c (dv (c + 2 + 1) : ℕ) 1 (I.W c))) -∗ WP c (K ⟨⟩) Q)
        -∗ WP c (k0_part12 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 >>= K) Q) := by
  rw [WP_bind, k0_part12_eq_skeleton]; unfold k0_part12_skel
  simp only [Prog.lift, Prog.bind_op, Prog.bind_ret, Prog.pure_eq_ret, Prog.bind_assoc]
  iintro ⟨#HC, Hwr1_1, ⟨%fHwb1_1, Hwb1_1⟩, Hsm28, Hwr2_1, ⟨%fHwb1_2, Hwb1_2⟩, Hsm29⟩ Hk
  iapply (cp_wb I c (dv (c + 1 + 1) : ℕ) 1 1 1 rfl 28 (k0_off44_eq c 1) (k0_off33_eq 1) (s2 (k0_off32_eq 1))) $$ [Hwr1_1 Hwb1_1 Hsm28]
  · isplitl [Hwr1_1]; · iexact Hwr1_1
    isplitl [Hwb1_1]; · iexact Hwb1_1
    iexact Hsm28
  iintro Hsm28
  iapply (cp_wb I c (dv (c + 2 + 1) : ℕ) 1 1 2 rfl 29 (k0_off44_eq c 2) (k0_off35_eq 1) (s2 (k0_off34_eq 1))) $$ [Hwr2_1 Hwb1_2 Hsm29]
  · isplitl [Hwr2_1]; · iexact Hwr2_1
    isplitl [Hwb1_2]; · iexact Hwb1_2
    iexact Hsm29
  iintro Hsm29
  iapply (WP_ret c)
  iapply Hk
  isplitl [Hsm28]
  · iexact Hsm28
  iexact Hsm29

/-- Part 13 of the body. -/
theorem pr13 (I : Inp F) (c : Dev nD) (i : grid0.Coords) (v2 : BitVec 32) (k0_h1 : k0_cond1 i = 1#1)
    {α : Type} {Q : α → sProp 𝕄} {K : (PUnit) → Prog (TpuEff nD τ sig (Elt F) Λ₀ .tc) α} :
    iprop(ctx I ∗ wP c (dv (c + 3 + 1) : ℕ) 1 (I.W c) ∗ (∃ f, wbP c 1 3 f) ∗ sm0 c 30 ∗ wP c (dv (c + 4 + 1) : ℕ) 1 (I.W c) ∗ (∃ f, wbP c 1 4 f) ∗ sm0 c 31 ∗ wP c (dv (c + 5 + 1) : ℕ) 1 (I.W c) ∗ (∃ f, wbP c 1 5 f) ∗ sm0 c 32 : sProp 𝕄)
      ⊢ iprop(((Fly c 30 iprop(wbP c 1 3 (wbF I c 1) ∗ wP c (dv (c + 3 + 1) : ℕ) 1 (I.W c)) ∗ Fly c 31 iprop(wbP c 1 4 (wbF I c 1) ∗ wP c (dv (c + 4 + 1) : ℕ) 1 (I.W c)) ∗ Fly c 32 iprop(wbP c 1 5 (wbF I c 1) ∗ wP c (dv (c + 5 + 1) : ℕ) 1 (I.W c))) -∗ WP c (K ⟨⟩) Q)
        -∗ WP c (k0_part13 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 >>= K) Q) := by
  rw [WP_bind, k0_part13_eq_skeleton]; unfold k0_part13_skel
  simp only [Prog.lift, Prog.bind_op, Prog.bind_ret, Prog.pure_eq_ret, Prog.bind_assoc]
  iintro ⟨#HC, Hwr3_1, ⟨%fHwb1_3, Hwb1_3⟩, Hsm30, Hwr4_1, ⟨%fHwb1_4, Hwb1_4⟩, Hsm31, Hwr5_1, ⟨%fHwb1_5, Hwb1_5⟩, Hsm32⟩ Hk
  iapply (cp_wb I c (dv (c + 3 + 1) : ℕ) 1 1 3 rfl 30 (k0_off44_eq c 3) (k0_off37_eq 1) (s2 (k0_off36_eq 1))) $$ [Hwr3_1 Hwb1_3 Hsm30]
  · isplitl [Hwr3_1]; · iexact Hwr3_1
    isplitl [Hwb1_3]; · iexact Hwb1_3
    iexact Hsm30
  iintro Hsm30
  iapply (cp_wb I c (dv (c + 4 + 1) : ℕ) 1 1 4 rfl 31 (k0_off44_eq c 4) (k0_off39_eq 1) (s2 (k0_off38_eq 1))) $$ [Hwr4_1 Hwb1_4 Hsm31]
  · isplitl [Hwr4_1]; · iexact Hwr4_1
    isplitl [Hwb1_4]; · iexact Hwb1_4
    iexact Hsm31
  iintro Hsm31
  iapply (cp_wb I c (dv (c + 5 + 1) : ℕ) 1 1 5 rfl 32 (k0_off44_eq c 5) (k0_off41_eq 1) (s2 (k0_off40_eq 1))) $$ [Hwr5_1 Hwb1_5 Hsm32]
  · isplitl [Hwr5_1]; · iexact Hwr5_1
    isplitl [Hwb1_5]; · iexact Hwb1_5
    iexact Hsm32
  iintro Hsm32
  iapply (WP_ret c)
  iapply Hk
  isplitl [Hsm30]
  · iexact Hsm30
  isplitl [Hsm31]
  · iexact Hsm31
  iexact Hsm32

/-- Part 14 of the body. -/
theorem pr14 (I : Inp F) (c : Dev nD) (i : grid0.Coords) (v2 : BitVec 32) (k0_h1 : k0_cond1 i = 1#1)
    {α : Type} {Q : α → sProp 𝕄} {K : (PUnit) → Prog (TpuEff nD τ sig (Elt F) Λ₀ .tc) α} :
    iprop(ctx I ∗ wP c (dv (c + 6 + 1) : ℕ) 1 (I.W c) ∗ (∃ f, wbP c 1 6 f) ∗ sm0 c 33 ∗ wP c (dv (c + 0 + 1) : ℕ) 2 (I.W c) ∗ (∃ f, wbP c 2 0 f) ∗ sm0 c 34 ∗ wP c (dv (c + 1 + 1) : ℕ) 2 (I.W c) ∗ (∃ f, wbP c 2 1 f) ∗ sm0 c 35 : sProp 𝕄)
      ⊢ iprop(((Fly c 33 iprop(wbP c 1 6 (wbF I c 1) ∗ wP c (dv (c + 6 + 1) : ℕ) 1 (I.W c)) ∗ Fly c 34 iprop(wbP c 2 0 (wbF I c 2) ∗ wP c (dv (c + 0 + 1) : ℕ) 2 (I.W c)) ∗ Fly c 35 iprop(wbP c 2 1 (wbF I c 2) ∗ wP c (dv (c + 1 + 1) : ℕ) 2 (I.W c))) -∗ WP c (K ⟨⟩) Q)
        -∗ WP c (k0_part14 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 >>= K) Q) := by
  rw [WP_bind, k0_part14_eq_skeleton]; unfold k0_part14_skel
  simp only [Prog.lift, Prog.bind_op, Prog.bind_ret, Prog.pure_eq_ret, Prog.bind_assoc]
  iintro ⟨#HC, Hwr6_1, ⟨%fHwb1_6, Hwb1_6⟩, Hsm33, Hwr0_2, ⟨%fHwb2_0, Hwb2_0⟩, Hsm34, Hwr1_2, ⟨%fHwb2_1, Hwb2_1⟩, Hsm35⟩ Hk
  iapply (cp_wb I c (dv (c + 6 + 1) : ℕ) 1 1 6 rfl 33 (k0_off44_eq c 6) (k0_off43_eq 1) (s2 (k0_off42_eq 1))) $$ [Hwr6_1 Hwb1_6 Hsm33]
  · isplitl [Hwr6_1]; · iexact Hwr6_1
    isplitl [Hwb1_6]; · iexact Hwb1_6
    iexact Hsm33
  iintro Hsm33
  iapply (cp_wb I c (dv (c + 0 + 1) : ℕ) 2 2 0 rfl 34 (k0_off45_eq c 0) (k0_off30_eq 2) (s2 (k0_off29_eq 2))) $$ [Hwr0_2 Hwb2_0 Hsm34]
  · isplitl [Hwr0_2]; · iexact Hwr0_2
    isplitl [Hwb2_0]; · iexact Hwb2_0
    iexact Hsm34
  iintro Hsm34
  iapply (cp_wb I c (dv (c + 1 + 1) : ℕ) 2 2 1 rfl 35 (k0_off45_eq c 1) (k0_off33_eq 2) (s2 (k0_off32_eq 2))) $$ [Hwr1_2 Hwb2_1 Hsm35]
  · isplitl [Hwr1_2]; · iexact Hwr1_2
    isplitl [Hwb2_1]; · iexact Hwb2_1
    iexact Hsm35
  iintro Hsm35
  iapply (WP_ret c)
  iapply Hk
  isplitl [Hsm33]
  · iexact Hsm33
  isplitl [Hsm34]
  · iexact Hsm34
  iexact Hsm35

/-- Part 15 of the body. -/
theorem pr15 (I : Inp F) (c : Dev nD) (i : grid0.Coords) (v2 : BitVec 32) (k0_h1 : k0_cond1 i = 1#1)
    {α : Type} {Q : α → sProp 𝕄} {K : (BitVec 32) → Prog (TpuEff nD τ sig (Elt F) Λ₀ .tc) α} :
    iprop(ctx I ∗ wP c (dv (c + 2 + 1) : ℕ) 2 (I.W c) ∗ (∃ f, wbP c 2 2 f) ∗ sm0 c 36 ∗ wP c (dv (c + 3 + 1) : ℕ) 2 (I.W c) ∗ (∃ f, wbP c 2 3 f) ∗ sm0 c 37 ∗ wP c (dv (c + 4 + 1) : ℕ) 2 (I.W c) ∗ (∃ f, wbP c 2 4 f) ∗ sm0 c 38 : sProp 𝕄)
      ⊢ iprop((∀ r, (Fly c 36 iprop(wbP c 2 2 (wbF I c 2) ∗ wP c (dv (c + 2 + 1) : ℕ) 2 (I.W c)) ∗ Fly c 37 iprop(wbP c 2 3 (wbF I c 2) ∗ wP c (dv (c + 3 + 1) : ℕ) 2 (I.W c)) ∗ Fly c 38 iprop(wbP c 2 4 (wbF I c 2) ∗ wP c (dv (c + 4 + 1) : ℕ) 2 (I.W c))) -∗ WP c (K r) Q)
        -∗ WP c (k0_part15 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h1 >>= K) Q) := by
  rw [WP_bind, k0_part15_eq_skeleton]; unfold k0_part15_skel
  simp only [Prog.lift, Prog.bind_op, Prog.bind_ret, Prog.pure_eq_ret, Prog.bind_assoc]
  iintro ⟨#HC, Hwr2_2, ⟨%fHwb2_2, Hwb2_2⟩, Hsm36, Hwr3_2, ⟨%fHwb2_3, Hwb2_3⟩, Hsm37, Hwr4_2, ⟨%fHwb2_4, Hwb2_4⟩, Hsm38⟩ Hk
  iapply (cp_wb I c (dv (c + 2 + 1) : ℕ) 2 2 2 rfl 36 (k0_off45_eq c 2) (k0_off35_eq 2) (s2 (k0_off34_eq 2))) $$ [Hwr2_2 Hwb2_2 Hsm36]
  · isplitl [Hwr2_2]; · iexact Hwr2_2
    isplitl [Hwb2_2]; · iexact Hwb2_2
    iexact Hsm36
  iintro Hsm36
  iapply (cp_wb I c (dv (c + 3 + 1) : ℕ) 2 2 3 rfl 37 (k0_off45_eq c 3) (k0_off37_eq 2) (s2 (k0_off36_eq 2))) $$ [Hwr3_2 Hwb2_3 Hsm37]
  · isplitl [Hwr3_2]; · iexact Hwr3_2
    isplitl [Hwb2_3]; · iexact Hwb2_3
    iexact Hsm37
  iintro Hsm37
  iapply (cp_wb I c (dv (c + 4 + 1) : ℕ) 2 2 4 rfl 38 (k0_off45_eq c 4) (k0_off39_eq 2) (s2 (k0_off38_eq 2))) $$ [Hwr4_2 Hwb2_4 Hsm38]
  · isplitl [Hwr4_2]; · iexact Hwr4_2
    isplitl [Hwb2_4]; · iexact Hwb2_4
    iexact Hsm38
  iintro Hsm38
  iapply (WP_ret c)
  iapply Hk
  isplitl [Hsm36]
  · iexact Hsm36
  isplitl [Hsm37]
  · iexact Hsm37
  iexact Hsm38

end Cert.KProof
-- ==== Proof.PartsC.lean ====
/-
The parts of the body after the first step: the exchanged blocks, the second phase, the last waits
-/
module

public import proofs.«01_k».proof.Proof.Pieces

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- Part 16 of the body. -/
theorem pr16 (I : Inp F) (c : Dev nD) (i : grid0.Coords) (v2 : BitVec 32) (k0_h20 : k0_cond20 i = 1#1)
    {α : Type} {Q : α → sProp 𝕄} {K : (FVec F S512x512 .bf16) → Prog (TpuEff nD τ sig (Elt F) Λ₀ .tc) α} :
    iprop(ctx I ∗ ow c 0 ∗ cred (tallyAt (dG c (10 + (dv (c + 0 + 1) : Dev nD))) () 8192) ∗ atPos ER (dG c (10 + (dv (c + 0 + 1) : Dev nD))) 0 ∅ 0 ∗ (∃ f, aP c 1 f) ∗ cred (tallyAt (dG c (10 + (dv (c + 1 + 1) : Dev nD))) () 8192) ∗ atPos ER (dG c (10 + (dv (c + 1 + 1) : Dev nD))) 0 ∅ 0 : sProp 𝕄)
      ⊢ iprop(((ow c 0 ∗ aP c 1 (aF I c) ∗ sm0 c (10 + (dv (c + 0 + 1) : Dev nD)) ∗ cmP c (dv (c + 0 + 1) : ℕ) (cmF I c) ∗ sm0 c (10 + (dv (c + 1 + 1) : Dev nD)) ∗ cmP c (dv (c + 1 + 1) : ℕ) (cmF I c)) -∗ WP c (K (k0_pay32 (pl3 (xsb I (dv (dv (c + 1 + 1) : ℕ)) (c : ℕ))))) Q)
        -∗ WP c (k0_part16 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h20 >>= K) Q) := by
  rw [WP_bind, k0_part16_eq_skeleton]; unfold k0_part16_skel
  simp only [Prog.lift, Prog.bind_op, Prog.bind_ret, Prog.pure_eq_ret, Prog.bind_assoc]
  iintro ⟨#HC, How, Hcredr0, Hatr0, ⟨%fHa_1, Ha_1⟩, Hcredr1, Hatr1⟩ Hk
  iapply (rcv_op I c (dv (c + 0 + 1)) (dv_ne c (by decide)) (s1 (k0_off54_eq c 0)) cr_cm) $$ [How Hcredr0 Hatr0]
  · isplitr; · iexact HC
    isplitl [How]; · iexact How
    isplitl [Hcredr0]; · iexact Hcredr0
    iexact Hatr0
  iintro ⟨How, Hsmr0, Hcm0⟩
  iapply (ld_cm I c (dv (c + 0 + 1) : ℕ) (Nat.mod_lt _ (by decide)) (k0_off57_eq c 0)) $$ [Hcm0]
  · iexact Hcm0
  iintro Hcm0
  iapply (ldd_a c 1 rfl) $$ [Ha_1]
  · iexact Ha_1
  iintro Ha_1
  iexists _
  isplitr
  · ipureintro; intro _; rfl
  iapply (st_a I c 1 rfl (gat I c 0)) $$ [Ha_1]
  · iexact Ha_1
  iintro Ha_1
  iapply (rcv_op I c (dv (c + 1 + 1)) (dv_ne c (by decide)) (s1 (k0_off54_eq c 1)) cr_cm) $$ [How Hcredr1 Hatr1]
  · isplitr; · iexact HC
    isplitl [How]; · iexact How
    isplitl [Hcredr1]; · iexact Hcredr1
    iexact Hatr1
  iintro ⟨How, Hsmr1, Hcm1⟩
  iapply (ld_cm I c (dv (c + 1 + 1) : ℕ) (Nat.mod_lt _ (by decide)) (k0_off57_eq c 1)) $$ [Hcm1]
  · iexact Hcm1
  iintro Hcm1
  iapply (WP_ret c)
  iapply Hk
  isplitl [How]
  · iexact How
  isplitl [Ha_1]
  · iexact Ha_1
  isplitl [Hsmr0]
  · iexact Hsmr0
  isplitl [Hcm0]
  · iexact Hcm0
  isplitl [Hsmr1]
  · iexact Hsmr1
  iexact Hcm1

/-- Part 17 of the body. -/
theorem pr17 (I : Inp F) (c : Dev nD) (i : grid0.Coords) (v2 : BitVec 32) (k0_h20 : k0_cond20 i = 1#1)
    {α : Type} {Q : α → sProp 𝕄} {K : (BitVec 32) → Prog (TpuEff nD τ sig (Elt F) Λ₀ .tc) α} :
    iprop(ctx I ∗ (∃ f, aP c 2 f) ∗ ow c 0 ∗ cred (tallyAt (dG c (10 + (dv (c + 2 + 1) : Dev nD))) () 8192) ∗ atPos ER (dG c (10 + (dv (c + 2 + 1) : Dev nD))) 0 ∅ 0 ∗ (∃ f, aP c 3 f) ∗ cred (tallyAt (dG c (10 + (dv (c + 3 + 1) : Dev nD))) () 8192) ∗ atPos ER (dG c (10 + (dv (c + 3 + 1) : Dev nD))) 0 ∅ 0 : sProp 𝕄)
      ⊢ iprop((∀ r, (aP c 2 (aF I c) ∗ ow c 0 ∗ aP c 3 (aF I c) ∗ sm0 c (10 + (dv (c + 2 + 1) : Dev nD)) ∗ cmP c (dv (c + 2 + 1) : ℕ) (cmF I c) ∗ sm0 c (10 + (dv (c + 3 + 1) : Dev nD)) ∗ cmP c (dv (c + 3 + 1) : ℕ) (cmF I c)) -∗ WP c (K r) Q)
        -∗ WP c (k0_part17 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h20 (k0_pay32 (pl3 (xsb I (dv (dv (c + 1 + 1) : ℕ)) (c : ℕ)))) >>= K) Q) := by
  rw [WP_bind, k0_part17_eq_skeleton]; unfold k0_part17_skel
  simp only [Prog.lift, Prog.bind_op, Prog.bind_ret, Prog.pure_eq_ret, Prog.bind_assoc]
  iintro ⟨#HC, ⟨%fHa_2, Ha_2⟩, How, Hcredr2, Hatr2, ⟨%fHa_3, Ha_3⟩, Hcredr3, Hatr3⟩ Hk
  iapply (ldd_a c 2 rfl) $$ [Ha_2]
  · iexact Ha_2
  iintro Ha_2
  iexists _
  isplitr
  · ipureintro; intro _; rfl
  iapply (st_a I c 2 rfl (gat I c 1)) $$ [Ha_2]
  · iexact Ha_2
  iintro Ha_2
  iapply (rcv_op I c (dv (c + 2 + 1)) (dv_ne c (by decide)) (s1 (k0_off54_eq c 2)) cr_cm) $$ [How Hcredr2 Hatr2]
  · isplitr; · iexact HC
    isplitl [How]; · iexact How
    isplitl [Hcredr2]; · iexact Hcredr2
    iexact Hatr2
  iintro ⟨How, Hsmr2, Hcm2⟩
  iapply (ld_cm I c (dv (c + 2 + 1) : ℕ) (Nat.mod_lt _ (by decide)) (k0_off57_eq c 2)) $$ [Hcm2]
  · iexact Hcm2
  iintro Hcm2
  iapply (ldd_a c 3 rfl) $$ [Ha_3]
  · iexact Ha_3
  iintro Ha_3
  iexists _
  isplitr
  · ipureintro; intro _; rfl
  iapply (st_a I c 3 rfl (gat I c 2)) $$ [Ha_3]
  · iexact Ha_3
  iintro Ha_3
  iapply (rcv_op I c (dv (c + 3 + 1)) (dv_ne c (by decide)) (s1 (k0_off54_eq c 3)) cr_cm) $$ [How Hcredr3 Hatr3]
  · isplitr; · iexact HC
    isplitl [How]; · iexact How
    isplitl [Hcredr3]; · iexact Hcredr3
    iexact Hatr3
  iintro ⟨How, Hsmr3, Hcm3⟩
  iapply (WP_ret c)
  iapply Hk
  isplitl [Ha_2]
  · iexact Ha_2
  isplitl [How]
  · iexact How
  isplitl [Ha_3]
  · iexact Ha_3
  isplitl [Hsmr2]
  · iexact Hsmr2
  isplitl [Hcm2]
  · iexact Hcm2
  isplitl [Hsmr3]
  · iexact Hsmr3
  iexact Hcm3

/-- Part 18 of the body. -/
theorem pr18 (I : Inp F) (c : Dev nD) (i : grid0.Coords) (v2 : BitVec 32) (k0_h20 : k0_cond20 i = 1#1) (v74 : BitVec 32)
    {α : Type} {Q : α → sProp 𝕄} {K : (BitVec 32) → Prog (TpuEff nD τ sig (Elt F) Λ₀ .tc) α} :
    iprop(ctx I ∗ cmP c (dv (c + 3 + 1) : ℕ) (cmF I c) ∗ (∃ f, aP c 4 f) ∗ ow c 0 ∗ cred (tallyAt (dG c (10 + (dv (c + 4 + 1) : Dev nD))) () 8192) ∗ atPos ER (dG c (10 + (dv (c + 4 + 1) : Dev nD))) 0 ∅ 0 ∗ (∃ f, aP c 5 f) : sProp 𝕄)
      ⊢ iprop((∀ r, (cmP c (dv (c + 3 + 1) : ℕ) (cmF I c) ∗ aP c 4 (aF I c) ∗ ow c 0 ∗ aP c 5 (aF I c) ∗ sm0 c (10 + (dv (c + 4 + 1) : Dev nD)) ∗ cmP c (dv (c + 4 + 1) : ℕ) (cmF I c)) -∗ WP c (K r) Q)
        -∗ WP c (k0_part18 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h20 v74 >>= K) Q) := by
  rw [WP_bind, k0_part18_eq_skeleton]; unfold k0_part18_skel
  simp only [Prog.lift, Prog.bind_op, Prog.bind_ret, Prog.pure_eq_ret, Prog.bind_assoc]
  iintro ⟨#HC, Hcm3, ⟨%fHa_4, Ha_4⟩, How, Hcredr4, Hatr4, ⟨%fHa_5, Ha_5⟩⟩ Hk
  iapply (ld_cm I c (dv (c + 3 + 1) : ℕ) (Nat.mod_lt _ (by decide)) (k0_off57_eq c 3)) $$ [Hcm3]
  · iexact Hcm3
  iintro Hcm3
  iapply (ldd_a c 4 rfl) $$ [Ha_4]
  · iexact Ha_4
  iintro Ha_4
  iexists _
  isplitr
  · ipureintro; intro _; rfl
  iapply (st_a I c 4 rfl (gat I c 3)) $$ [Ha_4]
  · iexact Ha_4
  iintro Ha_4
  iapply (rcv_op I c (dv (c + 4 + 1)) (dv_ne c (by decide)) (s1 (k0_off54_eq c 4)) cr_cm) $$ [How Hcredr4 Hatr4]
  · isplitr; · iexact HC
    isplitl [How]; · iexact How
    isplitl [Hcredr4]; · iexact Hcredr4
    iexact Hatr4
  iintro ⟨How, Hsmr4, Hcm4⟩
  iapply (ld_cm I c (dv (c + 4 + 1) : ℕ) (Nat.mod_lt _ (by decide)) (k0_off57_eq c 4)) $$ [Hcm4]
  · iexact Hcm4
  iintro Hcm4
  iapply (ldd_a c 5 rfl) $$ [Ha_5]
  · iexact Ha_5
  iintro Ha_5
  iexists _
  isplitr
  · ipureintro; intro _; rfl
  iapply (st_a I c 5 rfl (gat I c 4)) $$ [Ha_5]
  · iexact Ha_5
  iintro Ha_5
  iapply (WP_ret c)
  iapply Hk
  isplitl [Hcm3]
  · iexact Hcm3
  isplitl [Ha_4]
  · iexact Ha_4
  isplitl [How]
  · iexact How
  isplitl [Ha_5]
  · iexact Ha_5
  isplitl [Hsmr4]
  · iexact Hsmr4
  iexact Hcm4

/-- Part 21 of the body. -/
theorem pr21 (I : Inp F) (c : Dev nD) (i : grid0.Coords) (arg0 : BitVec 32) (v2 : BitVec 32) (k0_h21 : k0_cond21 i = 1#1) {b : ℕ} (hb : (i 0 : ℕ) = b + 16)
    {α : Type} {Q : α → sProp 𝕄} {K : (BitVec 32) → Prog (TpuEff nD τ sig (Elt F) Λ₀ .tc) α} :
    iprop(ctx I ∗ Fly c (20 + (b % 4 * 7 + 0)) iprop(wbP c (b % 4) 0 (wbF I c b) ∗ wP c (dv (c + 0 + 1) : ℕ) b (I.W c)) ∗ ow c 0 ∗ Fly c (20 + (b % 4 * 7 + 1)) iprop(wbP c (b % 4) 1 (wbF I c b) ∗ wP c (dv (c + 1 + 1) : ℕ) b (I.W c)) : sProp 𝕄)
      ⊢ iprop((∀ r, (sm0 c (20 + (b % 4 * 7 + 0)) ∗ ow c 0 ∗ sm0 c (20 + (b % 4 * 7 + 1)) ∗ wbP c (b % 4) 0 (wbF I c b) ∗ wP c (dv (c + 0 + 1) : ℕ) b (I.W c) ∗ wbP c (b % 4) 1 (wbF I c b) ∗ wP c (dv (c + 1 + 1) : ℕ) b (I.W c)) -∗ WP c (K r) Q)
        -∗ WP c (k0_part21 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 arg0 c v2 k0_h21 >>= K) Q) := by
  rw [WP_bind, k0_part21_eq_skeleton]; unfold k0_part21_skel
  simp only [Prog.lift, Prog.bind_op, Prog.bind_ret, Prog.pure_eq_ret, Prog.bind_assoc]
  iintro ⟨#HC, Hsm_20____b___4___7___0__, How, Hsm_20____b___4___7___1__⟩ Hk
  iapply (wt_fly c (20 + (b % 4 * 7 + 0)) iprop(wbP c (b % 4) 0 (wbF I c b) ∗ wP c (dv (c + 0 + 1) : ℕ) b (I.W c)) (s2 (f58 hb)) cr_wb) $$ [Hsm_20____b___4___7___0__ How]
  · isplitl [Hsm_20____b___4___7___0__]; · iexact Hsm_20____b___4___7___0__
    iexact How
  iintro ⟨⟨Hwb_b___4__0, Hwr0_b⟩, Hsm_20____b___4___7___0__, How⟩
  iapply (wt_fly c (20 + (b % 4 * 7 + 1)) iprop(wbP c (b % 4) 1 (wbF I c b) ∗ wP c (dv (c + 1 + 1) : ℕ) b (I.W c)) (s2 (f61 hb)) cr_wb) $$ [Hsm_20____b___4___7___1__ How]
  · isplitl [Hsm_20____b___4___7___1__]; · iexact Hsm_20____b___4___7___1__
    iexact How
  iintro ⟨⟨Hwb_b___4__1, Hwr1_b⟩, Hsm_20____b___4___7___1__, How⟩
  iapply (WP_ret c)
  iapply Hk
  isplitl [Hsm_20____b___4___7___0__]
  · iexact Hsm_20____b___4___7___0__
  isplitl [How]
  · iexact How
  isplitl [Hsm_20____b___4___7___1__]
  · iexact Hsm_20____b___4___7___1__
  isplitl [Hwb_b___4__0]
  · iexact Hwb_b___4__0
  isplitl [Hwr0_b]
  · iexact Hwr0_b
  isplitl [Hwb_b___4__1]
  · iexact Hwb_b___4__1
  iexact Hwr1_b

/-- Part 22 of the body. -/
theorem pr22 (I : Inp F) (c : Dev nD) (i : grid0.Coords) (v2 : BitVec 32) (k0_h21 : k0_cond21 i = 1#1) (v18 : BitVec 32) {b : ℕ} (hb : (i 0 : ℕ) = b + 16)
    {α : Type} {Q : α → sProp 𝕄} {K : (PUnit) → Prog (TpuEff nD τ sig (Elt F) Λ₀ .tc) α} :
    iprop(ctx I ∗ Fly c (20 + (b % 4 * 7 + 2)) iprop(wbP c (b % 4) 2 (wbF I c b) ∗ wP c (dv (c + 2 + 1) : ℕ) b (I.W c)) ∗ ow c 0 ∗ Fly c (20 + (b % 4 * 7 + 3)) iprop(wbP c (b % 4) 3 (wbF I c b) ∗ wP c (dv (c + 3 + 1) : ℕ) b (I.W c)) ∗ Fly c (20 + (b % 4 * 7 + 4)) iprop(wbP c (b % 4) 4 (wbF I c b) ∗ wP c (dv (c + 4 + 1) : ℕ) b (I.W c)) : sProp 𝕄)
      ⊢ iprop(((sm0 c (20 + (b % 4 * 7 + 2)) ∗ ow c 0 ∗ sm0 c (20 + (b % 4 * 7 + 3)) ∗ sm0 c (20 + (b % 4 * 7 + 4)) ∗ wbP c (b % 4) 2 (wbF I c b) ∗ wP c (dv (c + 2 + 1) : ℕ) b (I.W c) ∗ wbP c (b % 4) 3 (wbF I c b) ∗ wP c (dv (c + 3 + 1) : ℕ) b (I.W c) ∗ wbP c (b % 4) 4 (wbF I c b) ∗ wP c (dv (c + 4 + 1) : ℕ) b (I.W c)) -∗ WP c (K ⟨⟩) Q)
        -∗ WP c (k0_part22 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h21 v18 >>= K) Q) := by
  rw [WP_bind, k0_part22_eq_skeleton]; unfold k0_part22_skel
  simp only [Prog.lift, Prog.bind_op, Prog.bind_ret, Prog.pure_eq_ret, Prog.bind_assoc]
  iintro ⟨#HC, Hsm_20____b___4___7___2__, How, Hsm_20____b___4___7___3__, Hsm_20____b___4___7___4__⟩ Hk
  iapply (wt_fly c (20 + (b % 4 * 7 + 2)) iprop(wbP c (b % 4) 2 (wbF I c b) ∗ wP c (dv (c + 2 + 1) : ℕ) b (I.W c)) (s2 (f63 hb)) cr_wb) $$ [Hsm_20____b___4___7___2__ How]
  · isplitl [Hsm_20____b___4___7___2__]; · iexact Hsm_20____b___4___7___2__
    iexact How
  iintro ⟨⟨Hwb_b___4__2, Hwr2_b⟩, Hsm_20____b___4___7___2__, How⟩
  iapply (wt_fly c (20 + (b % 4 * 7 + 3)) iprop(wbP c (b % 4) 3 (wbF I c b) ∗ wP c (dv (c + 3 + 1) : ℕ) b (I.W c)) (s2 (f65 hb)) cr_wb) $$ [Hsm_20____b___4___7___3__ How]
  · isplitl [Hsm_20____b___4___7___3__]; · iexact Hsm_20____b___4___7___3__
    iexact How
  iintro ⟨⟨Hwb_b___4__3, Hwr3_b⟩, Hsm_20____b___4___7___3__, How⟩
  iapply (wt_fly c (20 + (b % 4 * 7 + 4)) iprop(wbP c (b % 4) 4 (wbF I c b) ∗ wP c (dv (c + 4 + 1) : ℕ) b (I.W c)) (s2 (f67 hb)) cr_wb) $$ [Hsm_20____b___4___7___4__ How]
  · isplitl [Hsm_20____b___4___7___4__]; · iexact Hsm_20____b___4___7___4__
    iexact How
  iintro ⟨⟨Hwb_b___4__4, Hwr4_b⟩, Hsm_20____b___4___7___4__, How⟩
  iapply (WP_ret c)
  iapply Hk
  isplitl [Hsm_20____b___4___7___2__]
  · iexact Hsm_20____b___4___7___2__
  isplitl [How]
  · iexact How
  isplitl [Hsm_20____b___4___7___3__]
  · iexact Hsm_20____b___4___7___3__
  isplitl [Hsm_20____b___4___7___4__]
  · iexact Hsm_20____b___4___7___4__
  isplitl [Hwb_b___4__2]
  · iexact Hwb_b___4__2
  isplitl [Hwr2_b]
  · iexact Hwr2_b
  isplitl [Hwb_b___4__3]
  · iexact Hwb_b___4__3
  isplitl [Hwr3_b]
  · iexact Hwr3_b
  isplitl [Hwb_b___4__4]
  · iexact Hwb_b___4__4
  iexact Hwr4_b

/-- Part 23 of the body. -/
theorem pr23 (I : Inp F) (c : Dev nD) (i : grid0.Coords) (v2 : BitVec 32) (k0_h21 : k0_cond21 i = 1#1) (v18 : BitVec 32) {b : ℕ} (hb : (i 0 : ℕ) = b + 16)
    {α : Type} {Q : α → sProp 𝕄} {K : (Σ' (v113 : FVec F S512x512 .f32), BitVec 32) → Prog (TpuEff nD τ sig (Elt F) Λ₀ .tc) α} :
    iprop(ctx I ∗ Fly c (20 + (b % 4 * 7 + 5)) iprop(wbP c (b % 4) 5 (wbF I c b) ∗ wP c (dv (c + 5 + 1) : ℕ) b (I.W c)) ∗ ow c 0 ∗ Fly c (20 + (b % 4 * 7 + 6)) iprop(wbP c (b % 4) 6 (wbF I c b) ∗ wP c (dv (c + 6 + 1) : ℕ) b (I.W c)) ∗ wbP c (b % 4) 0 (wbF I c b) ∗ wbP c (b % 4) 1 (wbF I c b) ∗ wbP c (b % 4) 2 (wbF I c b) ∗ wbP c (b % 4) 3 (wbF I c b) ∗ wbP c (b % 4) 4 (wbF I c b) ∗ asP c (aF I c) ∗ sxP I c ∗ swP I c ∗ acP c b (acF I c) : sProp 𝕄)
      ⊢ iprop((∀ r, (sm0 c (20 + (b % 4 * 7 + 5)) ∗ ow c 0 ∗ sm0 c (20 + (b % 4 * 7 + 6)) ∗ asP c (aF I c) ∗ sxP I c ∗ swP I c ∗ acP c b (acF I c) ∗ wP c (dv (c + 5 + 1) : ℕ) b (I.W c) ∗ wP c (dv (c + 6 + 1) : ℕ) b (I.W c) ∗ wbsP c (b % 4) (wbF I c b)) -∗ WP c (K ⟨k0_pay37 (wbV I c b) (aV I c) (I.sx c) (I.sw c) (acb I c b), r⟩) Q)
        -∗ WP c (k0_part23 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h21 v18 >>= K) Q) := by
  rw [WP_bind, k0_part23_eq_skeleton]; unfold k0_part23_skel
  simp only [smemLoad, smemLoadElt_bind, Prog.lift, Prog.bind_op, Prog.bind_ret, Prog.pure_eq_ret, Prog.bind_assoc]
  iintro ⟨#HC, Hsm_20____b___4___7___5__, How, Hsm_20____b___4___7___6__, Hwb_b___4__0, Hwb_b___4__1, Hwb_b___4__2, Hwb_b___4__3, Hwb_b___4__4, Has, Hsx, Hsw, Hac_b⟩ Hk
  iapply (wt_fly c (20 + (b % 4 * 7 + 5)) iprop(wbP c (b % 4) 5 (wbF I c b) ∗ wP c (dv (c + 5 + 1) : ℕ) b (I.W c)) (s2 (f69 hb)) cr_wb) $$ [Hsm_20____b___4___7___5__ How]
  · isplitl [Hsm_20____b___4___7___5__]; · iexact Hsm_20____b___4___7___5__
    iexact How
  iintro ⟨⟨Hwb_b___4__5, Hwr5_b⟩, Hsm_20____b___4___7___5__, How⟩
  iapply (wt_fly c (20 + (b % 4 * 7 + 6)) iprop(wbP c (b % 4) 6 (wbF I c b) ∗ wP c (dv (c + 6 + 1) : ℕ) b (I.W c)) (s2 (f71 hb)) cr_wb) $$ [Hsm_20____b___4___7___6__ How]
  · isplitl [Hsm_20____b___4___7___6__]; · iexact Hsm_20____b___4___7___6__
    iexact How
  iintro ⟨⟨Hwb_b___4__6, Hwr6_b⟩, Hsm_20____b___4___7___6__, How⟩
  ihave Hwbs_b___4_ := (wbs_join c (b % 4) (wbF I c b)) $$ [Hwb_b___4__0 Hwb_b___4__1 Hwb_b___4__2 Hwb_b___4__3 Hwb_b___4__4 Hwb_b___4__5 Hwb_b___4__6]
  · isplitl [Hwb_b___4__0]; · iexact Hwb_b___4__0
    isplitl [Hwb_b___4__1]; · iexact Hwb_b___4__1
    isplitl [Hwb_b___4__2]; · iexact Hwb_b___4__2
    isplitl [Hwb_b___4__3]; · iexact Hwb_b___4__3
    isplitl [Hwb_b___4__4]; · iexact Hwb_b___4__4
    isplitl [Hwb_b___4__5]; · iexact Hwb_b___4__5
    iexact Hwb_b___4__6
  iapply (ld_wbs I c (b % 4) b (f73 hb)) $$ [Hwbs_b___4_]
  · iexact Hwbs_b___4_
  iintro Hwbs_b___4_
  iapply (ld_as I c rfl) $$ [Has]
  · iexact Has
  iintro Has
  iapply (ld_sx I c) $$ [Hsx]
  · iexact Hsx
  iintro Hsx
  iapply (ld_sw I c) $$ [Hsw]
  · iexact Hsw
  iintro Hsw
  iapply (ld_ac I c b (f74 hb)) $$ [Hac_b]
  · iexact Hac_b
  iintro Hac_b
  iapply (WP_ret c)
  iapply Hk
  isplitl [Hsm_20____b___4___7___5__]
  · iexact Hsm_20____b___4___7___5__
  isplitl [How]
  · iexact How
  isplitl [Hsm_20____b___4___7___6__]
  · iexact Hsm_20____b___4___7___6__
  isplitl [Has]
  · iexact Has
  isplitl [Hsx]
  · iexact Hsx
  isplitl [Hsw]
  · iexact Hsw
  isplitl [Hac_b]
  · iexact Hac_b
  isplitl [Hwr5_b]
  · iexact Hwr5_b
  isplitl [Hwr6_b]
  · iexact Hwr6_b
  iexact Hwbs_b___4_

/-- Part 19 of the body. -/
theorem pr19 (I : Inp F) (c : Dev nD) (i : grid0.Coords) (v2 : BitVec 32) (k0_h21 : k0_cond21 i = 1#1) (v18 : BitVec 32) (k0_h22 : k0_cond22 i = 1#1) {b : ℕ} (hb : (i 0 : ℕ) = b + 16) (hl : b < 13)
    {α : Type} {Q : α → sProp 𝕄} {K : (BitVec 32) → Prog (TpuEff nD τ sig (Elt F) Λ₀ .tc) α} :
    iprop(ctx I ∗ wP c (dv (c + 0 + 1) : ℕ) (b + 3) (I.W c) ∗ (∃ f, wbP c ((b + 3) % 4) 0 f) ∗ sm0 c (20 + ((b + 3) % 4 * 7 + 0)) ∗ wP c (dv (c + 1 + 1) : ℕ) (b + 3) (I.W c) ∗ (∃ f, wbP c ((b + 3) % 4) 1 f) ∗ sm0 c (20 + ((b + 3) % 4 * 7 + 1)) : sProp 𝕄)
      ⊢ iprop((∀ r, (Fly c (20 + ((b + 3) % 4 * 7 + 0)) iprop(wbP c ((b + 3) % 4) 0 (wbF I c (b + 3)) ∗ wP c (dv (c + 0 + 1) : ℕ) (b + 3) (I.W c)) ∗ Fly c (20 + ((b + 3) % 4 * 7 + 1)) iprop(wbP c ((b + 3) % 4) 1 (wbF I c (b + 3)) ∗ wP c (dv (c + 1 + 1) : ℕ) (b + 3) (I.W c))) -∗ WP c (K r) Q)
        -∗ WP c (k0_part19 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h21 v18 k0_h22 >>= K) Q) := by
  rw [WP_bind, k0_part19_eq_skeleton]; unfold k0_part19_skel
  simp only [Prog.lift, Prog.bind_op, Prog.bind_ret, Prog.pure_eq_ret, Prog.bind_assoc]
  iintro ⟨#HC, Hwr0__b___3_, ⟨%fHwb__b___3____4__0, Hwb__b___3____4__0⟩, Hsm_20_____b___3____4___7___0__, Hwr1__b___3_, ⟨%fHwb__b___3____4__1, Hwb__b___3____4__1⟩, Hsm_20_____b___3____4___7___1__⟩ Hk
  iapply (cp_wb I c (dv (c + 0 + 1) : ℕ) (b + 3) ((b + 3) % 4) 0 rfl (20 + ((b + 3) % 4 * 7 + 0)) (f79 0 c hb hl) (f78 hb hl) (s2 (f77 hb hl))) $$ [Hwr0__b___3_ Hwb__b___3____4__0 Hsm_20_____b___3____4___7___0__]
  · isplitl [Hwr0__b___3_]; · iexact Hwr0__b___3_
    isplitl [Hwb__b___3____4__0]; · iexact Hwb__b___3____4__0
    iexact Hsm_20_____b___3____4___7___0__
  iintro Hsm_20_____b___3____4___7___0__
  iapply (cp_wb I c (dv (c + 1 + 1) : ℕ) (b + 3) ((b + 3) % 4) 1 rfl (20 + ((b + 3) % 4 * 7 + 1)) (f79 1 c hb hl) (f81 hb hl) (s2 (f80 hb hl))) $$ [Hwr1__b___3_ Hwb__b___3____4__1 Hsm_20_____b___3____4___7___1__]
  · isplitl [Hwr1__b___3_]; · iexact Hwr1__b___3_
    isplitl [Hwb__b___3____4__1]; · iexact Hwb__b___3____4__1
    iexact Hsm_20_____b___3____4___7___1__
  iintro Hsm_20_____b___3____4___7___1__
  iapply (WP_ret c)
  iapply Hk
  isplitl [Hsm_20_____b___3____4___7___0__]
  · iexact Hsm_20_____b___3____4___7___0__
  iexact Hsm_20_____b___3____4___7___1__

/-- Part 20 of the body. -/
theorem pr20 (I : Inp F) (c : Dev nD) (i : grid0.Coords) (v2 : BitVec 32) (k0_h21 : k0_cond21 i = 1#1) (k0_h22 : k0_cond22 i = 1#1) (v132 : BitVec 32) {b : ℕ} (hb : (i 0 : ℕ) = b + 16) (hl : b < 13)
    {α : Type} {Q : α → sProp 𝕄} {K : (BitVec 32) → Prog (TpuEff nD τ sig (Elt F) Λ₀ .tc) α} :
    iprop(ctx I ∗ wP c (dv (c + 2 + 1) : ℕ) (b + 3) (I.W c) ∗ (∃ f, wbP c ((b + 3) % 4) 2 f) ∗ sm0 c (20 + ((b + 3) % 4 * 7 + 2)) ∗ wP c (dv (c + 3 + 1) : ℕ) (b + 3) (I.W c) ∗ (∃ f, wbP c ((b + 3) % 4) 3 f) ∗ sm0 c (20 + ((b + 3) % 4 * 7 + 3)) ∗ wP c (dv (c + 4 + 1) : ℕ) (b + 3) (I.W c) ∗ (∃ f, wbP c ((b + 3) % 4) 4 f) ∗ sm0 c (20 + ((b + 3) % 4 * 7 + 4)) : sProp 𝕄)
      ⊢ iprop((∀ r, (Fly c (20 + ((b + 3) % 4 * 7 + 2)) iprop(wbP c ((b + 3) % 4) 2 (wbF I c (b + 3)) ∗ wP c (dv (c + 2 + 1) : ℕ) (b + 3) (I.W c)) ∗ Fly c (20 + ((b + 3) % 4 * 7 + 3)) iprop(wbP c ((b + 3) % 4) 3 (wbF I c (b + 3)) ∗ wP c (dv (c + 3 + 1) : ℕ) (b + 3) (I.W c)) ∗ Fly c (20 + ((b + 3) % 4 * 7 + 4)) iprop(wbP c ((b + 3) % 4) 4 (wbF I c (b + 3)) ∗ wP c (dv (c + 4 + 1) : ℕ) (b + 3) (I.W c))) -∗ WP c (K r) Q)
        -∗ WP c (k0_part20 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h21 k0_h22 v132 >>= K) Q) := by
  rw [WP_bind, k0_part20_eq_skeleton]; unfold k0_part20_skel
  simp only [Prog.lift, Prog.bind_op, Prog.bind_ret, Prog.pure_eq_ret, Prog.bind_assoc]
  iintro ⟨#HC, Hwr2__b___3_, ⟨%fHwb__b___3____4__2, Hwb__b___3____4__2⟩, Hsm_20_____b___3____4___7___2__, Hwr3__b___3_, ⟨%fHwb__b___3____4__3, Hwb__b___3____4__3⟩, Hsm_20_____b___3____4___7___3__, Hwr4__b___3_, ⟨%fHwb__b___3____4__4, Hwb__b___3____4__4⟩, Hsm_20_____b___3____4___7___4__⟩ Hk
  iapply (cp_wb I c (dv (c + 2 + 1) : ℕ) (b + 3) ((b + 3) % 4) 2 rfl (20 + ((b + 3) % 4 * 7 + 2)) (f79 2 c hb hl) (f83 hb hl) (s2 (f82 hb hl))) $$ [Hwr2__b___3_ Hwb__b___3____4__2 Hsm_20_____b___3____4___7___2__]
  · isplitl [Hwr2__b___3_]; · iexact Hwr2__b___3_
    isplitl [Hwb__b___3____4__2]; · iexact Hwb__b___3____4__2
    iexact Hsm_20_____b___3____4___7___2__
  iintro Hsm_20_____b___3____4___7___2__
  iapply (cp_wb I c (dv (c + 3 + 1) : ℕ) (b + 3) ((b + 3) % 4) 3 rfl (20 + ((b + 3) % 4 * 7 + 3)) (f79 3 c hb hl) (f85 hb hl) (s2 (f84 hb hl))) $$ [Hwr3__b___3_ Hwb__b___3____4__3 Hsm_20_____b___3____4___7___3__]
  · isplitl [Hwr3__b___3_]; · iexact Hwr3__b___3_
    isplitl [Hwb__b___3____4__3]; · iexact Hwb__b___3____4__3
    iexact Hsm_20_____b___3____4___7___3__
  iintro Hsm_20_____b___3____4___7___3__
  iapply (cp_wb I c (dv (c + 4 + 1) : ℕ) (b + 3) ((b + 3) % 4) 4 rfl (20 + ((b + 3) % 4 * 7 + 4)) (f79 4 c hb hl) (f87 hb hl) (s2 (f86 hb hl))) $$ [Hwr4__b___3_ Hwb__b___3____4__4 Hsm_20_____b___3____4___7___4__]
  · isplitl [Hwr4__b___3_]; · iexact Hwr4__b___3_
    isplitl [Hwb__b___3____4__4]; · iexact Hwb__b___3____4__4
    iexact Hsm_20_____b___3____4___7___4__
  iintro Hsm_20_____b___3____4___7___4__
  iapply (WP_ret c)
  iapply Hk
  isplitl [Hsm_20_____b___3____4___7___2__]
  · iexact Hsm_20_____b___3____4___7___2__
  isplitl [Hsm_20_____b___3____4___7___3__]
  · iexact Hsm_20_____b___3____4___7___3__
  iexact Hsm_20_____b___3____4___7___4__

/-- Part 24 of the body. -/
theorem pr24 (I : Inp F) (c : Dev nD) (i : grid0.Coords)
    {α : Type} {Q : α → sProp 𝕄} {K : (PUnit) → Prog (TpuEff nD τ sig (Elt F) Λ₀ .tc) α} :
    iprop(ctx I ∗ Fly c 50 iprop(oP c 0 (oF I c) ∗ acP c 0 (oF I c)) ∗ ow c 0 ∗ Fly c 51 iprop(oP c 1 (oF I c) ∗ acP c 1 (oF I c)) ∗ Fly c 52 iprop(oP c 2 (oF I c) ∗ acP c 2 (oF I c)) ∗ Fly c 53 iprop(oP c 3 (oF I c) ∗ acP c 3 (oF I c)) ∗ Fly c 54 iprop(oP c 4 (oF I c) ∗ acP c 4 (oF I c)) ∗ Fly c 55 iprop(oP c 5 (oF I c) ∗ acP c 5 (oF I c)) : sProp 𝕄)
      ⊢ iprop(((sm0 c 50 ∗ ow c 0 ∗ sm0 c 51 ∗ sm0 c 52 ∗ sm0 c 53 ∗ sm0 c 54 ∗ sm0 c 55 ∗ oP c 0 (oF I c) ∗ acP c 0 (oF I c) ∗ oP c 1 (oF I c) ∗ acP c 1 (oF I c) ∗ oP c 2 (oF I c) ∗ acP c 2 (oF I c) ∗ oP c 3 (oF I c) ∗ acP c 3 (oF I c) ∗ oP c 4 (oF I c) ∗ acP c 4 (oF I c) ∗ oP c 5 (oF I c) ∗ acP c 5 (oF I c)) -∗ WP c (K ⟨⟩) Q)
        -∗ WP c (k0_part24 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 >>= K) Q) := by
  rw [WP_bind, k0_part24_eq_skeleton]; unfold k0_part24_skel
  simp only [Prog.lift, Prog.bind_op, Prog.bind_ret, Prog.pure_eq_ret, Prog.bind_assoc]
  iintro ⟨#HC, Hsm50, How, Hsm51, Hsm52, Hsm53, Hsm54, Hsm55⟩ Hk
  iapply (wt_fly c 50 iprop(oP c 0 (oF I c) ∗ acP c 0 (oF I c)) (s1 rfl) cr_o) $$ [Hsm50 How]
  · isplitl [Hsm50]; · iexact Hsm50
    iexact How
  iintro ⟨⟨Ho_0, Hac_0⟩, Hsm50, How⟩
  iapply (wt_fly c 51 iprop(oP c 1 (oF I c) ∗ acP c 1 (oF I c)) (s1 rfl) cr_o) $$ [Hsm51 How]
  · isplitl [Hsm51]; · iexact Hsm51
    iexact How
  iintro ⟨⟨Ho_1, Hac_1⟩, Hsm51, How⟩
  iapply (wt_fly c 52 iprop(oP c 2 (oF I c) ∗ acP c 2 (oF I c)) (s1 rfl) cr_o) $$ [Hsm52 How]
  · isplitl [Hsm52]; · iexact Hsm52
    iexact How
  iintro ⟨⟨Ho_2, Hac_2⟩, Hsm52, How⟩
  iapply (wt_fly c 53 iprop(oP c 3 (oF I c) ∗ acP c 3 (oF I c)) (s1 rfl) cr_o) $$ [Hsm53 How]
  · isplitl [Hsm53]; · iexact Hsm53
    iexact How
  iintro ⟨⟨Ho_3, Hac_3⟩, Hsm53, How⟩
  iapply (wt_fly c 54 iprop(oP c 4 (oF I c) ∗ acP c 4 (oF I c)) (s1 rfl) cr_o) $$ [Hsm54 How]
  · isplitl [Hsm54]; · iexact Hsm54
    iexact How
  iintro ⟨⟨Ho_4, Hac_4⟩, Hsm54, How⟩
  iapply (wt_fly c 55 iprop(oP c 5 (oF I c) ∗ acP c 5 (oF I c)) (s1 rfl) cr_o) $$ [Hsm55 How]
  · isplitl [Hsm55]; · iexact Hsm55
    iexact How
  iintro ⟨⟨Ho_5, Hac_5⟩, Hsm55, How⟩
  iapply (WP_ret c)
  iapply Hk
  isplitl [Hsm50]
  · iexact Hsm50
  isplitl [How]
  · iexact How
  isplitl [Hsm51]
  · iexact Hsm51
  isplitl [Hsm52]
  · iexact Hsm52
  isplitl [Hsm53]
  · iexact Hsm53
  isplitl [Hsm54]
  · iexact Hsm54
  isplitl [Hsm55]
  · iexact Hsm55
  isplitl [Ho_0]
  · iexact Ho_0
  isplitl [Hac_0]
  · iexact Hac_0
  isplitl [Ho_1]
  · iexact Ho_1
  isplitl [Hac_1]
  · iexact Hac_1
  isplitl [Ho_2]
  · iexact Ho_2
  isplitl [Hac_2]
  · iexact Hac_2
  isplitl [Ho_3]
  · iexact Ho_3
  isplitl [Hac_3]
  · iexact Hac_3
  isplitl [Ho_4]
  · iexact Ho_4
  isplitl [Hac_4]
  · iexact Hac_4
  isplitl [Ho_5]
  · iexact Ho_5
  iexact Hac_5

/-- Part 25 of the body. -/
theorem pr25 (I : Inp F) (c : Dev nD) (i : grid0.Coords)
    {α : Type} {Q : α → sProp 𝕄} {K : (PUnit) → Prog (TpuEff nD τ sig (Elt F) Λ₀ .tc) α} :
    iprop(ctx I ∗ Fly c 56 iprop(oP c 6 (oF I c) ∗ acP c 6 (oF I c)) ∗ ow c 0 ∗ Fly c 57 iprop(oP c 7 (oF I c) ∗ acP c 7 (oF I c)) ∗ Fly c 58 iprop(oP c 8 (oF I c) ∗ acP c 8 (oF I c)) ∗ Fly c 59 iprop(oP c 9 (oF I c) ∗ acP c 9 (oF I c)) ∗ Fly c 60 iprop(oP c 10 (oF I c) ∗ acP c 10 (oF I c)) ∗ Fly c 61 iprop(oP c 11 (oF I c) ∗ acP c 11 (oF I c)) : sProp 𝕄)
      ⊢ iprop(((sm0 c 56 ∗ ow c 0 ∗ sm0 c 57 ∗ sm0 c 58 ∗ sm0 c 59 ∗ sm0 c 60 ∗ sm0 c 61 ∗ oP c 6 (oF I c) ∗ acP c 6 (oF I c) ∗ oP c 7 (oF I c) ∗ acP c 7 (oF I c) ∗ oP c 8 (oF I c) ∗ acP c 8 (oF I c) ∗ oP c 9 (oF I c) ∗ acP c 9 (oF I c) ∗ oP c 10 (oF I c) ∗ acP c 10 (oF I c) ∗ oP c 11 (oF I c) ∗ acP c 11 (oF I c)) -∗ WP c (K ⟨⟩) Q)
        -∗ WP c (k0_part25 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 >>= K) Q) := by
  rw [WP_bind, k0_part25_eq_skeleton]; unfold k0_part25_skel
  simp only [Prog.lift, Prog.bind_op, Prog.bind_ret, Prog.pure_eq_ret, Prog.bind_assoc]
  iintro ⟨#HC, Hsm56, How, Hsm57, Hsm58, Hsm59, Hsm60, Hsm61⟩ Hk
  iapply (wt_fly c 56 iprop(oP c 6 (oF I c) ∗ acP c 6 (oF I c)) (s1 rfl) cr_o) $$ [Hsm56 How]
  · isplitl [Hsm56]; · iexact Hsm56
    iexact How
  iintro ⟨⟨Ho_6, Hac_6⟩, Hsm56, How⟩
  iapply (wt_fly c 57 iprop(oP c 7 (oF I c) ∗ acP c 7 (oF I c)) (s1 rfl) cr_o) $$ [Hsm57 How]
  · isplitl [Hsm57]; · iexact Hsm57
    iexact How
  iintro ⟨⟨Ho_7, Hac_7⟩, Hsm57, How⟩
  iapply (wt_fly c 58 iprop(oP c 8 (oF I c) ∗ acP c 8 (oF I c)) (s1 rfl) cr_o) $$ [Hsm58 How]
  · isplitl [Hsm58]; · iexact Hsm58
    iexact How
  iintro ⟨⟨Ho_8, Hac_8⟩, Hsm58, How⟩
  iapply (wt_fly c 59 iprop(oP c 9 (oF I c) ∗ acP c 9 (oF I c)) (s1 rfl) cr_o) $$ [Hsm59 How]
  · isplitl [Hsm59]; · iexact Hsm59
    iexact How
  iintro ⟨⟨Ho_9, Hac_9⟩, Hsm59, How⟩
  iapply (wt_fly c 60 iprop(oP c 10 (oF I c) ∗ acP c 10 (oF I c)) (s1 rfl) cr_o) $$ [Hsm60 How]
  · isplitl [Hsm60]; · iexact Hsm60
    iexact How
  iintro ⟨⟨Ho_10, Hac_10⟩, Hsm60, How⟩
  iapply (wt_fly c 61 iprop(oP c 11 (oF I c) ∗ acP c 11 (oF I c)) (s1 rfl) cr_o) $$ [Hsm61 How]
  · isplitl [Hsm61]; · iexact Hsm61
    iexact How
  iintro ⟨⟨Ho_11, Hac_11⟩, Hsm61, How⟩
  iapply (WP_ret c)
  iapply Hk
  isplitl [Hsm56]
  · iexact Hsm56
  isplitl [How]
  · iexact How
  isplitl [Hsm57]
  · iexact Hsm57
  isplitl [Hsm58]
  · iexact Hsm58
  isplitl [Hsm59]
  · iexact Hsm59
  isplitl [Hsm60]
  · iexact Hsm60
  isplitl [Hsm61]
  · iexact Hsm61
  isplitl [Ho_6]
  · iexact Ho_6
  isplitl [Hac_6]
  · iexact Hac_6
  isplitl [Ho_7]
  · iexact Ho_7
  isplitl [Hac_7]
  · iexact Hac_7
  isplitl [Ho_8]
  · iexact Ho_8
  isplitl [Hac_8]
  · iexact Hac_8
  isplitl [Ho_9]
  · iexact Ho_9
  isplitl [Hac_9]
  · iexact Hac_9
  isplitl [Ho_10]
  · iexact Ho_10
  isplitl [Hac_10]
  · iexact Hac_10
  isplitl [Ho_11]
  · iexact Ho_11
  iexact Hac_11

/-- Part 26 of the body. -/
theorem pr26 (I : Inp F) (c : Dev nD) (i : grid0.Coords) (v2 : BitVec 32) (k0_h23 : k0_cond23 i = 1#1)
    {α : Type} {Q : α → sProp 𝕄} {K : (BitVec 32) → Prog (TpuEff nD τ sig (Elt F) Λ₀ .tc) α} :
    iprop(ctx I ∗ Fly c 62 iprop(oP c 12 (oF I c) ∗ acP c 12 (oF I c)) ∗ ow c 0 ∗ Fly c 63 iprop(oP c 13 (oF I c) ∗ acP c 13 (oF I c)) ∗ Fly c 64 iprop(oP c 14 (oF I c) ∗ acP c 14 (oF I c)) ∗ Fly c 65 iprop(oP c 15 (oF I c) ∗ acP c 15 (oF I c)) ∗ cred (tallyAt (dG c (2 + (dv (c + 0 + 1) : Dev nD))) () 8192) ∗ atPos ER (dG c (2 + (dv (c + 0 + 1) : Dev nD))) 0 ∅ 0 : sProp 𝕄)
      ⊢ iprop((∀ r, (sm0 c 62 ∗ ow c 0 ∗ sm0 c 63 ∗ sm0 c 64 ∗ sm0 c 65 ∗ oP c 12 (oF I c) ∗ acP c 12 (oF I c) ∗ oP c 13 (oF I c) ∗ acP c 13 (oF I c) ∗ oP c 14 (oF I c) ∗ acP c 14 (oF I c) ∗ oP c 15 (oF I c) ∗ acP c 15 (oF I c) ∗ sm0 c (2 + (dv (c + 0 + 1) : Dev nD)) ∗ xsP c (dv (c + 0 + 1) : ℕ) (xsF I c)) -∗ WP c (K r) Q)
        -∗ WP c (k0_part26 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h23 >>= K) Q) := by
  rw [WP_bind, k0_part26_eq_skeleton]; unfold k0_part26_skel
  simp only [Prog.lift, Prog.bind_op, Prog.bind_ret, Prog.pure_eq_ret, Prog.bind_assoc]
  iintro ⟨#HC, Hsm62, How, Hsm63, Hsm64, Hsm65, Hcreds0, Hats0⟩ Hk
  iapply (wt_fly c 62 iprop(oP c 12 (oF I c) ∗ acP c 12 (oF I c)) (s1 rfl) cr_o) $$ [Hsm62 How]
  · isplitl [Hsm62]; · iexact Hsm62
    iexact How
  iintro ⟨⟨Ho_12, Hac_12⟩, Hsm62, How⟩
  iapply (wt_fly c 63 iprop(oP c 13 (oF I c) ∗ acP c 13 (oF I c)) (s1 rfl) cr_o) $$ [Hsm63 How]
  · isplitl [Hsm63]; · iexact Hsm63
    iexact How
  iintro ⟨⟨Ho_13, Hac_13⟩, Hsm63, How⟩
  iapply (wt_fly c 64 iprop(oP c 14 (oF I c) ∗ acP c 14 (oF I c)) (s1 rfl) cr_o) $$ [Hsm64 How]
  · isplitl [Hsm64]; · iexact Hsm64
    iexact How
  iintro ⟨⟨Ho_14, Hac_14⟩, Hsm64, How⟩
  iapply (wt_fly c 65 iprop(oP c 15 (oF I c) ∗ acP c 15 (oF I c)) (s1 rfl) cr_o) $$ [Hsm65 How]
  · isplitl [Hsm65]; · iexact Hsm65
    iexact How
  iintro ⟨⟨Ho_15, Hac_15⟩, Hsm65, How⟩
  iapply (snd_wait I c (dv (c + 0 + 1)) (dv_ne c (by decide)) (s1 (k0_off92_eq c 0)) cr_xs) $$ [How Hcreds0 Hats0]
  · isplitr; · iexact HC
    isplitl [How]; · iexact How
    isplitl [Hcreds0]; · iexact Hcreds0
    iexact Hats0
  iintro ⟨How, Hsms0, Hxsd0⟩
  iapply (WP_ret c)
  iapply Hk
  isplitl [Hsm62]
  · iexact Hsm62
  isplitl [How]
  · iexact How
  isplitl [Hsm63]
  · iexact Hsm63
  isplitl [Hsm64]
  · iexact Hsm64
  isplitl [Hsm65]
  · iexact Hsm65
  isplitl [Ho_12]
  · iexact Ho_12
  isplitl [Hac_12]
  · iexact Hac_12
  isplitl [Ho_13]
  · iexact Ho_13
  isplitl [Hac_13]
  · iexact Hac_13
  isplitl [Ho_14]
  · iexact Ho_14
  isplitl [Hac_14]
  · iexact Hac_14
  isplitl [Ho_15]
  · iexact Ho_15
  isplitl [Hac_15]
  · iexact Hac_15
  isplitl [Hsms0]
  · iexact Hsms0
  iexact Hxsd0

/-- Part 27 of the body. -/
theorem pr27 (I : Inp F) (c : Dev nD) (i : grid0.Coords) (v2 : BitVec 32) (k0_h23 : k0_cond23 i = 1#1) (v91 : BitVec 32)
    {α : Type} {Q : α → sProp 𝕄} {K : (PUnit) → Prog (TpuEff nD τ sig (Elt F) Λ₀ .tc) α} :
    iprop(ctx I ∗ ow c 0 ∗ cred (tallyAt (dG c (2 + (dv (c + 1 + 1) : Dev nD))) () 8192) ∗ atPos ER (dG c (2 + (dv (c + 1 + 1) : Dev nD))) 0 ∅ 0 ∗ cred (tallyAt (dG c (2 + (dv (c + 2 + 1) : Dev nD))) () 8192) ∗ atPos ER (dG c (2 + (dv (c + 2 + 1) : Dev nD))) 0 ∅ 0 ∗ cred (tallyAt (dG c (2 + (dv (c + 3 + 1) : Dev nD))) () 8192) ∗ atPos ER (dG c (2 + (dv (c + 3 + 1) : Dev nD))) 0 ∅ 0 ∗ cred (tallyAt (dG c (2 + (dv (c + 4 + 1) : Dev nD))) () 8192) ∗ atPos ER (dG c (2 + (dv (c + 4 + 1) : Dev nD))) 0 ∅ 0 : sProp 𝕄)
      ⊢ iprop(((ow c 0 ∗ sm0 c (2 + (dv (c + 1 + 1) : Dev nD)) ∗ xsP c (dv (c + 1 + 1) : ℕ) (xsF I c) ∗ sm0 c (2 + (dv (c + 2 + 1) : Dev nD)) ∗ xsP c (dv (c + 2 + 1) : ℕ) (xsF I c) ∗ sm0 c (2 + (dv (c + 3 + 1) : Dev nD)) ∗ xsP c (dv (c + 3 + 1) : ℕ) (xsF I c) ∗ sm0 c (2 + (dv (c + 4 + 1) : Dev nD)) ∗ xsP c (dv (c + 4 + 1) : ℕ) (xsF I c)) -∗ WP c (K ⟨⟩) Q)
        -∗ WP c (k0_part27 i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12 c v2 k0_h23 v91 >>= K) Q) := by
  rw [WP_bind, k0_part27_eq_skeleton]; unfold k0_part27_skel
  simp only [Prog.lift, Prog.bind_op, Prog.bind_ret, Prog.pure_eq_ret, Prog.bind_assoc]
  iintro ⟨#HC, How, Hcreds1, Hats1, Hcreds2, Hats2, Hcreds3, Hats3, Hcreds4, Hats4⟩ Hk
  iapply (snd_wait I c (dv (c + 1 + 1)) (dv_ne c (by decide)) (s1 (k0_off92_eq c 1)) cr_xs) $$ [How Hcreds1 Hats1]
  · isplitr; · iexact HC
    isplitl [How]; · iexact How
    isplitl [Hcreds1]; · iexact Hcreds1
    iexact Hats1
  iintro ⟨How, Hsms1, Hxsd1⟩
  iapply (snd_wait I c (dv (c + 2 + 1)) (dv_ne c (by decide)) (s1 (k0_off92_eq c 2)) cr_xs) $$ [How Hcreds2 Hats2]
  · isplitr; · iexact HC
    isplitl [How]; · iexact How
    isplitl [Hcreds2]; · iexact Hcreds2
    iexact Hats2
  iintro ⟨How, Hsms2, Hxsd2⟩
  iapply (snd_wait I c (dv (c + 3 + 1)) (dv_ne c (by decide)) (s1 (k0_off92_eq c 3)) cr_xs) $$ [How Hcreds3 Hats3]
  · isplitr; · iexact HC
    isplitl [How]; · iexact How
    isplitl [Hcreds3]; · iexact Hcreds3
    iexact Hats3
  iintro ⟨How, Hsms3, Hxsd3⟩
  iapply (snd_wait I c (dv (c + 4 + 1)) (dv_ne c (by decide)) (s1 (k0_off92_eq c 4)) cr_xs) $$ [How Hcreds4 Hats4]
  · isplitr; · iexact HC
    isplitl [How]; · iexact How
    isplitl [Hcreds4]; · iexact Hcreds4
    iexact Hats4
  iintro ⟨How, Hsms4, Hxsd4⟩
  iapply (WP_ret c)
  iapply Hk
  isplitl [How]
  · iexact How
  isplitl [Hsms1]
  · iexact Hsms1
  isplitl [Hxsd1]
  · iexact Hxsd1
  isplitl [Hsms2]
  · iexact Hsms2
  isplitl [Hxsd2]
  · iexact Hxsd2
  isplitl [Hsms3]
  · iexact Hsms3
  isplitl [Hxsd3]
  · iexact Hxsd3
  isplitl [Hsms4]
  · iexact Hsms4
  iexact Hxsd4

end Cert.KProof
-- ==== Proof.Bodies.lean ====
/-
The body at each kind of step
-/
module

public import proofs.«01_k».proof.Proof.PartsA
public import proofs.«01_k».proof.Proof.PartsB
public import proofs.«01_k».proof.Proof.PartsC

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

theorem WP_dev (c : Dev nD) {α : Type} {k : Dev nD → Prog (TpuEff nD τ sig (Elt F) Λ₀ .tc) α} {Q : α → sProp 𝕄} :
    WP c (.op .deviceId k) Q = WP c (k c) Q := wp_deviceId 𝒱₀ (c : Thread nD τ) none Set.univ

theorem ow_done (c : Dev nD) : (ow c (OS c 0) : sProp 𝕄) ⊢ ow c 0 := Entails.of_eq rfl

theorem dv_self (d : Dev nD) : dv (d : ℕ) = d := Fin.ext (Nat.mod_eq_of_lt d.isLt)

theorem all8 (Φ : Dev nD → sProp 𝕄) : bigSep Finset.univ Φ = iprop(Φ (dv 0) ∗ Φ (dv 1) ∗ Φ (dv 2) ∗ Φ (dv 3) ∗ Φ (dv 4) ∗ Φ (dv 5) ∗ Φ (dv 6) ∗ Φ (dv 7)) := by
  rw [← sp8 (fun k => Φ (dv k)), big_fin]
  exact bigSep_congr fun d _ => congrArg Φ (dv_self d).symm

/-- Every device's slab before it is dealt with: the slots that the others hand over, the tokens of the sends, the own slot. -/
theorem mk_pre (c : Dev nD) :
    iprop((bigSep (Finset.univ.erase c) fun d : Dev nD => iprop(∃ f, cmP d (c : ℕ) f))
      ∗ (bigSep (Finset.univ.erase c) fun d : Dev nD => iprop(dutyTok ER (dG c (2 + d)) 0 d ∗ dutyTok ER (dG d (10 + c)) 0 c))
      ∗ (∃ f, cmP c (c : ℕ) f) ∗ ∃ f, aP c 0 f : sProp 𝕄)
      ⊢ iprop(Pre c (dv 0) ∗ Pre c (dv 1) ∗ Pre c (dv 2) ∗ Pre c (dv 3) ∗ Pre c (dv 4) ∗ Pre c (dv 5) ∗ Pre c (dv 6) ∗ Pre c (dv 7)) := by
  have e : (bigSep (Finset.univ.erase c) (Pre c) : sProp 𝕄)
      = iprop((bigSep (Finset.univ.erase c) fun d : Dev nD => iprop(∃ f, cmP d (c : ℕ) f))
        ∗ bigSep (Finset.univ.erase c) fun d : Dev nD => iprop(dutyTok ER (dG c (2 + d)) 0 d ∗ dutyTok ER (dG d (10 + c)) 0 c)) :=
    (bigSep_congr fun d hd => Pre_oth (fun h => Finset.ne_of_mem_erase hd h.symm)).trans (bigSep_sep' _ _ _)
  rw [← all8 (Pre c), bigSep_univ_at (Pre c) c, Pre_own rfl, e]
  iintro ⟨H1, H2, H3, H4⟩
  isplitl [H3 H4]
  · isplitl [H3]; · iexact H3
    iexact H4
  isplitl [H1]; · iexact H1
  iexact H2

/-- After the slabs: the own one in place, one credit for every send. -/
theorem pst_all (I : Inp F) (c : Dev nD) :
    iprop(Pst I c (dv 0) ∗ Pst I c (dv 1) ∗ Pst I c (dv 2) ∗ Pst I c (dv 3) ∗ Pst I c (dv 4) ∗ Pst I c (dv 5) ∗ Pst I c (dv 6) ∗ Pst I c (dv 7) : sProp 𝕄)
      ⊢ iprop(cmP c (c : ℕ) (cmF I c) ∗ aP c 0 (aF I c) ∗ xsP c (c : ℕ) (xsF I c)
        ∗ bigSep (Finset.univ.erase c) fun d : Dev nD => cred (tallyAt (dG c (2 + d)) () 8192)) := by
  rw [← all8 (Pst I c), bigSep_univ_at (Pst I c) c, Pst_own rfl,
    bigSep_congr (s := Finset.univ.erase c) (Φ := Pst I c) fun d hd => Pst_oth (fun h => Finset.ne_of_mem_erase hd h.symm)]
  iintro ⟨⟨⟨H1, H2⟩, H3⟩, H4⟩
  isplitl [H1]; · iexact H1
  isplitl [H2]; · iexact H2
  isplitl [H3]; · iexact H3
  iexact H4

/-- The last block's copy, under the number of its semaphore. -/
theorem fly15 (I : Inp F) (c : Dev nD) {b : ℕ} (h : b = 15) :
    (Fly c (50 + b) iprop(oP c b (oF I c) ∗ acP c b (oF I c)) : sProp 𝕄) ⊢ Fly c 65 iprop(oP c 15 (oF I c) ∗ acP c 15 (oF I c)) := by
  subst h; exact Entails.of_eq rfl

/-- The first step. -/
theorem T0 (I : Inp F) (c : Dev nD) (i : grid0.Coords) (ht : (i 0 : ℕ) = 0)
    {Q : PUnit → sProp 𝕄} :
    iprop(ctx I ∗ ow c (OB c (6 + 1)) ∗ dutyTok ER (barG (dv (c + (7 - 6)))) 0 c ∗ (∃ f, cmP c (dv (c + (7 - 6)) : ℕ) f) ∗ dutyTok ER (barG (dv (c + (7 - 5)))) 0 c ∗ (∃ f, cmP c (dv (c + (7 - 5)) : ℕ) f) ∗ dutyTok ER (barG (dv (c + (7 - 4)))) 0 c ∗ (∃ f, cmP c (dv (c + (7 - 4)) : ℕ) f) ∗ dutyTok ER (barG (dv (c + (7 - 3)))) 0 c ∗ (∃ f, cmP c (dv (c + (7 - 3)) : ℕ) f) ∗ dutyTok ER (barG (dv (c + (7 - 2)))) 0 c ∗ (∃ f, cmP c (dv (c + (7 - 2)) : ℕ) f) ∗ dutyTok ER (barG (dv (c + (7 - 1)))) 0 c ∗ (∃ f, cmP c (dv (c + (7 - 1)) : ℕ) f) ∗ dutyTok ER (barG (dv (c + (7 - 0)))) 0 c ∗ (∃ f, cmP c (dv (c + (7 - 0)) : ℕ) f) ∗ cred (tallyAt (barG c) () 7) ∗ atPos ER (barG c) 0 ∅ 0 ∗ xP c 0 (I.X c) ∗ (∃ f, stP c 0 f) ∗ sm0 c 48 ∗ xP c 1 (I.X c) ∗ (∃ f, stP c 1 f) ∗ sm0 c 49 ∗ (∃ f, xsP c 0 f) ∗ (bigSep (Finset.univ.erase c) fun d : Dev nD => iprop(dutyTok ER (dG c (2 + d)) 0 d ∗ dutyTok ER (dG d (10 + c)) 0 c)) ∗ (∃ f, cmP c (c : ℕ) f) ∗ (∃ f, aP c 0 f) ∗ xP c 2 (I.X c) ∗ (∃ f, xsP c 1 f) ∗ xP c 3 (I.X c) ∗ (∃ f, xsP c 2 f) ∗ xP c 4 (I.X c) ∗ (∃ f, xsP c 3 f) ∗ xP c 5 (I.X c) ∗ (∃ f, xsP c 4 f) ∗ xP c 6 (I.X c) ∗ (∃ f, xsP c 5 f) ∗ xP c 7 (I.X c) ∗ (∃ f, xsP c 6 f) ∗ (∃ f, xsP c 7 f) ∗ wP c (c : ℕ) 0 (I.W c) ∗ (∃ f, waP c 0 f) ∗ sm0 c 18 ∗ wP c (c : ℕ) 1 (I.W c) ∗ (∃ f, waP c 1 f) ∗ sm0 c 19 ∗ wP c (dv (c + 0 + 1) : ℕ) 0 (I.W c) ∗ (∃ f, wbP c 0 0 f) ∗ sm0 c 20 ∗ wP c (dv (c + 1 + 1) : ℕ) 0 (I.W c) ∗ (∃ f, wbP c 0 1 f) ∗ sm0 c 21 ∗ wP c (dv (c + 2 + 1) : ℕ) 0 (I.W c) ∗ (∃ f, wbP c 0 2 f) ∗ sm0 c 22 ∗ wP c (dv (c + 3 + 1) : ℕ) 0 (I.W c) ∗ (∃ f, wbP c 0 3 f) ∗ sm0 c 23 ∗ wP c (dv (c + 4 + 1) : ℕ) 0 (I.W c) ∗ (∃ f, wbP c 0 4 f) ∗ sm0 c 24 ∗ wP c (dv (c + 5 + 1) : ℕ) 0 (I.W c) ∗ (∃ f, wbP c 0 5 f) ∗ sm0 c 25 ∗ wP c (dv (c + 6 + 1) : ℕ) 0 (I.W c) ∗ (∃ f, wbP c 0 6 f) ∗ sm0 c 26 ∗ wP c (dv (c + 0 + 1) : ℕ) 1 (I.W c) ∗ (∃ f, wbP c 1 0 f) ∗ sm0 c 27 ∗ wP c (dv (c + 1 + 1) : ℕ) 1 (I.W c) ∗ (∃ f, wbP c 1 1 f) ∗ sm0 c 28 ∗ wP c (dv (c + 2 + 1) : ℕ) 1 (I.W c) ∗ (∃ f, wbP c 1 2 f) ∗ sm0 c 29 ∗ wP c (dv (c + 3 + 1) : ℕ) 1 (I.W c) ∗ (∃ f, wbP c 1 3 f) ∗ sm0 c 30 ∗ wP c (dv (c + 4 + 1) : ℕ) 1 (I.W c) ∗ (∃ f, wbP c 1 4 f) ∗ sm0 c 31 ∗ wP c (dv (c + 5 + 1) : ℕ) 1 (I.W c) ∗ (∃ f, wbP c 1 5 f) ∗ sm0 c 32 ∗ wP c (dv (c + 6 + 1) : ℕ) 1 (I.W c) ∗ (∃ f, wbP c 1 6 f) ∗ sm0 c 33 ∗ wP c (dv (c + 0 + 1) : ℕ) 2 (I.W c) ∗ (∃ f, wbP c 2 0 f) ∗ sm0 c 34 ∗ wP c (dv (c + 1 + 1) : ℕ) 2 (I.W c) ∗ (∃ f, wbP c 2 1 f) ∗ sm0 c 35 ∗ wP c (dv (c + 2 + 1) : ℕ) 2 (I.W c) ∗ (∃ f, wbP c 2 2 f) ∗ sm0 c 36 ∗ wP c (dv (c + 3 + 1) : ℕ) 2 (I.W c) ∗ (∃ f, wbP c 2 3 f) ∗ sm0 c 37 ∗ wP c (dv (c + 4 + 1) : ℕ) 2 (I.W c) ∗ (∃ f, wbP c 2 4 f) ∗ sm0 c 38 ∗ wP c (dv (c + 5 + 1) : ℕ) 2 (I.W c) ∗ (∃ f, wbP c 2 5 f) ∗ sm0 c 39 ∗ wP c (dv (c + 6 + 1) : ℕ) 2 (I.W c) ∗ (∃ f, wbP c 2 6 f) ∗ sm0 c 40 ∗ (∃ f, acP c 0 f) ∗ wP c (c : ℕ) 2 (I.W c) : sProp 𝕄)
      ⊢ iprop(((ow c 0 ∗ xP c 0 (I.X c) ∗ stP c 0 (pl3 (xb I c 6)) ∗ sm0 c 48 ∗ xP c 1 (I.X c) ∗ stP c 1 (pl3 (xb I c 7)) ∗ sm0 c 49 ∗ xP c 2 (I.X c) ∗ xP c 3 (I.X c) ∗ xP c 4 (I.X c) ∗ xP c 5 (I.X c) ∗ xP c 6 (I.X c) ∗ xP c 7 (I.X c) ∗ wP c (c : ℕ) 0 (I.W c) ∗ Fly c 18 iprop(waP c 0 (pl3 (wblk I c (c : ℕ) 2)) ∗ wP c (c : ℕ) 2 (I.W c)) ∗ Fly c 19 iprop(waP c 1 (pl3 (wblk I c (c : ℕ) 1)) ∗ wP c (c : ℕ) 1 (I.W c)) ∗ Fly c 20 iprop(wbP c 0 0 (wbF I c 0) ∗ wP c (dv (c + 0 + 1) : ℕ) 0 (I.W c)) ∗ Fly c 21 iprop(wbP c 0 1 (wbF I c 0) ∗ wP c (dv (c + 1 + 1) : ℕ) 0 (I.W c)) ∗ Fly c 22 iprop(wbP c 0 2 (wbF I c 0) ∗ wP c (dv (c + 2 + 1) : ℕ) 0 (I.W c)) ∗ Fly c 23 iprop(wbP c 0 3 (wbF I c 0) ∗ wP c (dv (c + 3 + 1) : ℕ) 0 (I.W c)) ∗ Fly c 24 iprop(wbP c 0 4 (wbF I c 0) ∗ wP c (dv (c + 4 + 1) : ℕ) 0 (I.W c)) ∗ Fly c 25 iprop(wbP c 0 5 (wbF I c 0) ∗ wP c (dv (c + 5 + 1) : ℕ) 0 (I.W c)) ∗ Fly c 26 iprop(wbP c 0 6 (wbF I c 0) ∗ wP c (dv (c + 6 + 1) : ℕ) 0 (I.W c)) ∗ Fly c 27 iprop(wbP c 1 0 (wbF I c 1) ∗ wP c (dv (c + 0 + 1) : ℕ) 1 (I.W c)) ∗ Fly c 28 iprop(wbP c 1 1 (wbF I c 1) ∗ wP c (dv (c + 1 + 1) : ℕ) 1 (I.W c)) ∗ Fly c 29 iprop(wbP c 1 2 (wbF I c 1) ∗ wP c (dv (c + 2 + 1) : ℕ) 1 (I.W c)) ∗ Fly c 30 iprop(wbP c 1 3 (wbF I c 1) ∗ wP c (dv (c + 3 + 1) : ℕ) 1 (I.W c)) ∗ Fly c 31 iprop(wbP c 1 4 (wbF I c 1) ∗ wP c (dv (c + 4 + 1) : ℕ) 1 (I.W c)) ∗ Fly c 32 iprop(wbP c 1 5 (wbF I c 1) ∗ wP c (dv (c + 5 + 1) : ℕ) 1 (I.W c)) ∗ Fly c 33 iprop(wbP c 1 6 (wbF I c 1) ∗ wP c (dv (c + 6 + 1) : ℕ) 1 (I.W c)) ∗ Fly c 34 iprop(wbP c 2 0 (wbF I c 2) ∗ wP c (dv (c + 0 + 1) : ℕ) 2 (I.W c)) ∗ Fly c 35 iprop(wbP c 2 1 (wbF I c 2) ∗ wP c (dv (c + 1 + 1) : ℕ) 2 (I.W c)) ∗ Fly c 36 iprop(wbP c 2 2 (wbF I c 2) ∗ wP c (dv (c + 2 + 1) : ℕ) 2 (I.W c)) ∗ Fly c 37 iprop(wbP c 2 3 (wbF I c 2) ∗ wP c (dv (c + 3 + 1) : ℕ) 2 (I.W c)) ∗ Fly c 38 iprop(wbP c 2 4 (wbF I c 2) ∗ wP c (dv (c + 4 + 1) : ℕ) 2 (I.W c)) ∗ Fly c 39 iprop(wbP c 2 5 (wbF I c 2) ∗ wP c (dv (c + 5 + 1) : ℕ) 2 (I.W c)) ∗ Fly c 40 iprop(wbP c 2 6 (wbF I c 2) ∗ wP c (dv (c + 6 + 1) : ℕ) 2 (I.W c)) ∗ acP c 0 (acF I c) ∗ semVal (barG c) 0 ∗ cmP c (c : ℕ) (cmF I c) ∗ aP c 0 (aF I c) ∗ xsP c (c : ℕ) (xsF I c) ∗ (bigSep (Finset.univ.erase c) fun d : Dev nD => cred (tallyAt (dG c (2 + d)) () 8192))) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  have h1 := c1_y i (by omega)
  have h18 := c18_y i (by omega)
  have h19 := c19_y i (by omega)
  have h20 := c20_n i (by omega)
  have h21 := c21_n i (by omega)
  have h23 := c23_n i (by omega)
  rw [cc0_body_eq_skeleton]; unfold cc0_body_skel
  simp only [↓dif_pos h1, ↓dif_pos h18, ↓dif_pos h19, ↓dif_neg h20, ↓dif_neg h21, ↓dif_neg h23, WP_dev, Prog.lift, Prog.bind_op, Prog.bind_ret, Prog.pure_eq_ret, Prog.bind_assoc]
  iintro ⟨#HC, How, Htokbar6, ⟨%fHslot6, Hslot6⟩, Htokbar5, ⟨%fHslot5, Hslot5⟩, Htokbar4, ⟨%fHslot4, Hslot4⟩, Htokbar3, ⟨%fHslot3, Hslot3⟩, Htokbar2, ⟨%fHslot2, Hslot2⟩, Htokbar1, ⟨%fHslot1, Hslot1⟩, Htokbar0, ⟨%fHslot0, Hslot0⟩, Hcredbar, Hatbar, Hx0, ⟨%fHst0, Hst0⟩, Hsm48, Hx1, ⟨%fHst1, Hst1⟩, Hsm49, ⟨%fHxs0, Hxs0⟩, Htoks, ⟨%fHcmown, Hcmown⟩, ⟨%fHa_0, Ha_0⟩, Hx2, ⟨%fHxs1, Hxs1⟩, Hx3, ⟨%fHxs2, Hxs2⟩, Hx4, ⟨%fHxs3, Hxs3⟩, Hx5, ⟨%fHxs4, Hxs4⟩, Hx6, ⟨%fHxs5, Hxs5⟩, Hx7, ⟨%fHxs6, Hxs6⟩, ⟨%fHxs7, Hxs7⟩, Hwo_0, ⟨%fHwa0, Hwa0⟩, Hsm18, Hwo_1, ⟨%fHwa1, Hwa1⟩, Hsm19, Hwr0_0, ⟨%fHwb0_0, Hwb0_0⟩, Hsm20, Hwr1_0, ⟨%fHwb0_1, Hwb0_1⟩, Hsm21, Hwr2_0, ⟨%fHwb0_2, Hwb0_2⟩, Hsm22, Hwr3_0, ⟨%fHwb0_3, Hwb0_3⟩, Hsm23, Hwr4_0, ⟨%fHwb0_4, Hwb0_4⟩, Hsm24, Hwr5_0, ⟨%fHwb0_5, Hwb0_5⟩, Hsm25, Hwr6_0, ⟨%fHwb0_6, Hwb0_6⟩, Hsm26, Hwr0_1, ⟨%fHwb1_0, Hwb1_0⟩, Hsm27, Hwr1_1, ⟨%fHwb1_1, Hwb1_1⟩, Hsm28, Hwr2_1, ⟨%fHwb1_2, Hwb1_2⟩, Hsm29, Hwr3_1, ⟨%fHwb1_3, Hwb1_3⟩, Hsm30, Hwr4_1, ⟨%fHwb1_4, Hwb1_4⟩, Hsm31, Hwr5_1, ⟨%fHwb1_5, Hwb1_5⟩, Hsm32, Hwr6_1, ⟨%fHwb1_6, Hwb1_6⟩, Hsm33, Hwr0_2, ⟨%fHwb2_0, Hwb2_0⟩, Hsm34, Hwr1_2, ⟨%fHwb2_1, Hwb2_1⟩, Hsm35, Hwr2_2, ⟨%fHwb2_2, Hwb2_2⟩, Hsm36, Hwr3_2, ⟨%fHwb2_3, Hwb2_3⟩, Hsm37, Hwr4_2, ⟨%fHwb2_4, Hwb2_4⟩, Hsm38, Hwr5_2, ⟨%fHwb2_5, Hwb2_5⟩, Hsm39, Hwr6_2, ⟨%fHwb2_6, Hwb2_6⟩, Hsm40, ⟨%fHac_0, Hac_0⟩, Hwo_2⟩ Hk
  iapply (pr1 I c i _ _) $$ [How Htokbar6 Hslot6 Htokbar5 Hslot5 Htokbar4 Hslot4 Htokbar3 Hslot3 Htokbar2 Hslot2]
  · isplitr; · iexact HC
    isplitl [How]; · iexact How
    isplitl [Htokbar6]; · iexact Htokbar6
    isplitl [Hslot6]; · iexists _; iexact Hslot6
    isplitl [Htokbar5]; · iexact Htokbar5
    isplitl [Hslot5]; · iexists _; iexact Hslot5
    isplitl [Htokbar4]; · iexact Htokbar4
    isplitl [Hslot4]; · iexists _; iexact Hslot4
    isplitl [Htokbar3]; · iexact Htokbar3
    isplitl [Hslot3]; · iexists _; iexact Hslot3
    isplitl [Htokbar2]; · iexact Htokbar2
    iexists _; iexact Hslot2
  iintro How
  iapply (pr2 I c i _ _) $$ [How Htokbar1 Hslot1 Htokbar0 Hslot0 Hcredbar Hatbar Hx0 Hst0 Hsm48 Hx1 Hst1 Hsm49 Hxs0]
  · isplitr; · iexact HC
    isplitl [How]; · iexact How
    isplitl [Htokbar1]; · iexact Htokbar1
    isplitl [Hslot1]; · iexists _; iexact Hslot1
    isplitl [Htokbar0]; · iexact Htokbar0
    isplitl [Hslot0]; · iexists _; iexact Hslot0
    isplitl [Hcredbar]; · iexact Hcredbar
    isplitl [Hatbar]; · iexact Hatbar
    isplitl [Hx0]; · iexact Hx0
    isplitl [Hst0]; · iexists _; iexact Hst0
    isplitl [Hsm48]; · iexact Hsm48
    isplitl [Hx1]; · iexact Hx1
    isplitl [Hst1]; · iexists _; iexact Hst1
    isplitl [Hsm49]; · iexact Hsm49
    iexists _; iexact Hxs0
  iintro ⟨How, Hx0, Hst0, Hsm48, Hsm49, ⟨%fHxs0, Hxs0⟩, Hsmbar, Hbars⟩
  ihave Hall := (mk_pre c) $$ [Hbars Htoks Hcmown Ha_0]
  · isplitl [Hbars]; · iexact Hbars
    isplitl [Htoks]; · iexact Htoks
    isplitl [Hcmown]; · iexists _; iexact Hcmown
    iexists _; iexact Ha_0
  icases Hall with ⟨Hslab0, Hslab1, Hslab2, Hslab3, Hslab4, Hslab5, Hslab6, Hslab7⟩
  iapply (pr3 I c i _ _) $$ [Hxs0 Hx2 Hst0 Hsm48 Hslab0 How Hsm49 Hxs1]
  · isplitr; · iexact HC
    isplitl [Hxs0]; · iexists _; iexact Hxs0
    isplitl [Hx2]; · iexact Hx2
    isplitl [Hst0]; · iexact Hst0
    isplitl [Hsm48]; · iexact Hsm48
    isplitl [Hslab0]; · iexact Hslab0
    isplitl [How]; · iexact How
    isplitl [Hsm49]; · iexact Hsm49
    iexists _; iexact Hxs1
  iintro ⟨Hsm48, Hslab0, How, Hsm49, Hxs1, Hst1, Hx1⟩
  try dsimp only
  iapply (pr4 I c i _ _) $$ [Hx3 Hst1 Hsm49 Hslab1 Hxs1 How Hsm48 Hxs2 Hx4 Hslab2]
  · isplitr; · iexact HC
    isplitl [Hx3]; · iexact Hx3
    isplitl [Hst1]; · iexact Hst1
    isplitl [Hsm49]; · iexact Hsm49
    isplitl [Hslab1]; · iexact Hslab1
    isplitl [Hxs1]; · iexact Hxs1
    isplitl [How]; · iexact How
    isplitl [Hsm48]; · iexact Hsm48
    isplitl [Hxs2]; · iexists _; iexact Hxs2
    isplitl [Hx4]; · iexact Hx4
    iexact Hslab2
  iintro %r %q ⟨Hsm49, Hslab1, How, Hsm48, Hxs2, Hslab2, Hx2⟩
  try dsimp only
  iapply (pr5 I c i _ _ _ _) $$ [Hslab2 How Hxs2 Hsm49 Hxs3 Hx5 Hslab3]
  · isplitr; · iexact HC
    isplitl [Hslab2]; · iexact Hslab2
    isplitl [How]; · iexact How
    isplitl [Hxs2]; · iexact Hxs2
    isplitl [Hsm49]; · iexact Hsm49
    isplitl [Hxs3]; · iexists _; iexact Hxs3
    isplitl [Hx5]; · iexact Hx5
    iexact Hslab3
  iintro ⟨Hslab2, How, Hsm49, Hslab3, Hx3⟩
  try dsimp only
  iapply (pr6 I c i _ _) $$ [Hsm48 How Hxs4 Hx6 Hslab4 Hsm49 Hxs5]
  · isplitr; · iexact HC
    isplitl [Hsm48]; · iexact Hsm48
    isplitl [How]; · iexact How
    isplitl [Hxs4]; · iexists _; iexact Hxs4
    isplitl [Hx6]; · iexact Hx6
    isplitl [Hslab4]; · iexact Hslab4
    isplitl [Hsm49]; · iexact Hsm49
    iexists _; iexact Hxs5
  iintro ⟨Hsm48, How, Hslab4, Hsm49, ⟨%fHxs5, Hxs5⟩, Hx4, Hst1, Hx5⟩
  iapply (pr7 I c i _ _) $$ [Hxs5 Hx7 Hst1 Hsm49 Hslab5 How Hsm48 Hxs6 Hslab6]
  · isplitr; · iexact HC
    isplitl [Hxs5]; · iexists _; iexact Hxs5
    isplitl [Hx7]; · iexact Hx7
    isplitl [Hst1]; · iexact Hst1
    isplitl [Hsm49]; · iexact Hsm49
    isplitl [Hslab5]; · iexact Hslab5
    isplitl [How]; · iexact How
    isplitl [Hsm48]; · iexact Hsm48
    isplitl [Hxs6]; · iexists _; iexact Hxs6
    iexact Hslab6
  iintro %r %q ⟨Hsm49, Hslab5, How, Hsm48, Hxs6, Hslab6, Hst0, Hx6⟩
  try dsimp only
  iapply (pr8 I c i _ _ _ _) $$ [Hslab6 How Hxs6 Hsm49 Hxs7 Hslab7 Hwo_0 Hwa0 Hsm18]
  · isplitr; · iexact HC
    isplitl [Hslab6]; · iexact Hslab6
    isplitl [How]; · iexact How
    isplitl [Hxs6]; · iexact Hxs6
    isplitl [Hsm49]; · iexact Hsm49
    isplitl [Hxs7]; · iexists _; iexact Hxs7
    isplitl [Hslab7]; · iexact Hslab7
    isplitl [Hwo_0]; · iexact Hwo_0
    isplitl [Hwa0]; · iexists _; iexact Hwa0
    iexact Hsm18
  iintro ⟨Hslab6, How, Hsm49, Hslab7, Hsm18, Hst1, Hx7⟩
  try dsimp only
  ihave Hall := (pst_all I c) $$ [Hslab0 Hslab1 Hslab2 Hslab3 Hslab4 Hslab5 Hslab6 Hslab7]
  · isplitl [Hslab0]; · iexact Hslab0
    isplitl [Hslab1]; · iexact Hslab1
    isplitl [Hslab2]; · iexact Hslab2
    isplitl [Hslab3]; · iexact Hslab3
    isplitl [Hslab4]; · iexact Hslab4
    isplitl [Hslab5]; · iexact Hslab5
    isplitl [Hslab6]; · iexact Hslab6
    iexact Hslab7
  icases Hall with ⟨Hcmown, Ha_0, Hxsown, HcredS⟩
  ihave How := (ow_done c) $$ How
  iapply (pr9 I c i _ _) $$ [Hwo_1 Hwa1 Hsm19 Hwr0_0 Hwb0_0 Hsm20 Hwr1_0 Hwb0_1 Hsm21]
  · isplitr; · iexact HC
    isplitl [Hwo_1]; · iexact Hwo_1
    isplitl [Hwa1]; · iexists _; iexact Hwa1
    isplitl [Hsm19]; · iexact Hsm19
    isplitl [Hwr0_0]; · iexact Hwr0_0
    isplitl [Hwb0_0]; · iexists _; iexact Hwb0_0
    isplitl [Hsm20]; · iexact Hsm20
    isplitl [Hwr1_0]; · iexact Hwr1_0
    isplitl [Hwb0_1]; · iexists _; iexact Hwb0_1
    iexact Hsm21
  iintro %r ⟨Hsm19, Hsm20, Hsm21⟩
  iapply (pr10 I c i _ _ _) $$ [Hwr2_0 Hwb0_2 Hsm22 Hwr3_0 Hwb0_3 Hsm23 Hwr4_0 Hwb0_4 Hsm24]
  · isplitr; · iexact HC
    isplitl [Hwr2_0]; · iexact Hwr2_0
    isplitl [Hwb0_2]; · iexists _; iexact Hwb0_2
    isplitl [Hsm22]; · iexact Hsm22
    isplitl [Hwr3_0]; · iexact Hwr3_0
    isplitl [Hwb0_3]; · iexists _; iexact Hwb0_3
    isplitl [Hsm23]; · iexact Hsm23
    isplitl [Hwr4_0]; · iexact Hwr4_0
    isplitl [Hwb0_4]; · iexists _; iexact Hwb0_4
    iexact Hsm24
  iintro %r %q ⟨Hsm22, Hsm23, Hsm24⟩
  try dsimp only
  iapply (pr11 I c i _ _ _ _) $$ [Hwr5_0 Hwb0_5 Hsm25 Hwr6_0 Hwb0_6 Hsm26 Hwr0_1 Hwb1_0 Hsm27]
  · isplitr; · iexact HC
    isplitl [Hwr5_0]; · iexact Hwr5_0
    isplitl [Hwb0_5]; · iexists _; iexact Hwb0_5
    isplitl [Hsm25]; · iexact Hsm25
    isplitl [Hwr6_0]; · iexact Hwr6_0
    isplitl [Hwb0_6]; · iexists _; iexact Hwb0_6
    isplitl [Hsm26]; · iexact Hsm26
    isplitl [Hwr0_1]; · iexact Hwr0_1
    isplitl [Hwb1_0]; · iexists _; iexact Hwb1_0
    iexact Hsm27
  iintro ⟨Hsm25, Hsm26, Hsm27⟩
  try dsimp only
  iapply (pr12 I c i _ _) $$ [Hwr1_1 Hwb1_1 Hsm28 Hwr2_1 Hwb1_2 Hsm29]
  · isplitr; · iexact HC
    isplitl [Hwr1_1]; · iexact Hwr1_1
    isplitl [Hwb1_1]; · iexists _; iexact Hwb1_1
    isplitl [Hsm28]; · iexact Hsm28
    isplitl [Hwr2_1]; · iexact Hwr2_1
    isplitl [Hwb1_2]; · iexists _; iexact Hwb1_2
    iexact Hsm29
  iintro ⟨Hsm28, Hsm29⟩
  try dsimp only
  iapply (pr13 I c i _ _) $$ [Hwr3_1 Hwb1_3 Hsm30 Hwr4_1 Hwb1_4 Hsm31 Hwr5_1 Hwb1_5 Hsm32]
  · isplitr; · iexact HC
    isplitl [Hwr3_1]; · iexact Hwr3_1
    isplitl [Hwb1_3]; · iexists _; iexact Hwb1_3
    isplitl [Hsm30]; · iexact Hsm30
    isplitl [Hwr4_1]; · iexact Hwr4_1
    isplitl [Hwb1_4]; · iexists _; iexact Hwb1_4
    isplitl [Hsm31]; · iexact Hsm31
    isplitl [Hwr5_1]; · iexact Hwr5_1
    isplitl [Hwb1_5]; · iexists _; iexact Hwb1_5
    iexact Hsm32
  iintro ⟨Hsm30, Hsm31, Hsm32⟩
  try dsimp only
  iapply (pr14 I c i _ _) $$ [Hwr6_1 Hwb1_6 Hsm33 Hwr0_2 Hwb2_0 Hsm34 Hwr1_2 Hwb2_1 Hsm35]
  · isplitr; · iexact HC
    isplitl [Hwr6_1]; · iexact Hwr6_1
    isplitl [Hwb1_6]; · iexists _; iexact Hwb1_6
    isplitl [Hsm33]; · iexact Hsm33
    isplitl [Hwr0_2]; · iexact Hwr0_2
    isplitl [Hwb2_0]; · iexists _; iexact Hwb2_0
    isplitl [Hsm34]; · iexact Hsm34
    isplitl [Hwr1_2]; · iexact Hwr1_2
    isplitl [Hwb2_1]; · iexists _; iexact Hwb2_1
    iexact Hsm35
  iintro ⟨Hsm33, Hsm34, Hsm35⟩
  try dsimp only
  iapply (pr15 I c i _ _) $$ [Hwr2_2 Hwb2_2 Hsm36 Hwr3_2 Hwb2_3 Hsm37 Hwr4_2 Hwb2_4 Hsm38]
  · isplitr; · iexact HC
    isplitl [Hwr2_2]; · iexact Hwr2_2
    isplitl [Hwb2_2]; · iexists _; iexact Hwb2_2
    isplitl [Hsm36]; · iexact Hsm36
    isplitl [Hwr3_2]; · iexact Hwr3_2
    isplitl [Hwb2_3]; · iexists _; iexact Hwb2_3
    isplitl [Hsm37]; · iexact Hsm37
    isplitl [Hwr4_2]; · iexact Hwr4_2
    isplitl [Hwb2_4]; · iexists _; iexact Hwb2_4
    iexact Hsm38
  iintro %r ⟨Hsm36, Hsm37, Hsm38⟩
  iapply (cp_wb I c (dv (c + 5 + 1) : ℕ) 2 2 5 rfl 39 (k0_off45_eq c 5) (k0_off41_eq 2) (s2 (k0_off40_eq 2))) $$ [Hwr5_2 Hwb2_5 Hsm39]
  · isplitl [Hwr5_2]; · iexact Hwr5_2
    isplitl [Hwb2_5]; · iexact Hwb2_5
    iexact Hsm39
  iintro Hsm39
  iapply (cp_wb I c (dv (c + 6 + 1) : ℕ) 2 2 6 rfl 40 (k0_off45_eq c 6) (k0_off43_eq 2) (s2 (k0_off42_eq 2))) $$ [Hwr6_2 Hwb2_6 Hsm40]
  · isplitl [Hwr6_2]; · iexact Hwr6_2
    isplitl [Hwb2_6]; · iexact Hwb2_6
    iexact Hsm40
  iintro Hsm40
  iapply (wt_fly c 18 iprop(waP c 0 (pl3 (wblk I c (c : ℕ) 0)) ∗ wP c (c : ℕ) 0 (I.W c)) (s1 (e46 ht)) cr_wa) $$ [Hsm18 How]
  · isplitl [Hsm18]; · iexact Hsm18
    iexact How
  iintro ⟨⟨Hwa0, Hwo_0⟩, Hsm18, How⟩
  iapply (ld_wa c 0 (wblk I c (c : ℕ) 0) (e49 ht)) $$ [Hwa0]
  · iexact Hwa0
  iintro Hwa0
  iapply (ld_a I c 0 rfl) $$ [Ha_0]
  · iexact Ha_0
  iintro Ha_0
  iapply (ldd_ac c 0 (e50 ht)) $$ [Hac_0]
  · iexact Hac_0
  iintro Hac_0
  iexists _
  isplitr
  · ipureintro; intro _; rfl
  iapply (st_ac I c 0 (e50 ht) rfl) $$ [Hac_0]
  · iexact Hac_0
  iintro Hac_0
  iapply (cp_wa I c (c : ℕ) 2 0 18 (e53 c ht) (e52 ht) (s1 (e51 ht))) $$ [Hwo_2 Hwa0 Hsm18]
  · isplitl [Hwo_2]; · iexact Hwo_2
    isplitl [Hwa0]; · iexact Hwa0
    iexact Hsm18
  iintro Hsm18
  iapply (WP_ret c)
  iapply Hk
  isplitl [How]
  · iexact How
  isplitl [Hx0]
  · iexact Hx0
  isplitl [Hst0]
  · iexact Hst0
  isplitl [Hsm48]
  · iexact Hsm48
  isplitl [Hx1]
  · iexact Hx1
  isplitl [Hst1]
  · iexact Hst1
  isplitl [Hsm49]
  · iexact Hsm49
  isplitl [Hx2]
  · iexact Hx2
  isplitl [Hx3]
  · iexact Hx3
  isplitl [Hx4]
  · iexact Hx4
  isplitl [Hx5]
  · iexact Hx5
  isplitl [Hx6]
  · iexact Hx6
  isplitl [Hx7]
  · iexact Hx7
  isplitl [Hwo_0]
  · iexact Hwo_0
  isplitl [Hsm18]
  · iexact Hsm18
  isplitl [Hsm19]
  · iexact Hsm19
  isplitl [Hsm20]
  · iexact Hsm20
  isplitl [Hsm21]
  · iexact Hsm21
  isplitl [Hsm22]
  · iexact Hsm22
  isplitl [Hsm23]
  · iexact Hsm23
  isplitl [Hsm24]
  · iexact Hsm24
  isplitl [Hsm25]
  · iexact Hsm25
  isplitl [Hsm26]
  · iexact Hsm26
  isplitl [Hsm27]
  · iexact Hsm27
  isplitl [Hsm28]
  · iexact Hsm28
  isplitl [Hsm29]
  · iexact Hsm29
  isplitl [Hsm30]
  · iexact Hsm30
  isplitl [Hsm31]
  · iexact Hsm31
  isplitl [Hsm32]
  · iexact Hsm32
  isplitl [Hsm33]
  · iexact Hsm33
  isplitl [Hsm34]
  · iexact Hsm34
  isplitl [Hsm35]
  · iexact Hsm35
  isplitl [Hsm36]
  · iexact Hsm36
  isplitl [Hsm37]
  · iexact Hsm37
  isplitl [Hsm38]
  · iexact Hsm38
  isplitl [Hsm39]
  · iexact Hsm39
  isplitl [Hsm40]
  · iexact Hsm40
  isplitl [Hac_0]
  · iexact Hac_0
  isplitl [Hsmbar]
  · iexact Hsmbar
  isplitl [Hcmown]
  · iexact Hcmown
  isplitl [Ha_0]
  · iexact Ha_0
  isplitl [Hxsown]
  · iexact Hxsown
  iexact HcredS

/-- A step of the first phase. -/
theorem TA (I : Inp F) (c : Dev nD) (i : grid0.Coords) {t : ℕ} (ht : (i 0 : ℕ) = t) (h0 : 0 < t) (hl : t < 14)
    {Q : PUnit → sProp 𝕄} :
    iprop(ctx I ∗ Fly c (18 + t % 2) iprop(waP c (t % 2) (pl3 (wblk I c (c : ℕ) (t))) ∗ wP c (c : ℕ) (t) (I.W c)) ∗ ow c 0 ∗ aP c 0 (aF I c) ∗ (∃ f, acP c (t) f) ∗ wP c (c : ℕ) (t + 2) (I.W c) : sProp 𝕄)
      ⊢ iprop(((Fly c (18 + t % 2) iprop(waP c (t % 2) (pl3 (wblk I c (c : ℕ) (t + 2))) ∗ wP c (c : ℕ) (t + 2) (I.W c)) ∗ ow c 0 ∗ aP c 0 (aF I c) ∗ acP c (t) (acF I c) ∗ wP c (c : ℕ) (t) (I.W c)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  have h1 := c1_n i (by omega)
  have h18 := c18_y i (by omega)
  have h19 := c19_y i (by omega)
  have h20 := c20_n i (by omega)
  have h21 := c21_n i (by omega)
  have h23 := c23_n i (by omega)
  rw [cc0_body_eq_skeleton]; unfold cc0_body_skel
  simp only [↓dif_neg h1, ↓dif_pos h18, ↓dif_pos h19, ↓dif_neg h20, ↓dif_neg h21, ↓dif_neg h23, WP_dev, Prog.lift, Prog.bind_op, Prog.bind_ret, Prog.pure_eq_ret, Prog.bind_assoc]
  iintro ⟨#HC, Hsm_18___t___2_, How, Ha_0, ⟨%fHac__t_, Hac__t_⟩, Hwo__t___2_⟩ Hk
  iapply (wt_fly c (18 + t % 2) iprop(waP c (t % 2) (pl3 (wblk I c (c : ℕ) (t))) ∗ wP c (c : ℕ) (t) (I.W c)) (s1 (e46 ht)) cr_wa) $$ [Hsm_18___t___2_ How]
  · isplitl [Hsm_18___t___2_]; · iexact Hsm_18___t___2_
    iexact How
  iintro ⟨⟨Hwa_t___2_, Hwo__t_⟩, Hsm_18___t___2_, How⟩
  iapply (ld_wa c (t % 2) (wblk I c (c : ℕ) (t)) (e49 ht)) $$ [Hwa_t___2_]
  · iexact Hwa_t___2_
  iintro Hwa_t___2_
  iapply (ld_a I c 0 rfl) $$ [Ha_0]
  · iexact Ha_0
  iintro Ha_0
  iapply (ldd_ac c (t) (e50 ht)) $$ [Hac__t_]
  · iexact Hac__t_
  iintro Hac__t_
  iexists _
  isplitr
  · ipureintro; intro _; rfl
  iapply (st_ac I c (t) (e50 ht) rfl) $$ [Hac__t_]
  · iexact Hac__t_
  iintro Hac__t_
  iapply (cp_wa I c (c : ℕ) (t + 2) (t % 2) (18 + t % 2) (e53 c ht) (e52 ht) (s1 (e51 ht))) $$ [Hwo__t___2_ Hwa_t___2_ Hsm_18___t___2_]
  · isplitl [Hwo__t___2_]; · iexact Hwo__t___2_
    isplitl [Hwa_t___2_]; · iexact Hwa_t___2_
    iexact Hsm_18___t___2_
  iintro Hsm_18___t___2_
  iapply (WP_ret c)
  iapply Hk
  isplitl [Hsm_18___t___2_]
  · iexact Hsm_18___t___2_
  isplitl [How]
  · iexact How
  isplitl [Ha_0]
  · iexact Ha_0
  isplitl [Hac__t_]
  · iexact Hac__t_
  iexact Hwo__t_

/-- One of the last two steps of the first phase. -/
theorem TA2 (I : Inp F) (c : Dev nD) (i : grid0.Coords) {t : ℕ} (ht : (i 0 : ℕ) = t) (h0 : 14 ≤ t) (hl : t < 16)
    {Q : PUnit → sProp 𝕄} :
    iprop(ctx I ∗ Fly c (18 + t % 2) iprop(waP c (t % 2) (pl3 (wblk I c (c : ℕ) (t))) ∗ wP c (c : ℕ) (t) (I.W c)) ∗ ow c 0 ∗ aP c 0 (aF I c) ∗ (∃ f, acP c (t) f) : sProp 𝕄)
      ⊢ iprop(((sm0 c (18 + t % 2) ∗ ow c 0 ∗ aP c 0 (aF I c) ∗ acP c (t) (acF I c) ∗ waP c (t % 2) (pl3 (wblk I c (c : ℕ) (t))) ∗ wP c (c : ℕ) (t) (I.W c)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  have h1 := c1_n i (by omega)
  have h18 := c18_y i (by omega)
  have h19 := c19_n i (by omega)
  have h20 := c20_n i (by omega)
  have h21 := c21_n i (by omega)
  have h23 := c23_n i (by omega)
  rw [cc0_body_eq_skeleton]; unfold cc0_body_skel
  simp only [↓dif_neg h1, ↓dif_pos h18, ↓dif_neg h19, ↓dif_neg h20, ↓dif_neg h21, ↓dif_neg h23, WP_dev, Prog.lift, Prog.bind_op, Prog.bind_ret, Prog.pure_eq_ret, Prog.bind_assoc]
  iintro ⟨#HC, Hsm_18___t___2_, How, Ha_0, ⟨%fHac__t_, Hac__t_⟩⟩ Hk
  iapply (wt_fly c (18 + t % 2) iprop(waP c (t % 2) (pl3 (wblk I c (c : ℕ) (t))) ∗ wP c (c : ℕ) (t) (I.W c)) (s1 (e46 ht)) cr_wa) $$ [Hsm_18___t___2_ How]
  · isplitl [Hsm_18___t___2_]; · iexact Hsm_18___t___2_
    iexact How
  iintro ⟨⟨Hwa_t___2_, Hwo__t_⟩, Hsm_18___t___2_, How⟩
  iapply (ld_wa c (t % 2) (wblk I c (c : ℕ) (t)) (e49 ht)) $$ [Hwa_t___2_]
  · iexact Hwa_t___2_
  iintro Hwa_t___2_
  iapply (ld_a I c 0 rfl) $$ [Ha_0]
  · iexact Ha_0
  iintro Ha_0
  iapply (ldd_ac c (t) (e50 ht)) $$ [Hac__t_]
  · iexact Hac__t_
  iintro Hac__t_
  iexists _
  isplitr
  · ipureintro; intro _; rfl
  iapply (st_ac I c (t) (e50 ht) rfl) $$ [Hac__t_]
  · iexact Hac__t_
  iintro Hac__t_
  iapply (WP_ret c)
  iapply Hk
  isplitl [Hsm_18___t___2_]
  · iexact Hsm_18___t___2_
  isplitl [How]
  · iexact How
  isplitl [Ha_0]
  · iexact Ha_0
  isplitl [Hac__t_]
  · iexact Hac__t_
  isplitl [Hwa_t___2_]
  · iexact Hwa_t___2_
  iexact Hwo__t_

/-- The first step of the second phase: the exchanged blocks are gathered. -/
theorem T16 (I : Inp F) (c : Dev nD) (i : grid0.Coords) {b : ℕ} (hb : (i 0 : ℕ) = b + 16) (h0 : b = 0)
    {Q : PUnit → sProp 𝕄} :
    iprop(ctx I ∗ ow c 0 ∗ cred (tallyAt (dG c (10 + (dv (c + 0 + 1) : Dev nD))) () 8192) ∗ atPos ER (dG c (10 + (dv (c + 0 + 1) : Dev nD))) 0 ∅ 0 ∗ (∃ f, aP c 1 f) ∗ cred (tallyAt (dG c (10 + (dv (c + 1 + 1) : Dev nD))) () 8192) ∗ atPos ER (dG c (10 + (dv (c + 1 + 1) : Dev nD))) 0 ∅ 0 ∗ (∃ f, aP c 2 f) ∗ cred (tallyAt (dG c (10 + (dv (c + 2 + 1) : Dev nD))) () 8192) ∗ atPos ER (dG c (10 + (dv (c + 2 + 1) : Dev nD))) 0 ∅ 0 ∗ (∃ f, aP c 3 f) ∗ cred (tallyAt (dG c (10 + (dv (c + 3 + 1) : Dev nD))) () 8192) ∗ atPos ER (dG c (10 + (dv (c + 3 + 1) : Dev nD))) 0 ∅ 0 ∗ (∃ f, aP c 4 f) ∗ cred (tallyAt (dG c (10 + (dv (c + 4 + 1) : Dev nD))) () 8192) ∗ atPos ER (dG c (10 + (dv (c + 4 + 1) : Dev nD))) 0 ∅ 0 ∗ (∃ f, aP c 5 f) ∗ cred (tallyAt (dG c (10 + (dv (c + 5 + 1) : Dev nD))) () 8192) ∗ atPos ER (dG c (10 + (dv (c + 5 + 1) : Dev nD))) 0 ∅ 0 ∗ (∃ f, aP c 6 f) ∗ cred (tallyAt (dG c (10 + (dv (c + 6 + 1) : Dev nD))) () 8192) ∗ atPos ER (dG c (10 + (dv (c + 6 + 1) : Dev nD))) 0 ∅ 0 ∗ (∃ f, aP c 7 f) ∗ Fly c (20 + (b % 4 * 7 + 0)) iprop(wbP c (b % 4) 0 (wbF I c b) ∗ wP c (dv (c + 0 + 1) : ℕ) b (I.W c)) ∗ Fly c (20 + (b % 4 * 7 + 1)) iprop(wbP c (b % 4) 1 (wbF I c b) ∗ wP c (dv (c + 1 + 1) : ℕ) b (I.W c)) ∗ Fly c (20 + (b % 4 * 7 + 2)) iprop(wbP c (b % 4) 2 (wbF I c b) ∗ wP c (dv (c + 2 + 1) : ℕ) b (I.W c)) ∗ Fly c (20 + (b % 4 * 7 + 3)) iprop(wbP c (b % 4) 3 (wbF I c b) ∗ wP c (dv (c + 3 + 1) : ℕ) b (I.W c)) ∗ Fly c (20 + (b % 4 * 7 + 4)) iprop(wbP c (b % 4) 4 (wbF I c b) ∗ wP c (dv (c + 4 + 1) : ℕ) b (I.W c)) ∗ Fly c (20 + (b % 4 * 7 + 5)) iprop(wbP c (b % 4) 5 (wbF I c b) ∗ wP c (dv (c + 5 + 1) : ℕ) b (I.W c)) ∗ Fly c (20 + (b % 4 * 7 + 6)) iprop(wbP c (b % 4) 6 (wbF I c b) ∗ wP c (dv (c + 6 + 1) : ℕ) b (I.W c)) ∗ sxP I c ∗ swP I c ∗ acP c b (acF I c) ∗ (∃ f, oP c b f) ∗ sm0 c (50 + b) ∗ wP c (dv (c + 0 + 1) : ℕ) (b + 3) (I.W c) ∗ (∃ f, wbP c ((b + 3) % 4) 0 f) ∗ sm0 c (20 + ((b + 3) % 4 * 7 + 0)) ∗ wP c (dv (c + 1 + 1) : ℕ) (b + 3) (I.W c) ∗ (∃ f, wbP c ((b + 3) % 4) 1 f) ∗ sm0 c (20 + ((b + 3) % 4 * 7 + 1)) ∗ wP c (dv (c + 2 + 1) : ℕ) (b + 3) (I.W c) ∗ (∃ f, wbP c ((b + 3) % 4) 2 f) ∗ sm0 c (20 + ((b + 3) % 4 * 7 + 2)) ∗ wP c (dv (c + 3 + 1) : ℕ) (b + 3) (I.W c) ∗ (∃ f, wbP c ((b + 3) % 4) 3 f) ∗ sm0 c (20 + ((b + 3) % 4 * 7 + 3)) ∗ wP c (dv (c + 4 + 1) : ℕ) (b + 3) (I.W c) ∗ (∃ f, wbP c ((b + 3) % 4) 4 f) ∗ sm0 c (20 + ((b + 3) % 4 * 7 + 4)) ∗ wP c (dv (c + 5 + 1) : ℕ) (b + 3) (I.W c) ∗ (∃ f, wbP c ((b + 3) % 4) 5 f) ∗ sm0 c (20 + ((b + 3) % 4 * 7 + 5)) ∗ wP c (dv (c + 6 + 1) : ℕ) (b + 3) (I.W c) ∗ (∃ f, wbP c ((b + 3) % 4) 6 f) ∗ sm0 c (20 + ((b + 3) % 4 * 7 + 6)) : sProp 𝕄)
      ⊢ iprop(((ow c 0 ∗ sm0 c (20 + (b % 4 * 7 + 0)) ∗ sm0 c (20 + (b % 4 * 7 + 1)) ∗ sm0 c (20 + (b % 4 * 7 + 2)) ∗ sm0 c (20 + (b % 4 * 7 + 3)) ∗ sm0 c (20 + (b % 4 * 7 + 4)) ∗ sm0 c (20 + (b % 4 * 7 + 5)) ∗ sm0 c (20 + (b % 4 * 7 + 6)) ∗ sxP I c ∗ swP I c ∗ Fly c (50 + b) iprop(oP c b (oF I c) ∗ acP c b (oF I c)) ∗ Fly c (20 + ((b + 3) % 4 * 7 + 0)) iprop(wbP c ((b + 3) % 4) 0 (wbF I c (b + 3)) ∗ wP c (dv (c + 0 + 1) : ℕ) (b + 3) (I.W c)) ∗ Fly c (20 + ((b + 3) % 4 * 7 + 1)) iprop(wbP c ((b + 3) % 4) 1 (wbF I c (b + 3)) ∗ wP c (dv (c + 1 + 1) : ℕ) (b + 3) (I.W c)) ∗ Fly c (20 + ((b + 3) % 4 * 7 + 2)) iprop(wbP c ((b + 3) % 4) 2 (wbF I c (b + 3)) ∗ wP c (dv (c + 2 + 1) : ℕ) (b + 3) (I.W c)) ∗ Fly c (20 + ((b + 3) % 4 * 7 + 3)) iprop(wbP c ((b + 3) % 4) 3 (wbF I c (b + 3)) ∗ wP c (dv (c + 3 + 1) : ℕ) (b + 3) (I.W c)) ∗ Fly c (20 + ((b + 3) % 4 * 7 + 4)) iprop(wbP c ((b + 3) % 4) 4 (wbF I c (b + 3)) ∗ wP c (dv (c + 4 + 1) : ℕ) (b + 3) (I.W c)) ∗ Fly c (20 + ((b + 3) % 4 * 7 + 5)) iprop(wbP c ((b + 3) % 4) 5 (wbF I c (b + 3)) ∗ wP c (dv (c + 5 + 1) : ℕ) (b + 3) (I.W c)) ∗ Fly c (20 + ((b + 3) % 4 * 7 + 6)) iprop(wbP c ((b + 3) % 4) 6 (wbF I c (b + 3)) ∗ wP c (dv (c + 6 + 1) : ℕ) (b + 3) (I.W c)) ∗ sm0 c (10 + (dv (c + 0 + 1) : Dev nD)) ∗ cmP c (dv (c + 0 + 1) : ℕ) (cmF I c) ∗ sm0 c (10 + (dv (c + 1 + 1) : Dev nD)) ∗ cmP c (dv (c + 1 + 1) : ℕ) (cmF I c) ∗ sm0 c (10 + (dv (c + 2 + 1) : Dev nD)) ∗ cmP c (dv (c + 2 + 1) : ℕ) (cmF I c) ∗ sm0 c (10 + (dv (c + 3 + 1) : Dev nD)) ∗ cmP c (dv (c + 3 + 1) : ℕ) (cmF I c) ∗ sm0 c (10 + (dv (c + 4 + 1) : Dev nD)) ∗ cmP c (dv (c + 4 + 1) : ℕ) (cmF I c) ∗ sm0 c (10 + (dv (c + 5 + 1) : Dev nD)) ∗ cmP c (dv (c + 5 + 1) : ℕ) (cmF I c) ∗ sm0 c (10 + (dv (c + 6 + 1) : Dev nD)) ∗ cmP c (dv (c + 6 + 1) : ℕ) (cmF I c) ∗ wbP c (b % 4) 0 (wbF I c b) ∗ wP c (dv (c + 0 + 1) : ℕ) b (I.W c) ∗ wbP c (b % 4) 1 (wbF I c b) ∗ wP c (dv (c + 1 + 1) : ℕ) b (I.W c) ∗ wbP c (b % 4) 2 (wbF I c b) ∗ wP c (dv (c + 2 + 1) : ℕ) b (I.W c) ∗ wbP c (b % 4) 3 (wbF I c b) ∗ wP c (dv (c + 3 + 1) : ℕ) b (I.W c) ∗ wbP c (b % 4) 4 (wbF I c b) ∗ wP c (dv (c + 4 + 1) : ℕ) b (I.W c) ∗ asP c (aF I c) ∗ wP c (dv (c + 5 + 1) : ℕ) b (I.W c) ∗ wP c (dv (c + 6 + 1) : ℕ) b (I.W c) ∗ wbP c (b % 4) 5 (wbF I c b) ∗ wbP c (b % 4) 6 (wbF I c b)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  have hl : b < 13 := by omega
  have h1 := c1_n i (by omega)
  have h18 := c18_n i (by omega)
  have h20 := c20_y i (by omega)
  have h21 := c21_y i (by omega)
  have h22 := c22_y i (by omega)
  have h23 := c23_n i (by omega)
  rw [cc0_body_eq_skeleton]; unfold cc0_body_skel
  simp only [↓dif_neg h1, ↓dif_neg h18, ↓dif_pos h20, ↓dif_pos h21, ↓dif_pos h22, ↓dif_neg h23, WP_dev, Prog.lift, Prog.bind_op, Prog.bind_ret, Prog.pure_eq_ret, Prog.bind_assoc]
  iintro ⟨#HC, How, Hcredr0, Hatr0, ⟨%fHa_1, Ha_1⟩, Hcredr1, Hatr1, ⟨%fHa_2, Ha_2⟩, Hcredr2, Hatr2, ⟨%fHa_3, Ha_3⟩, Hcredr3, Hatr3, ⟨%fHa_4, Ha_4⟩, Hcredr4, Hatr4, ⟨%fHa_5, Ha_5⟩, Hcredr5, Hatr5, ⟨%fHa_6, Ha_6⟩, Hcredr6, Hatr6, ⟨%fHa_7, Ha_7⟩, Hsm_20____b___4___7___0__, Hsm_20____b___4___7___1__, Hsm_20____b___4___7___2__, Hsm_20____b___4___7___3__, Hsm_20____b___4___7___4__, Hsm_20____b___4___7___5__, Hsm_20____b___4___7___6__, Hsx, Hsw, Hac_b, ⟨%fHo_b, Ho_b⟩, Hsm_50___b_, Hwr0__b___3_, ⟨%fHwb__b___3____4__0, Hwb__b___3____4__0⟩, Hsm_20_____b___3____4___7___0__, Hwr1__b___3_, ⟨%fHwb__b___3____4__1, Hwb__b___3____4__1⟩, Hsm_20_____b___3____4___7___1__, Hwr2__b___3_, ⟨%fHwb__b___3____4__2, Hwb__b___3____4__2⟩, Hsm_20_____b___3____4___7___2__, Hwr3__b___3_, ⟨%fHwb__b___3____4__3, Hwb__b___3____4__3⟩, Hsm_20_____b___3____4___7___3__, Hwr4__b___3_, ⟨%fHwb__b___3____4__4, Hwb__b___3____4__4⟩, Hsm_20_____b___3____4___7___4__, Hwr5__b___3_, ⟨%fHwb__b___3____4__5, Hwb__b___3____4__5⟩, Hsm_20_____b___3____4___7___5__, Hwr6__b___3_, ⟨%fHwb__b___3____4__6, Hwb__b___3____4__6⟩, Hsm_20_____b___3____4___7___6__⟩ Hk
  iapply (pr16 I c i _ _) $$ [How Hcredr0 Hatr0 Ha_1 Hcredr1 Hatr1]
  · isplitr; · iexact HC
    isplitl [How]; · iexact How
    isplitl [Hcredr0]; · iexact Hcredr0
    isplitl [Hatr0]; · iexact Hatr0
    isplitl [Ha_1]; · iexists _; iexact Ha_1
    isplitl [Hcredr1]; · iexact Hcredr1
    iexact Hatr1
  iintro ⟨How, Ha_1, Hsmr0, Hcm0, Hsmr1, Hcm1⟩
  iapply (pr17 I c i _ _) $$ [Ha_2 How Hcredr2 Hatr2 Ha_3 Hcredr3 Hatr3]
  · isplitr; · iexact HC
    isplitl [Ha_2]; · iexists _; iexact Ha_2
    isplitl [How]; · iexact How
    isplitl [Hcredr2]; · iexact Hcredr2
    isplitl [Hatr2]; · iexact Hatr2
    isplitl [Ha_3]; · iexists _; iexact Ha_3
    isplitl [Hcredr3]; · iexact Hcredr3
    iexact Hatr3
  iintro %r ⟨Ha_2, How, Ha_3, Hsmr2, Hcm2, Hsmr3, Hcm3⟩
  iapply (pr18 I c i _ _ _) $$ [Hcm3 Ha_4 How Hcredr4 Hatr4 Ha_5]
  · isplitr; · iexact HC
    isplitl [Hcm3]; · iexact Hcm3
    isplitl [Ha_4]; · iexists _; iexact Ha_4
    isplitl [How]; · iexact How
    isplitl [Hcredr4]; · iexact Hcredr4
    isplitl [Hatr4]; · iexact Hatr4
    iexists _; iexact Ha_5
  iintro %r ⟨Hcm3, Ha_4, How, Ha_5, Hsmr4, Hcm4⟩
  iapply (rcv_op I c (dv (c + 5 + 1)) (dv_ne c (by decide)) (s1 (k0_off54_eq c 5)) cr_cm) $$ [How Hcredr5 Hatr5]
  · isplitr; · iexact HC
    isplitl [How]; · iexact How
    isplitl [Hcredr5]; · iexact Hcredr5
    iexact Hatr5
  iintro ⟨How, Hsmr5, Hcm5⟩
  iapply (ld_cm I c (dv (c + 5 + 1) : ℕ) (Nat.mod_lt _ (by decide)) (k0_off57_eq c 5)) $$ [Hcm5]
  · iexact Hcm5
  iintro Hcm5
  iapply (ldd_a c 6 rfl) $$ [Ha_6]
  · iexact Ha_6
  iintro Ha_6
  iexists _
  isplitr
  · ipureintro; intro _; rfl
  iapply (st_a I c 6 rfl (gat I c 5)) $$ [Ha_6]
  · iexact Ha_6
  iintro Ha_6
  iapply (rcv_op I c (dv (c + 6 + 1)) (dv_ne c (by decide)) (s1 (k0_off54_eq c 6)) cr_cm) $$ [How Hcredr6 Hatr6]
  · isplitr; · iexact HC
    isplitl [How]; · iexact How
    isplitl [Hcredr6]; · iexact Hcredr6
    iexact Hatr6
  iintro ⟨How, Hsmr6, Hcm6⟩
  iapply (ld_cm I c (dv (c + 6 + 1) : ℕ) (Nat.mod_lt _ (by decide)) (k0_off57_eq c 6)) $$ [Hcm6]
  · iexact Hcm6
  iintro Hcm6
  iapply (ldd_a c 7 rfl) $$ [Ha_7]
  · iexact Ha_7
  iintro Ha_7
  iexists _
  isplitr
  · ipureintro; intro _; rfl
  iapply (st_a I c 7 rfl (gat I c 6)) $$ [Ha_7]
  · iexact Ha_7
  iintro Ha_7
  iapply (pr21 I c i _ _ _ hb) $$ [Hsm_20____b___4___7___0__ How Hsm_20____b___4___7___1__]
  · isplitr; · iexact HC
    isplitl [Hsm_20____b___4___7___0__]; · iexact Hsm_20____b___4___7___0__
    isplitl [How]; · iexact How
    iexact Hsm_20____b___4___7___1__
  iintro %r ⟨Hsm_20____b___4___7___0__, How, Hsm_20____b___4___7___1__, Hwb_b___4__0, Hwr0_b, Hwb_b___4__1, Hwr1_b⟩
  iapply (pr22 I c i _ _ _ hb) $$ [Hsm_20____b___4___7___2__ How Hsm_20____b___4___7___3__ Hsm_20____b___4___7___4__]
  · isplitr; · iexact HC
    isplitl [Hsm_20____b___4___7___2__]; · iexact Hsm_20____b___4___7___2__
    isplitl [How]; · iexact How
    isplitl [Hsm_20____b___4___7___3__]; · iexact Hsm_20____b___4___7___3__
    iexact Hsm_20____b___4___7___4__
  iintro ⟨Hsm_20____b___4___7___2__, How, Hsm_20____b___4___7___3__, Hsm_20____b___4___7___4__, Hwb_b___4__2, Hwr2_b, Hwb_b___4__3, Hwr3_b, Hwb_b___4__4, Hwr4_b⟩
  try dsimp only
  ihave Has := (as_join c (aF I c)) $$ [Ha_1 Ha_2 Ha_3 Ha_4 Ha_5 Ha_6 Ha_7]
  · isplitl [Ha_1]; · iexact Ha_1
    isplitl [Ha_2]; · iexact Ha_2
    isplitl [Ha_3]; · iexact Ha_3
    isplitl [Ha_4]; · iexact Ha_4
    isplitl [Ha_5]; · iexact Ha_5
    isplitl [Ha_6]; · iexact Ha_6
    iexact Ha_7
  iapply (pr23 I c i _ _ _ hb) $$ [Hsm_20____b___4___7___5__ How Hsm_20____b___4___7___6__ Hwb_b___4__0 Hwb_b___4__1 Hwb_b___4__2 Hwb_b___4__3 Hwb_b___4__4 Has Hsx Hsw Hac_b]
  · isplitr; · iexact HC
    isplitl [Hsm_20____b___4___7___5__]; · iexact Hsm_20____b___4___7___5__
    isplitl [How]; · iexact How
    isplitl [Hsm_20____b___4___7___6__]; · iexact Hsm_20____b___4___7___6__
    isplitl [Hwb_b___4__0]; · iexact Hwb_b___4__0
    isplitl [Hwb_b___4__1]; · iexact Hwb_b___4__1
    isplitl [Hwb_b___4__2]; · iexact Hwb_b___4__2
    isplitl [Hwb_b___4__3]; · iexact Hwb_b___4__3
    isplitl [Hwb_b___4__4]; · iexact Hwb_b___4__4
    isplitl [Has]; · iexact Has
    isplitl [Hsx]; · iexact Hsx
    isplitl [Hsw]; · iexact Hsw
    iexact Hac_b
  iintro %r ⟨Hsm_20____b___4___7___5__, How, Hsm_20____b___4___7___6__, Has, Hsx, Hsw, Hac_b, Hwr5_b, Hwr6_b, Hwbs_b___4_⟩
  try dsimp only
  ihave Hall := (wbs_split c (b % 4) (wbF I c b)) $$ Hwbs_b___4_
  icases Hall with ⟨Hwb_b___4__0, Hwb_b___4__1, Hwb_b___4__2, Hwb_b___4__3, Hwb_b___4__4, Hwb_b___4__5, Hwb_b___4__6⟩
  iapply (ldd_ac c b (f74 hb)) $$ [Hac_b]
  · iexact Hac_b
  iintro Hac_b
  iexists _
  isplitr
  · ipureintro; intro _; rfl
  iapply (st_o I c b (f74 hb) rfl) $$ [Hac_b]
  · iexact Hac_b
  iintro Hac_b
  iapply (cp_o I c b (50 + b) (f76 hb) (f76 hb) (s1 (f75 hb))) $$ [Hac_b Ho_b Hsm_50___b_]
  · isplitl [Hac_b]; · iexact Hac_b
    isplitl [Ho_b]; · iexact Ho_b
    iexact Hsm_50___b_
  iintro Hsm_50___b_
  iapply (pr19 I c i _ _ _ _ hb hl) $$ [Hwr0__b___3_ Hwb__b___3____4__0 Hsm_20_____b___3____4___7___0__ Hwr1__b___3_ Hwb__b___3____4__1 Hsm_20_____b___3____4___7___1__]
  · isplitr; · iexact HC
    isplitl [Hwr0__b___3_]; · iexact Hwr0__b___3_
    isplitl [Hwb__b___3____4__0]; · iexists _; iexact Hwb__b___3____4__0
    isplitl [Hsm_20_____b___3____4___7___0__]; · iexact Hsm_20_____b___3____4___7___0__
    isplitl [Hwr1__b___3_]; · iexact Hwr1__b___3_
    isplitl [Hwb__b___3____4__1]; · iexists _; iexact Hwb__b___3____4__1
    iexact Hsm_20_____b___3____4___7___1__
  iintro %r ⟨Hsm_20_____b___3____4___7___0__, Hsm_20_____b___3____4___7___1__⟩
  iapply (pr20 I c i _ _ _ _ hb hl) $$ [Hwr2__b___3_ Hwb__b___3____4__2 Hsm_20_____b___3____4___7___2__ Hwr3__b___3_ Hwb__b___3____4__3 Hsm_20_____b___3____4___7___3__ Hwr4__b___3_ Hwb__b___3____4__4 Hsm_20_____b___3____4___7___4__]
  · isplitr; · iexact HC
    isplitl [Hwr2__b___3_]; · iexact Hwr2__b___3_
    isplitl [Hwb__b___3____4__2]; · iexists _; iexact Hwb__b___3____4__2
    isplitl [Hsm_20_____b___3____4___7___2__]; · iexact Hsm_20_____b___3____4___7___2__
    isplitl [Hwr3__b___3_]; · iexact Hwr3__b___3_
    isplitl [Hwb__b___3____4__3]; · iexists _; iexact Hwb__b___3____4__3
    isplitl [Hsm_20_____b___3____4___7___3__]; · iexact Hsm_20_____b___3____4___7___3__
    isplitl [Hwr4__b___3_]; · iexact Hwr4__b___3_
    isplitl [Hwb__b___3____4__4]; · iexists _; iexact Hwb__b___3____4__4
    iexact Hsm_20_____b___3____4___7___4__
  iintro %r ⟨Hsm_20_____b___3____4___7___2__, Hsm_20_____b___3____4___7___3__, Hsm_20_____b___3____4___7___4__⟩
  iapply (cp_wb I c (dv (c + 5 + 1) : ℕ) (b + 3) ((b + 3) % 4) 5 rfl (20 + ((b + 3) % 4 * 7 + 5)) (f79 5 c hb hl) (f89 hb hl) (s2 (f88 hb hl))) $$ [Hwr5__b___3_ Hwb__b___3____4__5 Hsm_20_____b___3____4___7___5__]
  · isplitl [Hwr5__b___3_]; · iexact Hwr5__b___3_
    isplitl [Hwb__b___3____4__5]; · iexact Hwb__b___3____4__5
    iexact Hsm_20_____b___3____4___7___5__
  iintro Hsm_20_____b___3____4___7___5__
  iapply (cp_wb I c (dv (c + 6 + 1) : ℕ) (b + 3) ((b + 3) % 4) 6 rfl (20 + ((b + 3) % 4 * 7 + 6)) (f79 6 c hb hl) (f91 hb hl) (s2 (f90 hb hl))) $$ [Hwr6__b___3_ Hwb__b___3____4__6 Hsm_20_____b___3____4___7___6__]
  · isplitl [Hwr6__b___3_]; · iexact Hwr6__b___3_
    isplitl [Hwb__b___3____4__6]; · iexact Hwb__b___3____4__6
    iexact Hsm_20_____b___3____4___7___6__
  iintro Hsm_20_____b___3____4___7___6__
  iapply (WP_ret c)
  iapply Hk
  isplitl [How]
  · iexact How
  isplitl [Hsm_20____b___4___7___0__]
  · iexact Hsm_20____b___4___7___0__
  isplitl [Hsm_20____b___4___7___1__]
  · iexact Hsm_20____b___4___7___1__
  isplitl [Hsm_20____b___4___7___2__]
  · iexact Hsm_20____b___4___7___2__
  isplitl [Hsm_20____b___4___7___3__]
  · iexact Hsm_20____b___4___7___3__
  isplitl [Hsm_20____b___4___7___4__]
  · iexact Hsm_20____b___4___7___4__
  isplitl [Hsm_20____b___4___7___5__]
  · iexact Hsm_20____b___4___7___5__
  isplitl [Hsm_20____b___4___7___6__]
  · iexact Hsm_20____b___4___7___6__
  isplitl [Hsx]
  · iexact Hsx
  isplitl [Hsw]
  · iexact Hsw
  isplitl [Hsm_50___b_]
  · iexact Hsm_50___b_
  isplitl [Hsm_20_____b___3____4___7___0__]
  · iexact Hsm_20_____b___3____4___7___0__
  isplitl [Hsm_20_____b___3____4___7___1__]
  · iexact Hsm_20_____b___3____4___7___1__
  isplitl [Hsm_20_____b___3____4___7___2__]
  · iexact Hsm_20_____b___3____4___7___2__
  isplitl [Hsm_20_____b___3____4___7___3__]
  · iexact Hsm_20_____b___3____4___7___3__
  isplitl [Hsm_20_____b___3____4___7___4__]
  · iexact Hsm_20_____b___3____4___7___4__
  isplitl [Hsm_20_____b___3____4___7___5__]
  · iexact Hsm_20_____b___3____4___7___5__
  isplitl [Hsm_20_____b___3____4___7___6__]
  · iexact Hsm_20_____b___3____4___7___6__
  isplitl [Hsmr0]
  · iexact Hsmr0
  isplitl [Hcm0]
  · iexact Hcm0
  isplitl [Hsmr1]
  · iexact Hsmr1
  isplitl [Hcm1]
  · iexact Hcm1
  isplitl [Hsmr2]
  · iexact Hsmr2
  isplitl [Hcm2]
  · iexact Hcm2
  isplitl [Hsmr3]
  · iexact Hsmr3
  isplitl [Hcm3]
  · iexact Hcm3
  isplitl [Hsmr4]
  · iexact Hsmr4
  isplitl [Hcm4]
  · iexact Hcm4
  isplitl [Hsmr5]
  · iexact Hsmr5
  isplitl [Hcm5]
  · iexact Hcm5
  isplitl [Hsmr6]
  · iexact Hsmr6
  isplitl [Hcm6]
  · iexact Hcm6
  isplitl [Hwb_b___4__0]
  · iexact Hwb_b___4__0
  isplitl [Hwr0_b]
  · iexact Hwr0_b
  isplitl [Hwb_b___4__1]
  · iexact Hwb_b___4__1
  isplitl [Hwr1_b]
  · iexact Hwr1_b
  isplitl [Hwb_b___4__2]
  · iexact Hwb_b___4__2
  isplitl [Hwr2_b]
  · iexact Hwr2_b
  isplitl [Hwb_b___4__3]
  · iexact Hwb_b___4__3
  isplitl [Hwr3_b]
  · iexact Hwr3_b
  isplitl [Hwb_b___4__4]
  · iexact Hwb_b___4__4
  isplitl [Hwr4_b]
  · iexact Hwr4_b
  isplitl [Has]
  · iexact Has
  isplitl [Hwr5_b]
  · iexact Hwr5_b
  isplitl [Hwr6_b]
  · iexact Hwr6_b
  isplitl [Hwb_b___4__5]
  · iexact Hwb_b___4__5
  iexact Hwb_b___4__6

/-- A step of the second phase. -/
theorem TB (I : Inp F) (c : Dev nD) (i : grid0.Coords) {b : ℕ} (hb : (i 0 : ℕ) = b + 16) (h0 : 0 < b) (hl : b < 13)
    {Q : PUnit → sProp 𝕄} :
    iprop(ctx I ∗ Fly c (20 + (b % 4 * 7 + 0)) iprop(wbP c (b % 4) 0 (wbF I c b) ∗ wP c (dv (c + 0 + 1) : ℕ) b (I.W c)) ∗ ow c 0 ∗ Fly c (20 + (b % 4 * 7 + 1)) iprop(wbP c (b % 4) 1 (wbF I c b) ∗ wP c (dv (c + 1 + 1) : ℕ) b (I.W c)) ∗ Fly c (20 + (b % 4 * 7 + 2)) iprop(wbP c (b % 4) 2 (wbF I c b) ∗ wP c (dv (c + 2 + 1) : ℕ) b (I.W c)) ∗ Fly c (20 + (b % 4 * 7 + 3)) iprop(wbP c (b % 4) 3 (wbF I c b) ∗ wP c (dv (c + 3 + 1) : ℕ) b (I.W c)) ∗ Fly c (20 + (b % 4 * 7 + 4)) iprop(wbP c (b % 4) 4 (wbF I c b) ∗ wP c (dv (c + 4 + 1) : ℕ) b (I.W c)) ∗ asP c (aF I c) ∗ Fly c (20 + (b % 4 * 7 + 5)) iprop(wbP c (b % 4) 5 (wbF I c b) ∗ wP c (dv (c + 5 + 1) : ℕ) b (I.W c)) ∗ Fly c (20 + (b % 4 * 7 + 6)) iprop(wbP c (b % 4) 6 (wbF I c b) ∗ wP c (dv (c + 6 + 1) : ℕ) b (I.W c)) ∗ sxP I c ∗ swP I c ∗ acP c b (acF I c) ∗ (∃ f, oP c b f) ∗ sm0 c (50 + b) ∗ wP c (dv (c + 0 + 1) : ℕ) (b + 3) (I.W c) ∗ (∃ f, wbP c ((b + 3) % 4) 0 f) ∗ sm0 c (20 + ((b + 3) % 4 * 7 + 0)) ∗ wP c (dv (c + 1 + 1) : ℕ) (b + 3) (I.W c) ∗ (∃ f, wbP c ((b + 3) % 4) 1 f) ∗ sm0 c (20 + ((b + 3) % 4 * 7 + 1)) ∗ wP c (dv (c + 2 + 1) : ℕ) (b + 3) (I.W c) ∗ (∃ f, wbP c ((b + 3) % 4) 2 f) ∗ sm0 c (20 + ((b + 3) % 4 * 7 + 2)) ∗ wP c (dv (c + 3 + 1) : ℕ) (b + 3) (I.W c) ∗ (∃ f, wbP c ((b + 3) % 4) 3 f) ∗ sm0 c (20 + ((b + 3) % 4 * 7 + 3)) ∗ wP c (dv (c + 4 + 1) : ℕ) (b + 3) (I.W c) ∗ (∃ f, wbP c ((b + 3) % 4) 4 f) ∗ sm0 c (20 + ((b + 3) % 4 * 7 + 4)) ∗ wP c (dv (c + 5 + 1) : ℕ) (b + 3) (I.W c) ∗ (∃ f, wbP c ((b + 3) % 4) 5 f) ∗ sm0 c (20 + ((b + 3) % 4 * 7 + 5)) ∗ wP c (dv (c + 6 + 1) : ℕ) (b + 3) (I.W c) ∗ (∃ f, wbP c ((b + 3) % 4) 6 f) ∗ sm0 c (20 + ((b + 3) % 4 * 7 + 6)) : sProp 𝕄)
      ⊢ iprop(((sm0 c (20 + (b % 4 * 7 + 0)) ∗ ow c 0 ∗ sm0 c (20 + (b % 4 * 7 + 1)) ∗ sm0 c (20 + (b % 4 * 7 + 2)) ∗ sm0 c (20 + (b % 4 * 7 + 3)) ∗ sm0 c (20 + (b % 4 * 7 + 4)) ∗ asP c (aF I c) ∗ sm0 c (20 + (b % 4 * 7 + 5)) ∗ sm0 c (20 + (b % 4 * 7 + 6)) ∗ sxP I c ∗ swP I c ∗ Fly c (50 + b) iprop(oP c b (oF I c) ∗ acP c b (oF I c)) ∗ Fly c (20 + ((b + 3) % 4 * 7 + 0)) iprop(wbP c ((b + 3) % 4) 0 (wbF I c (b + 3)) ∗ wP c (dv (c + 0 + 1) : ℕ) (b + 3) (I.W c)) ∗ Fly c (20 + ((b + 3) % 4 * 7 + 1)) iprop(wbP c ((b + 3) % 4) 1 (wbF I c (b + 3)) ∗ wP c (dv (c + 1 + 1) : ℕ) (b + 3) (I.W c)) ∗ Fly c (20 + ((b + 3) % 4 * 7 + 2)) iprop(wbP c ((b + 3) % 4) 2 (wbF I c (b + 3)) ∗ wP c (dv (c + 2 + 1) : ℕ) (b + 3) (I.W c)) ∗ Fly c (20 + ((b + 3) % 4 * 7 + 3)) iprop(wbP c ((b + 3) % 4) 3 (wbF I c (b + 3)) ∗ wP c (dv (c + 3 + 1) : ℕ) (b + 3) (I.W c)) ∗ Fly c (20 + ((b + 3) % 4 * 7 + 4)) iprop(wbP c ((b + 3) % 4) 4 (wbF I c (b + 3)) ∗ wP c (dv (c + 4 + 1) : ℕ) (b + 3) (I.W c)) ∗ Fly c (20 + ((b + 3) % 4 * 7 + 5)) iprop(wbP c ((b + 3) % 4) 5 (wbF I c (b + 3)) ∗ wP c (dv (c + 5 + 1) : ℕ) (b + 3) (I.W c)) ∗ Fly c (20 + ((b + 3) % 4 * 7 + 6)) iprop(wbP c ((b + 3) % 4) 6 (wbF I c (b + 3)) ∗ wP c (dv (c + 6 + 1) : ℕ) (b + 3) (I.W c)) ∗ wbP c (b % 4) 0 (wbF I c b) ∗ wP c (dv (c + 0 + 1) : ℕ) b (I.W c) ∗ wbP c (b % 4) 1 (wbF I c b) ∗ wP c (dv (c + 1 + 1) : ℕ) b (I.W c) ∗ wbP c (b % 4) 2 (wbF I c b) ∗ wP c (dv (c + 2 + 1) : ℕ) b (I.W c) ∗ wbP c (b % 4) 3 (wbF I c b) ∗ wP c (dv (c + 3 + 1) : ℕ) b (I.W c) ∗ wbP c (b % 4) 4 (wbF I c b) ∗ wP c (dv (c + 4 + 1) : ℕ) b (I.W c) ∗ wP c (dv (c + 5 + 1) : ℕ) b (I.W c) ∗ wP c (dv (c + 6 + 1) : ℕ) b (I.W c) ∗ wbP c (b % 4) 5 (wbF I c b) ∗ wbP c (b % 4) 6 (wbF I c b)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  have h1 := c1_n i (by omega)
  have h18 := c18_n i (by omega)
  have h20 := c20_n i (by omega)
  have h21 := c21_y i (by omega)
  have h22 := c22_y i (by omega)
  have h23 := c23_n i (by omega)
  rw [cc0_body_eq_skeleton]; unfold cc0_body_skel
  simp only [↓dif_neg h1, ↓dif_neg h18, ↓dif_neg h20, ↓dif_pos h21, ↓dif_pos h22, ↓dif_neg h23, WP_dev, Prog.lift, Prog.bind_op, Prog.bind_ret, Prog.pure_eq_ret, Prog.bind_assoc]
  iintro ⟨#HC, Hsm_20____b___4___7___0__, How, Hsm_20____b___4___7___1__, Hsm_20____b___4___7___2__, Hsm_20____b___4___7___3__, Hsm_20____b___4___7___4__, Has, Hsm_20____b___4___7___5__, Hsm_20____b___4___7___6__, Hsx, Hsw, Hac_b, ⟨%fHo_b, Ho_b⟩, Hsm_50___b_, Hwr0__b___3_, ⟨%fHwb__b___3____4__0, Hwb__b___3____4__0⟩, Hsm_20_____b___3____4___7___0__, Hwr1__b___3_, ⟨%fHwb__b___3____4__1, Hwb__b___3____4__1⟩, Hsm_20_____b___3____4___7___1__, Hwr2__b___3_, ⟨%fHwb__b___3____4__2, Hwb__b___3____4__2⟩, Hsm_20_____b___3____4___7___2__, Hwr3__b___3_, ⟨%fHwb__b___3____4__3, Hwb__b___3____4__3⟩, Hsm_20_____b___3____4___7___3__, Hwr4__b___3_, ⟨%fHwb__b___3____4__4, Hwb__b___3____4__4⟩, Hsm_20_____b___3____4___7___4__, Hwr5__b___3_, ⟨%fHwb__b___3____4__5, Hwb__b___3____4__5⟩, Hsm_20_____b___3____4___7___5__, Hwr6__b___3_, ⟨%fHwb__b___3____4__6, Hwb__b___3____4__6⟩, Hsm_20_____b___3____4___7___6__⟩ Hk
  iapply (pr21 I c i _ _ _ hb) $$ [Hsm_20____b___4___7___0__ How Hsm_20____b___4___7___1__]
  · isplitr; · iexact HC
    isplitl [Hsm_20____b___4___7___0__]; · iexact Hsm_20____b___4___7___0__
    isplitl [How]; · iexact How
    iexact Hsm_20____b___4___7___1__
  iintro %r ⟨Hsm_20____b___4___7___0__, How, Hsm_20____b___4___7___1__, Hwb_b___4__0, Hwr0_b, Hwb_b___4__1, Hwr1_b⟩
  iapply (pr22 I c i _ _ _ hb) $$ [Hsm_20____b___4___7___2__ How Hsm_20____b___4___7___3__ Hsm_20____b___4___7___4__]
  · isplitr; · iexact HC
    isplitl [Hsm_20____b___4___7___2__]; · iexact Hsm_20____b___4___7___2__
    isplitl [How]; · iexact How
    isplitl [Hsm_20____b___4___7___3__]; · iexact Hsm_20____b___4___7___3__
    iexact Hsm_20____b___4___7___4__
  iintro ⟨Hsm_20____b___4___7___2__, How, Hsm_20____b___4___7___3__, Hsm_20____b___4___7___4__, Hwb_b___4__2, Hwr2_b, Hwb_b___4__3, Hwr3_b, Hwb_b___4__4, Hwr4_b⟩
  try dsimp only
  iapply (pr23 I c i _ _ _ hb) $$ [Hsm_20____b___4___7___5__ How Hsm_20____b___4___7___6__ Hwb_b___4__0 Hwb_b___4__1 Hwb_b___4__2 Hwb_b___4__3 Hwb_b___4__4 Has Hsx Hsw Hac_b]
  · isplitr; · iexact HC
    isplitl [Hsm_20____b___4___7___5__]; · iexact Hsm_20____b___4___7___5__
    isplitl [How]; · iexact How
    isplitl [Hsm_20____b___4___7___6__]; · iexact Hsm_20____b___4___7___6__
    isplitl [Hwb_b___4__0]; · iexact Hwb_b___4__0
    isplitl [Hwb_b___4__1]; · iexact Hwb_b___4__1
    isplitl [Hwb_b___4__2]; · iexact Hwb_b___4__2
    isplitl [Hwb_b___4__3]; · iexact Hwb_b___4__3
    isplitl [Hwb_b___4__4]; · iexact Hwb_b___4__4
    isplitl [Has]; · iexact Has
    isplitl [Hsx]; · iexact Hsx
    isplitl [Hsw]; · iexact Hsw
    iexact Hac_b
  iintro %r ⟨Hsm_20____b___4___7___5__, How, Hsm_20____b___4___7___6__, Has, Hsx, Hsw, Hac_b, Hwr5_b, Hwr6_b, Hwbs_b___4_⟩
  try dsimp only
  ihave Hall := (wbs_split c (b % 4) (wbF I c b)) $$ Hwbs_b___4_
  icases Hall with ⟨Hwb_b___4__0, Hwb_b___4__1, Hwb_b___4__2, Hwb_b___4__3, Hwb_b___4__4, Hwb_b___4__5, Hwb_b___4__6⟩
  iapply (ldd_ac c b (f74 hb)) $$ [Hac_b]
  · iexact Hac_b
  iintro Hac_b
  iexists _
  isplitr
  · ipureintro; intro _; rfl
  iapply (st_o I c b (f74 hb) rfl) $$ [Hac_b]
  · iexact Hac_b
  iintro Hac_b
  iapply (cp_o I c b (50 + b) (f76 hb) (f76 hb) (s1 (f75 hb))) $$ [Hac_b Ho_b Hsm_50___b_]
  · isplitl [Hac_b]; · iexact Hac_b
    isplitl [Ho_b]; · iexact Ho_b
    iexact Hsm_50___b_
  iintro Hsm_50___b_
  iapply (pr19 I c i _ _ _ _ hb hl) $$ [Hwr0__b___3_ Hwb__b___3____4__0 Hsm_20_____b___3____4___7___0__ Hwr1__b___3_ Hwb__b___3____4__1 Hsm_20_____b___3____4___7___1__]
  · isplitr; · iexact HC
    isplitl [Hwr0__b___3_]; · iexact Hwr0__b___3_
    isplitl [Hwb__b___3____4__0]; · iexists _; iexact Hwb__b___3____4__0
    isplitl [Hsm_20_____b___3____4___7___0__]; · iexact Hsm_20_____b___3____4___7___0__
    isplitl [Hwr1__b___3_]; · iexact Hwr1__b___3_
    isplitl [Hwb__b___3____4__1]; · iexists _; iexact Hwb__b___3____4__1
    iexact Hsm_20_____b___3____4___7___1__
  iintro %r ⟨Hsm_20_____b___3____4___7___0__, Hsm_20_____b___3____4___7___1__⟩
  iapply (pr20 I c i _ _ _ _ hb hl) $$ [Hwr2__b___3_ Hwb__b___3____4__2 Hsm_20_____b___3____4___7___2__ Hwr3__b___3_ Hwb__b___3____4__3 Hsm_20_____b___3____4___7___3__ Hwr4__b___3_ Hwb__b___3____4__4 Hsm_20_____b___3____4___7___4__]
  · isplitr; · iexact HC
    isplitl [Hwr2__b___3_]; · iexact Hwr2__b___3_
    isplitl [Hwb__b___3____4__2]; · iexists _; iexact Hwb__b___3____4__2
    isplitl [Hsm_20_____b___3____4___7___2__]; · iexact Hsm_20_____b___3____4___7___2__
    isplitl [Hwr3__b___3_]; · iexact Hwr3__b___3_
    isplitl [Hwb__b___3____4__3]; · iexists _; iexact Hwb__b___3____4__3
    isplitl [Hsm_20_____b___3____4___7___3__]; · iexact Hsm_20_____b___3____4___7___3__
    isplitl [Hwr4__b___3_]; · iexact Hwr4__b___3_
    isplitl [Hwb__b___3____4__4]; · iexists _; iexact Hwb__b___3____4__4
    iexact Hsm_20_____b___3____4___7___4__
  iintro %r ⟨Hsm_20_____b___3____4___7___2__, Hsm_20_____b___3____4___7___3__, Hsm_20_____b___3____4___7___4__⟩
  iapply (cp_wb I c (dv (c + 5 + 1) : ℕ) (b + 3) ((b + 3) % 4) 5 rfl (20 + ((b + 3) % 4 * 7 + 5)) (f79 5 c hb hl) (f89 hb hl) (s2 (f88 hb hl))) $$ [Hwr5__b___3_ Hwb__b___3____4__5 Hsm_20_____b___3____4___7___5__]
  · isplitl [Hwr5__b___3_]; · iexact Hwr5__b___3_
    isplitl [Hwb__b___3____4__5]; · iexact Hwb__b___3____4__5
    iexact Hsm_20_____b___3____4___7___5__
  iintro Hsm_20_____b___3____4___7___5__
  iapply (cp_wb I c (dv (c + 6 + 1) : ℕ) (b + 3) ((b + 3) % 4) 6 rfl (20 + ((b + 3) % 4 * 7 + 6)) (f79 6 c hb hl) (f91 hb hl) (s2 (f90 hb hl))) $$ [Hwr6__b___3_ Hwb__b___3____4__6 Hsm_20_____b___3____4___7___6__]
  · isplitl [Hwr6__b___3_]; · iexact Hwr6__b___3_
    isplitl [Hwb__b___3____4__6]; · iexact Hwb__b___3____4__6
    iexact Hsm_20_____b___3____4___7___6__
  iintro Hsm_20_____b___3____4___7___6__
  iapply (WP_ret c)
  iapply Hk
  isplitl [Hsm_20____b___4___7___0__]
  · iexact Hsm_20____b___4___7___0__
  isplitl [How]
  · iexact How
  isplitl [Hsm_20____b___4___7___1__]
  · iexact Hsm_20____b___4___7___1__
  isplitl [Hsm_20____b___4___7___2__]
  · iexact Hsm_20____b___4___7___2__
  isplitl [Hsm_20____b___4___7___3__]
  · iexact Hsm_20____b___4___7___3__
  isplitl [Hsm_20____b___4___7___4__]
  · iexact Hsm_20____b___4___7___4__
  isplitl [Has]
  · iexact Has
  isplitl [Hsm_20____b___4___7___5__]
  · iexact Hsm_20____b___4___7___5__
  isplitl [Hsm_20____b___4___7___6__]
  · iexact Hsm_20____b___4___7___6__
  isplitl [Hsx]
  · iexact Hsx
  isplitl [Hsw]
  · iexact Hsw
  isplitl [Hsm_50___b_]
  · iexact Hsm_50___b_
  isplitl [Hsm_20_____b___3____4___7___0__]
  · iexact Hsm_20_____b___3____4___7___0__
  isplitl [Hsm_20_____b___3____4___7___1__]
  · iexact Hsm_20_____b___3____4___7___1__
  isplitl [Hsm_20_____b___3____4___7___2__]
  · iexact Hsm_20_____b___3____4___7___2__
  isplitl [Hsm_20_____b___3____4___7___3__]
  · iexact Hsm_20_____b___3____4___7___3__
  isplitl [Hsm_20_____b___3____4___7___4__]
  · iexact Hsm_20_____b___3____4___7___4__
  isplitl [Hsm_20_____b___3____4___7___5__]
  · iexact Hsm_20_____b___3____4___7___5__
  isplitl [Hsm_20_____b___3____4___7___6__]
  · iexact Hsm_20_____b___3____4___7___6__
  isplitl [Hwb_b___4__0]
  · iexact Hwb_b___4__0
  isplitl [Hwr0_b]
  · iexact Hwr0_b
  isplitl [Hwb_b___4__1]
  · iexact Hwb_b___4__1
  isplitl [Hwr1_b]
  · iexact Hwr1_b
  isplitl [Hwb_b___4__2]
  · iexact Hwb_b___4__2
  isplitl [Hwr2_b]
  · iexact Hwr2_b
  isplitl [Hwb_b___4__3]
  · iexact Hwb_b___4__3
  isplitl [Hwr3_b]
  · iexact Hwr3_b
  isplitl [Hwb_b___4__4]
  · iexact Hwb_b___4__4
  isplitl [Hwr4_b]
  · iexact Hwr4_b
  isplitl [Hwr5_b]
  · iexact Hwr5_b
  isplitl [Hwr6_b]
  · iexact Hwr6_b
  isplitl [Hwb_b___4__5]
  · iexact Hwb_b___4__5
  iexact Hwb_b___4__6

/-- A step of the second phase with no more weights to fetch. -/
theorem TB2 (I : Inp F) (c : Dev nD) (i : grid0.Coords) {b : ℕ} (hb : (i 0 : ℕ) = b + 16) (h0 : 13 ≤ b) (hl : b < 15)
    {Q : PUnit → sProp 𝕄} :
    iprop(ctx I ∗ Fly c (20 + (b % 4 * 7 + 0)) iprop(wbP c (b % 4) 0 (wbF I c b) ∗ wP c (dv (c + 0 + 1) : ℕ) b (I.W c)) ∗ ow c 0 ∗ Fly c (20 + (b % 4 * 7 + 1)) iprop(wbP c (b % 4) 1 (wbF I c b) ∗ wP c (dv (c + 1 + 1) : ℕ) b (I.W c)) ∗ Fly c (20 + (b % 4 * 7 + 2)) iprop(wbP c (b % 4) 2 (wbF I c b) ∗ wP c (dv (c + 2 + 1) : ℕ) b (I.W c)) ∗ Fly c (20 + (b % 4 * 7 + 3)) iprop(wbP c (b % 4) 3 (wbF I c b) ∗ wP c (dv (c + 3 + 1) : ℕ) b (I.W c)) ∗ Fly c (20 + (b % 4 * 7 + 4)) iprop(wbP c (b % 4) 4 (wbF I c b) ∗ wP c (dv (c + 4 + 1) : ℕ) b (I.W c)) ∗ asP c (aF I c) ∗ Fly c (20 + (b % 4 * 7 + 5)) iprop(wbP c (b % 4) 5 (wbF I c b) ∗ wP c (dv (c + 5 + 1) : ℕ) b (I.W c)) ∗ Fly c (20 + (b % 4 * 7 + 6)) iprop(wbP c (b % 4) 6 (wbF I c b) ∗ wP c (dv (c + 6 + 1) : ℕ) b (I.W c)) ∗ sxP I c ∗ swP I c ∗ acP c b (acF I c) ∗ (∃ f, oP c b f) ∗ sm0 c (50 + b) : sProp 𝕄)
      ⊢ iprop(((sm0 c (20 + (b % 4 * 7 + 0)) ∗ ow c 0 ∗ sm0 c (20 + (b % 4 * 7 + 1)) ∗ sm0 c (20 + (b % 4 * 7 + 2)) ∗ sm0 c (20 + (b % 4 * 7 + 3)) ∗ sm0 c (20 + (b % 4 * 7 + 4)) ∗ asP c (aF I c) ∗ sm0 c (20 + (b % 4 * 7 + 5)) ∗ sm0 c (20 + (b % 4 * 7 + 6)) ∗ sxP I c ∗ swP I c ∗ Fly c (50 + b) iprop(oP c b (oF I c) ∗ acP c b (oF I c)) ∗ wbP c (b % 4) 0 (wbF I c b) ∗ wP c (dv (c + 0 + 1) : ℕ) b (I.W c) ∗ wbP c (b % 4) 1 (wbF I c b) ∗ wP c (dv (c + 1 + 1) : ℕ) b (I.W c) ∗ wbP c (b % 4) 2 (wbF I c b) ∗ wP c (dv (c + 2 + 1) : ℕ) b (I.W c) ∗ wbP c (b % 4) 3 (wbF I c b) ∗ wP c (dv (c + 3 + 1) : ℕ) b (I.W c) ∗ wbP c (b % 4) 4 (wbF I c b) ∗ wP c (dv (c + 4 + 1) : ℕ) b (I.W c) ∗ wP c (dv (c + 5 + 1) : ℕ) b (I.W c) ∗ wP c (dv (c + 6 + 1) : ℕ) b (I.W c) ∗ wbP c (b % 4) 5 (wbF I c b) ∗ wbP c (b % 4) 6 (wbF I c b)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  have h1 := c1_n i (by omega)
  have h18 := c18_n i (by omega)
  have h20 := c20_n i (by omega)
  have h21 := c21_y i (by omega)
  have h22 := c22_n i (by omega)
  have h23 := c23_n i (by omega)
  rw [cc0_body_eq_skeleton]; unfold cc0_body_skel
  simp only [↓dif_neg h1, ↓dif_neg h18, ↓dif_neg h20, ↓dif_pos h21, ↓dif_neg h22, ↓dif_neg h23, WP_dev, Prog.lift, Prog.bind_op, Prog.bind_ret, Prog.pure_eq_ret, Prog.bind_assoc]
  iintro ⟨#HC, Hsm_20____b___4___7___0__, How, Hsm_20____b___4___7___1__, Hsm_20____b___4___7___2__, Hsm_20____b___4___7___3__, Hsm_20____b___4___7___4__, Has, Hsm_20____b___4___7___5__, Hsm_20____b___4___7___6__, Hsx, Hsw, Hac_b, ⟨%fHo_b, Ho_b⟩, Hsm_50___b_⟩ Hk
  iapply (pr21 I c i _ _ _ hb) $$ [Hsm_20____b___4___7___0__ How Hsm_20____b___4___7___1__]
  · isplitr; · iexact HC
    isplitl [Hsm_20____b___4___7___0__]; · iexact Hsm_20____b___4___7___0__
    isplitl [How]; · iexact How
    iexact Hsm_20____b___4___7___1__
  iintro %r ⟨Hsm_20____b___4___7___0__, How, Hsm_20____b___4___7___1__, Hwb_b___4__0, Hwr0_b, Hwb_b___4__1, Hwr1_b⟩
  iapply (pr22 I c i _ _ _ hb) $$ [Hsm_20____b___4___7___2__ How Hsm_20____b___4___7___3__ Hsm_20____b___4___7___4__]
  · isplitr; · iexact HC
    isplitl [Hsm_20____b___4___7___2__]; · iexact Hsm_20____b___4___7___2__
    isplitl [How]; · iexact How
    isplitl [Hsm_20____b___4___7___3__]; · iexact Hsm_20____b___4___7___3__
    iexact Hsm_20____b___4___7___4__
  iintro ⟨Hsm_20____b___4___7___2__, How, Hsm_20____b___4___7___3__, Hsm_20____b___4___7___4__, Hwb_b___4__2, Hwr2_b, Hwb_b___4__3, Hwr3_b, Hwb_b___4__4, Hwr4_b⟩
  try dsimp only
  iapply (pr23 I c i _ _ _ hb) $$ [Hsm_20____b___4___7___5__ How Hsm_20____b___4___7___6__ Hwb_b___4__0 Hwb_b___4__1 Hwb_b___4__2 Hwb_b___4__3 Hwb_b___4__4 Has Hsx Hsw Hac_b]
  · isplitr; · iexact HC
    isplitl [Hsm_20____b___4___7___5__]; · iexact Hsm_20____b___4___7___5__
    isplitl [How]; · iexact How
    isplitl [Hsm_20____b___4___7___6__]; · iexact Hsm_20____b___4___7___6__
    isplitl [Hwb_b___4__0]; · iexact Hwb_b___4__0
    isplitl [Hwb_b___4__1]; · iexact Hwb_b___4__1
    isplitl [Hwb_b___4__2]; · iexact Hwb_b___4__2
    isplitl [Hwb_b___4__3]; · iexact Hwb_b___4__3
    isplitl [Hwb_b___4__4]; · iexact Hwb_b___4__4
    isplitl [Has]; · iexact Has
    isplitl [Hsx]; · iexact Hsx
    isplitl [Hsw]; · iexact Hsw
    iexact Hac_b
  iintro %r ⟨Hsm_20____b___4___7___5__, How, Hsm_20____b___4___7___6__, Has, Hsx, Hsw, Hac_b, Hwr5_b, Hwr6_b, Hwbs_b___4_⟩
  try dsimp only
  ihave Hall := (wbs_split c (b % 4) (wbF I c b)) $$ Hwbs_b___4_
  icases Hall with ⟨Hwb_b___4__0, Hwb_b___4__1, Hwb_b___4__2, Hwb_b___4__3, Hwb_b___4__4, Hwb_b___4__5, Hwb_b___4__6⟩
  iapply (ldd_ac c b (f74 hb)) $$ [Hac_b]
  · iexact Hac_b
  iintro Hac_b
  iexists _
  isplitr
  · ipureintro; intro _; rfl
  iapply (st_o I c b (f74 hb) rfl) $$ [Hac_b]
  · iexact Hac_b
  iintro Hac_b
  iapply (cp_o I c b (50 + b) (f76 hb) (f76 hb) (s1 (f75 hb))) $$ [Hac_b Ho_b Hsm_50___b_]
  · isplitl [Hac_b]; · iexact Hac_b
    isplitl [Ho_b]; · iexact Ho_b
    iexact Hsm_50___b_
  iintro Hsm_50___b_
  iapply (WP_ret c)
  iapply Hk
  isplitl [Hsm_20____b___4___7___0__]
  · iexact Hsm_20____b___4___7___0__
  isplitl [How]
  · iexact How
  isplitl [Hsm_20____b___4___7___1__]
  · iexact Hsm_20____b___4___7___1__
  isplitl [Hsm_20____b___4___7___2__]
  · iexact Hsm_20____b___4___7___2__
  isplitl [Hsm_20____b___4___7___3__]
  · iexact Hsm_20____b___4___7___3__
  isplitl [Hsm_20____b___4___7___4__]
  · iexact Hsm_20____b___4___7___4__
  isplitl [Has]
  · iexact Has
  isplitl [Hsm_20____b___4___7___5__]
  · iexact Hsm_20____b___4___7___5__
  isplitl [Hsm_20____b___4___7___6__]
  · iexact Hsm_20____b___4___7___6__
  isplitl [Hsx]
  · iexact Hsx
  isplitl [Hsw]
  · iexact Hsw
  isplitl [Hsm_50___b_]
  · iexact Hsm_50___b_
  isplitl [Hwb_b___4__0]
  · iexact Hwb_b___4__0
  isplitl [Hwr0_b]
  · iexact Hwr0_b
  isplitl [Hwb_b___4__1]
  · iexact Hwb_b___4__1
  isplitl [Hwr1_b]
  · iexact Hwr1_b
  isplitl [Hwb_b___4__2]
  · iexact Hwb_b___4__2
  isplitl [Hwr2_b]
  · iexact Hwr2_b
  isplitl [Hwb_b___4__3]
  · iexact Hwb_b___4__3
  isplitl [Hwr3_b]
  · iexact Hwr3_b
  isplitl [Hwb_b___4__4]
  · iexact Hwb_b___4__4
  isplitl [Hwr4_b]
  · iexact Hwr4_b
  isplitl [Hwr5_b]
  · iexact Hwr5_b
  isplitl [Hwr6_b]
  · iexact Hwr6_b
  isplitl [Hwb_b___4__5]
  · iexact Hwb_b___4__5
  iexact Hwb_b___4__6

/-- The last step. -/
theorem TE (I : Inp F) (c : Dev nD) (i : grid0.Coords) {b : ℕ} (hb : (i 0 : ℕ) = b + 16) (h15 : b = 15)
    {Q : PUnit → sProp 𝕄} :
    iprop(ctx I ∗ Fly c (20 + (b % 4 * 7 + 0)) iprop(wbP c (b % 4) 0 (wbF I c b) ∗ wP c (dv (c + 0 + 1) : ℕ) b (I.W c)) ∗ ow c 0 ∗ Fly c (20 + (b % 4 * 7 + 1)) iprop(wbP c (b % 4) 1 (wbF I c b) ∗ wP c (dv (c + 1 + 1) : ℕ) b (I.W c)) ∗ Fly c (20 + (b % 4 * 7 + 2)) iprop(wbP c (b % 4) 2 (wbF I c b) ∗ wP c (dv (c + 2 + 1) : ℕ) b (I.W c)) ∗ Fly c (20 + (b % 4 * 7 + 3)) iprop(wbP c (b % 4) 3 (wbF I c b) ∗ wP c (dv (c + 3 + 1) : ℕ) b (I.W c)) ∗ Fly c (20 + (b % 4 * 7 + 4)) iprop(wbP c (b % 4) 4 (wbF I c b) ∗ wP c (dv (c + 4 + 1) : ℕ) b (I.W c)) ∗ asP c (aF I c) ∗ Fly c (20 + (b % 4 * 7 + 5)) iprop(wbP c (b % 4) 5 (wbF I c b) ∗ wP c (dv (c + 5 + 1) : ℕ) b (I.W c)) ∗ Fly c (20 + (b % 4 * 7 + 6)) iprop(wbP c (b % 4) 6 (wbF I c b) ∗ wP c (dv (c + 6 + 1) : ℕ) b (I.W c)) ∗ sxP I c ∗ swP I c ∗ acP c b (acF I c) ∗ (∃ f, oP c b f) ∗ sm0 c (50 + b) ∗ Fly c 50 iprop(oP c 0 (oF I c) ∗ acP c 0 (oF I c)) ∗ Fly c 51 iprop(oP c 1 (oF I c) ∗ acP c 1 (oF I c)) ∗ Fly c 52 iprop(oP c 2 (oF I c) ∗ acP c 2 (oF I c)) ∗ Fly c 53 iprop(oP c 3 (oF I c) ∗ acP c 3 (oF I c)) ∗ Fly c 54 iprop(oP c 4 (oF I c) ∗ acP c 4 (oF I c)) ∗ Fly c 55 iprop(oP c 5 (oF I c) ∗ acP c 5 (oF I c)) ∗ Fly c 56 iprop(oP c 6 (oF I c) ∗ acP c 6 (oF I c)) ∗ Fly c 57 iprop(oP c 7 (oF I c) ∗ acP c 7 (oF I c)) ∗ Fly c 58 iprop(oP c 8 (oF I c) ∗ acP c 8 (oF I c)) ∗ Fly c 59 iprop(oP c 9 (oF I c) ∗ acP c 9 (oF I c)) ∗ Fly c 60 iprop(oP c 10 (oF I c) ∗ acP c 10 (oF I c)) ∗ Fly c 61 iprop(oP c 11 (oF I c) ∗ acP c 11 (oF I c)) ∗ Fly c 62 iprop(oP c 12 (oF I c) ∗ acP c 12 (oF I c)) ∗ Fly c 63 iprop(oP c 13 (oF I c) ∗ acP c 13 (oF I c)) ∗ Fly c 64 iprop(oP c 14 (oF I c) ∗ acP c 14 (oF I c)) ∗ cred (tallyAt (dG c (2 + (dv (c + 0 + 1) : Dev nD))) () 8192) ∗ atPos ER (dG c (2 + (dv (c + 0 + 1) : Dev nD))) 0 ∅ 0 ∗ cred (tallyAt (dG c (2 + (dv (c + 1 + 1) : Dev nD))) () 8192) ∗ atPos ER (dG c (2 + (dv (c + 1 + 1) : Dev nD))) 0 ∅ 0 ∗ cred (tallyAt (dG c (2 + (dv (c + 2 + 1) : Dev nD))) () 8192) ∗ atPos ER (dG c (2 + (dv (c + 2 + 1) : Dev nD))) 0 ∅ 0 ∗ cred (tallyAt (dG c (2 + (dv (c + 3 + 1) : Dev nD))) () 8192) ∗ atPos ER (dG c (2 + (dv (c + 3 + 1) : Dev nD))) 0 ∅ 0 ∗ cred (tallyAt (dG c (2 + (dv (c + 4 + 1) : Dev nD))) () 8192) ∗ atPos ER (dG c (2 + (dv (c + 4 + 1) : Dev nD))) 0 ∅ 0 ∗ cred (tallyAt (dG c (2 + (dv (c + 5 + 1) : Dev nD))) () 8192) ∗ atPos ER (dG c (2 + (dv (c + 5 + 1) : Dev nD))) 0 ∅ 0 ∗ cred (tallyAt (dG c (2 + (dv (c + 6 + 1) : Dev nD))) () 8192) ∗ atPos ER (dG c (2 + (dv (c + 6 + 1) : Dev nD))) 0 ∅ 0 : sProp 𝕄)
      ⊢ iprop(((sm0 c (20 + (b % 4 * 7 + 0)) ∗ ow c 0 ∗ sm0 c (20 + (b % 4 * 7 + 1)) ∗ sm0 c (20 + (b % 4 * 7 + 2)) ∗ sm0 c (20 + (b % 4 * 7 + 3)) ∗ sm0 c (20 + (b % 4 * 7 + 4)) ∗ asP c (aF I c) ∗ sm0 c (20 + (b % 4 * 7 + 5)) ∗ sm0 c (20 + (b % 4 * 7 + 6)) ∗ sxP I c ∗ swP I c ∗ sm0 c 50 ∗ sm0 c 51 ∗ sm0 c 52 ∗ sm0 c 53 ∗ sm0 c 54 ∗ sm0 c 55 ∗ sm0 c 56 ∗ sm0 c 57 ∗ sm0 c 58 ∗ sm0 c 59 ∗ sm0 c 60 ∗ sm0 c 61 ∗ sm0 c 62 ∗ sm0 c 63 ∗ sm0 c 64 ∗ wbP c (b % 4) 0 (wbF I c b) ∗ wP c (dv (c + 0 + 1) : ℕ) b (I.W c) ∗ wbP c (b % 4) 1 (wbF I c b) ∗ wP c (dv (c + 1 + 1) : ℕ) b (I.W c) ∗ wbP c (b % 4) 2 (wbF I c b) ∗ wP c (dv (c + 2 + 1) : ℕ) b (I.W c) ∗ wbP c (b % 4) 3 (wbF I c b) ∗ wP c (dv (c + 3 + 1) : ℕ) b (I.W c) ∗ wbP c (b % 4) 4 (wbF I c b) ∗ wP c (dv (c + 4 + 1) : ℕ) b (I.W c) ∗ wP c (dv (c + 5 + 1) : ℕ) b (I.W c) ∗ wP c (dv (c + 6 + 1) : ℕ) b (I.W c) ∗ wbP c (b % 4) 5 (wbF I c b) ∗ wbP c (b % 4) 6 (wbF I c b) ∗ sm0 c 65 ∗ oP c 0 (oF I c) ∗ acP c 0 (oF I c) ∗ oP c 1 (oF I c) ∗ acP c 1 (oF I c) ∗ oP c 2 (oF I c) ∗ acP c 2 (oF I c) ∗ oP c 3 (oF I c) ∗ acP c 3 (oF I c) ∗ oP c 4 (oF I c) ∗ acP c 4 (oF I c) ∗ oP c 5 (oF I c) ∗ acP c 5 (oF I c) ∗ oP c 6 (oF I c) ∗ acP c 6 (oF I c) ∗ oP c 7 (oF I c) ∗ acP c 7 (oF I c) ∗ oP c 8 (oF I c) ∗ acP c 8 (oF I c) ∗ oP c 9 (oF I c) ∗ acP c 9 (oF I c) ∗ oP c 10 (oF I c) ∗ acP c 10 (oF I c) ∗ oP c 11 (oF I c) ∗ acP c 11 (oF I c) ∗ oP c 12 (oF I c) ∗ acP c 12 (oF I c) ∗ oP c 13 (oF I c) ∗ acP c 13 (oF I c) ∗ oP c 14 (oF I c) ∗ acP c 14 (oF I c) ∗ oP c 15 (oF I c) ∗ acP c 15 (oF I c) ∗ sm0 c (2 + (dv (c + 0 + 1) : Dev nD)) ∗ xsP c (dv (c + 0 + 1) : ℕ) (xsF I c) ∗ sm0 c (2 + (dv (c + 1 + 1) : Dev nD)) ∗ xsP c (dv (c + 1 + 1) : ℕ) (xsF I c) ∗ sm0 c (2 + (dv (c + 2 + 1) : Dev nD)) ∗ xsP c (dv (c + 2 + 1) : ℕ) (xsF I c) ∗ sm0 c (2 + (dv (c + 3 + 1) : Dev nD)) ∗ xsP c (dv (c + 3 + 1) : ℕ) (xsF I c) ∗ sm0 c (2 + (dv (c + 4 + 1) : Dev nD)) ∗ xsP c (dv (c + 4 + 1) : ℕ) (xsF I c) ∗ sm0 c (2 + (dv (c + 5 + 1) : Dev nD)) ∗ xsP c (dv (c + 5 + 1) : ℕ) (xsF I c) ∗ sm0 c (2 + (dv (c + 6 + 1) : Dev nD)) ∗ xsP c (dv (c + 6 + 1) : ℕ) (xsF I c)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  have h1 := c1_n i (by omega)
  have h18 := c18_n i (by omega)
  have h20 := c20_n i (by omega)
  have h21 := c21_y i (by omega)
  have h22 := c22_n i (by omega)
  have h23 := c23_y i (by omega)
  rw [cc0_body_eq_skeleton]; unfold cc0_body_skel
  simp only [↓dif_neg h1, ↓dif_neg h18, ↓dif_neg h20, ↓dif_pos h21, ↓dif_neg h22, ↓dif_pos h23, WP_dev, Prog.lift, Prog.bind_op, Prog.bind_ret, Prog.pure_eq_ret, Prog.bind_assoc]
  iintro ⟨#HC, Hsm_20____b___4___7___0__, How, Hsm_20____b___4___7___1__, Hsm_20____b___4___7___2__, Hsm_20____b___4___7___3__, Hsm_20____b___4___7___4__, Has, Hsm_20____b___4___7___5__, Hsm_20____b___4___7___6__, Hsx, Hsw, Hac_b, ⟨%fHo_b, Ho_b⟩, Hsm_50___b_, Hsm50, Hsm51, Hsm52, Hsm53, Hsm54, Hsm55, Hsm56, Hsm57, Hsm58, Hsm59, Hsm60, Hsm61, Hsm62, Hsm63, Hsm64, Hcreds0, Hats0, Hcreds1, Hats1, Hcreds2, Hats2, Hcreds3, Hats3, Hcreds4, Hats4, Hcreds5, Hats5, Hcreds6, Hats6⟩ Hk
  iapply (pr21 I c i _ _ _ hb) $$ [Hsm_20____b___4___7___0__ How Hsm_20____b___4___7___1__]
  · isplitr; · iexact HC
    isplitl [Hsm_20____b___4___7___0__]; · iexact Hsm_20____b___4___7___0__
    isplitl [How]; · iexact How
    iexact Hsm_20____b___4___7___1__
  iintro %r ⟨Hsm_20____b___4___7___0__, How, Hsm_20____b___4___7___1__, Hwb_b___4__0, Hwr0_b, Hwb_b___4__1, Hwr1_b⟩
  iapply (pr22 I c i _ _ _ hb) $$ [Hsm_20____b___4___7___2__ How Hsm_20____b___4___7___3__ Hsm_20____b___4___7___4__]
  · isplitr; · iexact HC
    isplitl [Hsm_20____b___4___7___2__]; · iexact Hsm_20____b___4___7___2__
    isplitl [How]; · iexact How
    isplitl [Hsm_20____b___4___7___3__]; · iexact Hsm_20____b___4___7___3__
    iexact Hsm_20____b___4___7___4__
  iintro ⟨Hsm_20____b___4___7___2__, How, Hsm_20____b___4___7___3__, Hsm_20____b___4___7___4__, Hwb_b___4__2, Hwr2_b, Hwb_b___4__3, Hwr3_b, Hwb_b___4__4, Hwr4_b⟩
  try dsimp only
  iapply (pr23 I c i _ _ _ hb) $$ [Hsm_20____b___4___7___5__ How Hsm_20____b___4___7___6__ Hwb_b___4__0 Hwb_b___4__1 Hwb_b___4__2 Hwb_b___4__3 Hwb_b___4__4 Has Hsx Hsw Hac_b]
  · isplitr; · iexact HC
    isplitl [Hsm_20____b___4___7___5__]; · iexact Hsm_20____b___4___7___5__
    isplitl [How]; · iexact How
    isplitl [Hsm_20____b___4___7___6__]; · iexact Hsm_20____b___4___7___6__
    isplitl [Hwb_b___4__0]; · iexact Hwb_b___4__0
    isplitl [Hwb_b___4__1]; · iexact Hwb_b___4__1
    isplitl [Hwb_b___4__2]; · iexact Hwb_b___4__2
    isplitl [Hwb_b___4__3]; · iexact Hwb_b___4__3
    isplitl [Hwb_b___4__4]; · iexact Hwb_b___4__4
    isplitl [Has]; · iexact Has
    isplitl [Hsx]; · iexact Hsx
    isplitl [Hsw]; · iexact Hsw
    iexact Hac_b
  iintro %r ⟨Hsm_20____b___4___7___5__, How, Hsm_20____b___4___7___6__, Has, Hsx, Hsw, Hac_b, Hwr5_b, Hwr6_b, Hwbs_b___4_⟩
  try dsimp only
  ihave Hall := (wbs_split c (b % 4) (wbF I c b)) $$ Hwbs_b___4_
  icases Hall with ⟨Hwb_b___4__0, Hwb_b___4__1, Hwb_b___4__2, Hwb_b___4__3, Hwb_b___4__4, Hwb_b___4__5, Hwb_b___4__6⟩
  iapply (ldd_ac c b (f74 hb)) $$ [Hac_b]
  · iexact Hac_b
  iintro Hac_b
  iexists _
  isplitr
  · ipureintro; intro _; rfl
  iapply (st_o I c b (f74 hb) rfl) $$ [Hac_b]
  · iexact Hac_b
  iintro Hac_b
  iapply (cp_o I c b (50 + b) (f76 hb) (f76 hb) (s1 (f75 hb))) $$ [Hac_b Ho_b Hsm_50___b_]
  · isplitl [Hac_b]; · iexact Hac_b
    isplitl [Ho_b]; · iexact Ho_b
    iexact Hsm_50___b_
  iintro Hsm_50___b_
  ihave Hsm65 := (fly15 I c h15) $$ Hsm_50___b_
  iapply (pr24 I c i) $$ [Hsm50 How Hsm51 Hsm52 Hsm53 Hsm54 Hsm55]
  · isplitr; · iexact HC
    isplitl [Hsm50]; · iexact Hsm50
    isplitl [How]; · iexact How
    isplitl [Hsm51]; · iexact Hsm51
    isplitl [Hsm52]; · iexact Hsm52
    isplitl [Hsm53]; · iexact Hsm53
    isplitl [Hsm54]; · iexact Hsm54
    iexact Hsm55
  iintro ⟨Hsm50, How, Hsm51, Hsm52, Hsm53, Hsm54, Hsm55, Ho_0, Hac_0, Ho_1, Hac_1, Ho_2, Hac_2, Ho_3, Hac_3, Ho_4, Hac_4, Ho_5, Hac_5⟩
  try dsimp only
  iapply (pr25 I c i) $$ [Hsm56 How Hsm57 Hsm58 Hsm59 Hsm60 Hsm61]
  · isplitr; · iexact HC
    isplitl [Hsm56]; · iexact Hsm56
    isplitl [How]; · iexact How
    isplitl [Hsm57]; · iexact Hsm57
    isplitl [Hsm58]; · iexact Hsm58
    isplitl [Hsm59]; · iexact Hsm59
    isplitl [Hsm60]; · iexact Hsm60
    iexact Hsm61
  iintro ⟨Hsm56, How, Hsm57, Hsm58, Hsm59, Hsm60, Hsm61, Ho_6, Hac_6, Ho_7, Hac_7, Ho_8, Hac_8, Ho_9, Hac_9, Ho_10, Hac_10, Ho_11, Hac_11⟩
  try dsimp only
  iapply (pr26 I c i _ _) $$ [Hsm62 How Hsm63 Hsm64 Hsm65 Hcreds0 Hats0]
  · isplitr; · iexact HC
    isplitl [Hsm62]; · iexact Hsm62
    isplitl [How]; · iexact How
    isplitl [Hsm63]; · iexact Hsm63
    isplitl [Hsm64]; · iexact Hsm64
    isplitl [Hsm65]; · iexact Hsm65
    isplitl [Hcreds0]; · iexact Hcreds0
    iexact Hats0
  iintro %r ⟨Hsm62, How, Hsm63, Hsm64, Hsm65, Ho_12, Hac_12, Ho_13, Hac_13, Ho_14, Hac_14, Ho_15, Hac_15, Hsms0, Hxsd0⟩
  iapply (pr27 I c i _ _ _) $$ [How Hcreds1 Hats1 Hcreds2 Hats2 Hcreds3 Hats3 Hcreds4 Hats4]
  · isplitr; · iexact HC
    isplitl [How]; · iexact How
    isplitl [Hcreds1]; · iexact Hcreds1
    isplitl [Hats1]; · iexact Hats1
    isplitl [Hcreds2]; · iexact Hcreds2
    isplitl [Hats2]; · iexact Hats2
    isplitl [Hcreds3]; · iexact Hcreds3
    isplitl [Hats3]; · iexact Hats3
    isplitl [Hcreds4]; · iexact Hcreds4
    iexact Hats4
  iintro ⟨How, Hsms1, Hxsd1, Hsms2, Hxsd2, Hsms3, Hxsd3, Hsms4, Hxsd4⟩
  try dsimp only
  iapply (snd_wait I c (dv (c + 5 + 1)) (dv_ne c (by decide)) (s1 (k0_off92_eq c 5)) cr_xs) $$ [How Hcreds5 Hats5]
  · isplitr; · iexact HC
    isplitl [How]; · iexact How
    isplitl [Hcreds5]; · iexact Hcreds5
    iexact Hats5
  iintro ⟨How, Hsms5, Hxsd5⟩
  iapply (snd_wait I c (dv (c + 6 + 1)) (dv_ne c (by decide)) (s1 (k0_off92_eq c 6)) cr_xs) $$ [How Hcreds6 Hats6]
  · isplitr; · iexact HC
    isplitl [How]; · iexact How
    isplitl [Hcreds6]; · iexact Hcreds6
    iexact Hats6
  iintro ⟨How, Hsms6, Hxsd6⟩
  iapply (WP_ret c)
  iapply Hk
  isplitl [Hsm_20____b___4___7___0__]
  · iexact Hsm_20____b___4___7___0__
  isplitl [How]
  · iexact How
  isplitl [Hsm_20____b___4___7___1__]
  · iexact Hsm_20____b___4___7___1__
  isplitl [Hsm_20____b___4___7___2__]
  · iexact Hsm_20____b___4___7___2__
  isplitl [Hsm_20____b___4___7___3__]
  · iexact Hsm_20____b___4___7___3__
  isplitl [Hsm_20____b___4___7___4__]
  · iexact Hsm_20____b___4___7___4__
  isplitl [Has]
  · iexact Has
  isplitl [Hsm_20____b___4___7___5__]
  · iexact Hsm_20____b___4___7___5__
  isplitl [Hsm_20____b___4___7___6__]
  · iexact Hsm_20____b___4___7___6__
  isplitl [Hsx]
  · iexact Hsx
  isplitl [Hsw]
  · iexact Hsw
  isplitl [Hsm50]
  · iexact Hsm50
  isplitl [Hsm51]
  · iexact Hsm51
  isplitl [Hsm52]
  · iexact Hsm52
  isplitl [Hsm53]
  · iexact Hsm53
  isplitl [Hsm54]
  · iexact Hsm54
  isplitl [Hsm55]
  · iexact Hsm55
  isplitl [Hsm56]
  · iexact Hsm56
  isplitl [Hsm57]
  · iexact Hsm57
  isplitl [Hsm58]
  · iexact Hsm58
  isplitl [Hsm59]
  · iexact Hsm59
  isplitl [Hsm60]
  · iexact Hsm60
  isplitl [Hsm61]
  · iexact Hsm61
  isplitl [Hsm62]
  · iexact Hsm62
  isplitl [Hsm63]
  · iexact Hsm63
  isplitl [Hsm64]
  · iexact Hsm64
  isplitl [Hwb_b___4__0]
  · iexact Hwb_b___4__0
  isplitl [Hwr0_b]
  · iexact Hwr0_b
  isplitl [Hwb_b___4__1]
  · iexact Hwb_b___4__1
  isplitl [Hwr1_b]
  · iexact Hwr1_b
  isplitl [Hwb_b___4__2]
  · iexact Hwb_b___4__2
  isplitl [Hwr2_b]
  · iexact Hwr2_b
  isplitl [Hwb_b___4__3]
  · iexact Hwb_b___4__3
  isplitl [Hwr3_b]
  · iexact Hwr3_b
  isplitl [Hwb_b___4__4]
  · iexact Hwb_b___4__4
  isplitl [Hwr4_b]
  · iexact Hwr4_b
  isplitl [Hwr5_b]
  · iexact Hwr5_b
  isplitl [Hwr6_b]
  · iexact Hwr6_b
  isplitl [Hwb_b___4__5]
  · iexact Hwb_b___4__5
  isplitl [Hwb_b___4__6]
  · iexact Hwb_b___4__6
  isplitl [Hsm65]
  · iexact Hsm65
  isplitl [Ho_0]
  · iexact Ho_0
  isplitl [Hac_0]
  · iexact Hac_0
  isplitl [Ho_1]
  · iexact Ho_1
  isplitl [Hac_1]
  · iexact Hac_1
  isplitl [Ho_2]
  · iexact Ho_2
  isplitl [Hac_2]
  · iexact Hac_2
  isplitl [Ho_3]
  · iexact Ho_3
  isplitl [Hac_3]
  · iexact Hac_3
  isplitl [Ho_4]
  · iexact Ho_4
  isplitl [Hac_4]
  · iexact Hac_4
  isplitl [Ho_5]
  · iexact Ho_5
  isplitl [Hac_5]
  · iexact Hac_5
  isplitl [Ho_6]
  · iexact Ho_6
  isplitl [Hac_6]
  · iexact Hac_6
  isplitl [Ho_7]
  · iexact Ho_7
  isplitl [Hac_7]
  · iexact Hac_7
  isplitl [Ho_8]
  · iexact Ho_8
  isplitl [Hac_8]
  · iexact Hac_8
  isplitl [Ho_9]
  · iexact Ho_9
  isplitl [Hac_9]
  · iexact Hac_9
  isplitl [Ho_10]
  · iexact Ho_10
  isplitl [Hac_10]
  · iexact Hac_10
  isplitl [Ho_11]
  · iexact Ho_11
  isplitl [Hac_11]
  · iexact Hac_11
  isplitl [Ho_12]
  · iexact Ho_12
  isplitl [Hac_12]
  · iexact Hac_12
  isplitl [Ho_13]
  · iexact Ho_13
  isplitl [Hac_13]
  · iexact Hac_13
  isplitl [Ho_14]
  · iexact Ho_14
  isplitl [Hac_14]
  · iexact Hac_14
  isplitl [Ho_15]
  · iexact Ho_15
  isplitl [Hac_15]
  · iexact Hac_15
  isplitl [Hsms0]
  · iexact Hsms0
  isplitl [Hxsd0]
  · iexact Hxsd0
  isplitl [Hsms1]
  · iexact Hsms1
  isplitl [Hxsd1]
  · iexact Hxsd1
  isplitl [Hsms2]
  · iexact Hsms2
  isplitl [Hxsd2]
  · iexact Hxsd2
  isplitl [Hsms3]
  · iexact Hsms3
  isplitl [Hxsd3]
  · iexact Hxsd3
  isplitl [Hsms4]
  · iexact Hsms4
  isplitl [Hxsd4]
  · iexact Hxsd4
  isplitl [Hsms5]
  · iexact Hsms5
  isplitl [Hxsd5]
  · iexact Hxsd5
  isplitl [Hsms6]
  · iexact Hsms6
  iexact Hxsd6

end Cert.KProof
-- ==== Proof.States.lean ====
/-
The states between the steps of the grid
-/
module

public import proofs.«01_k».proof.Proof.Bodies

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (c : Dev nD)

/-! ## The moving part of the first phase -/

/-- The slot for column block `b` of the device's own rows of weights: its copy in flight, or, past the last, at rest. -/
def slotWA (b : ℕ) : sProp 𝕄 :=
  if b < 16 then Fly c (18 + b % 2) iprop(waP c (b % 2) (pl3 (wblk I c (c : ℕ) b)) ∗ wP c (c : ℕ) b (I.W c))
  else iprop((∃ f, waP c (b % 2) f) ∗ sm0 c (18 + b % 2))

/-- The blocks of the device's own rows of weights that no copy in flight holds. -/
def homeA (t : ℕ) : sProp 𝕄 := bigSep (Finset.range 16) fun b => if b < t ∨ t + 2 ≤ b then wP c (c : ℕ) b (I.W c) else iprop(emp)

/-- The accumulator: the blocks done and those to come. -/
def famAc (t : ℕ) : sProp 𝕄 := bigSep (Finset.range 16) fun b => if b < t then acP c b (acF I c) else iprop(∃ f, acP c b f)

def MovA (t : ℕ) : sProp 𝕄 :=
  iprop(aP c 0 (aF I c) ∗ slotWA I c t ∗ slotWA I c (t + 1) ∗ homeA I c t ∗ famAc I c t)

theorem slotWA_lt {b : ℕ} (h : b < 16) : slotWA I c b
    = Fly c (18 + b % 2) iprop(waP c (b % 2) (pl3 (wblk I c (c : ℕ) b)) ∗ wP c (c : ℕ) b (I.W c)) := by
  unfold slotWA; rw [if_pos h]
theorem slotWA_ge {b : ℕ} (h : 16 ≤ b) : slotWA I c b = iprop((∃ f, waP c (b % 2) f) ∗ sm0 c (18 + b % 2)) := by
  unfold slotWA; rw [if_neg (by omega)]
theorem slotWA_next {t : ℕ} (h : t + 2 < 16) : slotWA I c (t + 1 + 1)
    = Fly c (18 + t % 2) iprop(waP c (t % 2) (pl3 (wblk I c (c : ℕ) (t + 2))) ∗ wP c (c : ℕ) (t + 2) (I.W c)) := by
  rw [slotWA_lt I c (show t + 1 + 1 < 16 by omega), show (t + 1 + 1) % 2 = t % 2 by omega]
theorem slotWA_rest {t : ℕ} (h : 16 ≤ t + 2) : slotWA I c (t + 1 + 1)
    = iprop((∃ f, waP c (t % 2) f) ∗ sm0 c (18 + t % 2)) := by
  rw [slotWA_ge I c (show 16 ≤ t + 1 + 1 by omega), show (t + 1 + 1) % 2 = t % 2 by omega]

theorem homeA_step {t : ℕ} (h : t + 2 < 16) :
    homeA I c t ⊢ iprop(wP c (c : ℕ) (t + 2) (I.W c) ∗ (wP c (c : ℕ) t (I.W c) -∗ homeA I c (t + 1))) := by
  refine (fam2 (Q := fun b => if b < t + 1 ∨ t + 1 + 2 ≤ b then wP c (c : ℕ) b (I.W c) else iprop(emp)) t (t + 2)
    (Finset.mem_range.mpr (by omega)) (Finset.mem_range.mpr (by omega)) (by omega) fun b _ h1 h2 => ?_).trans ?_
  · by_cases hb : b < t ∨ t + 2 ≤ b
    · rw [if_pos hb, if_pos (by omega)]
    · rw [if_neg hb, if_neg (by omega)]
  · rw [if_neg (by omega), if_pos (by omega), if_pos (by omega), if_neg (by omega)]
    unfold homeA
    iintro ⟨He, Hw, Hk⟩
    isplitl [Hw]; · iexact Hw
    iintro Hw'
    iapply Hk $$ Hw'
    iexact He

theorem homeA_last {t : ℕ} (h : 16 ≤ t + 2) (ht : t < 16) :
    homeA I c t ⊢ iprop(wP c (c : ℕ) t (I.W c) -∗ homeA I c (t + 1)) := by
  refine (fam1 (Q := fun b => if b < t + 1 ∨ t + 1 + 2 ≤ b then wP c (c : ℕ) b (I.W c) else iprop(emp)) t
    (Finset.mem_range.mpr (by omega)) fun b hb h1 => ?_).trans ?_
  · have := Finset.mem_range.mp hb
    by_cases hb : b < t
    · rw [if_pos (Or.inl hb), if_pos (by omega)]
    · rw [if_neg (by omega), if_neg (by omega)]
  · rw [if_neg (by omega), if_pos (by omega)]
    unfold homeA
    iintro ⟨He, Hk⟩ Hw'
    iapply Hk $$ Hw'

theorem famAc_step {t : ℕ} (h : t < 16) :
    famAc I c t ⊢ iprop((∃ f, acP c t f) ∗ (acP c t (acF I c) -∗ famAc I c (t + 1))) := by
  refine (fam1 (Q := fun b => if b < t + 1 then acP c b (acF I c) else iprop(∃ f, acP c b f)) t
    (Finset.mem_range.mpr h) fun b _ h1 => ?_).trans ?_
  · by_cases hb : b < t
    · rw [if_pos hb, if_pos (by omega)]
    · rw [if_neg hb, if_neg (by omega)]
  · rw [if_neg (by omega), if_pos (by omega)]
    exact Entails.of_eq rfl

/-! ## The moving part of the second phase -/

/-- Buffer `p` of the other rows of weights, at rest. -/
def idleB (p : ℕ) : sProp 𝕄 := bigSep (Finset.range 7) fun k => iprop((∃ f, wbP c p k f) ∗ sm0 c (20 + (p * 7 + k)))
/-- The seven copies of column block `b` of the other rows of weights, in flight. -/
def flyB (b : ℕ) : sProp 𝕄 := bigSep (Finset.range 7) fun k =>
  Fly c (20 + (b % 4 * 7 + k)) iprop(wbP c (b % 4) k (wbF I c b) ∗ wP c (dv ((c : ℕ) + k + 1) : ℕ) b (I.W c))
def slotWB (b : ℕ) : sProp 𝕄 := if b < 16 then flyB I c b else idleB c (b % 4)
/-- Column block `b` of the other devices' rows of weights. -/
def rowB (b : ℕ) : sProp 𝕄 := bigSep (Finset.range 7) fun k => wP c (dv ((c : ℕ) + k + 1) : ℕ) b (I.W c)
def homeB (i : ℕ) : sProp 𝕄 := bigSep (Finset.range 16) fun b => if b < i ∨ i + 3 ≤ b then rowB I c b else iprop(emp)
/-- The result: blocks on their way out, and those still to be computed. -/
def famB (i : ℕ) : sProp 𝕄 := bigSep (Finset.range 16) fun b =>
  if b < i then Fly c (50 + b) iprop(oP c b (oF I c) ∗ acP c b (oF I c))
  else iprop(acP c b (acF I c) ∗ (∃ f, oP c b f) ∗ sm0 c (50 + b))

def MovB (i : ℕ) : sProp 𝕄 :=
  iprop(asP c (aF I c) ∗ slotWB I c i ∗ slotWB I c (i + 1) ∗ slotWB I c (i + 2) ∗ idleB c ((i + 3) % 4) ∗ homeB I c i ∗ famB I c i)

theorem slotWB_lt {b : ℕ} (h : b < 16) : slotWB I c b = flyB I c b := by unfold slotWB; rw [if_pos h]
theorem slotWB_ge {b : ℕ} (h : 16 ≤ b) : slotWB I c b = idleB c (b % 4) := by unfold slotWB; rw [if_neg (by omega)]

theorem homeB_step {i : ℕ} (h : i + 3 < 16) : homeB I c i ⊢ iprop(rowB I c (i + 3) ∗ (rowB I c i -∗ homeB I c (i + 1))) := by
  refine (fam2 (Q := fun b => if b < i + 1 ∨ i + 1 + 3 ≤ b then rowB I c b else iprop(emp)) i (i + 3)
    (Finset.mem_range.mpr (by omega)) (Finset.mem_range.mpr (by omega)) (by omega) fun b _ h1 h2 => ?_).trans ?_
  · by_cases hb : b < i ∨ i + 3 ≤ b
    · rw [if_pos hb, if_pos (by omega)]
    · rw [if_neg hb, if_neg (by omega)]
  · rw [if_neg (by omega), if_pos (by omega), if_pos (by omega), if_neg (by omega)]
    unfold homeB
    iintro ⟨He, Hw, Hk⟩
    isplitl [Hw]; · iexact Hw
    iintro Hw'
    iapply Hk $$ Hw'
    iexact He

theorem homeB_last {i : ℕ} (h : 16 ≤ i + 3) (hi : i < 16) : homeB I c i ⊢ iprop(rowB I c i -∗ homeB I c (i + 1)) := by
  refine (fam1 (Q := fun b => if b < i + 1 ∨ i + 1 + 3 ≤ b then rowB I c b else iprop(emp)) i
    (Finset.mem_range.mpr (by omega)) fun b hb h1 => ?_).trans ?_
  · have := Finset.mem_range.mp hb
    by_cases hb : b < i
    · rw [if_pos (Or.inl hb), if_pos (by omega)]
    · rw [if_neg (by omega), if_neg (by omega)]
  · rw [if_neg (by omega), if_pos (by omega)]
    unfold homeB
    iintro ⟨He, Hk⟩ Hw'
    iapply Hk $$ Hw'

theorem famB_step {i : ℕ} (h : i < 16) :
    famB I c i ⊢ iprop((acP c i (acF I c) ∗ (∃ f, oP c i f) ∗ sm0 c (50 + i))
      ∗ (Fly c (50 + i) iprop(oP c i (oF I c) ∗ acP c i (oF I c)) -∗ famB I c (i + 1))) := by
  refine (fam1 (Q := fun b => if b < i + 1 then Fly c (50 + b) iprop(oP c b (oF I c) ∗ acP c b (oF I c))
      else iprop(acP c b (acF I c) ∗ (∃ f, oP c b f) ∗ sm0 c (50 + b))) i
    (Finset.mem_range.mpr h) fun b _ h1 => ?_).trans ?_
  · by_cases hb : b < i
    · rw [if_pos hb, if_pos (by omega)]
    · rw [if_neg hb, if_neg (by omega)]
  · rw [if_neg (by omega), if_pos (by omega)]
    exact Entails.of_eq rfl

/-! ## What does not move -/

/-- The credits and positions of the seven sends. -/
def SendF : sProp 𝕄 := bigSep (Finset.range 7) fun k =>
  iprop(cred (tallyAt (dG c (2 + (dv ((c : ℕ) + k + 1) : Dev nD))) () 8192) ∗ atPos ER (dG c (2 + (dv ((c : ℕ) + k + 1) : Dev nD))) 0 ∅ 0)
/-- The credits and positions of the seven receipts. -/
def RecvF : sProp 𝕄 := bigSep (Finset.range 7) fun k =>
  iprop(cred (tallyAt (dG c (10 + (dv ((c : ℕ) + k + 1) : Dev nD))) () 8192) ∗ atPos ER (dG c (10 + (dv ((c : ℕ) + k + 1) : Dev nD))) 0 ∅ 0)
/-- The seven blocks received. -/
def RecvD : sProp 𝕄 := bigSep (Finset.range 7) fun k =>
  iprop(sm0 c (10 + (dv ((c : ℕ) + k + 1) : Dev nD)) ∗ cmP c (dv ((c : ℕ) + k + 1) : ℕ) (cmF I c))
/-- The seven blocks sent, back in the device's hands. -/
def SendD : sProp 𝕄 := bigSep (Finset.range 7) fun k =>
  iprop(sm0 c (2 + (dv ((c : ℕ) + k + 1) : Dev nD)) ∗ xsP c (dv ((c : ℕ) + k + 1) : ℕ) (xsF I c))
/-- What the device keeps of the exchange for itself. -/
def SelfF : sProp 𝕄 :=
  iprop(semVal (barG c) 0 ∗ sm0 c (2 + c) ∗ sm0 c (10 + c) ∗ xsP c (c : ℕ) (xsF I c) ∗ cmP c (c : ℕ) (cmF I c))
/-- The staging of the slabs, and the slabs themselves. -/
def StageF : sProp 𝕄 :=
  iprop(((∃ f, stP c 0 f) ∗ (∃ f, stP c 1 f)) ∗ (sm0 c 48 ∗ sm0 c 49)
    ∗ bigSep (Finset.range 8) fun k => xP c k (I.X c))
def RestF : sProp 𝕄 := iprop(SelfF I c ∗ StageF I c ∗ SendF (F := F) c)

/-- The blocks of `a` to be filled, the result and its semaphores. -/
def aE : sProp 𝕄 := bigSep (Finset.range 7) fun k => iprop(∃ f, aP c (k + 1) f)
def famO : sProp 𝕄 := bigSep (Finset.range 16) fun b => iprop((∃ f, oP c b f) ∗ sm0 c (50 + b))

def PreB : sProp 𝕄 := iprop(RecvF (F := F) c ∗ aE (F := F) c ∗ famO (F := F) c
  ∗ flyB I c 0 ∗ flyB I c 1 ∗ flyB I c 2 ∗ idleB (F := F) c ((0 + 3) % 4) ∗ homeB I c 0)
/-- The state before step `t` of the first phase, `0 < t`, and before the first of the second. -/
def StA (t : ℕ) : sProp 𝕄 := iprop(MovA I c t ∗ RestF I c ∗ PreB I c)

def DoneA : sProp 𝕄 := iprop(aP c 0 (aF I c) ∗ slotWA I c 16 ∗ slotWA I c 17 ∗ homeA I c 16 ∗ RecvD I c)
/-- The state before step `i` of the second phase, `0 < i`. -/
def StB (i : ℕ) : sProp 𝕄 := iprop(MovB I c i ∗ RestF I c ∗ DoneA I c)

/-- The results, written, and the last copies done. -/
def DoneB : sProp 𝕄 := iprop(asP c (aF I c) ∗ idleB (F := F) c 0 ∗ idleB (F := F) c 1 ∗ idleB (F := F) c 2 ∗ idleB (F := F) c 3 ∗ homeB I c 16
  ∗ bigSep (Finset.range 16) fun b => iprop((oP c b (oF I c) ∗ acP c b (oF I c)) ∗ sm0 c (50 + b)))
/-- The state after the last step. -/
def StE : sProp 𝕄 := iprop(DoneB I c ∗ SelfF I c ∗ StageF I c ∗ SendD I c ∗ DoneA I c)

/-- The accumulator between the phases. -/
theorem famB_zero : iprop(famAc I c 16 ∗ famO (F := F) c) ⊢ famB I c 0 := by
  have e : famB I c 0 = iprop(famAc I c 16 ∗ famO (F := F) c) := by
    unfold famB famAc famO
    rw [← bigSep_sep']
    refine bigSep_congr fun b hb => ?_
    rw [if_neg (Nat.not_lt_zero b), if_pos (Finset.mem_range.mp hb)]
  exact Entails.of_eq e.symm

end Cert.KProof
-- ==== Proof.Steps.lean ====
/-
The steps of the grid after the first
-/
module

public import proofs.«01_k».proof.Proof.States

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

theorem flyB7 (I : Inp F) (c : Dev nD) (b : ℕ) : flyB I c b = iprop(Fly c (20 + (b % 4 * 7 + 0)) iprop(wbP c (b % 4) 0 (wbF I c b) ∗ wP c (dv ((c : ℕ) + 0 + 1) : ℕ) b (I.W c)) ∗ Fly c (20 + (b % 4 * 7 + 1)) iprop(wbP c (b % 4) 1 (wbF I c b) ∗ wP c (dv ((c : ℕ) + 1 + 1) : ℕ) b (I.W c)) ∗ Fly c (20 + (b % 4 * 7 + 2)) iprop(wbP c (b % 4) 2 (wbF I c b) ∗ wP c (dv ((c : ℕ) + 2 + 1) : ℕ) b (I.W c)) ∗ Fly c (20 + (b % 4 * 7 + 3)) iprop(wbP c (b % 4) 3 (wbF I c b) ∗ wP c (dv ((c : ℕ) + 3 + 1) : ℕ) b (I.W c)) ∗ Fly c (20 + (b % 4 * 7 + 4)) iprop(wbP c (b % 4) 4 (wbF I c b) ∗ wP c (dv ((c : ℕ) + 4 + 1) : ℕ) b (I.W c)) ∗ Fly c (20 + (b % 4 * 7 + 5)) iprop(wbP c (b % 4) 5 (wbF I c b) ∗ wP c (dv ((c : ℕ) + 5 + 1) : ℕ) b (I.W c)) ∗ Fly c (20 + (b % 4 * 7 + 6)) iprop(wbP c (b % 4) 6 (wbF I c b) ∗ wP c (dv ((c : ℕ) + 6 + 1) : ℕ) b (I.W c))) := by
  unfold flyB; rw [sp7]
theorem rowB7 (I : Inp F) (c : Dev nD) (b : ℕ) : rowB I c b = iprop(wP c (dv ((c : ℕ) + 0 + 1) : ℕ) b (I.W c) ∗ wP c (dv ((c : ℕ) + 1 + 1) : ℕ) b (I.W c) ∗ wP c (dv ((c : ℕ) + 2 + 1) : ℕ) b (I.W c) ∗ wP c (dv ((c : ℕ) + 3 + 1) : ℕ) b (I.W c) ∗ wP c (dv ((c : ℕ) + 4 + 1) : ℕ) b (I.W c) ∗ wP c (dv ((c : ℕ) + 5 + 1) : ℕ) b (I.W c) ∗ wP c (dv ((c : ℕ) + 6 + 1) : ℕ) b (I.W c)) := by
  unfold rowB; rw [sp7]
theorem idleB7 (c : Dev nD) (p : ℕ) : idleB (F := F) c p = iprop(((∃ f, wbP c p 0 f) ∗ sm0 c (20 + (p * 7 + 0))) ∗ ((∃ f, wbP c p 1 f) ∗ sm0 c (20 + (p * 7 + 1))) ∗ ((∃ f, wbP c p 2 f) ∗ sm0 c (20 + (p * 7 + 2))) ∗ ((∃ f, wbP c p 3 f) ∗ sm0 c (20 + (p * 7 + 3))) ∗ ((∃ f, wbP c p 4 f) ∗ sm0 c (20 + (p * 7 + 4))) ∗ ((∃ f, wbP c p 5 f) ∗ sm0 c (20 + (p * 7 + 5))) ∗ ((∃ f, wbP c p 6 f) ∗ sm0 c (20 + (p * 7 + 6)))) := by
  unfold idleB; rw [sp7]

/-- A step of the first phase. -/
theorem stepA (I : Inp F) (c : Dev nD) (i : grid0.Coords) {t : ℕ} (ht : (i 0 : ℕ) = t) (h0 : 0 < t) (hl : t < 14)
    {Q : PUnit → sProp 𝕄} :
    iprop(ctx I ∗ ow c 0 ∗ StA I c t : sProp 𝕄)
      ⊢ iprop(((ow c 0 ∗ StA I c (t + 1)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  unfold StA
  iintro ⟨#HC, How, HM, HR⟩ Hk
  unfold MovA
  icases HM with ⟨Ha_0, Hs0, Hs1, Hh, Hf⟩
  ihave Hsm_18___t___2_ := (Entails.of_eq (slotWA_lt I c (b := t) (by omega))) $$ Hs0
  ihave Hf := (famAc_step I c (t := t) (by omega)) $$ Hf
  icases Hf with ⟨Hac__t_, Hf⟩
  ihave Hh := (homeA_step I c (t := t) (by omega)) $$ Hh
  icases Hh with ⟨Hwo__t___2_, Hh⟩
  iapply (TA I c i ht h0 hl) $$ [Hsm_18___t___2_ How Ha_0 Hac__t_ Hwo__t___2_]
  · isplitr; · iexact HC
    isplitl [Hsm_18___t___2_]; · iexact Hsm_18___t___2_
    isplitl [How]; · iexact How
    isplitl [Ha_0]; · iexact Ha_0
    isplitl [Hac__t_]; · iexact Hac__t_
    iexact Hwo__t___2_
  iintro ⟨Hsm_18___t___2_, How, Ha_0, Hac__t_, Hwo__t_⟩
  iapply Hk
  isplitl [How]
  · iexact How
  isplitl [Ha_0 Hs1 Hsm_18___t___2_ Hh Hwo__t_ Hf Hac__t_]
  · isplitl [Ha_0]
    · iexact Ha_0
    isplitl [Hs1]
    · iexact Hs1
    isplitl [Hsm_18___t___2_]
    · iapply (Entails.of_eq (slotWA_next I c (t := t) (by omega)).symm)
      iexact Hsm_18___t___2_
    isplitl [Hh Hwo__t_]
    · iapply Hh
      iexact Hwo__t_
    iapply Hf
    iexact Hac__t_
  iexact HR

/-- One of the last two steps of the first phase. -/
theorem stepA2 (I : Inp F) (c : Dev nD) (i : grid0.Coords) {t : ℕ} (ht : (i 0 : ℕ) = t) (h0 : 14 ≤ t) (hl : t < 16)
    {Q : PUnit → sProp 𝕄} :
    iprop(ctx I ∗ ow c 0 ∗ StA I c t : sProp 𝕄)
      ⊢ iprop(((ow c 0 ∗ StA I c (t + 1)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  unfold StA
  iintro ⟨#HC, How, HM, HR⟩ Hk
  unfold MovA
  icases HM with ⟨Ha_0, Hs0, Hs1, Hh, Hf⟩
  ihave Hsm_18___t___2_ := (Entails.of_eq (slotWA_lt I c (b := t) (by omega))) $$ Hs0
  ihave Hf := (famAc_step I c (t := t) (by omega)) $$ Hf
  icases Hf with ⟨Hac__t_, Hf⟩
  ihave Hh := (homeA_last I c (t := t) (by omega) (by omega)) $$ Hh
  iapply (TA2 I c i ht h0 hl) $$ [Hsm_18___t___2_ How Ha_0 Hac__t_]
  · isplitr; · iexact HC
    isplitl [Hsm_18___t___2_]; · iexact Hsm_18___t___2_
    isplitl [How]; · iexact How
    isplitl [Ha_0]; · iexact Ha_0
    iexact Hac__t_
  iintro ⟨Hsm_18___t___2_, How, Ha_0, Hac__t_, Hwa_t___2_, Hwo__t_⟩
  iapply Hk
  isplitl [How]
  · iexact How
  isplitl [Ha_0 Hs1 Hwa_t___2_ Hsm_18___t___2_ Hh Hwo__t_ Hf Hac__t_]
  · isplitl [Ha_0]
    · iexact Ha_0
    isplitl [Hs1]
    · iexact Hs1
    isplitl [Hwa_t___2_ Hsm_18___t___2_]
    · iapply (Entails.of_eq (slotWA_rest I c (t := t) (by omega)).symm)
      isplitl [Hwa_t___2_]
      · iexists _
        iexact Hwa_t___2_
      iexact Hsm_18___t___2_
    isplitl [Hh Hwo__t_]
    · iapply Hh
      iexact Hwo__t_
    iapply Hf
    iexact Hac__t_
  iexact HR

/-- A send's credit and position, by rotation. -/
theorem SendF7 (c : Dev nD) : SendF (F := F) c = iprop((cred (tallyAt (dG c (2 + (dv ((c : ℕ) + 0 + 1) : Dev nD))) () 8192) ∗ atPos ER (dG c (2 + (dv ((c : ℕ) + 0 + 1) : Dev nD))) 0 ∅ 0) ∗ (cred (tallyAt (dG c (2 + (dv ((c : ℕ) + 1 + 1) : Dev nD))) () 8192) ∗ atPos ER (dG c (2 + (dv ((c : ℕ) + 1 + 1) : Dev nD))) 0 ∅ 0) ∗ (cred (tallyAt (dG c (2 + (dv ((c : ℕ) + 2 + 1) : Dev nD))) () 8192) ∗ atPos ER (dG c (2 + (dv ((c : ℕ) + 2 + 1) : Dev nD))) 0 ∅ 0) ∗ (cred (tallyAt (dG c (2 + (dv ((c : ℕ) + 3 + 1) : Dev nD))) () 8192) ∗ atPos ER (dG c (2 + (dv ((c : ℕ) + 3 + 1) : Dev nD))) 0 ∅ 0) ∗ (cred (tallyAt (dG c (2 + (dv ((c : ℕ) + 4 + 1) : Dev nD))) () 8192) ∗ atPos ER (dG c (2 + (dv ((c : ℕ) + 4 + 1) : Dev nD))) 0 ∅ 0) ∗ (cred (tallyAt (dG c (2 + (dv ((c : ℕ) + 5 + 1) : Dev nD))) () 8192) ∗ atPos ER (dG c (2 + (dv ((c : ℕ) + 5 + 1) : Dev nD))) 0 ∅ 0) ∗ (cred (tallyAt (dG c (2 + (dv ((c : ℕ) + 6 + 1) : Dev nD))) () 8192) ∗ atPos ER (dG c (2 + (dv ((c : ℕ) + 6 + 1) : Dev nD))) 0 ∅ 0)) := by
  unfold SendF; rw [sp7]
theorem RecvF7 (c : Dev nD) : RecvF (F := F) c = iprop((cred (tallyAt (dG c (10 + (dv ((c : ℕ) + 0 + 1) : Dev nD))) () 8192) ∗ atPos ER (dG c (10 + (dv ((c : ℕ) + 0 + 1) : Dev nD))) 0 ∅ 0) ∗ (cred (tallyAt (dG c (10 + (dv ((c : ℕ) + 1 + 1) : Dev nD))) () 8192) ∗ atPos ER (dG c (10 + (dv ((c : ℕ) + 1 + 1) : Dev nD))) 0 ∅ 0) ∗ (cred (tallyAt (dG c (10 + (dv ((c : ℕ) + 2 + 1) : Dev nD))) () 8192) ∗ atPos ER (dG c (10 + (dv ((c : ℕ) + 2 + 1) : Dev nD))) 0 ∅ 0) ∗ (cred (tallyAt (dG c (10 + (dv ((c : ℕ) + 3 + 1) : Dev nD))) () 8192) ∗ atPos ER (dG c (10 + (dv ((c : ℕ) + 3 + 1) : Dev nD))) 0 ∅ 0) ∗ (cred (tallyAt (dG c (10 + (dv ((c : ℕ) + 4 + 1) : Dev nD))) () 8192) ∗ atPos ER (dG c (10 + (dv ((c : ℕ) + 4 + 1) : Dev nD))) 0 ∅ 0) ∗ (cred (tallyAt (dG c (10 + (dv ((c : ℕ) + 5 + 1) : Dev nD))) () 8192) ∗ atPos ER (dG c (10 + (dv ((c : ℕ) + 5 + 1) : Dev nD))) 0 ∅ 0) ∗ (cred (tallyAt (dG c (10 + (dv ((c : ℕ) + 6 + 1) : Dev nD))) () 8192) ∗ atPos ER (dG c (10 + (dv ((c : ℕ) + 6 + 1) : Dev nD))) 0 ∅ 0)) := by
  unfold RecvF; rw [sp7]
theorem aE7 (c : Dev nD) : aE (F := F) c = iprop((∃ f, aP c (0 + 1) f) ∗ (∃ f, aP c (1 + 1) f) ∗ (∃ f, aP c (2 + 1) f) ∗ (∃ f, aP c (3 + 1) f) ∗ (∃ f, aP c (4 + 1) f) ∗ (∃ f, aP c (5 + 1) f) ∗ (∃ f, aP c (6 + 1) f)) := by
  unfold aE; rw [sp7]
theorem RecvD7 (I : Inp F) (c : Dev nD) : RecvD I c = iprop((sm0 c (10 + (dv ((c : ℕ) + 0 + 1) : Dev nD)) ∗ cmP c (dv ((c : ℕ) + 0 + 1) : ℕ) (cmF I c)) ∗ (sm0 c (10 + (dv ((c : ℕ) + 1 + 1) : Dev nD)) ∗ cmP c (dv ((c : ℕ) + 1 + 1) : ℕ) (cmF I c)) ∗ (sm0 c (10 + (dv ((c : ℕ) + 2 + 1) : Dev nD)) ∗ cmP c (dv ((c : ℕ) + 2 + 1) : ℕ) (cmF I c)) ∗ (sm0 c (10 + (dv ((c : ℕ) + 3 + 1) : Dev nD)) ∗ cmP c (dv ((c : ℕ) + 3 + 1) : ℕ) (cmF I c)) ∗ (sm0 c (10 + (dv ((c : ℕ) + 4 + 1) : Dev nD)) ∗ cmP c (dv ((c : ℕ) + 4 + 1) : ℕ) (cmF I c)) ∗ (sm0 c (10 + (dv ((c : ℕ) + 5 + 1) : Dev nD)) ∗ cmP c (dv ((c : ℕ) + 5 + 1) : ℕ) (cmF I c)) ∗ (sm0 c (10 + (dv ((c : ℕ) + 6 + 1) : Dev nD)) ∗ cmP c (dv ((c : ℕ) + 6 + 1) : ℕ) (cmF I c))) := by
  unfold RecvD; rw [sp7]
theorem SendD7 (I : Inp F) (c : Dev nD) : SendD I c = iprop((sm0 c (2 + (dv ((c : ℕ) + 0 + 1) : Dev nD)) ∗ xsP c (dv ((c : ℕ) + 0 + 1) : ℕ) (xsF I c)) ∗ (sm0 c (2 + (dv ((c : ℕ) + 1 + 1) : Dev nD)) ∗ xsP c (dv ((c : ℕ) + 1 + 1) : ℕ) (xsF I c)) ∗ (sm0 c (2 + (dv ((c : ℕ) + 2 + 1) : Dev nD)) ∗ xsP c (dv ((c : ℕ) + 2 + 1) : ℕ) (xsF I c)) ∗ (sm0 c (2 + (dv ((c : ℕ) + 3 + 1) : Dev nD)) ∗ xsP c (dv ((c : ℕ) + 3 + 1) : ℕ) (xsF I c)) ∗ (sm0 c (2 + (dv ((c : ℕ) + 4 + 1) : Dev nD)) ∗ xsP c (dv ((c : ℕ) + 4 + 1) : ℕ) (xsF I c)) ∗ (sm0 c (2 + (dv ((c : ℕ) + 5 + 1) : Dev nD)) ∗ xsP c (dv ((c : ℕ) + 5 + 1) : ℕ) (xsF I c)) ∗ (sm0 c (2 + (dv ((c : ℕ) + 6 + 1) : Dev nD)) ∗ xsP c (dv ((c : ℕ) + 6 + 1) : ℕ) (xsF I c))) := by
  unfold SendD; rw [sp7]

/-- The first step of the second phase. -/
theorem step16 (I : Inp F) (c : Dev nD) (i : grid0.Coords) (hb : (i 0 : ℕ) = 0 + 16)
    {Q : PUnit → sProp 𝕄} :
    iprop(ctx I ∗ ow c 0 ∗ sxP I c ∗ swP I c ∗ StA I c 16 : sProp 𝕄)
      ⊢ iprop(((ow c 0 ∗ sxP I c ∗ swP I c ∗ StB I c (0 + 1)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  unfold StA
  iintro ⟨#HC, How, Hsx, Hsw, HM, HR, HP⟩ Hk
  unfold MovA PreB
  icases HM with ⟨Ha_0, HsA0, HsA1, HhA, HfA⟩
  icases HP with ⟨Hrv, Hae, HfO, Hs0, Hs1, Hs2, Hid, Hh⟩
  ihave Hf := (famB_zero I c) $$ [HfA HfO]
  · isplitl [HfA]; · iexact HfA
    iexact HfO
  ihave Hf := (famB_step I c (i := 0) (by omega)) $$ Hf
  icases Hf with ⟨⟨Hac_b, Ho_b, Hsm_50___b_⟩, Hf⟩
  ihave Hs0 := (Entails.of_eq (flyB7 I c 0)) $$ Hs0
  icases Hs0 with ⟨Hsm_20____b___4___7___0__, Hsm_20____b___4___7___1__, Hsm_20____b___4___7___2__, Hsm_20____b___4___7___3__, Hsm_20____b___4___7___4__, Hsm_20____b___4___7___5__, Hsm_20____b___4___7___6__⟩
  ihave Hid := (Entails.of_eq (idleB7 (F := F) c ((0 + 3) % 4))) $$ Hid
  icases Hid with ⟨⟨Hwb__b___3____4__0, Hsm_20_____b___3____4___7___0__⟩, ⟨Hwb__b___3____4__1, Hsm_20_____b___3____4___7___1__⟩, ⟨Hwb__b___3____4__2, Hsm_20_____b___3____4___7___2__⟩, ⟨Hwb__b___3____4__3, Hsm_20_____b___3____4___7___3__⟩, ⟨Hwb__b___3____4__4, Hsm_20_____b___3____4___7___4__⟩, ⟨Hwb__b___3____4__5, Hsm_20_____b___3____4___7___5__⟩, ⟨Hwb__b___3____4__6, Hsm_20_____b___3____4___7___6__⟩⟩
  ihave Hh := (homeB_step I c (i := 0) (by omega)) $$ Hh
  icases Hh with ⟨Hr, Hh⟩
  ihave Hr := (Entails.of_eq (rowB7 I c (0 + 3))) $$ Hr
  icases Hr with ⟨Hwr0__b___3_, Hwr1__b___3_, Hwr2__b___3_, Hwr3__b___3_, Hwr4__b___3_, Hwr5__b___3_, Hwr6__b___3_⟩
  ihave Hrv := (Entails.of_eq (RecvF7 c)) $$ Hrv
  icases Hrv with ⟨⟨Hcredr0, Hatr0⟩, ⟨Hcredr1, Hatr1⟩, ⟨Hcredr2, Hatr2⟩, ⟨Hcredr3, Hatr3⟩, ⟨Hcredr4, Hatr4⟩, ⟨Hcredr5, Hatr5⟩, ⟨Hcredr6, Hatr6⟩⟩
  ihave Hae := (Entails.of_eq (aE7 c)) $$ Hae
  icases Hae with ⟨Ha_1, Ha_2, Ha_3, Ha_4, Ha_5, Ha_6, Ha_7⟩
  iapply (T16 I c i (b := 0) hb rfl) $$ [How Hcredr0 Hatr0 Ha_1 Hcredr1 Hatr1 Ha_2 Hcredr2 Hatr2 Ha_3 Hcredr3 Hatr3 Ha_4 Hcredr4 Hatr4 Ha_5 Hcredr5 Hatr5 Ha_6 Hcredr6 Hatr6 Ha_7 Hsm_20____b___4___7___0__ Hsm_20____b___4___7___1__ Hsm_20____b___4___7___2__ Hsm_20____b___4___7___3__ Hsm_20____b___4___7___4__ Hsm_20____b___4___7___5__ Hsm_20____b___4___7___6__ Hsx Hsw Hac_b Ho_b Hsm_50___b_ Hwr0__b___3_ Hwb__b___3____4__0 Hsm_20_____b___3____4___7___0__ Hwr1__b___3_ Hwb__b___3____4__1 Hsm_20_____b___3____4___7___1__ Hwr2__b___3_ Hwb__b___3____4__2 Hsm_20_____b___3____4___7___2__ Hwr3__b___3_ Hwb__b___3____4__3 Hsm_20_____b___3____4___7___3__ Hwr4__b___3_ Hwb__b___3____4__4 Hsm_20_____b___3____4___7___4__ Hwr5__b___3_ Hwb__b___3____4__5 Hsm_20_____b___3____4___7___5__ Hwr6__b___3_ Hwb__b___3____4__6 Hsm_20_____b___3____4___7___6__]
  · isplitr; · iexact HC
    isplitl [How]; · iexact How
    isplitl [Hcredr0]; · iexact Hcredr0
    isplitl [Hatr0]; · iexact Hatr0
    isplitl [Ha_1]; · iexact Ha_1
    isplitl [Hcredr1]; · iexact Hcredr1
    isplitl [Hatr1]; · iexact Hatr1
    isplitl [Ha_2]; · iexact Ha_2
    isplitl [Hcredr2]; · iexact Hcredr2
    isplitl [Hatr2]; · iexact Hatr2
    isplitl [Ha_3]; · iexact Ha_3
    isplitl [Hcredr3]; · iexact Hcredr3
    isplitl [Hatr3]; · iexact Hatr3
    isplitl [Ha_4]; · iexact Ha_4
    isplitl [Hcredr4]; · iexact Hcredr4
    isplitl [Hatr4]; · iexact Hatr4
    isplitl [Ha_5]; · iexact Ha_5
    isplitl [Hcredr5]; · iexact Hcredr5
    isplitl [Hatr5]; · iexact Hatr5
    isplitl [Ha_6]; · iexact Ha_6
    isplitl [Hcredr6]; · iexact Hcredr6
    isplitl [Hatr6]; · iexact Hatr6
    isplitl [Ha_7]; · iexact Ha_7
    isplitl [Hsm_20____b___4___7___0__]; · iexact Hsm_20____b___4___7___0__
    isplitl [Hsm_20____b___4___7___1__]; · iexact Hsm_20____b___4___7___1__
    isplitl [Hsm_20____b___4___7___2__]; · iexact Hsm_20____b___4___7___2__
    isplitl [Hsm_20____b___4___7___3__]; · iexact Hsm_20____b___4___7___3__
    isplitl [Hsm_20____b___4___7___4__]; · iexact Hsm_20____b___4___7___4__
    isplitl [Hsm_20____b___4___7___5__]; · iexact Hsm_20____b___4___7___5__
    isplitl [Hsm_20____b___4___7___6__]; · iexact Hsm_20____b___4___7___6__
    isplitl [Hsx]; · iexact Hsx
    isplitl [Hsw]; · iexact Hsw
    isplitl [Hac_b]; · iexact Hac_b
    isplitl [Ho_b]; · iexact Ho_b
    isplitl [Hsm_50___b_]; · iexact Hsm_50___b_
    isplitl [Hwr0__b___3_]; · iexact Hwr0__b___3_
    isplitl [Hwb__b___3____4__0]; · iexact Hwb__b___3____4__0
    isplitl [Hsm_20_____b___3____4___7___0__]; · iexact Hsm_20_____b___3____4___7___0__
    isplitl [Hwr1__b___3_]; · iexact Hwr1__b___3_
    isplitl [Hwb__b___3____4__1]; · iexact Hwb__b___3____4__1
    isplitl [Hsm_20_____b___3____4___7___1__]; · iexact Hsm_20_____b___3____4___7___1__
    isplitl [Hwr2__b___3_]; · iexact Hwr2__b___3_
    isplitl [Hwb__b___3____4__2]; · iexact Hwb__b___3____4__2
    isplitl [Hsm_20_____b___3____4___7___2__]; · iexact Hsm_20_____b___3____4___7___2__
    isplitl [Hwr3__b___3_]; · iexact Hwr3__b___3_
    isplitl [Hwb__b___3____4__3]; · iexact Hwb__b___3____4__3
    isplitl [Hsm_20_____b___3____4___7___3__]; · iexact Hsm_20_____b___3____4___7___3__
    isplitl [Hwr4__b___3_]; · iexact Hwr4__b___3_
    isplitl [Hwb__b___3____4__4]; · iexact Hwb__b___3____4__4
    isplitl [Hsm_20_____b___3____4___7___4__]; · iexact Hsm_20_____b___3____4___7___4__
    isplitl [Hwr5__b___3_]; · iexact Hwr5__b___3_
    isplitl [Hwb__b___3____4__5]; · iexact Hwb__b___3____4__5
    isplitl [Hsm_20_____b___3____4___7___5__]; · iexact Hsm_20_____b___3____4___7___5__
    isplitl [Hwr6__b___3_]; · iexact Hwr6__b___3_
    isplitl [Hwb__b___3____4__6]; · iexact Hwb__b___3____4__6
    iexact Hsm_20_____b___3____4___7___6__
  iintro ⟨How, Hsm_20____b___4___7___0__, Hsm_20____b___4___7___1__, Hsm_20____b___4___7___2__, Hsm_20____b___4___7___3__, Hsm_20____b___4___7___4__, Hsm_20____b___4___7___5__, Hsm_20____b___4___7___6__, Hsx, Hsw, Hsm_50___b_, Hsm_20_____b___3____4___7___0__, Hsm_20_____b___3____4___7___1__, Hsm_20_____b___3____4___7___2__, Hsm_20_____b___3____4___7___3__, Hsm_20_____b___3____4___7___4__, Hsm_20_____b___3____4___7___5__, Hsm_20_____b___3____4___7___6__, Hsmr0, Hcm0, Hsmr1, Hcm1, Hsmr2, Hcm2, Hsmr3, Hcm3, Hsmr4, Hcm4, Hsmr5, Hcm5, Hsmr6, Hcm6, Hwb_b___4__0, Hwr0_b, Hwb_b___4__1, Hwr1_b, Hwb_b___4__2, Hwr2_b, Hwb_b___4__3, Hwr3_b, Hwb_b___4__4, Hwr4_b, Has, Hwr5_b, Hwr6_b, Hwb_b___4__5, Hwb_b___4__6⟩
  iapply Hk
  isplitl [How]
  · iexact How
  isplitl [Hsx]
  · iexact Hsx
  isplitl [Hsw]
  · iexact Hsw
  unfold StB MovB DoneA
  isplitl [Has Hs1 Hs2 Hsm_20_____b___3____4___7___0__ Hsm_20_____b___3____4___7___1__ Hsm_20_____b___3____4___7___2__ Hsm_20_____b___3____4___7___3__ Hsm_20_____b___3____4___7___4__ Hsm_20_____b___3____4___7___5__ Hsm_20_____b___3____4___7___6__ Hwb_b___4__0 Hsm_20____b___4___7___0__ Hwb_b___4__1 Hsm_20____b___4___7___1__ Hwb_b___4__2 Hsm_20____b___4___7___2__ Hwb_b___4__3 Hsm_20____b___4___7___3__ Hwb_b___4__4 Hsm_20____b___4___7___4__ Hwb_b___4__5 Hsm_20____b___4___7___5__ Hwb_b___4__6 Hsm_20____b___4___7___6__ Hh Hwr0_b Hwr1_b Hwr2_b Hwr3_b Hwr4_b Hwr5_b Hwr6_b Hf Hsm_50___b_]
  · isplitl [Has]
    · iexact Has
    isplitl [Hs1]
    · iapply (Entails.of_eq (slotWB_lt I c (b := 1) (by omega)).symm)
      iexact Hs1
    isplitl [Hs2]
    · iapply (Entails.of_eq (slotWB_lt I c (b := 2) (by omega)).symm)
      iexact Hs2
    isplitl [Hsm_20_____b___3____4___7___0__ Hsm_20_____b___3____4___7___1__ Hsm_20_____b___3____4___7___2__ Hsm_20_____b___3____4___7___3__ Hsm_20_____b___3____4___7___4__ Hsm_20_____b___3____4___7___5__ Hsm_20_____b___3____4___7___6__]
    · iapply (Entails.of_eq (slotWB_lt I c (b := 0 + 3) (by omega)).symm)
      iapply (Entails.of_eq (flyB7 I c (0 + 3)).symm)
      isplitl [Hsm_20_____b___3____4___7___0__]
      · iexact Hsm_20_____b___3____4___7___0__
      isplitl [Hsm_20_____b___3____4___7___1__]
      · iexact Hsm_20_____b___3____4___7___1__
      isplitl [Hsm_20_____b___3____4___7___2__]
      · iexact Hsm_20_____b___3____4___7___2__
      isplitl [Hsm_20_____b___3____4___7___3__]
      · iexact Hsm_20_____b___3____4___7___3__
      isplitl [Hsm_20_____b___3____4___7___4__]
      · iexact Hsm_20_____b___3____4___7___4__
      isplitl [Hsm_20_____b___3____4___7___5__]
      · iexact Hsm_20_____b___3____4___7___5__
      iexact Hsm_20_____b___3____4___7___6__
    isplitl [Hwb_b___4__0 Hsm_20____b___4___7___0__ Hwb_b___4__1 Hsm_20____b___4___7___1__ Hwb_b___4__2 Hsm_20____b___4___7___2__ Hwb_b___4__3 Hsm_20____b___4___7___3__ Hwb_b___4__4 Hsm_20____b___4___7___4__ Hwb_b___4__5 Hsm_20____b___4___7___5__ Hwb_b___4__6 Hsm_20____b___4___7___6__]
    · iapply (Entails.of_eq (congrArg (idleB (F := F) c) (show (0 + 1 + 3) % 4 = 0 % 4 by omega)).symm)
      iapply (Entails.of_eq (idleB7 (F := F) c (0 % 4)).symm)
      isplitl [Hwb_b___4__0 Hsm_20____b___4___7___0__]
      · isplitl [Hwb_b___4__0]
        · iexists _
          iexact Hwb_b___4__0
        iexact Hsm_20____b___4___7___0__
      isplitl [Hwb_b___4__1 Hsm_20____b___4___7___1__]
      · isplitl [Hwb_b___4__1]
        · iexists _
          iexact Hwb_b___4__1
        iexact Hsm_20____b___4___7___1__
      isplitl [Hwb_b___4__2 Hsm_20____b___4___7___2__]
      · isplitl [Hwb_b___4__2]
        · iexists _
          iexact Hwb_b___4__2
        iexact Hsm_20____b___4___7___2__
      isplitl [Hwb_b___4__3 Hsm_20____b___4___7___3__]
      · isplitl [Hwb_b___4__3]
        · iexists _
          iexact Hwb_b___4__3
        iexact Hsm_20____b___4___7___3__
      isplitl [Hwb_b___4__4 Hsm_20____b___4___7___4__]
      · isplitl [Hwb_b___4__4]
        · iexists _
          iexact Hwb_b___4__4
        iexact Hsm_20____b___4___7___4__
      isplitl [Hwb_b___4__5 Hsm_20____b___4___7___5__]
      · isplitl [Hwb_b___4__5]
        · iexists _
          iexact Hwb_b___4__5
        iexact Hsm_20____b___4___7___5__
      isplitl [Hwb_b___4__6]
      · iexists _
        iexact Hwb_b___4__6
      iexact Hsm_20____b___4___7___6__
    isplitl [Hh Hwr0_b Hwr1_b Hwr2_b Hwr3_b Hwr4_b Hwr5_b Hwr6_b]
    · iapply Hh
      iapply (Entails.of_eq (rowB7 I c 0).symm)
      isplitl [Hwr0_b]
      · iexact Hwr0_b
      isplitl [Hwr1_b]
      · iexact Hwr1_b
      isplitl [Hwr2_b]
      · iexact Hwr2_b
      isplitl [Hwr3_b]
      · iexact Hwr3_b
      isplitl [Hwr4_b]
      · iexact Hwr4_b
      isplitl [Hwr5_b]
      · iexact Hwr5_b
      iexact Hwr6_b
    iapply Hf
    iexact Hsm_50___b_
  isplitl [HR]
  · iexact HR
  isplitl [Ha_0]
  · iexact Ha_0
  isplitl [HsA0]
  · iexact HsA0
  isplitl [HsA1]
  · iexact HsA1
  isplitl [HhA]
  · iexact HhA
  iapply (Entails.of_eq (RecvD7 I c).symm)
  isplitl [Hsmr0 Hcm0]
  · isplitl [Hsmr0]
    · iexact Hsmr0
    iexact Hcm0
  isplitl [Hsmr1 Hcm1]
  · isplitl [Hsmr1]
    · iexact Hsmr1
    iexact Hcm1
  isplitl [Hsmr2 Hcm2]
  · isplitl [Hsmr2]
    · iexact Hsmr2
    iexact Hcm2
  isplitl [Hsmr3 Hcm3]
  · isplitl [Hsmr3]
    · iexact Hsmr3
    iexact Hcm3
  isplitl [Hsmr4 Hcm4]
  · isplitl [Hsmr4]
    · iexact Hsmr4
    iexact Hcm4
  isplitl [Hsmr5 Hcm5]
  · isplitl [Hsmr5]
    · iexact Hsmr5
    iexact Hcm5
  isplitl [Hsmr6]
  · iexact Hsmr6
  iexact Hcm6

/-- A step of the second phase. -/
theorem stepB (I : Inp F) (c : Dev nD) (i : grid0.Coords) {b : ℕ} (hb : (i 0 : ℕ) = b + 16) (h0 : 0 < b) (hl : b < 13)
    {Q : PUnit → sProp 𝕄} :
    iprop(ctx I ∗ ow c 0 ∗ sxP I c ∗ swP I c ∗ StB I c b : sProp 𝕄)
      ⊢ iprop(((ow c 0 ∗ sxP I c ∗ swP I c ∗ StB I c (b + 1)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  unfold StB
  iintro ⟨#HC, How, Hsx, Hsw, HM, HR⟩ Hk
  unfold MovB
  icases HM with ⟨Has, Hs0, Hs1, Hs2, Hid, Hh, Hf⟩
  ihave Hf := (famB_step I c (i := b) (by omega)) $$ Hf
  icases Hf with ⟨⟨Hac_b, Ho_b, Hsm_50___b_⟩, Hf⟩
  ihave Hs0 := (Entails.of_eq (slotWB_lt I c (b := b) (by omega))) $$ Hs0
  ihave Hs0 := (Entails.of_eq (flyB7 I c b)) $$ Hs0
  icases Hs0 with ⟨Hsm_20____b___4___7___0__, Hsm_20____b___4___7___1__, Hsm_20____b___4___7___2__, Hsm_20____b___4___7___3__, Hsm_20____b___4___7___4__, Hsm_20____b___4___7___5__, Hsm_20____b___4___7___6__⟩
  ihave Hid := (Entails.of_eq (idleB7 (F := F) c ((b + 3) % 4))) $$ Hid
  icases Hid with ⟨⟨Hwb__b___3____4__0, Hsm_20_____b___3____4___7___0__⟩, ⟨Hwb__b___3____4__1, Hsm_20_____b___3____4___7___1__⟩, ⟨Hwb__b___3____4__2, Hsm_20_____b___3____4___7___2__⟩, ⟨Hwb__b___3____4__3, Hsm_20_____b___3____4___7___3__⟩, ⟨Hwb__b___3____4__4, Hsm_20_____b___3____4___7___4__⟩, ⟨Hwb__b___3____4__5, Hsm_20_____b___3____4___7___5__⟩, ⟨Hwb__b___3____4__6, Hsm_20_____b___3____4___7___6__⟩⟩
  ihave Hh := (homeB_step I c (i := b) (by omega)) $$ Hh
  icases Hh with ⟨Hr, Hh⟩
  ihave Hr := (Entails.of_eq (rowB7 I c (b + 3))) $$ Hr
  icases Hr with ⟨Hwr0__b___3_, Hwr1__b___3_, Hwr2__b___3_, Hwr3__b___3_, Hwr4__b___3_, Hwr5__b___3_, Hwr6__b___3_⟩
  iapply (TB I c i hb h0 hl) $$ [Hsm_20____b___4___7___0__ How Hsm_20____b___4___7___1__ Hsm_20____b___4___7___2__ Hsm_20____b___4___7___3__ Hsm_20____b___4___7___4__ Has Hsm_20____b___4___7___5__ Hsm_20____b___4___7___6__ Hsx Hsw Hac_b Ho_b Hsm_50___b_ Hwr0__b___3_ Hwb__b___3____4__0 Hsm_20_____b___3____4___7___0__ Hwr1__b___3_ Hwb__b___3____4__1 Hsm_20_____b___3____4___7___1__ Hwr2__b___3_ Hwb__b___3____4__2 Hsm_20_____b___3____4___7___2__ Hwr3__b___3_ Hwb__b___3____4__3 Hsm_20_____b___3____4___7___3__ Hwr4__b___3_ Hwb__b___3____4__4 Hsm_20_____b___3____4___7___4__ Hwr5__b___3_ Hwb__b___3____4__5 Hsm_20_____b___3____4___7___5__ Hwr6__b___3_ Hwb__b___3____4__6 Hsm_20_____b___3____4___7___6__]
  · isplitr; · iexact HC
    isplitl [Hsm_20____b___4___7___0__]; · iexact Hsm_20____b___4___7___0__
    isplitl [How]; · iexact How
    isplitl [Hsm_20____b___4___7___1__]; · iexact Hsm_20____b___4___7___1__
    isplitl [Hsm_20____b___4___7___2__]; · iexact Hsm_20____b___4___7___2__
    isplitl [Hsm_20____b___4___7___3__]; · iexact Hsm_20____b___4___7___3__
    isplitl [Hsm_20____b___4___7___4__]; · iexact Hsm_20____b___4___7___4__
    isplitl [Has]; · iexact Has
    isplitl [Hsm_20____b___4___7___5__]; · iexact Hsm_20____b___4___7___5__
    isplitl [Hsm_20____b___4___7___6__]; · iexact Hsm_20____b___4___7___6__
    isplitl [Hsx]; · iexact Hsx
    isplitl [Hsw]; · iexact Hsw
    isplitl [Hac_b]; · iexact Hac_b
    isplitl [Ho_b]; · iexact Ho_b
    isplitl [Hsm_50___b_]; · iexact Hsm_50___b_
    isplitl [Hwr0__b___3_]; · iexact Hwr0__b___3_
    isplitl [Hwb__b___3____4__0]; · iexact Hwb__b___3____4__0
    isplitl [Hsm_20_____b___3____4___7___0__]; · iexact Hsm_20_____b___3____4___7___0__
    isplitl [Hwr1__b___3_]; · iexact Hwr1__b___3_
    isplitl [Hwb__b___3____4__1]; · iexact Hwb__b___3____4__1
    isplitl [Hsm_20_____b___3____4___7___1__]; · iexact Hsm_20_____b___3____4___7___1__
    isplitl [Hwr2__b___3_]; · iexact Hwr2__b___3_
    isplitl [Hwb__b___3____4__2]; · iexact Hwb__b___3____4__2
    isplitl [Hsm_20_____b___3____4___7___2__]; · iexact Hsm_20_____b___3____4___7___2__
    isplitl [Hwr3__b___3_]; · iexact Hwr3__b___3_
    isplitl [Hwb__b___3____4__3]; · iexact Hwb__b___3____4__3
    isplitl [Hsm_20_____b___3____4___7___3__]; · iexact Hsm_20_____b___3____4___7___3__
    isplitl [Hwr4__b___3_]; · iexact Hwr4__b___3_
    isplitl [Hwb__b___3____4__4]; · iexact Hwb__b___3____4__4
    isplitl [Hsm_20_____b___3____4___7___4__]; · iexact Hsm_20_____b___3____4___7___4__
    isplitl [Hwr5__b___3_]; · iexact Hwr5__b___3_
    isplitl [Hwb__b___3____4__5]; · iexact Hwb__b___3____4__5
    isplitl [Hsm_20_____b___3____4___7___5__]; · iexact Hsm_20_____b___3____4___7___5__
    isplitl [Hwr6__b___3_]; · iexact Hwr6__b___3_
    isplitl [Hwb__b___3____4__6]; · iexact Hwb__b___3____4__6
    iexact Hsm_20_____b___3____4___7___6__
  iintro ⟨Hsm_20____b___4___7___0__, How, Hsm_20____b___4___7___1__, Hsm_20____b___4___7___2__, Hsm_20____b___4___7___3__, Hsm_20____b___4___7___4__, Has, Hsm_20____b___4___7___5__, Hsm_20____b___4___7___6__, Hsx, Hsw, Hsm_50___b_, Hsm_20_____b___3____4___7___0__, Hsm_20_____b___3____4___7___1__, Hsm_20_____b___3____4___7___2__, Hsm_20_____b___3____4___7___3__, Hsm_20_____b___3____4___7___4__, Hsm_20_____b___3____4___7___5__, Hsm_20_____b___3____4___7___6__, Hwb_b___4__0, Hwr0_b, Hwb_b___4__1, Hwr1_b, Hwb_b___4__2, Hwr2_b, Hwb_b___4__3, Hwr3_b, Hwb_b___4__4, Hwr4_b, Hwr5_b, Hwr6_b, Hwb_b___4__5, Hwb_b___4__6⟩
  iapply Hk
  isplitl [How]
  · iexact How
  isplitl [Hsx]
  · iexact Hsx
  isplitl [Hsw]
  · iexact Hsw
  isplitl [Has Hs1 Hs2 Hsm_20_____b___3____4___7___0__ Hsm_20_____b___3____4___7___1__ Hsm_20_____b___3____4___7___2__ Hsm_20_____b___3____4___7___3__ Hsm_20_____b___3____4___7___4__ Hsm_20_____b___3____4___7___5__ Hsm_20_____b___3____4___7___6__ Hwb_b___4__0 Hsm_20____b___4___7___0__ Hwb_b___4__1 Hsm_20____b___4___7___1__ Hwb_b___4__2 Hsm_20____b___4___7___2__ Hwb_b___4__3 Hsm_20____b___4___7___3__ Hwb_b___4__4 Hsm_20____b___4___7___4__ Hwb_b___4__5 Hsm_20____b___4___7___5__ Hwb_b___4__6 Hsm_20____b___4___7___6__ Hh Hwr0_b Hwr1_b Hwr2_b Hwr3_b Hwr4_b Hwr5_b Hwr6_b Hf Hsm_50___b_]
  · isplitl [Has]
    · iexact Has
    isplitl [Hs1]
    · iexact Hs1
    isplitl [Hs2]
    · iexact Hs2
    isplitl [Hsm_20_____b___3____4___7___0__ Hsm_20_____b___3____4___7___1__ Hsm_20_____b___3____4___7___2__ Hsm_20_____b___3____4___7___3__ Hsm_20_____b___3____4___7___4__ Hsm_20_____b___3____4___7___5__ Hsm_20_____b___3____4___7___6__]
    · iapply (Entails.of_eq (slotWB_lt I c (b := b + 3) (by omega)).symm)
      iapply (Entails.of_eq (flyB7 I c (b + 3)).symm)
      isplitl [Hsm_20_____b___3____4___7___0__]
      · iexact Hsm_20_____b___3____4___7___0__
      isplitl [Hsm_20_____b___3____4___7___1__]
      · iexact Hsm_20_____b___3____4___7___1__
      isplitl [Hsm_20_____b___3____4___7___2__]
      · iexact Hsm_20_____b___3____4___7___2__
      isplitl [Hsm_20_____b___3____4___7___3__]
      · iexact Hsm_20_____b___3____4___7___3__
      isplitl [Hsm_20_____b___3____4___7___4__]
      · iexact Hsm_20_____b___3____4___7___4__
      isplitl [Hsm_20_____b___3____4___7___5__]
      · iexact Hsm_20_____b___3____4___7___5__
      iexact Hsm_20_____b___3____4___7___6__
    isplitl [Hwb_b___4__0 Hsm_20____b___4___7___0__ Hwb_b___4__1 Hsm_20____b___4___7___1__ Hwb_b___4__2 Hsm_20____b___4___7___2__ Hwb_b___4__3 Hsm_20____b___4___7___3__ Hwb_b___4__4 Hsm_20____b___4___7___4__ Hwb_b___4__5 Hsm_20____b___4___7___5__ Hwb_b___4__6 Hsm_20____b___4___7___6__]
    · iapply (Entails.of_eq (congrArg (idleB (F := F) c) (show (b + 1 + 3) % 4 = b % 4 by omega)).symm)
      iapply (Entails.of_eq (idleB7 (F := F) c (b % 4)).symm)
      isplitl [Hwb_b___4__0 Hsm_20____b___4___7___0__]
      · isplitl [Hwb_b___4__0]
        · iexists _
          iexact Hwb_b___4__0
        iexact Hsm_20____b___4___7___0__
      isplitl [Hwb_b___4__1 Hsm_20____b___4___7___1__]
      · isplitl [Hwb_b___4__1]
        · iexists _
          iexact Hwb_b___4__1
        iexact Hsm_20____b___4___7___1__
      isplitl [Hwb_b___4__2 Hsm_20____b___4___7___2__]
      · isplitl [Hwb_b___4__2]
        · iexists _
          iexact Hwb_b___4__2
        iexact Hsm_20____b___4___7___2__
      isplitl [Hwb_b___4__3 Hsm_20____b___4___7___3__]
      · isplitl [Hwb_b___4__3]
        · iexists _
          iexact Hwb_b___4__3
        iexact Hsm_20____b___4___7___3__
      isplitl [Hwb_b___4__4 Hsm_20____b___4___7___4__]
      · isplitl [Hwb_b___4__4]
        · iexists _
          iexact Hwb_b___4__4
        iexact Hsm_20____b___4___7___4__
      isplitl [Hwb_b___4__5 Hsm_20____b___4___7___5__]
      · isplitl [Hwb_b___4__5]
        · iexists _
          iexact Hwb_b___4__5
        iexact Hsm_20____b___4___7___5__
      isplitl [Hwb_b___4__6]
      · iexists _
        iexact Hwb_b___4__6
      iexact Hsm_20____b___4___7___6__
    isplitl [Hh Hwr0_b Hwr1_b Hwr2_b Hwr3_b Hwr4_b Hwr5_b Hwr6_b]
    · iapply Hh
      iapply (Entails.of_eq (rowB7 I c b).symm)
      isplitl [Hwr0_b]
      · iexact Hwr0_b
      isplitl [Hwr1_b]
      · iexact Hwr1_b
      isplitl [Hwr2_b]
      · iexact Hwr2_b
      isplitl [Hwr3_b]
      · iexact Hwr3_b
      isplitl [Hwr4_b]
      · iexact Hwr4_b
      isplitl [Hwr5_b]
      · iexact Hwr5_b
      iexact Hwr6_b
    iapply Hf
    iexact Hsm_50___b_
  iexact HR

/-- A step of the second phase. -/
theorem stepB2 (I : Inp F) (c : Dev nD) (i : grid0.Coords) {b : ℕ} (hb : (i 0 : ℕ) = b + 16) (h0 : 13 ≤ b) (hl : b < 15)
    {Q : PUnit → sProp 𝕄} :
    iprop(ctx I ∗ ow c 0 ∗ sxP I c ∗ swP I c ∗ StB I c b : sProp 𝕄)
      ⊢ iprop(((ow c 0 ∗ sxP I c ∗ swP I c ∗ StB I c (b + 1)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  unfold StB
  iintro ⟨#HC, How, Hsx, Hsw, HM, HR⟩ Hk
  unfold MovB
  icases HM with ⟨Has, Hs0, Hs1, Hs2, Hid, Hh, Hf⟩
  ihave Hf := (famB_step I c (i := b) (by omega)) $$ Hf
  icases Hf with ⟨⟨Hac_b, Ho_b, Hsm_50___b_⟩, Hf⟩
  ihave Hs0 := (Entails.of_eq (slotWB_lt I c (b := b) (by omega))) $$ Hs0
  ihave Hs0 := (Entails.of_eq (flyB7 I c b)) $$ Hs0
  icases Hs0 with ⟨Hsm_20____b___4___7___0__, Hsm_20____b___4___7___1__, Hsm_20____b___4___7___2__, Hsm_20____b___4___7___3__, Hsm_20____b___4___7___4__, Hsm_20____b___4___7___5__, Hsm_20____b___4___7___6__⟩
  ihave Hh := (homeB_last I c (i := b) (by omega) (by omega)) $$ Hh
  iapply (TB2 I c i hb h0 hl) $$ [Hsm_20____b___4___7___0__ How Hsm_20____b___4___7___1__ Hsm_20____b___4___7___2__ Hsm_20____b___4___7___3__ Hsm_20____b___4___7___4__ Has Hsm_20____b___4___7___5__ Hsm_20____b___4___7___6__ Hsx Hsw Hac_b Ho_b Hsm_50___b_]
  · isplitr; · iexact HC
    isplitl [Hsm_20____b___4___7___0__]; · iexact Hsm_20____b___4___7___0__
    isplitl [How]; · iexact How
    isplitl [Hsm_20____b___4___7___1__]; · iexact Hsm_20____b___4___7___1__
    isplitl [Hsm_20____b___4___7___2__]; · iexact Hsm_20____b___4___7___2__
    isplitl [Hsm_20____b___4___7___3__]; · iexact Hsm_20____b___4___7___3__
    isplitl [Hsm_20____b___4___7___4__]; · iexact Hsm_20____b___4___7___4__
    isplitl [Has]; · iexact Has
    isplitl [Hsm_20____b___4___7___5__]; · iexact Hsm_20____b___4___7___5__
    isplitl [Hsm_20____b___4___7___6__]; · iexact Hsm_20____b___4___7___6__
    isplitl [Hsx]; · iexact Hsx
    isplitl [Hsw]; · iexact Hsw
    isplitl [Hac_b]; · iexact Hac_b
    isplitl [Ho_b]; · iexact Ho_b
    iexact Hsm_50___b_
  iintro ⟨Hsm_20____b___4___7___0__, How, Hsm_20____b___4___7___1__, Hsm_20____b___4___7___2__, Hsm_20____b___4___7___3__, Hsm_20____b___4___7___4__, Has, Hsm_20____b___4___7___5__, Hsm_20____b___4___7___6__, Hsx, Hsw, Hsm_50___b_, Hwb_b___4__0, Hwr0_b, Hwb_b___4__1, Hwr1_b, Hwb_b___4__2, Hwr2_b, Hwb_b___4__3, Hwr3_b, Hwb_b___4__4, Hwr4_b, Hwr5_b, Hwr6_b, Hwb_b___4__5, Hwb_b___4__6⟩
  iapply Hk
  isplitl [How]
  · iexact How
  isplitl [Hsx]
  · iexact Hsx
  isplitl [Hsw]
  · iexact Hsw
  isplitl [Has Hs1 Hs2 Hid Hwb_b___4__0 Hsm_20____b___4___7___0__ Hwb_b___4__1 Hsm_20____b___4___7___1__ Hwb_b___4__2 Hsm_20____b___4___7___2__ Hwb_b___4__3 Hsm_20____b___4___7___3__ Hwb_b___4__4 Hsm_20____b___4___7___4__ Hwb_b___4__5 Hsm_20____b___4___7___5__ Hwb_b___4__6 Hsm_20____b___4___7___6__ Hh Hwr0_b Hwr1_b Hwr2_b Hwr3_b Hwr4_b Hwr5_b Hwr6_b Hf Hsm_50___b_]
  · isplitl [Has]
    · iexact Has
    isplitl [Hs1]
    · iexact Hs1
    isplitl [Hs2]
    · iexact Hs2
    isplitl [Hid]
    · iapply (Entails.of_eq (slotWB_ge I c (b := b + 3) (by omega)).symm)
      iexact Hid
    isplitl [Hwb_b___4__0 Hsm_20____b___4___7___0__ Hwb_b___4__1 Hsm_20____b___4___7___1__ Hwb_b___4__2 Hsm_20____b___4___7___2__ Hwb_b___4__3 Hsm_20____b___4___7___3__ Hwb_b___4__4 Hsm_20____b___4___7___4__ Hwb_b___4__5 Hsm_20____b___4___7___5__ Hwb_b___4__6 Hsm_20____b___4___7___6__]
    · iapply (Entails.of_eq (congrArg (idleB (F := F) c) (show (b + 1 + 3) % 4 = b % 4 by omega)).symm)
      iapply (Entails.of_eq (idleB7 (F := F) c (b % 4)).symm)
      isplitl [Hwb_b___4__0 Hsm_20____b___4___7___0__]
      · isplitl [Hwb_b___4__0]
        · iexists _
          iexact Hwb_b___4__0
        iexact Hsm_20____b___4___7___0__
      isplitl [Hwb_b___4__1 Hsm_20____b___4___7___1__]
      · isplitl [Hwb_b___4__1]
        · iexists _
          iexact Hwb_b___4__1
        iexact Hsm_20____b___4___7___1__
      isplitl [Hwb_b___4__2 Hsm_20____b___4___7___2__]
      · isplitl [Hwb_b___4__2]
        · iexists _
          iexact Hwb_b___4__2
        iexact Hsm_20____b___4___7___2__
      isplitl [Hwb_b___4__3 Hsm_20____b___4___7___3__]
      · isplitl [Hwb_b___4__3]
        · iexists _
          iexact Hwb_b___4__3
        iexact Hsm_20____b___4___7___3__
      isplitl [Hwb_b___4__4 Hsm_20____b___4___7___4__]
      · isplitl [Hwb_b___4__4]
        · iexists _
          iexact Hwb_b___4__4
        iexact Hsm_20____b___4___7___4__
      isplitl [Hwb_b___4__5 Hsm_20____b___4___7___5__]
      · isplitl [Hwb_b___4__5]
        · iexists _
          iexact Hwb_b___4__5
        iexact Hsm_20____b___4___7___5__
      isplitl [Hwb_b___4__6]
      · iexists _
        iexact Hwb_b___4__6
      iexact Hsm_20____b___4___7___6__
    isplitl [Hh Hwr0_b Hwr1_b Hwr2_b Hwr3_b Hwr4_b Hwr5_b Hwr6_b]
    · iapply Hh
      iapply (Entails.of_eq (rowB7 I c b).symm)
      isplitl [Hwr0_b]
      · iexact Hwr0_b
      isplitl [Hwr1_b]
      · iexact Hwr1_b
      isplitl [Hwr2_b]
      · iexact Hwr2_b
      isplitl [Hwr3_b]
      · iexact Hwr3_b
      isplitl [Hwr4_b]
      · iexact Hwr4_b
      isplitl [Hwr5_b]
      · iexact Hwr5_b
      iexact Hwr6_b
    iapply Hf
    iexact Hsm_50___b_
  iexact HR

theorem famB15 (I : Inp F) (c : Dev nD) : famB I c 15 = iprop(Fly c 50 iprop(oP c 0 (oF I c) ∗ acP c 0 (oF I c)) ∗ Fly c 51 iprop(oP c 1 (oF I c) ∗ acP c 1 (oF I c)) ∗ Fly c 52 iprop(oP c 2 (oF I c) ∗ acP c 2 (oF I c)) ∗ Fly c 53 iprop(oP c 3 (oF I c) ∗ acP c 3 (oF I c)) ∗ Fly c 54 iprop(oP c 4 (oF I c) ∗ acP c 4 (oF I c)) ∗ Fly c 55 iprop(oP c 5 (oF I c) ∗ acP c 5 (oF I c)) ∗ Fly c 56 iprop(oP c 6 (oF I c) ∗ acP c 6 (oF I c)) ∗ Fly c 57 iprop(oP c 7 (oF I c) ∗ acP c 7 (oF I c)) ∗ Fly c 58 iprop(oP c 8 (oF I c) ∗ acP c 8 (oF I c)) ∗ Fly c 59 iprop(oP c 9 (oF I c) ∗ acP c 9 (oF I c)) ∗ Fly c 60 iprop(oP c 10 (oF I c) ∗ acP c 10 (oF I c)) ∗ Fly c 61 iprop(oP c 11 (oF I c) ∗ acP c 11 (oF I c)) ∗ Fly c 62 iprop(oP c 12 (oF I c) ∗ acP c 12 (oF I c)) ∗ Fly c 63 iprop(oP c 13 (oF I c) ∗ acP c 13 (oF I c)) ∗ Fly c 64 iprop(oP c 14 (oF I c) ∗ acP c 14 (oF I c)) ∗ acP c 15 (acF I c) ∗ (∃ f, oP c 15 f) ∗ sm0 c 65) := by
  unfold famB; rw [sp16]
  rw [if_pos (show 0 < 15 by omega), if_pos (show 1 < 15 by omega), if_pos (show 2 < 15 by omega), if_pos (show 3 < 15 by omega), if_pos (show 4 < 15 by omega), if_pos (show 5 < 15 by omega), if_pos (show 6 < 15 by omega), if_pos (show 7 < 15 by omega), if_pos (show 8 < 15 by omega), if_pos (show 9 < 15 by omega), if_pos (show 10 < 15 by omega), if_pos (show 11 < 15 by omega), if_pos (show 12 < 15 by omega), if_pos (show 13 < 15 by omega), if_pos (show 14 < 15 by omega), if_neg (show ¬ 15 < 15 by omega)]

theorem outs16 (I : Inp F) (c : Dev nD) : (bigSep (Finset.range 16) fun b => iprop((oP c b (oF I c) ∗ acP c b (oF I c)) ∗ sm0 c (50 + b)) : sProp 𝕄) = iprop(((oP c 0 (oF I c) ∗ acP c 0 (oF I c)) ∗ sm0 c 50) ∗ ((oP c 1 (oF I c) ∗ acP c 1 (oF I c)) ∗ sm0 c 51) ∗ ((oP c 2 (oF I c) ∗ acP c 2 (oF I c)) ∗ sm0 c 52) ∗ ((oP c 3 (oF I c) ∗ acP c 3 (oF I c)) ∗ sm0 c 53) ∗ ((oP c 4 (oF I c) ∗ acP c 4 (oF I c)) ∗ sm0 c 54) ∗ ((oP c 5 (oF I c) ∗ acP c 5 (oF I c)) ∗ sm0 c 55) ∗ ((oP c 6 (oF I c) ∗ acP c 6 (oF I c)) ∗ sm0 c 56) ∗ ((oP c 7 (oF I c) ∗ acP c 7 (oF I c)) ∗ sm0 c 57) ∗ ((oP c 8 (oF I c) ∗ acP c 8 (oF I c)) ∗ sm0 c 58) ∗ ((oP c 9 (oF I c) ∗ acP c 9 (oF I c)) ∗ sm0 c 59) ∗ ((oP c 10 (oF I c) ∗ acP c 10 (oF I c)) ∗ sm0 c 60) ∗ ((oP c 11 (oF I c) ∗ acP c 11 (oF I c)) ∗ sm0 c 61) ∗ ((oP c 12 (oF I c) ∗ acP c 12 (oF I c)) ∗ sm0 c 62) ∗ ((oP c 13 (oF I c) ∗ acP c 13 (oF I c)) ∗ sm0 c 63) ∗ ((oP c 14 (oF I c) ∗ acP c 14 (oF I c)) ∗ sm0 c 64) ∗ ((oP c 15 (oF I c) ∗ acP c 15 (oF I c)) ∗ sm0 c 65)) := by
  rw [sp16]

/-- The last step. -/
theorem stepE (I : Inp F) (c : Dev nD) (i : grid0.Coords) (hb : (i 0 : ℕ) = 15 + 16)
    {Q : PUnit → sProp 𝕄} :
    iprop(ctx I ∗ ow c 0 ∗ sxP I c ∗ swP I c ∗ StB I c 15 : sProp 𝕄)
      ⊢ iprop(((ow c 0 ∗ sxP I c ∗ swP I c ∗ StE I c) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  unfold StB RestF
  iintro ⟨#HC, How, Hsx, Hsw, HM, ⟨HSelf, HStage, HSend⟩, HDA⟩ Hk
  unfold MovB
  icases HM with ⟨Has, Hs0, Hs1, Hs2, Hid, Hh, Hf⟩
  ihave Hf := (Entails.of_eq (famB15 I c)) $$ Hf
  icases Hf with ⟨Hsm50, Hsm51, Hsm52, Hsm53, Hsm54, Hsm55, Hsm56, Hsm57, Hsm58, Hsm59, Hsm60, Hsm61, Hsm62, Hsm63, Hsm64, Hac_b, Ho_b, Hsm_50___b_⟩
  ihave Hs0 := (Entails.of_eq (slotWB_lt I c (b := 15) (by omega))) $$ Hs0
  ihave Hs0 := (Entails.of_eq (flyB7 I c 15)) $$ Hs0
  icases Hs0 with ⟨Hsm_20____b___4___7___0__, Hsm_20____b___4___7___1__, Hsm_20____b___4___7___2__, Hsm_20____b___4___7___3__, Hsm_20____b___4___7___4__, Hsm_20____b___4___7___5__, Hsm_20____b___4___7___6__⟩
  ihave Hh := (homeB_last I c (i := 15) (by omega) (by omega)) $$ Hh
  ihave HSend := (Entails.of_eq (SendF7 c)) $$ HSend
  icases HSend with ⟨⟨Hcreds0, Hats0⟩, ⟨Hcreds1, Hats1⟩, ⟨Hcreds2, Hats2⟩, ⟨Hcreds3, Hats3⟩, ⟨Hcreds4, Hats4⟩, ⟨Hcreds5, Hats5⟩, ⟨Hcreds6, Hats6⟩⟩
  ihave Hs1 := (Entails.of_eq (slotWB_ge I c (b := 15 + 1) (by omega))) $$ Hs1
  ihave Hs2 := (Entails.of_eq (slotWB_ge I c (b := 15 + 2) (by omega))) $$ Hs2
  iapply (TE I c i (b := 15) hb rfl) $$ [Hsm_20____b___4___7___0__ How Hsm_20____b___4___7___1__ Hsm_20____b___4___7___2__ Hsm_20____b___4___7___3__ Hsm_20____b___4___7___4__ Has Hsm_20____b___4___7___5__ Hsm_20____b___4___7___6__ Hsx Hsw Hac_b Ho_b Hsm_50___b_ Hsm50 Hsm51 Hsm52 Hsm53 Hsm54 Hsm55 Hsm56 Hsm57 Hsm58 Hsm59 Hsm60 Hsm61 Hsm62 Hsm63 Hsm64 Hcreds0 Hats0 Hcreds1 Hats1 Hcreds2 Hats2 Hcreds3 Hats3 Hcreds4 Hats4 Hcreds5 Hats5 Hcreds6 Hats6]
  · isplitr; · iexact HC
    isplitl [Hsm_20____b___4___7___0__]; · iexact Hsm_20____b___4___7___0__
    isplitl [How]; · iexact How
    isplitl [Hsm_20____b___4___7___1__]; · iexact Hsm_20____b___4___7___1__
    isplitl [Hsm_20____b___4___7___2__]; · iexact Hsm_20____b___4___7___2__
    isplitl [Hsm_20____b___4___7___3__]; · iexact Hsm_20____b___4___7___3__
    isplitl [Hsm_20____b___4___7___4__]; · iexact Hsm_20____b___4___7___4__
    isplitl [Has]; · iexact Has
    isplitl [Hsm_20____b___4___7___5__]; · iexact Hsm_20____b___4___7___5__
    isplitl [Hsm_20____b___4___7___6__]; · iexact Hsm_20____b___4___7___6__
    isplitl [Hsx]; · iexact Hsx
    isplitl [Hsw]; · iexact Hsw
    isplitl [Hac_b]; · iexact Hac_b
    isplitl [Ho_b]; · iexact Ho_b
    isplitl [Hsm_50___b_]; · iexact Hsm_50___b_
    isplitl [Hsm50]; · iexact Hsm50
    isplitl [Hsm51]; · iexact Hsm51
    isplitl [Hsm52]; · iexact Hsm52
    isplitl [Hsm53]; · iexact Hsm53
    isplitl [Hsm54]; · iexact Hsm54
    isplitl [Hsm55]; · iexact Hsm55
    isplitl [Hsm56]; · iexact Hsm56
    isplitl [Hsm57]; · iexact Hsm57
    isplitl [Hsm58]; · iexact Hsm58
    isplitl [Hsm59]; · iexact Hsm59
    isplitl [Hsm60]; · iexact Hsm60
    isplitl [Hsm61]; · iexact Hsm61
    isplitl [Hsm62]; · iexact Hsm62
    isplitl [Hsm63]; · iexact Hsm63
    isplitl [Hsm64]; · iexact Hsm64
    isplitl [Hcreds0]; · iexact Hcreds0
    isplitl [Hats0]; · iexact Hats0
    isplitl [Hcreds1]; · iexact Hcreds1
    isplitl [Hats1]; · iexact Hats1
    isplitl [Hcreds2]; · iexact Hcreds2
    isplitl [Hats2]; · iexact Hats2
    isplitl [Hcreds3]; · iexact Hcreds3
    isplitl [Hats3]; · iexact Hats3
    isplitl [Hcreds4]; · iexact Hcreds4
    isplitl [Hats4]; · iexact Hats4
    isplitl [Hcreds5]; · iexact Hcreds5
    isplitl [Hats5]; · iexact Hats5
    isplitl [Hcreds6]; · iexact Hcreds6
    iexact Hats6
  iintro ⟨Hsm_20____b___4___7___0__, How, Hsm_20____b___4___7___1__, Hsm_20____b___4___7___2__, Hsm_20____b___4___7___3__, Hsm_20____b___4___7___4__, Has, Hsm_20____b___4___7___5__, Hsm_20____b___4___7___6__, Hsx, Hsw, Hsm50, Hsm51, Hsm52, Hsm53, Hsm54, Hsm55, Hsm56, Hsm57, Hsm58, Hsm59, Hsm60, Hsm61, Hsm62, Hsm63, Hsm64, Hwb_b___4__0, Hwr0_b, Hwb_b___4__1, Hwr1_b, Hwb_b___4__2, Hwr2_b, Hwb_b___4__3, Hwr3_b, Hwb_b___4__4, Hwr4_b, Hwr5_b, Hwr6_b, Hwb_b___4__5, Hwb_b___4__6, Hsm65, Ho_0, Hac_0, Ho_1, Hac_1, Ho_2, Hac_2, Ho_3, Hac_3, Ho_4, Hac_4, Ho_5, Hac_5, Ho_6, Hac_6, Ho_7, Hac_7, Ho_8, Hac_8, Ho_9, Hac_9, Ho_10, Hac_10, Ho_11, Hac_11, Ho_12, Hac_12, Ho_13, Hac_13, Ho_14, Hac_14, Ho_15, Hac_15, Hsms0, Hxsd0, Hsms1, Hxsd1, Hsms2, Hxsd2, Hsms3, Hxsd3, Hsms4, Hxsd4, Hsms5, Hxsd5, Hsms6, Hxsd6⟩
  iapply Hk
  isplitl [How]
  · iexact How
  isplitl [Hsx]
  · iexact Hsx
  isplitl [Hsw]
  · iexact Hsw
  unfold StE DoneB
  isplitl [Has Hs1 Hs2 Hid Hwb_b___4__0 Hsm_20____b___4___7___0__ Hwb_b___4__1 Hsm_20____b___4___7___1__ Hwb_b___4__2 Hsm_20____b___4___7___2__ Hwb_b___4__3 Hsm_20____b___4___7___3__ Hwb_b___4__4 Hsm_20____b___4___7___4__ Hwb_b___4__5 Hsm_20____b___4___7___5__ Hwb_b___4__6 Hsm_20____b___4___7___6__ Hh Hwr0_b Hwr1_b Hwr2_b Hwr3_b Hwr4_b Hwr5_b Hwr6_b Ho_0 Hac_0 Hsm50 Ho_1 Hac_1 Hsm51 Ho_2 Hac_2 Hsm52 Ho_3 Hac_3 Hsm53 Ho_4 Hac_4 Hsm54 Ho_5 Hac_5 Hsm55 Ho_6 Hac_6 Hsm56 Ho_7 Hac_7 Hsm57 Ho_8 Hac_8 Hsm58 Ho_9 Hac_9 Hsm59 Ho_10 Hac_10 Hsm60 Ho_11 Hac_11 Hsm61 Ho_12 Hac_12 Hsm62 Ho_13 Hac_13 Hsm63 Ho_14 Hac_14 Hsm64 Ho_15 Hac_15 Hsm65]
  · isplitl [Has]
    · iexact Has
    isplitl [Hs1]
    · iexact Hs1
    isplitl [Hs2]
    · iexact Hs2
    isplitl [Hid]
    · iexact Hid
    isplitl [Hwb_b___4__0 Hsm_20____b___4___7___0__ Hwb_b___4__1 Hsm_20____b___4___7___1__ Hwb_b___4__2 Hsm_20____b___4___7___2__ Hwb_b___4__3 Hsm_20____b___4___7___3__ Hwb_b___4__4 Hsm_20____b___4___7___4__ Hwb_b___4__5 Hsm_20____b___4___7___5__ Hwb_b___4__6 Hsm_20____b___4___7___6__]
    · iapply (Entails.of_eq (idleB7 (F := F) c 3).symm)
      isplitl [Hwb_b___4__0 Hsm_20____b___4___7___0__]
      · isplitl [Hwb_b___4__0]
        · iexists _
          iexact Hwb_b___4__0
        iexact Hsm_20____b___4___7___0__
      isplitl [Hwb_b___4__1 Hsm_20____b___4___7___1__]
      · isplitl [Hwb_b___4__1]
        · iexists _
          iexact Hwb_b___4__1
        iexact Hsm_20____b___4___7___1__
      isplitl [Hwb_b___4__2 Hsm_20____b___4___7___2__]
      · isplitl [Hwb_b___4__2]
        · iexists _
          iexact Hwb_b___4__2
        iexact Hsm_20____b___4___7___2__
      isplitl [Hwb_b___4__3 Hsm_20____b___4___7___3__]
      · isplitl [Hwb_b___4__3]
        · iexists _
          iexact Hwb_b___4__3
        iexact Hsm_20____b___4___7___3__
      isplitl [Hwb_b___4__4 Hsm_20____b___4___7___4__]
      · isplitl [Hwb_b___4__4]
        · iexists _
          iexact Hwb_b___4__4
        iexact Hsm_20____b___4___7___4__
      isplitl [Hwb_b___4__5 Hsm_20____b___4___7___5__]
      · isplitl [Hwb_b___4__5]
        · iexists _
          iexact Hwb_b___4__5
        iexact Hsm_20____b___4___7___5__
      isplitl [Hwb_b___4__6]
      · iexists _
        iexact Hwb_b___4__6
      iexact Hsm_20____b___4___7___6__
    isplitl [Hh Hwr0_b Hwr1_b Hwr2_b Hwr3_b Hwr4_b Hwr5_b Hwr6_b]
    · iapply Hh
      iapply (Entails.of_eq (rowB7 I c 15).symm)
      isplitl [Hwr0_b]
      · iexact Hwr0_b
      isplitl [Hwr1_b]
      · iexact Hwr1_b
      isplitl [Hwr2_b]
      · iexact Hwr2_b
      isplitl [Hwr3_b]
      · iexact Hwr3_b
      isplitl [Hwr4_b]
      · iexact Hwr4_b
      isplitl [Hwr5_b]
      · iexact Hwr5_b
      iexact Hwr6_b
    iapply (Entails.of_eq (outs16 I c).symm)
    isplitl [Ho_0 Hac_0 Hsm50]
    · isplitl [Ho_0 Hac_0]
      · isplitl [Ho_0]
        · iexact Ho_0
        iexact Hac_0
      iexact Hsm50
    isplitl [Ho_1 Hac_1 Hsm51]
    · isplitl [Ho_1 Hac_1]
      · isplitl [Ho_1]
        · iexact Ho_1
        iexact Hac_1
      iexact Hsm51
    isplitl [Ho_2 Hac_2 Hsm52]
    · isplitl [Ho_2 Hac_2]
      · isplitl [Ho_2]
        · iexact Ho_2
        iexact Hac_2
      iexact Hsm52
    isplitl [Ho_3 Hac_3 Hsm53]
    · isplitl [Ho_3 Hac_3]
      · isplitl [Ho_3]
        · iexact Ho_3
        iexact Hac_3
      iexact Hsm53
    isplitl [Ho_4 Hac_4 Hsm54]
    · isplitl [Ho_4 Hac_4]
      · isplitl [Ho_4]
        · iexact Ho_4
        iexact Hac_4
      iexact Hsm54
    isplitl [Ho_5 Hac_5 Hsm55]
    · isplitl [Ho_5 Hac_5]
      · isplitl [Ho_5]
        · iexact Ho_5
        iexact Hac_5
      iexact Hsm55
    isplitl [Ho_6 Hac_6 Hsm56]
    · isplitl [Ho_6 Hac_6]
      · isplitl [Ho_6]
        · iexact Ho_6
        iexact Hac_6
      iexact Hsm56
    isplitl [Ho_7 Hac_7 Hsm57]
    · isplitl [Ho_7 Hac_7]
      · isplitl [Ho_7]
        · iexact Ho_7
        iexact Hac_7
      iexact Hsm57
    isplitl [Ho_8 Hac_8 Hsm58]
    · isplitl [Ho_8 Hac_8]
      · isplitl [Ho_8]
        · iexact Ho_8
        iexact Hac_8
      iexact Hsm58
    isplitl [Ho_9 Hac_9 Hsm59]
    · isplitl [Ho_9 Hac_9]
      · isplitl [Ho_9]
        · iexact Ho_9
        iexact Hac_9
      iexact Hsm59
    isplitl [Ho_10 Hac_10 Hsm60]
    · isplitl [Ho_10 Hac_10]
      · isplitl [Ho_10]
        · iexact Ho_10
        iexact Hac_10
      iexact Hsm60
    isplitl [Ho_11 Hac_11 Hsm61]
    · isplitl [Ho_11 Hac_11]
      · isplitl [Ho_11]
        · iexact Ho_11
        iexact Hac_11
      iexact Hsm61
    isplitl [Ho_12 Hac_12 Hsm62]
    · isplitl [Ho_12 Hac_12]
      · isplitl [Ho_12]
        · iexact Ho_12
        iexact Hac_12
      iexact Hsm62
    isplitl [Ho_13 Hac_13 Hsm63]
    · isplitl [Ho_13 Hac_13]
      · isplitl [Ho_13]
        · iexact Ho_13
        iexact Hac_13
      iexact Hsm63
    isplitl [Ho_14 Hac_14 Hsm64]
    · isplitl [Ho_14 Hac_14]
      · isplitl [Ho_14]
        · iexact Ho_14
        iexact Hac_14
      iexact Hsm64
    isplitl [Ho_15 Hac_15]
    · isplitl [Ho_15]
      · iexact Ho_15
      iexact Hac_15
    iexact Hsm65
  isplitl [HSelf]
  · iexact HSelf
  isplitl [HStage]
  · iexact HStage
  isplitl [Hsms0 Hxsd0 Hsms1 Hxsd1 Hsms2 Hxsd2 Hsms3 Hxsd3 Hsms4 Hxsd4 Hsms5 Hxsd5 Hsms6 Hxsd6]
  · iapply (Entails.of_eq (SendD7 I c).symm)
    isplitl [Hsms0 Hxsd0]
    · isplitl [Hsms0]
      · iexact Hsms0
      iexact Hxsd0
    isplitl [Hsms1 Hxsd1]
    · isplitl [Hsms1]
      · iexact Hsms1
      iexact Hxsd1
    isplitl [Hsms2 Hxsd2]
    · isplitl [Hsms2]
      · iexact Hsms2
      iexact Hxsd2
    isplitl [Hsms3 Hxsd3]
    · isplitl [Hsms3]
      · iexact Hsms3
      iexact Hxsd3
    isplitl [Hsms4 Hxsd4]
    · isplitl [Hsms4]
      · iexact Hsms4
      iexact Hxsd4
    isplitl [Hsms5 Hxsd5]
    · isplitl [Hsms5]
      · iexact Hsms5
      iexact Hxsd5
    isplitl [Hsms6]
    · iexact Hsms6
    iexact Hxsd6
  iexact HDA

end Cert.KProof
-- ==== Proof.Start.lean ====
/-
The first step of the grid
-/
module

public import proofs.«01_k».proof.Proof.Steps

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A family over `m + n` places: the first `m` and the last `n`. -/
theorem spl {M : Type} [URA M] (m n : ℕ) (A : ℕ → sProp M) :
    bigSep (Finset.range (m + n)) A = iprop(bigSep (Finset.range m) A ∗ bigSep (Finset.range n) fun k => A (m + k)) := by
  induction n with
  | zero => rw [Finset.range_zero, bigSep_empty]; exact (equiv_iff.mp ⟨BI.sep_emp.1, BI.sep_emp.2⟩).symm
  | succ n ih =>
    rw [← Nat.add_assoc, bigSep_range_succ, ih, bigSep_range_succ]
    have e (A B C : sProp M) : iprop(A ∗ B ∗ C) ⊢ iprop(B ∗ A ∗ C) := by
      iintro ⟨HA, HB, HC⟩
      isplitl [HB]; · iexact HB
      isplitl [HA]; · iexact HA
      iexact HC
    exact equiv_iff.mp ⟨e _ _ _, e _ _ _⟩

/-- The device's own blocks of weights: three go out at once, the first comes back. -/
theorem home_open (I : Inp F) (c : Dev nD) : (bigSep (Finset.range 16) fun b => wP c (c : ℕ) b (I.W c) : sProp 𝕄)
    ⊢ iprop(wP c (c : ℕ) 0 (I.W c) ∗ wP c (c : ℕ) 1 (I.W c) ∗ wP c (c : ℕ) 2 (I.W c) ∗ (wP c (c : ℕ) 0 (I.W c) -∗ homeA I c 1)) := by
  unfold homeA
  rw [sp16, sp16, if_pos (show 0 < 1 ∨ 1 + 2 ≤ 0 by omega), if_neg (show ¬ (1 < 1 ∨ 1 + 2 ≤ 1) by omega), if_neg (show ¬ (2 < 1 ∨ 1 + 2 ≤ 2) by omega), if_pos (show 3 < 1 ∨ 1 + 2 ≤ 3 by omega), if_pos (show 4 < 1 ∨ 1 + 2 ≤ 4 by omega), if_pos (show 5 < 1 ∨ 1 + 2 ≤ 5 by omega), if_pos (show 6 < 1 ∨ 1 + 2 ≤ 6 by omega), if_pos (show 7 < 1 ∨ 1 + 2 ≤ 7 by omega), if_pos (show 8 < 1 ∨ 1 + 2 ≤ 8 by omega), if_pos (show 9 < 1 ∨ 1 + 2 ≤ 9 by omega), if_pos (show 10 < 1 ∨ 1 + 2 ≤ 10 by omega), if_pos (show 11 < 1 ∨ 1 + 2 ≤ 11 by omega), if_pos (show 12 < 1 ∨ 1 + 2 ≤ 12 by omega), if_pos (show 13 < 1 ∨ 1 + 2 ≤ 13 by omega), if_pos (show 14 < 1 ∨ 1 + 2 ≤ 14 by omega), if_pos (show 15 < 1 ∨ 1 + 2 ≤ 15 by omega)]
  iintro ⟨H0, H1, H2, HR⟩
  isplitl [H0]; · iexact H0
  isplitl [H1]; · iexact H1
  isplitl [H2]; · iexact H2
  iintro H
  isplitl [H]; · iexact H
  isplitr; · iempintro
  isplitr; · iempintro
  iexact HR

theorem rows_open (I : Inp F) (c : Dev nD) : (bigSep (Finset.range 16) fun b => rowB I c b : sProp 𝕄)
    ⊢ iprop(rowB I c 0 ∗ rowB I c 1 ∗ rowB I c 2 ∗ homeB I c 0) := by
  unfold homeB
  rw [sp16, sp16, if_neg (show ¬ (0 < 0 ∨ 0 + 3 ≤ 0) by omega), if_neg (show ¬ (1 < 0 ∨ 0 + 3 ≤ 1) by omega), if_neg (show ¬ (2 < 0 ∨ 0 + 3 ≤ 2) by omega), if_pos (show 3 < 0 ∨ 0 + 3 ≤ 3 by omega), if_pos (show 4 < 0 ∨ 0 + 3 ≤ 4 by omega), if_pos (show 5 < 0 ∨ 0 + 3 ≤ 5 by omega), if_pos (show 6 < 0 ∨ 0 + 3 ≤ 6 by omega), if_pos (show 7 < 0 ∨ 0 + 3 ≤ 7 by omega), if_pos (show 8 < 0 ∨ 0 + 3 ≤ 8 by omega), if_pos (show 9 < 0 ∨ 0 + 3 ≤ 9 by omega), if_pos (show 10 < 0 ∨ 0 + 3 ≤ 10 by omega), if_pos (show 11 < 0 ∨ 0 + 3 ≤ 11 by omega), if_pos (show 12 < 0 ∨ 0 + 3 ≤ 12 by omega), if_pos (show 13 < 0 ∨ 0 + 3 ≤ 13 by omega), if_pos (show 14 < 0 ∨ 0 + 3 ≤ 14 by omega), if_pos (show 15 < 0 ∨ 0 + 3 ≤ 15 by omega)]
  iintro ⟨H0, H1, H2, HR⟩
  isplitl [H0]; · iexact H0
  isplitl [H1]; · iexact H1
  isplitl [H2]; · iexact H2
  isplitr; · iempintro
  isplitr; · iempintro
  isplitr; · iempintro
  iexact HR

/-- The tokens of the exchange, and the positions of its sends. -/
def BarT (c : Dev nD) : sProp 𝕄 := bigSep (Finset.range 7) fun k => dutyTok ER (barG (dv ((c : ℕ) + k + 1))) 0 c
def SendP (c : Dev nD) : sProp 𝕄 := bigSep (Finset.range 7) fun k => atPos ER (dG c (2 + (dv ((c : ℕ) + k + 1) : Dev nD))) 0 ∅ 0
def ExTok (c : Dev nD) : sProp 𝕄 := bigSep (Finset.univ.erase c) fun d : Dev nD => iprop(dutyTok ER (dG c (2 + d)) 0 d ∗ dutyTok ER (dG d (10 + c)) 0 c)
def SlotF (c : Dev nD) : sProp 𝕄 := bigSep (Finset.range 7) fun k => iprop(∃ f, cmP c (dv ((c : ℕ) + k + 1) : ℕ) f)
def XsF (c : Dev nD) : sProp 𝕄 := bigSep (Finset.range 8) fun k => iprop(∃ f, xsP c k f)

/-- The protocol's part of the first state. -/
def StP (c : Dev nD) : sProp 𝕄 := iprop((cred (tallyAt (barG c) () 7) ∗ atPos ER (barG c) 0 ∅ 0 ∗ BarT (F := F) c) ∗ ExTok (F := F) c
  ∗ (SendP (F := F) c ∗ RecvF (F := F) c) ∗ atPos ER (dG c (2 + c)) 0 ∅ 0 ∗ atPos ER (dG c (10 + c)) 0 ∅ 0)
/-- The memory's part of the first state. -/
def StM (I : Inp F) (c : Dev nD) : sProp 𝕄 := iprop((SlotF (F := F) c ∗ (∃ f, cmP c (c : ℕ) f)) ∗ StageF I c ∗ XsF (F := F) c ∗ ((∃ f, aP c 0 f) ∗ aE (F := F) c)
  ∗ (bigSep (Finset.range 16) fun b => wP c (c : ℕ) b (I.W c)) ∗ (bigSep (Finset.range 16) fun b => rowB I c b)
  ∗ (((∃ f, waP c 0 f) ∗ (∃ f, waP c 1 f)) ∗ sm0 c 18 ∗ sm0 c 19)
  ∗ (idleB (F := F) c 0 ∗ idleB (F := F) c 1 ∗ idleB (F := F) c 2 ∗ idleB (F := F) c 3) ∗ famAc I c 0 ∗ famO (F := F) c)
/-- The state before the first step. -/
def StS (I : Inp F) (c : Dev nD) : sProp 𝕄 := iprop(StP (F := F) c ∗ StM I c)

theorem SendF_join (c : Dev nD) : iprop((bigSep (Finset.univ.erase c) fun d : Dev nD => cred (tallyAt (dG c (2 + d)) () 8192)) ∗ SendP (F := F) c) ⊢ SendF (F := F) c := by
  refine Entails.of_eq ?_
  unfold SendP SendF
  rw [rot c (fun d : Dev nD => (cred (tallyAt (dG c (2 + d)) () 8192) : sProp 𝕄)), ← bigSep_sep']

theorem BarT7 (c : Dev nD) : BarT (F := F) c = iprop(dutyTok ER (barG (dv ((c : ℕ) + 0 + 1))) 0 c ∗ dutyTok ER (barG (dv ((c : ℕ) + 1 + 1))) 0 c ∗ dutyTok ER (barG (dv ((c : ℕ) + 2 + 1))) 0 c ∗ dutyTok ER (barG (dv ((c : ℕ) + 3 + 1))) 0 c ∗ dutyTok ER (barG (dv ((c : ℕ) + 4 + 1))) 0 c ∗ dutyTok ER (barG (dv ((c : ℕ) + 5 + 1))) 0 c ∗ dutyTok ER (barG (dv ((c : ℕ) + 6 + 1))) 0 c) := by
  unfold BarT; rw [sp7]

theorem SlotF7 (c : Dev nD) : SlotF (F := F) c = iprop((∃ f, cmP c (dv ((c : ℕ) + 0 + 1) : ℕ) f) ∗ (∃ f, cmP c (dv ((c : ℕ) + 1 + 1) : ℕ) f) ∗ (∃ f, cmP c (dv ((c : ℕ) + 2 + 1) : ℕ) f) ∗ (∃ f, cmP c (dv ((c : ℕ) + 3 + 1) : ℕ) f) ∗ (∃ f, cmP c (dv ((c : ℕ) + 4 + 1) : ℕ) f) ∗ (∃ f, cmP c (dv ((c : ℕ) + 5 + 1) : ℕ) f) ∗ (∃ f, cmP c (dv ((c : ℕ) + 6 + 1) : ℕ) f)) := by
  unfold SlotF; rw [sp7]

theorem XsF8 (c : Dev nD) : XsF (F := F) c = iprop((∃ f, xsP c 0 f) ∗ (∃ f, xsP c 1 f) ∗ (∃ f, xsP c 2 f) ∗ (∃ f, xsP c 3 f) ∗ (∃ f, xsP c 4 f) ∗ (∃ f, xsP c 5 f) ∗ (∃ f, xsP c 6 f) ∗ (∃ f, xsP c 7 f)) := by
  unfold XsF; rw [sp8]

/-- The first step. -/
theorem step0 (I : Inp F) (c : Dev nD) (i : grid0.Coords) (ht : (i 0 : ℕ) = 0)
    {Q : PUnit → sProp 𝕄} :
    iprop(ctx I ∗ ow c (OB c 7) ∗ StS I c : sProp 𝕄)
      ⊢ iprop(((ow c 0 ∗ StA I c (0 + 1)) -∗ Q ⟨⟩)
        -∗ WP c (cc0_body i xA (Memref.isWhole_whole _) wA (Memref.isWhole_whole _) (Memref.whole cc0_stg0_0) (Memref.isWhole_whole _) (Memref.whole cc0_stg1_0) (Memref.isWhole_whole _) oA (Memref.isWhole_whole _)
        xsM (Memref.isWhole_whole _) cmM (Memref.isWhole_whole _) aM (Memref.isWhole_whole _) waM (Memref.isWhole_whole _) wbM (Memref.isWhole_whole _) stM (Memref.isWhole_whole _) acM (Memref.isWhole_whole _)
        cc0_scratch7 cc0_scratch8 cc0_scratch9 cc0_scratch10 cc0_scratch11 cc0_scratch12) Q) := by
  unfold StS StP StM StageF
  iintro ⟨#HC, How, ⟨⟨Hcredbar, Hatbar, Hbt⟩, Htoks, ⟨Hsp, Hrv⟩, Hs2, Hs10⟩, ⟨Hsl, Hcmown⟩, ⟨⟨Hst0, Hst1⟩, ⟨Hsm48, Hsm49⟩, Hx⟩, Hxs, ⟨Ha_0, Hae⟩, Hw, Hr, ⟨⟨Hwa0, Hwa1⟩, Hsm18, Hsm19⟩, ⟨Hb0, Hb1, Hb2, Hid⟩, Hf, HfO⟩ Hk
  imod (close_snd I c) $$ [Hs2] with Hs2
  · isplitr; · iexact HC
    iexact Hs2
  imod (close_rcv I c) $$ [Hs10] with Hs10
  · isplitr; · iexact HC
    iexact Hs10
  unfold ExTok
  ihave Hbt := (Entails.of_eq (BarT7 (F := F) c)) $$ Hbt
  icases Hbt with ⟨Htokbar6, Htokbar5, Htokbar4, Htokbar3, Htokbar2, Htokbar1, Htokbar0⟩
  ihave Hsl := (Entails.of_eq (SlotF7 (F := F) c)) $$ Hsl
  icases Hsl with ⟨Hslot6, Hslot5, Hslot4, Hslot3, Hslot2, Hslot1, Hslot0⟩
  ihave Hxs := (Entails.of_eq (XsF8 (F := F) c)) $$ Hxs
  icases Hxs with ⟨Hxs0, Hxs1, Hxs2, Hxs3, Hxs4, Hxs5, Hxs6, Hxs7⟩
  ihave Hx := (Entails.of_eq (sp8 _)) $$ Hx
  icases Hx with ⟨Hx0, Hx1, Hx2, Hx3, Hx4, Hx5, Hx6, Hx7⟩
  ihave Hw := (home_open I c) $$ Hw
  icases Hw with ⟨Hwo_0, Hwo_1, Hwo_2, Hh⟩
  ihave Hr := (rows_open I c) $$ Hr
  icases Hr with ⟨Hr0, Hr1, Hr2, HhB⟩
  ihave Hr0 := (Entails.of_eq (rowB7 I c 0)) $$ Hr0
  icases Hr0 with ⟨Hwr0_0, Hwr1_0, Hwr2_0, Hwr3_0, Hwr4_0, Hwr5_0, Hwr6_0⟩
  ihave Hb0 := (Entails.of_eq (idleB7 (F := F) c 0)) $$ Hb0
  icases Hb0 with ⟨⟨Hwb0_0, Hsm20⟩, ⟨Hwb0_1, Hsm21⟩, ⟨Hwb0_2, Hsm22⟩, ⟨Hwb0_3, Hsm23⟩, ⟨Hwb0_4, Hsm24⟩, ⟨Hwb0_5, Hsm25⟩, ⟨Hwb0_6, Hsm26⟩⟩
  ihave Hr1 := (Entails.of_eq (rowB7 I c 1)) $$ Hr1
  icases Hr1 with ⟨Hwr0_1, Hwr1_1, Hwr2_1, Hwr3_1, Hwr4_1, Hwr5_1, Hwr6_1⟩
  ihave Hb1 := (Entails.of_eq (idleB7 (F := F) c 1)) $$ Hb1
  icases Hb1 with ⟨⟨Hwb1_0, Hsm27⟩, ⟨Hwb1_1, Hsm28⟩, ⟨Hwb1_2, Hsm29⟩, ⟨Hwb1_3, Hsm30⟩, ⟨Hwb1_4, Hsm31⟩, ⟨Hwb1_5, Hsm32⟩, ⟨Hwb1_6, Hsm33⟩⟩
  ihave Hr2 := (Entails.of_eq (rowB7 I c 2)) $$ Hr2
  icases Hr2 with ⟨Hwr0_2, Hwr1_2, Hwr2_2, Hwr3_2, Hwr4_2, Hwr5_2, Hwr6_2⟩
  ihave Hb2 := (Entails.of_eq (idleB7 (F := F) c 2)) $$ Hb2
  icases Hb2 with ⟨⟨Hwb2_0, Hsm34⟩, ⟨Hwb2_1, Hsm35⟩, ⟨Hwb2_2, Hsm36⟩, ⟨Hwb2_3, Hsm37⟩, ⟨Hwb2_4, Hsm38⟩, ⟨Hwb2_5, Hsm39⟩, ⟨Hwb2_6, Hsm40⟩⟩
  ihave Hf := (famAc_step I c (t := 0) (by omega)) $$ Hf
  icases Hf with ⟨Hac_0, Hf⟩
  iapply (T0 I c i ht) $$ [How Htokbar6 Hslot6 Htokbar5 Hslot5 Htokbar4 Hslot4 Htokbar3 Hslot3 Htokbar2 Hslot2 Htokbar1 Hslot1 Htokbar0 Hslot0 Hcredbar Hatbar Hx0 Hst0 Hsm48 Hx1 Hst1 Hsm49 Hxs0 Htoks Hcmown Ha_0 Hx2 Hxs1 Hx3 Hxs2 Hx4 Hxs3 Hx5 Hxs4 Hx6 Hxs5 Hx7 Hxs6 Hxs7 Hwo_0 Hwa0 Hsm18 Hwo_1 Hwa1 Hsm19 Hwr0_0 Hwb0_0 Hsm20 Hwr1_0 Hwb0_1 Hsm21 Hwr2_0 Hwb0_2 Hsm22 Hwr3_0 Hwb0_3 Hsm23 Hwr4_0 Hwb0_4 Hsm24 Hwr5_0 Hwb0_5 Hsm25 Hwr6_0 Hwb0_6 Hsm26 Hwr0_1 Hwb1_0 Hsm27 Hwr1_1 Hwb1_1 Hsm28 Hwr2_1 Hwb1_2 Hsm29 Hwr3_1 Hwb1_3 Hsm30 Hwr4_1 Hwb1_4 Hsm31 Hwr5_1 Hwb1_5 Hsm32 Hwr6_1 Hwb1_6 Hsm33 Hwr0_2 Hwb2_0 Hsm34 Hwr1_2 Hwb2_1 Hsm35 Hwr2_2 Hwb2_2 Hsm36 Hwr3_2 Hwb2_3 Hsm37 Hwr4_2 Hwb2_4 Hsm38 Hwr5_2 Hwb2_5 Hsm39 Hwr6_2 Hwb2_6 Hsm40 Hac_0 Hwo_2]
  · isplitr; · iexact HC
    isplitl [How]; · iexact How
    isplitl [Htokbar6]; · iexact Htokbar6
    isplitl [Hslot6]; · iexact Hslot6
    isplitl [Htokbar5]; · iexact Htokbar5
    isplitl [Hslot5]; · iexact Hslot5
    isplitl [Htokbar4]; · iexact Htokbar4
    isplitl [Hslot4]; · iexact Hslot4
    isplitl [Htokbar3]; · iexact Htokbar3
    isplitl [Hslot3]; · iexact Hslot3
    isplitl [Htokbar2]; · iexact Htokbar2
    isplitl [Hslot2]; · iexact Hslot2
    isplitl [Htokbar1]; · iexact Htokbar1
    isplitl [Hslot1]; · iexact Hslot1
    isplitl [Htokbar0]; · iexact Htokbar0
    isplitl [Hslot0]; · iexact Hslot0
    isplitl [Hcredbar]; · iexact Hcredbar
    isplitl [Hatbar]; · iexact Hatbar
    isplitl [Hx0]; · iexact Hx0
    isplitl [Hst0]; · iexact Hst0
    isplitl [Hsm48]; · iexact Hsm48
    isplitl [Hx1]; · iexact Hx1
    isplitl [Hst1]; · iexact Hst1
    isplitl [Hsm49]; · iexact Hsm49
    isplitl [Hxs0]; · iexact Hxs0
    isplitl [Htoks]; · iexact Htoks
    isplitl [Hcmown]; · iexact Hcmown
    isplitl [Ha_0]; · iexact Ha_0
    isplitl [Hx2]; · iexact Hx2
    isplitl [Hxs1]; · iexact Hxs1
    isplitl [Hx3]; · iexact Hx3
    isplitl [Hxs2]; · iexact Hxs2
    isplitl [Hx4]; · iexact Hx4
    isplitl [Hxs3]; · iexact Hxs3
    isplitl [Hx5]; · iexact Hx5
    isplitl [Hxs4]; · iexact Hxs4
    isplitl [Hx6]; · iexact Hx6
    isplitl [Hxs5]; · iexact Hxs5
    isplitl [Hx7]; · iexact Hx7
    isplitl [Hxs6]; · iexact Hxs6
    isplitl [Hxs7]; · iexact Hxs7
    isplitl [Hwo_0]; · iexact Hwo_0
    isplitl [Hwa0]; · iexact Hwa0
    isplitl [Hsm18]; · iexact Hsm18
    isplitl [Hwo_1]; · iexact Hwo_1
    isplitl [Hwa1]; · iexact Hwa1
    isplitl [Hsm19]; · iexact Hsm19
    isplitl [Hwr0_0]; · iexact Hwr0_0
    isplitl [Hwb0_0]; · iexact Hwb0_0
    isplitl [Hsm20]; · iexact Hsm20
    isplitl [Hwr1_0]; · iexact Hwr1_0
    isplitl [Hwb0_1]; · iexact Hwb0_1
    isplitl [Hsm21]; · iexact Hsm21
    isplitl [Hwr2_0]; · iexact Hwr2_0
    isplitl [Hwb0_2]; · iexact Hwb0_2
    isplitl [Hsm22]; · iexact Hsm22
    isplitl [Hwr3_0]; · iexact Hwr3_0
    isplitl [Hwb0_3]; · iexact Hwb0_3
    isplitl [Hsm23]; · iexact Hsm23
    isplitl [Hwr4_0]; · iexact Hwr4_0
    isplitl [Hwb0_4]; · iexact Hwb0_4
    isplitl [Hsm24]; · iexact Hsm24
    isplitl [Hwr5_0]; · iexact Hwr5_0
    isplitl [Hwb0_5]; · iexact Hwb0_5
    isplitl [Hsm25]; · iexact Hsm25
    isplitl [Hwr6_0]; · iexact Hwr6_0
    isplitl [Hwb0_6]; · iexact Hwb0_6
    isplitl [Hsm26]; · iexact Hsm26
    isplitl [Hwr0_1]; · iexact Hwr0_1
    isplitl [Hwb1_0]; · iexact Hwb1_0
    isplitl [Hsm27]; · iexact Hsm27
    isplitl [Hwr1_1]; · iexact Hwr1_1
    isplitl [Hwb1_1]; · iexact Hwb1_1
    isplitl [Hsm28]; · iexact Hsm28
    isplitl [Hwr2_1]; · iexact Hwr2_1
    isplitl [Hwb1_2]; · iexact Hwb1_2
    isplitl [Hsm29]; · iexact Hsm29
    isplitl [Hwr3_1]; · iexact Hwr3_1
    isplitl [Hwb1_3]; · iexact Hwb1_3
    isplitl [Hsm30]; · iexact Hsm30
    isplitl [Hwr4_1]; · iexact Hwr4_1
    isplitl [Hwb1_4]; · iexact Hwb1_4
    isplitl [Hsm31]; · iexact Hsm31
    isplitl [Hwr5_1]; · iexact Hwr5_1
    isplitl [Hwb1_5]; · iexact Hwb1_5
    isplitl [Hsm32]; · iexact Hsm32
    isplitl [Hwr6_1]; · iexact Hwr6_1
    isplitl [Hwb1_6]; · iexact Hwb1_6
    isplitl [Hsm33]; · iexact Hsm33
    isplitl [Hwr0_2]; · iexact Hwr0_2
    isplitl [Hwb2_0]; · iexact Hwb2_0
    isplitl [Hsm34]; · iexact Hsm34
    isplitl [Hwr1_2]; · iexact Hwr1_2
    isplitl [Hwb2_1]; · iexact Hwb2_1
    isplitl [Hsm35]; · iexact Hsm35
    isplitl [Hwr2_2]; · iexact Hwr2_2
    isplitl [Hwb2_2]; · iexact Hwb2_2
    isplitl [Hsm36]; · iexact Hsm36
    isplitl [Hwr3_2]; · iexact Hwr3_2
    isplitl [Hwb2_3]; · iexact Hwb2_3
    isplitl [Hsm37]; · iexact Hsm37
    isplitl [Hwr4_2]; · iexact Hwr4_2
    isplitl [Hwb2_4]; · iexact Hwb2_4
    isplitl [Hsm38]; · iexact Hsm38
    isplitl [Hwr5_2]; · iexact Hwr5_2
    isplitl [Hwb2_5]; · iexact Hwb2_5
    isplitl [Hsm39]; · iexact Hsm39
    isplitl [Hwr6_2]; · iexact Hwr6_2
    isplitl [Hwb2_6]; · iexact Hwb2_6
    isplitl [Hsm40]; · iexact Hsm40
    isplitl [Hac_0]; · iexact Hac_0
    iexact Hwo_2
  iintro ⟨How, Hx0, Hst0, Hsm48, Hx1, Hst1, Hsm49, Hx2, Hx3, Hx4, Hx5, Hx6, Hx7, Hwo_0, Hsm18, Hsm19, Hsm20, Hsm21, Hsm22, Hsm23, Hsm24, Hsm25, Hsm26, Hsm27, Hsm28, Hsm29, Hsm30, Hsm31, Hsm32, Hsm33, Hsm34, Hsm35, Hsm36, Hsm37, Hsm38, Hsm39, Hsm40, Hac_0, Hsmbar, Hcmown, Ha_0, Hxsown, HcredS⟩
  iapply Hk
  isplitl [How]
  · iexact How
  unfold StA MovA RestF SelfF StageF PreB
  isplitl [Ha_0 Hsm19 Hsm18 Hh Hwo_0 Hf Hac_0]
  · isplitl [Ha_0]
    · iexact Ha_0
    isplitl [Hsm19]
    · iapply (Entails.of_eq (slotWA_lt I c (b := 0 + 1) (by omega)).symm)
      iexact Hsm19
    isplitl [Hsm18]
    · iapply (Entails.of_eq (slotWA_lt I c (b := 0 + 1 + 1) (by omega)).symm)
      iexact Hsm18
    isplitl [Hh Hwo_0]
    · iapply Hh
      iexact Hwo_0
    iapply Hf
    iexact Hac_0
  isplitl [Hsmbar Hs2 Hs10 Hxsown Hcmown Hst0 Hst1 Hsm48 Hsm49 Hx0 Hx1 Hx2 Hx3 Hx4 Hx5 Hx6 Hx7 HcredS Hsp]
  · isplitl [Hsmbar Hs2 Hs10 Hxsown Hcmown]
    · isplitl [Hsmbar]
      · iexact Hsmbar
      isplitl [Hs2]
      · iexact Hs2
      isplitl [Hs10]
      · iexact Hs10
      isplitl [Hxsown]
      · iexact Hxsown
      iexact Hcmown
    isplitl [Hst0 Hst1 Hsm48 Hsm49 Hx0 Hx1 Hx2 Hx3 Hx4 Hx5 Hx6 Hx7]
    · isplitl [Hst0 Hst1]
      · isplitl [Hst0]
        · iexists _
          iexact Hst0
        iexists _
        iexact Hst1
      isplitl [Hsm48 Hsm49]
      · isplitl [Hsm48]
        · iexact Hsm48
        iexact Hsm49
      iapply (Entails.of_eq (sp8 (fun k => xP c k (I.X c))).symm)
      isplitl [Hx0]
      · iexact Hx0
      isplitl [Hx1]
      · iexact Hx1
      isplitl [Hx2]
      · iexact Hx2
      isplitl [Hx3]
      · iexact Hx3
      isplitl [Hx4]
      · iexact Hx4
      isplitl [Hx5]
      · iexact Hx5
      isplitl [Hx6]
      · iexact Hx6
      iexact Hx7
    iapply (SendF_join c)
    isplitl [HcredS]
    · iexact HcredS
    iexact Hsp
  isplitl [Hrv]
  · iexact Hrv
  isplitl [Hae]
  · iexact Hae
  isplitl [HfO]
  · iexact HfO
  isplitl [Hsm20 Hsm21 Hsm22 Hsm23 Hsm24 Hsm25 Hsm26]
  · iapply (Entails.of_eq (flyB7 I c 0).symm)
    isplitl [Hsm20]
    · iexact Hsm20
    isplitl [Hsm21]
    · iexact Hsm21
    isplitl [Hsm22]
    · iexact Hsm22
    isplitl [Hsm23]
    · iexact Hsm23
    isplitl [Hsm24]
    · iexact Hsm24
    isplitl [Hsm25]
    · iexact Hsm25
    iexact Hsm26
  isplitl [Hsm27 Hsm28 Hsm29 Hsm30 Hsm31 Hsm32 Hsm33]
  · iapply (Entails.of_eq (flyB7 I c 1).symm)
    isplitl [Hsm27]
    · iexact Hsm27
    isplitl [Hsm28]
    · iexact Hsm28
    isplitl [Hsm29]
    · iexact Hsm29
    isplitl [Hsm30]
    · iexact Hsm30
    isplitl [Hsm31]
    · iexact Hsm31
    isplitl [Hsm32]
    · iexact Hsm32
    iexact Hsm33
  isplitl [Hsm34 Hsm35 Hsm36 Hsm37 Hsm38 Hsm39 Hsm40]
  · iapply (Entails.of_eq (flyB7 I c 2).symm)
    isplitl [Hsm34]
    · iexact Hsm34
    isplitl [Hsm35]
    · iexact Hsm35
    isplitl [Hsm36]
    · iexact Hsm36
    isplitl [Hsm37]
    · iexact Hsm37
    isplitl [Hsm38]
    · iexact Hsm38
    isplitl [Hsm39]
    · iexact Hsm39
    iexact Hsm40
  isplitl [Hid]
  · iexact Hid
  iexact HhB

end Cert.KProof
-- ==== Proof.Ends.lean ====
/-
A device's memory before the first step and after the last
-/
module

public import proofs.«01_k».proof.Proof.Start

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A family at one contents is a family at some contents. -/
theorem exi {n : ℕ} {β : Type} {A : ℕ → β → sProp 𝕄} (f : β) :
    (bigSep (Finset.range n) fun k => A k f) ⊢ bigSep (Finset.range n) fun k => iprop(∃ f, A k f) :=
  bigSep_mono fun k _ => show A k f ⊢ iprop(∃ f, A k f) by
    iintro H
    iexists f
    iexact H

/-! ## The semaphores the devices do not share -/

def sems48 (c : Dev nD) : sProp 𝕄 := bigSep (Finset.range 48) fun k => sm0 c (18 + k)
def semW (c : Dev nD) (p : ℕ) : sProp 𝕄 := bigSep (Finset.range 7) fun k => sm0 c (20 + (p * 7 + k))
def semO (c : Dev nD) : sProp 𝕄 := bigSep (Finset.range 16) fun b => sm0 c (50 + b)

theorem smC (c : Dev nD) {n m : ℕ} (h : n = m) : (sm0 c n : sProp 𝕄) = sm0 c m := by rw [h]

theorem sems_eq (c : Dev nD) : sems48 (F := F) c = iprop((sm0 c 18 ∗ sm0 c 19) ∗ (semW c 0 ∗ semW c 1 ∗ semW c 2 ∗ semW c 3) ∗ (sm0 c 48 ∗ sm0 c 49) ∗ semO c) := by
  unfold sems48
  rw [show 48 = 2 + 46 from rfl, spl, sp2, show 46 = (7 + 21) + 18 from rfl, spl, spl, show 21 = 7 + 14 from rfl, spl, show 14 = 7 + 7 from rfl, spl,
    show 18 = 2 + 16 from rfl, spl, sp2]
  unfold semW semO
  rw [bigSep_congr (fun k _ => smC c (show 2 + 16 + (2 + k) = 20 + (0 * 7 + k) by omega)),
    bigSep_congr (fun k _ => smC c (show 2 + 16 + (2 + (7 + k)) = 20 + (1 * 7 + k) by omega)),
    bigSep_congr (fun k _ => smC c (show 2 + 16 + (2 + (7 + (7 + k))) = 20 + (2 * 7 + k) by omega)),
    bigSep_congr (fun k _ => smC c (show 2 + 16 + (2 + (7 + (7 + (7 + k)))) = 20 + (3 * 7 + k) by omega)),
    bigSep_congr (fun k _ => smC c (show 2 + 16 + (2 + (7 + 21 + (2 + k))) = 50 + k by omega))]

/-! ## The buffers cut up before the first step -/

theorem op_xs (c : Dev nD) : (iprop(∃ f, xsM.view.loc (c : Thread nD τ) ↦{fullShare} f) : sProp 𝕄) ⊢ XsF c := by
  iintro ⟨%f, H⟩
  ihave H := (Entails.of_eq (xs_cut c f)) $$ H
  unfold XsF
  iapply (exi (A := fun k f => xsP c k f) f)
  iexact H

theorem op_cm (c : Dev nD) : (iprop(∃ f, cmM.view.loc (c : Thread nD τ) ↦{fullShare} f) : sProp 𝕄) ⊢ iprop(SlotF c ∗ (∃ f, cmP c (c : ℕ) f)) := by
  iintro ⟨%f, H⟩
  ihave H := (Entails.of_eq ((cm_cut c f).trans (rot8 c fun k => cmP c k f))) $$ H
  icases H with ⟨Hc, H⟩
  unfold SlotF
  isplitl [H]
  · iapply (exi (A := fun k f => cmP c ((dv ((c : ℕ) + k + 1) : Dev nD) : ℕ) f) f)
    iexact H
  iexists f; iexact Hc

theorem op_a (c : Dev nD) : (iprop(∃ f, aM.view.loc (c : Thread nD τ) ↦{fullShare} f) : sProp 𝕄) ⊢ iprop((∃ f, aP c 0 f) ∗ aE c) := by
  iintro ⟨%f, H⟩
  ihave H := (Entails.of_eq ((a_cut c f).trans (sp8 fun k => aP c k f))) $$ H
  icases H with ⟨H0, H⟩
  isplitl [H0]; · iexists f; iexact H0
  unfold aE
  iapply (exi (A := fun k f => aP c (k + 1) f) f)
  iapply (Entails.of_eq (sp7 fun k => aP c (k + 1) f).symm)
  iexact H

theorem op_wa (c : Dev nD) : (iprop(∃ f, waM.view.loc (c : Thread nD τ) ↦{fullShare} f) : sProp 𝕄) ⊢ iprop((∃ f, waP c 0 f) ∗ (∃ f, waP c 1 f)) := by
  iintro ⟨%f, H⟩
  ihave H := (Entails.of_eq ((wa_cut c f).trans (sp2 fun k => waP c k f))) $$ H
  icases H with ⟨H0, H1⟩
  isplitl [H0]
  · iexists f; iexact H0
  iexists f; iexact H1

theorem op_st (c : Dev nD) : (iprop(∃ f, stM.view.loc (c : Thread nD τ) ↦{fullShare} f) : sProp 𝕄) ⊢ iprop((∃ f, stP c 0 f) ∗ (∃ f, stP c 1 f)) := by
  iintro ⟨%f, H⟩
  ihave H := (Entails.of_eq ((st_cut c f).trans (sp2 fun k => stP c k f))) $$ H
  icases H with ⟨H0, H1⟩
  isplitl [H0]
  · iexists f; iexact H0
  iexists f; iexact H1

theorem op_idle (c : Dev nD) (p : ℕ) (f : S4x3584x512.Idx → Elt F .f32) : iprop(wbsP c p f ∗ semW c p) ⊢ idleB (F := F) c p := by
  unfold idleB semW
  rw [bigSep_sep', wb_cut]
  iintro ⟨H, HS⟩
  isplitl [H]
  · iapply (exi (A := fun k f => wbP c p k f) f)
    iexact H
  iexact HS

theorem op_wb (c : Dev nD) : (iprop((∃ f, wbM.view.loc (c : Thread nD τ) ↦{fullShare} f) ∗ semW c 0 ∗ semW c 1 ∗ semW c 2 ∗ semW c 3) : sProp 𝕄)
    ⊢ iprop(idleB c 0 ∗ idleB c 1 ∗ idleB c 2 ∗ idleB c 3) := by
  iintro ⟨⟨%f, H⟩, HS0, HS1, HS2, HS3⟩
  ihave H := (Entails.of_eq ((wbs_cut c f).trans (sp4 fun k => wbsP c k f))) $$ H
  icases H with ⟨H0, H1, H2, H3⟩
  isplitl [H0 HS0]
  · iapply (op_idle c 0 f)
    isplitl [H0]; · iexact H0
    iexact HS0
  isplitl [H1 HS1]
  · iapply (op_idle c 1 f)
    isplitl [H1]; · iexact H1
    iexact HS1
  isplitl [H2 HS2]
  · iapply (op_idle c 2 f)
    isplitl [H2]; · iexact H2
    iexact HS2
  iapply (op_idle c 3 f)
  isplitl [H3]; · iexact H3
  iexact HS3

theorem famAc_zero (I : Inp F) (c : Dev nD) : famAc I c 0 = bigSep (Finset.range 16) fun b => iprop(∃ f, acP c b f) := by
  unfold famAc
  exact bigSep_congr fun b _ => if_neg (Nat.not_lt_zero b)

theorem op_ac (I : Inp F) (c : Dev nD) : (iprop(∃ f, acM.view.loc (c : Thread nD τ) ↦{fullShare} f) : sProp 𝕄) ⊢ famAc I c 0 := by
  rw [famAc_zero]
  iintro ⟨%f, H⟩
  ihave H := (Entails.of_eq (ac_cut c f)) $$ H
  iapply (exi (A := fun k f => acP c k f) f)
  iexact H

theorem op_o (c : Dev nD) : (iprop((∃ f, oA.view.loc (c : Thread nD τ) ↦{fullShare} f) ∗ semO c) : sProp 𝕄) ⊢ famO c := by
  unfold famO semO
  rw [bigSep_sep']
  iintro ⟨⟨%f, H⟩, HS⟩
  ihave H := (Entails.of_eq (o_cut c f)) $$ H
  isplitl [H]
  · iapply (exi (A := fun k f => oP c k f) f)
    iexact H
  iexact HS

theorem w_rows (I : Inp F) (c : Dev nD) : (wA.view.loc (c : Thread nD τ) ↦{fullShare} (I.W c) : sProp 𝕄)
    = iprop((bigSep (Finset.range 16) fun b => wP c (c : ℕ) b (I.W c)) ∗ bigSep (Finset.range 16) fun b => rowB I c b) := by
  rw [w_cut, bigSep_sep']
  rfl

/-- What a device's memory is at the start, cut up. -/
theorem open_mem (I : Inp F) (c : Dev nD) :
    iprop((xA.view.loc (c : Thread nD τ) ↦{fullShare} (I.X c)) ∗ (wA.view.loc (c : Thread nD τ) ↦{fullShare} (I.W c)) ∗ (∃ f, oA.view.loc (c : Thread nD τ) ↦{fullShare} f)
      ∗ (∃ f, xsM.view.loc (c : Thread nD τ) ↦{fullShare} f) ∗ (∃ f, cmM.view.loc (c : Thread nD τ) ↦{fullShare} f) ∗ (∃ f, aM.view.loc (c : Thread nD τ) ↦{fullShare} f)
      ∗ (∃ f, waM.view.loc (c : Thread nD τ) ↦{fullShare} f) ∗ (∃ f, wbM.view.loc (c : Thread nD τ) ↦{fullShare} f) ∗ (∃ f, stM.view.loc (c : Thread nD τ) ↦{fullShare} f)
      ∗ (∃ f, acM.view.loc (c : Thread nD τ) ↦{fullShare} f) ∗ sems48 c : sProp 𝕄) ⊢ StM I c := by
  iintro ⟨Hx, Hw, Ho, Hxs, Hcm, Ha, Hwa, Hwb, Hst, Hac, HS⟩
  ihave HS := (Entails.of_eq (sems_eq (F := F) c)) $$ HS
  icases HS with ⟨⟨Hs18, Hs19⟩, HSW, ⟨Hs48, Hs49⟩, HSO⟩
  ihave Hw := (Entails.of_eq (w_rows I c)) $$ Hw
  icases Hw with ⟨Hw, Hr⟩
  unfold StM StageF
  isplitl [Hcm]; · iapply (op_cm c); iexact Hcm
  isplitl [Hst Hs48 Hs49 Hx]
  · isplitl [Hst]; · iapply (op_st c); iexact Hst
    isplitl [Hs48 Hs49]
    · isplitl [Hs48]; · iexact Hs48
      iexact Hs49
    iapply (Entails.of_eq (x_cut c (I.X c)))
    iexact Hx
  isplitl [Hxs]; · iapply (op_xs c); iexact Hxs
  isplitl [Ha]; · iapply (op_a c); iexact Ha
  isplitl [Hw]; · iexact Hw
  isplitl [Hr]; · iexact Hr
  isplitl [Hwa Hs18 Hs19]
  · isplitl [Hwa]; · iapply (op_wa c); iexact Hwa
    isplitl [Hs18]; · iexact Hs18
    iexact Hs19
  isplitl [Hwb HSW]
  · iapply (op_wb c)
    isplitl [Hwb]; · iexact Hwb
    iexact HSW
  isplitl [Hac]; · iapply (op_ac I c); iexact Hac
  iapply (op_o c)
  isplitl [Ho]; · iexact Ho
  iexact HSO

/-! ## The buffers put together after the last step -/

theorem cl_idle (c : Dev nD) (p : ℕ) (f₀ : S4x3584x512.Idx → Elt F .f32) : idleB (F := F) c p ⊢ iprop((∃ f, wbsP c p f) ∗ semW c p) := by
  unfold idleB semW
  rw [bigSep_sep']
  iintro ⟨H, HS⟩
  isplitl [H]; · iapply (wb_glue c p f₀); iexact H
  iexact HS

theorem cl_wb (c : Dev nD) (f₀ : S4x3584x512.Idx → Elt F .f32) : iprop(idleB c 0 ∗ idleB c 1 ∗ idleB c 2 ∗ idleB c 3)
    ⊢ (iprop((∃ f, wbM.view.loc (c : Thread nD τ) ↦{fullShare} f) ∗ semW c 0 ∗ semW c 1 ∗ semW c 2 ∗ semW c 3) : sProp 𝕄) := by
  iintro ⟨H0, H1, H2, H3⟩
  ihave H0 := (cl_idle c 0 f₀) $$ H0
  ihave H1 := (cl_idle c 1 f₀) $$ H1
  ihave H2 := (cl_idle c 2 f₀) $$ H2
  ihave H3 := (cl_idle c 3 f₀) $$ H3
  icases H0 with ⟨H0, HS0⟩
  icases H1 with ⟨H1, HS1⟩
  icases H2 with ⟨H2, HS2⟩
  icases H3 with ⟨H3, HS3⟩
  isplitl [H0 H1 H2 H3]
  · iapply (wbs_glue c f₀)
    iapply (Entails.of_eq (sp4 fun k => iprop(∃ f, wbsP c k f)).symm)
    isplitl [H0]; · iexact H0
    isplitl [H1]; · iexact H1
    isplitl [H2]; · iexact H2
    iexact H3
  isplitl [HS0]; · iexact HS0
  isplitl [HS1]; · iexact HS1
  isplitl [HS2]; · iexact HS2
  iexact HS3

theorem homeA_end (I : Inp F) (c : Dev nD) : homeA I c 16 = bigSep (Finset.range 16) fun b => wP c (c : ℕ) b (I.W c) := by
  unfold homeA
  exact bigSep_congr fun b hb => if_pos (Or.inl (Finset.mem_range.mp hb))
theorem homeB_end (I : Inp F) (c : Dev nD) : homeB I c 16 = bigSep (Finset.range 16) fun b => rowB I c b := by
  unfold homeB
  exact bigSep_congr fun b hb => if_pos (Or.inl (Finset.mem_range.mp hb))

theorem cl_w (I : Inp F) (c : Dev nD) : iprop(homeA I c 16 ∗ homeB I c 16) ⊢ (wA.view.loc (c : Thread nD τ) ↦{fullShare} (I.W c) : sProp 𝕄) := by
  rw [homeA_end, homeB_end, w_rows]

theorem cl_a (I : Inp F) (c : Dev nD) : iprop(aP c 0 (aF I c) ∗ asP c (aF I c)) ⊢ (aM.view.loc (c : Thread nD τ) ↦{fullShare} (aF I c) : sProp 𝕄) := by
  rw [as_cut, sp7, a_cut, sp8]

theorem cl_wa (I : Inp F) (c : Dev nD) : iprop(slotWA I c 16 ∗ slotWA I c 17)
    ⊢ (iprop((∃ f, waM.view.loc (c : Thread nD τ) ↦{fullShare} f) ∗ sm0 c 18 ∗ sm0 c 19) : sProp 𝕄) := by
  rw [slotWA_ge I c (show 16 ≤ 16 by omega), slotWA_ge I c (show 16 ≤ 17 by omega)]
  iintro ⟨⟨H0, HS0⟩, H1, HS1⟩
  isplitl [H0 H1]
  · iapply (wa_glue c (pl3 (wblk I c (c : ℕ) 0)))
    iapply (Entails.of_eq (sp2 fun k => iprop(∃ f, waP c k f)).symm)
    isplitl [H0]; · iexact H0
    iexact H1
  isplitl [HS0]; · iexact HS0
  iexact HS1

theorem cl_stage (I : Inp F) (c : Dev nD) : StageF I c
    ⊢ (iprop((∃ f, stM.view.loc (c : Thread nD τ) ↦{fullShare} f) ∗ (sm0 c 48 ∗ sm0 c 49) ∗ (xA.view.loc (c : Thread nD τ) ↦{fullShare} (I.X c))) : sProp 𝕄) := by
  unfold StageF
  iintro ⟨⟨H0, H1⟩, HS, Hx⟩
  isplitl [H0 H1]
  · iapply (st_glue c (pl3 (wblk I c (c : ℕ) 0)))
    iapply (Entails.of_eq (sp2 fun k => iprop(∃ f, stP c k f)).symm)
    isplitl [H0]; · iexact H0
    iexact H1
  isplitl [HS]; · iexact HS
  iapply (Entails.of_eq (x_cut c (I.X c)).symm)
  iexact Hx

def sems8 (c : Dev nD) (n : ℕ) : sProp 𝕄 := bigSep (Finset.range 8) fun k => sm0 c (n + k)

theorem cl_ex (I : Inp F) (c : Dev nD) : iprop(SelfF I c ∗ SendD I c ∗ RecvD I c)
    ⊢ (iprop(semVal (barG c) 0 ∗ sems8 c 2 ∗ sems8 c 10 ∗ (∃ f, xsM.view.loc (c : Thread nD τ) ↦{fullShare} f) ∗ (∃ f, cmM.view.loc (c : Thread nD τ) ↦{fullShare} f)) : sProp 𝕄) := by
  unfold SelfF SendD RecvD sems8
  rw [bigSep_sep', bigSep_sep', rot8 c, rot8 c]
  iintro ⟨⟨Hb, H2, H10, Hx, Hc⟩, ⟨HS2, Hxs⟩, HS10, Hcs⟩
  isplitl [Hb]; · iexact Hb
  isplitl [H2 HS2]
  · isplitl [H2]; · iexact H2
    iexact HS2
  isplitl [H10 HS10]
  · isplitl [H10]; · iexact H10
    iexact HS10
  isplitl [Hx Hxs]
  · iexists (xsF I c)
    iapply (Entails.of_eq ((xs_cut c (xsF I c)).trans (rot8 c fun k => xsP c k (xsF I c))).symm)
    isplitl [Hx]; · iexact Hx
    iexact Hxs
  iexists (cmF I c)
  iapply (Entails.of_eq ((cm_cut c (cmF I c)).trans (rot8 c fun k => cmP c k (cmF I c))).symm)
  isplitl [Hc]; · iexact Hc
  iexact Hcs

theorem cl_out (I : Inp F) (c : Dev nD) : (bigSep (Finset.range 16) fun b => iprop((oP c b (oF I c) ∗ acP c b (oF I c)) ∗ sm0 c (50 + b)))
    ⊢ (iprop((oA.view.loc (c : Thread nD τ) ↦{fullShare} (oF I c)) ∗ (acM.view.loc (c : Thread nD τ) ↦{fullShare} (oF I c)) ∗ semO c) : sProp 𝕄) := by
  unfold semO
  rw [bigSep_sep', bigSep_sep', o_cut, ac_cut]
  iintro ⟨⟨H1, H2⟩, H3⟩
  isplitl [H1]; · iexact H1
  isplitl [H2]; · iexact H2
  iexact H3

/-- What a device's memory is at the end. -/
theorem close_mem (I : Inp F) (c : Dev nD) : StE I c ⊢
    iprop((xA.view.loc (c : Thread nD τ) ↦{fullShare} (I.X c)) ∗ (wA.view.loc (c : Thread nD τ) ↦{fullShare} (I.W c)) ∗ (oA.view.loc (c : Thread nD τ) ↦{fullShare} (oF I c))
      ∗ (∃ f, xsM.view.loc (c : Thread nD τ) ↦{fullShare} f) ∗ (∃ f, cmM.view.loc (c : Thread nD τ) ↦{fullShare} f) ∗ (∃ f, aM.view.loc (c : Thread nD τ) ↦{fullShare} f)
      ∗ (∃ f, waM.view.loc (c : Thread nD τ) ↦{fullShare} f) ∗ (∃ f, wbM.view.loc (c : Thread nD τ) ↦{fullShare} f) ∗ (∃ f, stM.view.loc (c : Thread nD τ) ↦{fullShare} f)
      ∗ (∃ f, acM.view.loc (c : Thread nD τ) ↦{fullShare} f) ∗ sems48 c ∗ sems8 c 2 ∗ sems8 c 10 ∗ semVal (barG c) 0 : sProp 𝕄) := by
  unfold StE DoneB DoneA
  iintro ⟨⟨Has, Hb0, Hb1, Hb2, Hb3, HhB, Hout⟩, HSelf, HStage, HSend, Ha0, HwA, HwB, HhA, HRecv⟩
  ihave Ho := (cl_out I c) $$ Hout
  icases Ho with ⟨Ho, Hac, HSO⟩
  ihave He := (cl_ex I c) $$ [HSelf HSend HRecv]
  · isplitl [HSelf]; · iexact HSelf
    isplitl [HSend]; · iexact HSend
    iexact HRecv
  icases He with ⟨Hbar, H2, H10, Hxs, Hcm⟩
  ihave Hst := (cl_stage I c) $$ HStage
  icases Hst with ⟨Hst, HSst, Hx⟩
  ihave Hwa := (cl_wa I c) $$ [HwA HwB]
  · isplitl [HwA]; · iexact HwA
    iexact HwB
  icases Hwa with ⟨Hwa, HSwa⟩
  ihave Hwb := (cl_wb c (wbF I c 0)) $$ [Hb0 Hb1 Hb2 Hb3]
  · isplitl [Hb0]; · iexact Hb0
    isplitl [Hb1]; · iexact Hb1
    isplitl [Hb2]; · iexact Hb2
    iexact Hb3
  icases Hwb with ⟨Hwb, HSwb⟩
  isplitl [Hx]; · iexact Hx
  isplitl [HhA HhB]
  · iapply (cl_w I c)
    isplitl [HhA]; · iexact HhA
    iexact HhB
  isplitl [Ho]; · iexact Ho
  isplitl [Hxs]; · iexact Hxs
  isplitl [Hcm]; · iexact Hcm
  isplitl [Ha0 Has]
  · iexists (aF I c)
    iapply (cl_a I c)
    isplitl [Ha0]; · iexact Ha0
    iexact Has
  isplitl [Hwa]; · iexact Hwa
  isplitl [Hwb]; · iexact Hwb
  isplitl [Hst]; · iexact Hst
  isplitl [Hac]; · iexists (oF I c); iexact Hac
  isplitl [HSwa HSwb HSst HSO]
  · iapply (Entails.of_eq (sems_eq (F := F) c).symm)
    isplitl [HSwa]; · iexact HSwa
    isplitl [HSwb]; · iexact HSwb
    isplitl [HSst]; · iexact HSst
    iexact HSO
  isplitl [H2]; · iexact H2
  isplitl [H10]; · iexact H10
  iexact Hbar

end Cert.KProof
-- ==== Proof.Grid.lean ====
/-
The loop's data, and the kernel's body at every step
-/
module

public import proofs.«01_k».proof.Proof.Ends

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline (Dat Cfg Window BodyObligation cellOf)

/-! ## Every step at once -/

/-- The state before step `n`. -/
def st (I : Inp F) (c : Dev nD) (n : ℕ) : sProp 𝕄 :=
  if n = 0 then StS I c else if n ≤ 16 then StA I c n else if n ≤ 31 then StB I c (n - 16) else StE I c
/-- What a device still owes before step `n`. -/
def owe (c : Dev nD) (n : ℕ) : CellTallies nD τ sig Unit := if n = 0 then OB c 7 else 0

theorem st_zero (I : Inp F) (c : Dev nD) : st I c 0 = StS I c := rfl
theorem st_A (I : Inp F) (c : Dev nD) {n : ℕ} (h0 : 0 < n) (h : n ≤ 16) : st I c n = StA I c n := by
  unfold st; rw [if_neg (by omega), if_pos h]
theorem st_B (I : Inp F) (c : Dev nD) {b : ℕ} (h0 : 0 < b) (h : b ≤ 15) : st I c (b + 16) = StB I c b := by
  unfold st; rw [if_neg (by omega), if_neg (by omega), if_pos (by omega), Nat.add_sub_cancel]
theorem st_E (I : Inp F) (c : Dev nD) : st I c 32 = StE I c := rfl
theorem owe_zero (c : Dev nD) : owe c 0 = OB c 7 := rfl
theorem owe_succ (c : Dev nD) (n : ℕ) : owe c (n + 1) = 0 := rfl
theorem owe_pos (c : Dev nD) {n : ℕ} (h : 0 < n) : owe c n = 0 := if_neg (by omega)

/-- A step of the kernel takes the state before it to the state after it. -/
theorem step_all (I : Inp F) (c : Dev nD) (i : grid0.Coords) (n : ℕ) (hi : (i 0 : ℕ) = n) (hn : n < 32) {Q : PUnit → sProp 𝕄} :
    iprop(ctx I ∗ ow c (owe c n) ∗ sxP I c ∗ swP I c ∗ st I c n)
      ⊢ iprop(((ow c (owe c (n + 1)) ∗ sxP I c ∗ swP I c ∗ st I c (n + 1)) -∗ Q ⟨⟩) -∗ WP c (cc0_body i xA (Memref.isWhole_whole _) wA (Memref.isWhole_whole _) (Memref.whole cc0_stg0_0) (Memref.isWhole_whole _) (Memref.whole cc0_stg1_0) (Memref.isWhole_whole _) oA (Memref.isWhole_whole _) xsM (Memref.isWhole_whole _) cmM (Memref.isWhole_whole _) aM (Memref.isWhole_whole _) waM (Memref.isWhole_whole _) wbM (Memref.isWhole_whole _) stM (Memref.isWhole_whole _) acM (Memref.isWhole_whole _) cc0_scratch7 cc0_scratch8 cc0_scratch9 cc0_scratch10 cc0_scratch11 cc0_scratch12) Q) := by
  rw [owe_succ]
  rcases Nat.eq_zero_or_pos n with rfl | h0
  · rw [owe_zero]
    rw [st_zero, st_A I c (n := 0 + 1) (by omega) (by omega)]
    iintro ⟨Hc, Ho, Hx, Hw, Hs⟩ HQ
    iapply (step0 I c i hi) $$ [Hc Ho Hs]
    · isplitl [Hc]; · iexact Hc
      isplitl [Ho]; · iexact Ho
      iexact Hs
    iintro ⟨Ho, Hs⟩
    iapply HQ
    isplitl [Ho]; · iexact Ho
    isplitl [Hx]; · iexact Hx
    isplitl [Hw]; · iexact Hw
    iexact Hs
  rw [owe_pos c h0]
  by_cases h14 : n < 14
  · skip
    rw [st_A I c h0 (by omega), st_A I c (n := n + 1) (by omega) (by omega)]
    iintro ⟨Hc, Ho, Hx, Hw, Hs⟩ HQ
    iapply (stepA I c i hi h0 h14) $$ [Hc Ho Hs]
    · isplitl [Hc]; · iexact Hc
      isplitl [Ho]; · iexact Ho
      iexact Hs
    iintro ⟨Ho, Hs⟩
    iapply HQ
    isplitl [Ho]; · iexact Ho
    isplitl [Hx]; · iexact Hx
    isplitl [Hw]; · iexact Hw
    iexact Hs
  by_cases h16 : n < 16
  · skip
    rw [st_A I c h0 (by omega), st_A I c (n := n + 1) (by omega) (by omega)]
    iintro ⟨Hc, Ho, Hx, Hw, Hs⟩ HQ
    iapply (stepA2 I c i hi (by omega) h16) $$ [Hc Ho Hs]
    · isplitl [Hc]; · iexact Hc
      isplitl [Ho]; · iexact Ho
      iexact Hs
    iintro ⟨Ho, Hs⟩
    iapply HQ
    isplitl [Ho]; · iexact Ho
    isplitl [Hx]; · iexact Hx
    isplitl [Hw]; · iexact Hw
    iexact Hs
  obtain ⟨b, rfl⟩ : ∃ b, n = b + 16 := ⟨n - 16, by omega⟩
  rcases Nat.eq_zero_or_pos b with rfl | hb0
  · rw [show (0 + 16 + 1 : ℕ) = (0 + 1) + 16 from rfl]
    rw [show st I c (0 + 16) = StA I c 16 from rfl, st_B I c (b := 0 + 1) (by omega) (by omega)]
    iintro ⟨Hc, Ho, Hx, Hw, Hs⟩ HQ
    iapply (step16 I c i hi) $$ [Hc Ho Hx Hw Hs]
    · isplitl [Hc]; · iexact Hc
      isplitl [Ho]; · iexact Ho
      isplitl [Hx]; · iexact Hx
      isplitl [Hw]; · iexact Hw
      iexact Hs
    iexact HQ
  by_cases h13 : b < 13
  · rw [show b + 16 + 1 = (b + 1) + 16 by omega]
    rw [st_B I c hb0 (by omega), st_B I c (b := b + 1) (by omega) (by omega)]
    iintro ⟨Hc, Ho, Hx, Hw, Hs⟩ HQ
    iapply (stepB I c i hi hb0 h13) $$ [Hc Ho Hx Hw Hs]
    · isplitl [Hc]; · iexact Hc
      isplitl [Ho]; · iexact Ho
      isplitl [Hx]; · iexact Hx
      isplitl [Hw]; · iexact Hw
      iexact Hs
    iexact HQ
  by_cases h15 : b < 15
  · rw [show b + 16 + 1 = (b + 1) + 16 by omega]
    rw [st_B I c hb0 (by omega), st_B I c (b := b + 1) (by omega) (by omega)]
    iintro ⟨Hc, Ho, Hx, Hw, Hs⟩ HQ
    iapply (stepB2 I c i hi (by omega) h15) $$ [Hc Ho Hx Hw Hs]
    · isplitl [Hc]; · iexact Hc
      isplitl [Ho]; · iexact Ho
      isplitl [Hx]; · iexact Hx
      isplitl [Hw]; · iexact Hw
      iexact Hs
    iexact HQ
  obtain rfl : b = 15 := by omega
  · rw [show (15 + 16 + 1 : ℕ) = 32 from rfl]
    rw [st_B I c (b := 15) (by omega) (by omega), st_E]
    iintro ⟨Hc, Ho, Hx, Hw, Hs⟩ HQ
    iapply (stepE I c i hi) $$ [Hc Ho Hx Hw Hs]
    · isplitl [Hc]; · iexact Hc
      isplitl [Ho]; · iexact Ho
      isplitl [Hx]; · iexact Hx
      isplitl [Hw]; · iexact Hw
      iexact Hs
    iexact HQ

/-! ## The loop's data -/

variable (m : (ℓ : Loc nD τ sig) → Buf (Elt F) ℓ) (ρ : Dev nD → PrngReg)

/-- The arguments a memory holds. -/
def inp : Inp F where
  X c := m ((c : Thread nD τ).loc main_arg0)
  W c := m ((c : Thread nD τ).loc main_arg1)
  sx c := m ((c : Thread nD τ).loc main_arg2) (ix1 0 : S1.Idx)
  sw c := m ((c : Thread nD τ).loc main_arg3) (ix1 0 : S1.Idx)

/-- The one element of a one-element array. -/
theorem S1_idx (a b : S1.Idx) : a = b := by
  funext k
  have h : (a k : ℕ) < 1 := lt_of_lt_of_le (a k).isLt (by fin_cases k; exact le_refl 1)
  have h' : (b k : ℕ) < 1 := lt_of_lt_of_le (b k).isLt (by fin_cases k; exact le_refl 1)
  exact Fin.ext (by omega)

/-- The loop's data: the scalars stay as they are, and the state before each step. -/
def dats (_ : Fin 1) (c : Dev nD) : Pipeline.Dat τ (Elt F) Unit ℕ UU ℕ cfg0 c where
  A w := m ((cfg0.win w).arr.view.loc (c : Thread nD τ))
  after w t := match w with
    | ⟨0, _⟩ => iblk m c 0 t
    | ⟨1, _⟩ => iblk m c 1 t
  Φ t := iprop(ctx (inp m) ∗ st (inp m) c (t : ℕ))
  q _ := fullShare
  owed t := owe c (t : ℕ)

theorem iblk0_eq (c : Dev nD) (t : Fin cfg0.N) : iblk m c 0 t = fun _ => (inp m).sx c := by
  funext y; exact congrArg (m ((c : Thread nD τ).loc main_arg2)) (S1_idx _ _)
theorem iblk1_eq (c : Dev nD) (t : Fin cfg0.N) : iblk m c 1 t = fun _ => (inp m).sw c := by
  funext y; exact congrArg (m ((c : Thread nD τ).loc main_arg3)) (S1_idx _ _)

theorem before0_eq (c : Dev nD) (t : Fin cfg0.N) (d) : (dats (F := F) m 0 c).before 0 t d = iblk m c 0 t :=
  ((dats (F := F) m 0 c).before_in_eq_fetched 0 rfl (fun _ => rfl) (fun _ _ _ => rfl) (fun _ => rfl) t d).trans rfl
theorem before1_eq (c : Dev nD) (t : Fin cfg0.N) (d) : (dats (F := F) m 0 c).before 1 t d = iblk m c 1 t :=
  ((dats (F := F) m 0 c).before_in_eq_fetched 1 rfl (fun _ => rfl) (fun _ _ _ => rfl) (fun _ => rfl) t d).trans rfl

theorem pt_i (t : Fin cfg0.N) : (grid0.coords t 0 : ℕ) = t := by
  have h := Pipeline.Grid.coords_val (G := grid0) t 0 (S := 1) (B := 32) (by decide) rfl
  have h' : (t : ℕ) < 32 := t.isLt
  rw [h]; omega

/-- Owning a whole staging buffer at given contents is its points-to. -/
theorem own_stg (c : Dev nD) (b : Ref sig .tc) (X : b.ty.Contents (Elt F)) :
    ((owns (c : Thread nD τ) (Memref.whole b) fullShare X : sProp 𝕄) ⊢ iprop(((c : Thread nD τ).loc b) ↦{fullShare} X))
      ∧ (iprop(((c : Thread nD τ).loc b) ↦{fullShare} X) ⊢ (owns (c : Thread nD τ) (Memref.whole b) fullShare X : sProp 𝕄)) := by
  rw [Idealize.ShloMosaic.owns_whole_eq]
  constructor
  · iintro ⟨%f, %hf, H⟩; subst hf; iexact H
  · iintro H; iexists X; isplitl []; · ipureintro; rfl
    iexact H

/-- Each scalar's staging buffer is its first at every step. -/
theorem slots_eq (t : Fin cfg0.N) : cfg0.slots t = fun w => ⟨0, (by fin_cases w <;> exact Nat.succ_pos _ : 0 < (cfg0.win w).nbuf)⟩ := by
  funext w
  have h : ((cfg0.slots t w : Fin (cfg0.win w).nbuf) : ℕ) < 1 := lt_of_lt_of_le (cfg0.slots t w).isLt (by fin_cases w <;> exact le_refl 1)
  exact Fin.ext (Nat.lt_one_iff.mp h)

set_option maxRecDepth 4000 in
/-- The body's obligation at every step of the loop. -/
theorem body_obligation (c : Dev nD) : Pipeline.BodyObligation (dats (F := F) m 0 c) (defs₀ (F := F)) 𝒱₀ () Set.univ := fun t => by
  rw [slots_eq t, bigSep_W0, bigSep_W0]
  show iprop((ctx (inp m) ∗ st (inp m) c (t : ℕ)) ∗ (∃ W : Waits sig Unit, ⌜↑W ⊆ (dats (F := F) m 0 c).bound () t.castSucc⌝ ∗ owes (c : Thread nD τ) (owe c (t : ℕ)) W)
      ∗ (∃ d, owns (c : Thread nD τ) (Memref.whole cc0_stg0_0) fullShare ((dats (F := F) m 0 c).before 0 t d))
      ∗ (∃ d, owns (c : Thread nD τ) (Memref.whole cc0_stg1_0) fullShare ((dats (F := F) m 0 c).before 1 t d)))
    ⊢ WP c (cc0_body (grid0.coords t) xA (Memref.isWhole_whole _) wA (Memref.isWhole_whole _) (Memref.whole cc0_stg0_0) (Memref.isWhole_whole _) (Memref.whole cc0_stg1_0) (Memref.isWhole_whole _) oA (Memref.isWhole_whole _) xsM (Memref.isWhole_whole _) cmM (Memref.isWhole_whole _) aM (Memref.isWhole_whole _) waM (Memref.isWhole_whole _) wbM (Memref.isWhole_whole _) stM (Memref.isWhole_whole _) acM (Memref.isWhole_whole _) cc0_scratch7 cc0_scratch8 cc0_scratch9 cc0_scratch10 cc0_scratch11 cc0_scratch12) fun _ =>
      iprop((ctx (inp m) ∗ st (inp m) c ((t : ℕ) + 1)) ∗ (∃ W : Waits sig Unit, ⌜↑W ⊆ (dats (F := F) m 0 c).bound () t.succ⌝ ∗ owes (c : Thread nD τ) (owe c ((t : ℕ) + 1)) W)
      ∗ owns (c : Thread nD τ) (Memref.whole cc0_stg0_0) fullShare (iblk m c 0 t)
      ∗ owns (c : Thread nD τ) (Memref.whole cc0_stg1_0) fullShare (iblk m c 1 t))
  simp only [before0_eq, before1_eq]
  rw [iblk0_eq, iblk1_eq]
  iintro ⟨⟨#Hc, Hs⟩, ⟨%W, %hW, Ho⟩, ⟨%d0, Hx⟩, %d1, Hw⟩
  iapply (step_all (inp m) c (grid0.coords t) (t : ℕ) (pt_i t) t.isLt) $$ [Hs Ho Hx Hw]
  · isplitl []; · iexact Hc
    isplitl [Ho]; · unfold ow; iexists W; iexact Ho
    isplitl [Hx]; · unfold sxP; iapply (own_stg c cc0_stg0_0 _).1; iexact Hx
    isplitl [Hw]; · unfold swP; iapply (own_stg c cc0_stg1_0 _).1; iexact Hw
    iexact Hs
  iintro ⟨Ho, Hx, Hw, Hs⟩
  isplitl [Hs]
  · isplitl []; · iexact Hc
    iexact Hs
  isplitl [Ho]
  · unfold ow
    icases Ho with ⟨%W', Ho⟩
    iexists W'
    isplitl []; · ipureintro; exact fun _ _ => Or.inl trivial
    iexact Ho
  isplitl [Hx]; · unfold sxP; iapply (own_stg c cc0_stg0_0 _).2; iexact Hx
  unfold swP; iapply (own_stg c cc0_stg1_0 _).2; iexact Hw

end Cert.KProof
-- ==== Proof.Ghost.lean ====
/-
The launch: the exchange's cells, their tokens, and the semaphores
-/
module

public import proofs.«01_k».proof.Proof.Grid

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The cells and the tokens at launch -/

/-- The kernel's own semaphores: all but the two that stage the scalars. -/
abbrev osem : Fin 64 → SemLoc sig := fun k => .dma ⟨(k : ℕ) + 2, by show (k : ℕ) + 2 < 66; have := k.isLt; omega⟩

theorem osem_eq (k : Fin 64) : osem k = smx (2 + (k : ℕ)) := by
  unfold osem smx
  refine congrArg SemLoc.dma (Fin.ext ?_)
  show (k : ℕ) + 2 = (2 + (k : ℕ)) % 66
  have := k.isLt
  omega

theorem smx_inj {a b : ℕ} (ha : a < 66) (hb : b < 66) (h : smx a = smx b) : a = b := by
  unfold smx at h
  injection h with h1
  have h2 : a % 66 = b % 66 := congrArg (fun x : DmaSem sig => (x : ℕ)) h1
  omega

theorem csem_inj : Function.Injective csem := by
  intro a b h
  unfold csem at h
  have ha := a.isLt; have hb := b.isLt
  split at h <;> split at h
  · exact Fin.ext (by omega)
  · exact absurd h (by unfold smx; intro h; cases h)
  · exact absurd h (by unfold smx; intro h; cases h)
  · exact Fin.ext (by have := smx_inj (by omega) (by omega) h; omega)

theorem kcell_inj : Function.Injective (kcell : Dev nD × Fin 17 → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def theCells : Finset (GSem nD τ sig) := Finset.univ.map ⟨kcell, kcell_inj⟩

/-- The three duties between a device and another: the signal, the slab sent, the slab received. -/
def tokOf (x : Dev nD × Dev nD × Fin 3) : GSem nD τ sig × ℕ × Dev nD :=
  if x.2.2 = 0 then (barG x.1, 0, x.2.1) else if x.2.2 = 1 then (dG x.1 (2 + x.2.1), 0, x.2.1) else (dG x.1 (10 + x.2.1), 0, x.2.1)

theorem tokOf_inj : Function.Injective tokOf := by
  rintro ⟨c, d, j⟩ ⟨c', d', j'⟩ h
  have h1 : c = c' := by
    have := congrArg (fun x : GSem nD τ sig × ℕ × Dev nD => x.1.1.1) h
    fin_cases j <;> fin_cases j' <;> exact this
  have h2 : d = d' := by
    have := congrArg (fun x : GSem nD τ sig × ℕ × Dev nD => x.2.2) h
    fin_cases j <;> fin_cases j' <;> exact this
  subst h1 h2
  have h3 := congrArg (fun x : GSem nD τ sig × ℕ × Dev nD => x.1.2) h
  have hd : (d : ℕ) < 8 := d.isLt
  have n1 : ¬ smx (2 + (d : ℕ)) = smx (10 + d) := fun e => by have := smx_inj (by omega) (by omega) e; omega
  have n2 : ∀ n, ¬ (SemLoc.reg barS : SemLoc sig) = smx n := fun n e => by unfold smx at e; cases e
  fin_cases j <;> fin_cases j' <;> first | rfl | exact absurd h3 (n2 _) | exact absurd h3.symm (n2 _) | exact absurd h3 n1 | exact absurd h3.symm n1
def theToks : Finset (GSem nD τ sig × ℕ × Dev nD) := Finset.univ.map ⟨tokOf, tokOf_inj⟩

def u₀ : UU :=
  (initOf (Pipeline.cells cfgs cellOf_inj) (Pipeline.launchToks cfgs cellOf_inj), (Emb.inl : Emb UB (UB × Counters)) (initOf theCells theToks))

/-- The tokens of a device's own cells. -/
def toks (c : Dev nD) : sProp 𝕄 := bigSep Finset.univ fun d : Dev nD =>
  iprop(dutyTok ER (barG c) 0 d ∗ dutyTok ER (dG c (2 + d)) 0 d ∗ dutyTok ER (dG c (10 + d)) 0 d)
/-- The tokens of the duties a device pays. -/
def payToks (c : Dev nD) : sProp 𝕄 := bigSep Finset.univ fun d : Dev nD =>
  iprop(dutyTok ER (barG d) 0 c ∗ dutyTok ER (dG c (2 + d)) 0 d ∗ dutyTok ER (dG d (10 + c)) 0 c)

theorem toks_around : (bigSep Finset.univ fun c : Dev nD => (toks (F := F) c : sProp 𝕄)) ⊢ bigSep Finset.univ fun c : Dev nD => payToks (F := F) c := by
  have e1 (c : Dev nD) : toks (F := F) c = iprop((bigSep Finset.univ fun d : Dev nD => dutyTok ER (barG c) 0 d)
      ∗ (bigSep Finset.univ fun d : Dev nD => dutyTok ER (dG c (2 + d)) 0 d) ∗ bigSep Finset.univ fun d : Dev nD => dutyTok ER (dG c (10 + d)) 0 d) := by
    unfold toks; rw [bigSep_sep', bigSep_sep']
  have e2 (c : Dev nD) : payToks (F := F) c = iprop((bigSep Finset.univ fun d : Dev nD => dutyTok ER (barG d) 0 c)
      ∗ (bigSep Finset.univ fun d : Dev nD => dutyTok ER (dG c (2 + d)) 0 d) ∗ bigSep Finset.univ fun d : Dev nD => dutyTok ER (dG d (10 + c)) 0 c) := by
    unfold payToks; rw [bigSep_sep', bigSep_sep']
  rw [bigSep_congr fun c _ => e1 c, bigSep_congr fun c _ => e2 c, bigSep_sep', bigSep_sep', bigSep_sep', bigSep_sep']
  exact Entails.of_eq (congrArg₂ _ (BI.bigSep_univ_comm fun c d : Dev nD => (dutyTok ER (barG c) 0 d : sProp 𝕄))
    (congrArg _ (BI.bigSep_univ_comm fun c d : Dev nD => (dutyTok ER (dG c (10 + (d : ℕ))) 0 d : sProp 𝕄))))

variable (I : Inp F)

/-- What the launch deals a device. -/
def G (c : Dev nD) : sProp 𝕄 :=
  iprop((bigSep Finset.univ fun k : Fin 17 => roundState ER (rd I) (kcell (c, k)) 0)
    ∗ (bigSep Finset.univ fun k : Fin 17 => iprop(atPos ER (kcell (c, k)) 0 ∅ 0 ∗ reached ER (kcell (c, k)) 0)) ∗ toks (F := F) c)

theorem fund_cells : BI.own ((ER : Emb UB 𝕄) (initOf theCells theToks)) ⊢ (|==> bigSep Finset.univ (G I) : sProp 𝕄) := by
  have hX (Φ : GSem nD τ sig → sProp 𝕄) : bigSep theCells Φ = bigSep Finset.univ fun c : Dev nD => bigSep Finset.univ fun k : Fin 17 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks (F := F) c := by
    unfold theToks; rw [bigSep_map, bigSep_univ_prod]
    refine bigSep_congr fun c _ => ?_
    rw [bigSep_univ_prod]
    unfold toks
    refine bigSep_congr fun d _ => ?_
    rw [bigSep_univ_eq_bigSepL [(0 : Fin 3), 1, 2] (by decide) (by decide)]; rfl
  iintro HX
  imod (Rounds.fund ER (rd I) theCells theToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSemFacts : Pipeline.OwnSemFacts cfg0.spec osem := by decide

/-- The kernel's own semaphores: sends, receipts, and the local copies'. -/
theorem ownSems0_eq (c : Dev nD) : (Pipeline.ownSems0 (Ix := Unit) (Name := ℕ) (U := UU) (Lvl := ℕ) (Val := Elt F) (τ := τ) osem c : sProp 𝕄)
    = iprop((sems8 (F := F) c 2 ∗ sems8 (F := F) c 10) ∗ sems48 (F := F) c) := by
  have e : (Pipeline.ownSems0 (Ix := Unit) (Name := ℕ) (U := UU) (Lvl := ℕ) (Val := Elt F) (τ := τ) osem c : sProp 𝕄)
      = bigSep (Finset.range 64) fun k => sm0 (F := F) c (2 + k) := by
    rw [big_fin]
    unfold Pipeline.ownSems0
    exact bigSep_congr fun k _ => by rw [osem_eq]
  rw [e, show Finset.range 64 = Finset.range (16 + 48) from rfl, spl, show Finset.range 16 = Finset.range (8 + 8) from rfl, spl]
  unfold sems8 sems48
  simp only [← Nat.add_assoc]
/-- The barrier's semaphore is the one the launch leaves outside. -/
theorem unscopedSems0_eq (c : Dev nD) : (unscopedSems0 c : sProp 𝕄) = semVal (barG c) 0 := by
  unfold unscopedSems0; rw [bigSep_eq_bigSepL_of_eq [SemLoc.reg barS] (by decide) (by decide)]; rfl

/-- The shared semaphores one by one. -/
theorem cells17 (c : Dev nD) (Φ : GSem nD τ sig → sProp 𝕄) : (bigSep Finset.univ fun k : Fin 17 => Φ (kcell (c, k)))
    = iprop(((bigSep (Finset.range 8) fun k => Φ (dG c (2 + k))) ∗ bigSep (Finset.range 8) fun k => Φ (dG c (10 + k))) ∗ Φ (barG c)) := by
  have e : (bigSep Finset.univ fun k : Fin 17 => Φ (kcell (c, k))) = bigSep (Finset.range 17) fun k => if k = 16 then Φ (barG c) else Φ (dG c (2 + k)) := by
    rw [big_fin]
    refine bigSep_congr fun k _ => ?_
    show Φ (_, csem k) = _
    unfold csem
    split <;> rfl
  rw [e, show Finset.range 17 = Finset.range (16 + 1) from rfl, spl, show Finset.range 16 = Finset.range (8 + 8) from rfl, spl, show Finset.range 1 = {0} from rfl, bigSep_singleton]
  refine congrArg₂ _ (congrArg₂ _ ?_ ?_) ?_
  · exact bigSep_congr fun k hk => if_neg (by have := Finset.mem_range.mp hk; omega)
  · exact bigSep_congr fun k hk => (if_neg (by have := Finset.mem_range.mp hk; omega)).trans (by rw [← Nat.add_assoc])
  · exact if_pos rfl

end Cert.KProof
-- ==== Proof.Launch.lean ====
/-
The run of the kernel on the eight devices
-/
module

public import proofs.«01_k».proof.Proof.Ghost
public import Idealize.ShloMosaic.Lib.Pipeline.CollectiveSegs

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The invariants, made once for all devices -/

section Glob

variable (I : Inp F)

/-- What a device starts from: everyone's records, its positions, the tokens of the duties it pays. -/
def G' (c : Dev nD) : sProp 𝕄 :=
  iprop(recs I ∗ (bigSep Finset.univ fun k : Fin 17 => atPos ER (kcell (c, k)) 0 ∅ 0) ∗ payToks (F := F) c)

theorem sems_all (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 17 => semVal (kcell (c, k)) 0) ∗ sems48 (F := F) c : sProp 𝕄) := by
  rw [ownSems0_eq, unscopedSems0_eq, cells17 c fun g => (semVal g 0 : sProp 𝕄)]
  unfold sems8
  iintro ⟨⟨H, H48⟩, HB⟩
  isplitr [H48]
  · isplitl [H]; · iexact H
    iexact HB
  iexact H48

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Fin 17 => iprop((∃ κ : ℕ, cellInv ER (rd I) κ (kcell (c, k))) ∗ reached ER (kcell (c, k)) 0))
          ∗ ((bigSep Finset.univ fun k : Fin 17 => atPos ER (kcell (c, k)) 0 ∅ 0) ∗ sems48 (F := F) c) ∗ toks (F := F) c) := by
  unfold G
  rw [bigSep_sep' Finset.univ (fun k : Fin 17 => (atPos ER (kcell (c, k)) 0 ∅ 0 : sProp 𝕄)) (fun k => reached ER (kcell (c, k)) 0)]
  iintro ⟨Hos, Hus, Hst, ⟨Hat, Hr⟩, Htok⟩
  ihave Hv := (sems_all (F := F) c) $$ [Hos Hus]
  · isplitl [Hos] <;> iassumption
  icases Hv with ⟨Hv, H48⟩
  imod (show iprop((bigSep Finset.univ fun k : Fin 17 => semVal (kcell (c, k)) 0) ∗ bigSep Finset.univ fun k : Fin 17 => roundState ER (rd I) (kcell (c, k)) 0)
      ⊢ (|={Set.univ}=> bigSep Finset.univ fun k : Fin 17 => iprop(∃ κ : ℕ, cellInv ER (rd I) κ (kcell (c, k))) : sProp 𝕄) from by
        rw [← bigSep_sep']
        exact (bigSep_mono fun k _ => (Rounds.body_intro ER (rd I) (kcell (c, k))).trans inv_alloc).trans (bigSep_fupd _ _)) $$ [Hv Hst] with Hinv
  · isplitl [Hv] <;> iassumption
  imodintro
  isplitl [Hinv Hr]
  · rw [bigSep_sep']
    isplitl [Hinv] <;> iassumption
  isplitr [Htok]
  · isplitl [Hat] <;> iassumption
  iexact Htok

/-- What a device starts from, with its own local semaphores. -/
def G'' (c : Dev nD) : sProp 𝕄 := iprop(G' I c ∗ sems48 (F := F) c)

theorem regroup :
    (bigSep Finset.univ fun c : Dev nD => iprop((bigSep Finset.univ fun k : Fin 17 => iprop((∃ κ : ℕ, cellInv ER (rd I) κ (kcell (c, k))) ∗ reached ER (kcell (c, k)) 0))
          ∗ ((bigSep Finset.univ fun k : Fin 17 => atPos ER (kcell (c, k)) 0 ∅ 0) ∗ sems48 (F := F) c) ∗ toks (F := F) c) : sProp 𝕄)
      ⊢ bigSep Finset.univ (G'' I) := by
  rw [bigSep_sep', bigSep_sep', ← bigSep_univ_prod (fun ck : Dev nD × Fin 17 => iprop((∃ κ : ℕ, cellInv ER (rd I) κ (kcell ck)) ∗ reached ER (kcell ck) 0))]
  iintro ⟨#HI, Hat, Htok⟩
  ihave Htk := (toks_around (F := F)) $$ Htok
  ihave HB := (BI.bigSep_of_persistent (Finset.univ : Finset (Dev nD)) (recs I)) $$ []
  · unfold recs; iexact HI
  ihave H := (Entails.of_eq (show iprop((bigSep Finset.univ fun _ : Dev nD => recs I)
      ∗ (bigSep Finset.univ fun c : Dev nD => iprop((bigSep Finset.univ fun k : Fin 17 => atPos ER (kcell (c, k)) 0 ∅ 0) ∗ sems48 (F := F) c))
      ∗ bigSep Finset.univ fun c : Dev nD => payToks (F := F) c)
      = bigSep Finset.univ fun c : Dev nD => iprop(recs I ∗ ((bigSep Finset.univ fun k : Fin 17 => atPos ER (kcell (c, k)) 0 ∅ 0) ∗ sems48 (F := F) c) ∗ payToks (F := F) c) from
        (congrArg _ (bigSep_sep' _ _ _).symm).trans (bigSep_sep' _ _ _).symm)) $$ [HB Hat Htk]
  · isplitl [HB]; · iexact HB
    isplitl [Hat] <;> iassumption
  have hm : (bigSep Finset.univ fun c : Dev nD => iprop(recs I ∗ ((bigSep Finset.univ fun k : Fin 17 => atPos ER (kcell (c, k)) 0 ∅ 0) ∗ sems48 (F := F) c) ∗ payToks (F := F) c) : sProp 𝕄)
      ⊢ bigSep Finset.univ (G'' I) := bigSep_mono fun c _ => by
    show iprop(recs I ∗ ((bigSep Finset.univ fun k : Fin 17 => atPos ER (kcell (c, k)) 0 ∅ 0) ∗ sems48 (F := F) c) ∗ payToks (F := F) c) ⊢ G'' I c
    unfold G'' G'
    iintro ⟨H1, ⟨H2, H3⟩, H4⟩
    isplitr [H3]
    · isplitl [H1]; · iexact H1
      isplitl [H2] <;> iassumption
    iexact H3
  iapply hm
  iexact H

/-- The step every device takes together: the invariants of the shared semaphores, the tokens to who pays them. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G'' I) :=
  ((bigSep_mono fun c _ => core_alloc I c).trans (bigSep_fupd _ _)).trans (BI.fupd_mono (regroup I))

end Glob

/-! ## The credit at launch -/

theorem bar_iff {a b : Dev nD} : barG a = barG b ↔ a = b :=
  ⟨fun h => congrArg (fun g : GSem nD τ sig => g.1.1) h, fun h => h ▸ rfl⟩
theorem rcv_iff {a b s d : Dev nD} : dG a (10 + s) = dG b (10 + d) ↔ a = b ∧ s = d := by
  constructor
  · intro h
    have hs : (s : ℕ) < 8 := s.isLt
    have hd : (d : ℕ) < 8 := d.isLt
    have := smx_inj (by omega) (by omega) (congrArg Prod.snd h)
    exact ⟨congrArg (fun g : GSem nD τ sig => g.1.1) h, Fin.ext (by omega)⟩
  · rintro ⟨rfl, rfl⟩; rfl
theorem bar_ne_rcv (a b : Dev nD) (n : ℕ) : barG a ≠ dG b n := fun h => by
  have h1 : (SemLoc.reg barS : SemLoc sig) = smx n := congrArg Prod.snd h
  unfold smx at h1; cases h1

/-- How many of the last `k` signals of `d` go to `c`. -/
def nB (d c : Dev nD) : ℕ → ℕ
  | 0 => 0
  | k + 1 => nB d c k + if dv (d + (7 - k)) = c then 1 else 0
/-- How many of the last `k` sends of `d` reach device `c` as the slab of `s`. -/
def nS (d c s : Dev nD) : ℕ → ℕ
  | 0 => 0
  | k + 1 => nS d c s k + if dv (7 - k) = d then 0 else if dv (7 - k) = c ∧ d = s then 1 else 0

theorem OS_bar (d c : Dev nD) : ∀ k, OS d k (barG c) () = 0
  | 0 => rfl
  | k + 1 => by
    rw [OS, Pi.add_apply, Finsupp.add_apply, OS_bar d c k, Nat.zero_add]
    split
    · rfl
    · rw [tallyAt_ne_cell (bar_ne_rcv _ _ _)]; rfl
theorem OB_bar (d c : Dev nD) : ∀ k, OB d k (barG c) () = nB d c k
  | 0 => OS_bar d c 8
  | k + 1 => by
    rw [OB, Pi.add_apply, Finsupp.add_apply, OB_bar d c k, nB, tallyAt_apply]
    refine congrArg _ ?_
    by_cases h : dv (d + (7 - k)) = c
    · rw [if_pos h, if_pos ⟨by rw [h], rfl⟩]
    · rw [if_neg h, if_neg fun h' => h (bar_iff.mp h'.1).symm]
theorem OS_rcv (d c s : Dev nD) : ∀ k, OS d k (dG c (10 + s)) () = 8192 * nS d c s k
  | 0 => rfl
  | k + 1 => by
    rw [OS, Pi.add_apply, Finsupp.add_apply, OS_rcv d c s k, nS, Nat.mul_add]
    refine congrArg _ ?_
    by_cases h0 : dv (7 - k) = d
    · rw [if_pos h0, if_pos h0]; rfl
    · rw [if_neg h0, if_neg h0, tallyAt_apply]
      by_cases h : dv (7 - k) = c ∧ d = s
      · rw [if_pos h, if_pos ⟨by rw [h.1, h.2], rfl⟩]
      · rw [if_neg h, if_neg fun h' => h ⟨(rcv_iff.mp h'.1).1.symm, (rcv_iff.mp h'.1).2.symm⟩]
theorem OB_rcv (d c s : Dev nD) : ∀ k, OB d k (dG c (10 + s)) () = 8192 * nS d c s 8
  | 0 => OS_rcv d c s 8
  | k + 1 => by
    rw [OB, Pi.add_apply, Finsupp.add_apply, OB_rcv d c s k, tallyAt_ne_cell fun h => bar_ne_rcv _ _ _ h.symm]; rfl

theorem nB_sum : ∀ c : Dev nD, (∑ d : Dev nD, nB d c 7) = 7 := by decide
theorem nS_sum : ∀ c s : Dev nD, s ≠ c → (∑ d : Dev nD, nS d c s 8) = 1 := by decide

theorem launch_bar (c : Dev nD) :
    tallyOn (barG c) (launchCredit (Pipeline.owing fun c => OB c 7) 0 (barG c)) = (tallyAt (barG c) () 7 : CellTallies nD τ sig Unit) := by
  unfold tallyAt; refine congrArg _ (Finsupp.ext fun u => ?_); cases u
  rw [Pipeline.launchCredit_owing, Finsupp.single_eq_same, Finset.sum_congr rfl fun d _ => OB_bar d c 7, nB_sum]
theorem launch_rcv (c s : Dev nD) (h : s ≠ c) :
    tallyOn (dG c (10 + s)) (launchCredit (Pipeline.owing fun c => OB c 7) 0 (dG c (10 + s))) = (tallyAt (dG c (10 + s)) () 8192 : CellTallies nD τ sig Unit) := by
  unfold tallyAt; refine congrArg _ (Finsupp.ext fun u => ?_); cases u
  rw [Pipeline.launchCredit_owing, Finsupp.single_eq_same, Finset.sum_congr rfl fun d _ => OB_rcv d c s 7, ← Finset.mul_sum, nS_sum c s h, Nat.mul_one]

theorem rcv_inj : Function.Injective (fun d : Dev nD => smx (10 + (d : ℕ))) := fun a b h => by
  have ha : (a : ℕ) < 8 := a.isLt
  have hb : (b : ℕ) < 8 := b.isLt
  have := smx_inj (by omega) (by omega) h
  exact Fin.ext (by omega)

theorem creds (c : Dev nD) : (Pipeline.launchCred (fun c => OB c 7) c : sProp 𝕄)
    ⊢ iprop(cred (tallyAt (barG c) () 7) ∗ bigSep (Finset.univ.erase c) fun d : Dev nD => cred (tallyAt (dG c (10 + d)) () 8192)) := by
  unfold Pipeline.launchCred
  rw [bigSep_univ_at _ (SemLoc.reg barS), launch_bar]
  refine sep_mono_right ?_
  refine (bigSep_subset (t := (Finset.univ.erase c).map ⟨_, rcv_inj⟩) fun x hx => ?_).trans ?_
  · obtain ⟨d, -, rfl⟩ := Finset.mem_map.mp hx
    exact Finset.mem_erase.mpr ⟨fun h => (by unfold smx at h; cases h), Finset.mem_univ _⟩
  · rw [bigSep_map]
    refine bigSep_mono fun d hd => ?_
    show (cred (tallyOn (dG c (10 + d)) (launchCredit (Pipeline.owing fun c => OB c 7) 0 (dG c (10 + d)))) : sProp 𝕄) ⊢ cred (tallyAt (dG c (10 + d)) () 8192)
    exact Entails.of_eq (congrArg _ (launch_rcv c d (Finset.ne_of_mem_erase hd)))

/-! ## Into the loop and out of it -/

variable (m : (ℓ : Loc nD τ sig) → Buf (Elt F) ℓ) (ρ : Dev nD → PrngReg)

/-- The protocol's part of the first state. -/
theorem proto (I : Inp F) (c : Dev nD) :
    iprop((cred (tallyAt (barG c) () 7) ∗ bigSep (Finset.univ.erase c) fun d : Dev nD => cred (tallyAt (dG c (10 + d)) () 8192))
      ∗ (bigSep Finset.univ fun k : Fin 17 => atPos ER (kcell (c, k)) 0 ∅ 0) ∗ payToks (F := F) c : sProp 𝕄) ⊢ StP (F := F) c := by
  rw [cells17 c fun g => (atPos ER g 0 ∅ 0 : sProp 𝕄), rot8 c, rot8 c]
  rw [rot c (fun d : Dev nD => (cred (tallyAt (dG c (10 + d)) () 8192) : sProp 𝕄))]
  have ep : payToks (F := F) c ⊢ iprop(BarT (F := F) c ∗ ExTok (F := F) c : sProp 𝕄) := by
    unfold payToks BarT ExTok
    rw [← rot c (fun d : Dev nD => (dutyTok ER (barG d) 0 c : sProp 𝕄)), ← bigSep_sep']
    exact bigSep_subset (Finset.erase_subset _ _)
  have er : iprop((bigSep (Finset.range 7) fun k => cred (tallyAt (dG c (10 + (dv ((c : ℕ) + k + 1) : Dev nD))) () 8192))
      ∗ bigSep (Finset.range 7) fun k => atPos ER (dG c (10 + (dv ((c : ℕ) + k + 1) : Dev nD))) 0 ∅ 0 : sProp 𝕄) ⊢ RecvF (F := F) c := by
    unfold RecvF; rw [bigSep_sep']
  unfold StP SendP
  iintro ⟨⟨Hcb, Hcr⟩, ⟨⟨⟨Ha, Hsp⟩, Hb, Hrp⟩, Hbar⟩, Hp⟩
  ihave Hp' := ep $$ Hp
  icases Hp' with ⟨HB, HE⟩
  isplitl [Hcb Hbar HB]
  · isplitl [Hcb]; · iexact Hcb
    isplitl [Hbar] <;> iassumption
  isplitl [HE]; · iexact HE
  isplitl [Hsp Hcr Hrp]
  · isplitl [Hsp]; · iexact Hsp
    iapply er
    isplitl [Hcr] <;> iassumption
  isplitl [Ha] <;> iassumption

/-- What a device takes into the loop beside its scratch. -/
def start (c : Dev nD) : sProp 𝕄 :=
  iprop(ctx (inp m) ∗ StP (F := F) c ∗ (xA.view.loc (c : Thread nD τ) ↦{fullShare} ((inp m).X c)) ∗ (wA.view.loc (c : Thread nD τ) ↦{fullShare} ((inp m).W c))
    ∗ (∃ f, oA.view.loc (c : Thread nD τ) ↦{fullShare} f) ∗ sems48 (F := F) c)

theorem start_intro (c : Dev nD) :
    iprop(Pipeline.unscopedRestP Pipeline.Prefetch.none cfg0.spec c (fun b => m ((c : Thread nD τ).loc b)) ∗ levAts L lv
        ∗ Pipeline.launchCred (fun c => OB c 7) c ∗ prngReg c (ρ c) ∗ G'' (inp m) c)
      ⊢ |={Set.univ}=> iprop(start m c ∗ emp) := by
  rw [Pipeline.unscopedRestP_none]
  iintro ⟨Hun, Hlev, Hcr, -, HG⟩
  ihave Hun' := (Entails.of_eq (unscopedRest0_eq c fun b => m ((c : Thread nD τ).loc b))) $$ Hun
  icases Hun' with ⟨Hx, Hw, Ho⟩
  ihave Hc := (creds (F := F) c) $$ Hcr
  unfold G'' G'
  icases HG with ⟨⟨HR, Hat, Hpay⟩, H48⟩
  imodintro
  unfold start ctx
  isplitl
  · isplitl [HR Hlev]
    · isplitl [HR] <;> iassumption
    isplitl [Hc Hat Hpay]
    · iapply (proto (inp m) c)
      isplitl [Hc]; · iexact Hc
      isplitl [Hat] <;> iassumption
    isplitl [Hx]; · iexact Hx
    isplitl [Hw]; · iexact Hw
    isplitl [Ho]; · iexists (m ((c : Thread nD τ).loc main_v1)); iexact Ho
    iexact H48
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(ctx (inp m) ∗ st (inp m) c 0) from rfl, scopedRest0_eq, st_zero]
  unfold start StS
  iintro ⟨⟨Hc, HP, Hx, Hw, Ho, H48⟩, -, H0, H1, H2, H3, H4, H5, H6⟩
  isplitl [Hc]; · iexact Hc
  isplitl [HP]; · iexact HP
  iapply (open_mem (inp m) c)
  isplitl [Hx]; · iexact Hx
  isplitl [Hw]; · iexact Hw
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H48

/-- What a device keeps after the loop. -/
def done (c : Dev nD) : sProp 𝕄 :=
  iprop((((c : Thread nD τ).loc main_arg0) ↦{fullShare} ((inp m).X c)) ∗ (((c : Thread nD τ).loc main_arg1) ↦{fullShare} ((inp m).W c))
    ∗ (((c : Thread nD τ).loc main_v1) ↦{fullShare} (oF (inp m) c)) ∗ unscopedSems0 c)

theorem leave (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = iprop(ctx (inp m) ∗ st (inp m) c 32) from rfl, st_E]
  unfold done
  rw [scopedRest0_eq, ownSems0_eq, unscopedSems0_eq]
  iintro ⟨-, HE⟩
  ihave H := (close_mem (inp m) c) $$ HE
  icases H with ⟨Hx, Hw, Ho, H0, H1, H2, H3, H4, H5, H6, H48, HS, HV, HB⟩
  isplitl [Hx Hw Ho HB]
  · isplitl [Hx]; · iexact Hx
    isplitl [Hw]; · iexact Hw
    isplitl [Ho] <;> iassumption
  isplitl [H48 HS HV]
  · isplitr [H48]
    · isplitl [HS] <;> iassumption
    iexact H48
  isplitl [H0]; · iexact H0
  isplitl [H1]; · iexact H1
  isplitl [H2]; · iexact H2
  isplitl [H3]; · iexact H3
  isplitl [H4]; · iexact H4
  isplitl [H5]; · iexact H5
  iexact H6

theorem share_eq (c : Dev nD) (w : Fin cfg0.W) : (dats m 0 c).share w = fullShare := by unfold Pipeline.Dat.share; split <;> rfl

theorem waits (c : Dev nD) : (levAts L lv : sProp 𝕄) ⊢ Pipeline.cellsWaits cfgs (dats m) () 0 c :=
  Pipeline.cellsWaits_intro cfgs (dats m) () 0 c fun w s t => by
    have hl : lv ((c : Thread nD τ), .dma ((cfg0.win w).sem s)) () = 0 := by fin_cases w <;> fin_cases s <;> rfl
    rcases Nat.eq_zero_or_pos (t : ℕ) with h | h
    · rw [show (dats m 0 c).owed t = owe c (t : ℕ) from rfl, h, owe_zero]
      exact mayWait_low c _ hl 7
    · rw [show (dats m 0 c).owed t = owe c (t : ℕ) from rfl, owe_pos c h, MayWait_zero]
      iintro -; iempintro

/-- The end read off the memory. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = oF (inp m) c) ∧ ∀ sm : SemLoc sig, sm.isScoped .tc = false → s.sem ((c : Thread nD τ), sm) = 0

/-- A buffer held whole reads what it is held at. -/
theorem read_whole (s' : Phys nD τ sig (Elt F)) (ℓ : Loc nD τ sig) (f : Buf (Elt F) ℓ) :
    iprop((ℓ ↦{fullShare} f) ∗ SI s' : sProp 𝕄) ⊢ iprop(⌜s'.mem.mem ℓ = f⌝ : sProp 𝕄) :=
  (sep_comm.1.trans SI_pointsTo_agree).trans (BI.pure_mono fun h => funext fun i => h i (Finset.mem_univ i))

theorem read_end (c : Dev nD) (s' : Phys nD τ sig (Elt F)) :
    iprop(done m c ∗ emp ∗ SI s') ⊢ |={Set.univ}=> iprop(⌜QY m c s'.mem⌝ ∗ SI s') := by
  unfold done
  iintro ⟨⟨Hx, Hw, Ho, Hu⟩, -, HSI⟩
  ihave %h0 := (read_whole s' _ _) $$ [Hx HSI]
  · isplitl [Hx] <;> iassumption
  ihave %h1 := (read_whole s' _ _) $$ [Hw HSI]
  · isplitl [Hw] <;> iassumption
  ihave %h2 := (read_whole s' _ _) $$ [Ho HSI]
  · isplitl [Ho] <;> iassumption
  imod (Pipeline.unscopedSems0_read (X := unscopedSems0 c) (c := c) fupd_intro s') $$ [Hu HSI] with ⟨%h3, HSI⟩
  · isplitl [Hu] <;> iassumption
  imodintro
  isplitr
  · ipureintro; exact ⟨⟨h0, h1, h2⟩, h3⟩
  iexact HSI

/-- What a run ends with: the arguments as they were, each device's result, and every semaphore at zero. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v1) = oF (inp m) c) ∧ r.2.sem = fun _ => 0

set_option maxRecDepth 8000 in
/-- From any memory with zero counters, every weakly fair execution on the eight devices terminates, and ends so. -/
theorem run_main : θ_run defs (onTc (τ := τ) (main (F := F))) (s₀ m ρ) (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun c => OB c 7) (howed₀ := fun _ => rfl) (howedN := fun _ => rfl)
    (L := L) (lv := lv) (hL := L_of_ne) (hwaits := waits m)
    (G := G (inp m)) (G' := G'' (inp m)) (u₀ := u₀)
    (hu₀ := by
      unfold u₀
      iintro Hu
      ihave H := (ownU_pair _ _) $$ Hu
      icases H with ⟨HP, HX⟩
      ihave HX' := (show (BI.own (embR ((Emb.inl : Emb UB (UB × Counters)) (initOf theCells theToks))) : sProp 𝕄) ⊢ BI.own ((ER : Emb UB 𝕄) (initOf theCells theToks)) from Entails.of_eq rfl) $$ HX
      imod (fund_cells (inp m)) $$ HX' with HG
      imodintro
      isplitl [HP] <;> iassumption)
    (hglob := glob (inp m))
    (hA := fun _ _ => rfl) (hpf := fun _ k => k.elim0)
    (X := start m) (Y := done m) (Z := fun _ => iprop(emp))
    (hX := start_intro m ρ) (hin := enter m) (hout := leave m)
    (QY := QY m) (hY := read_end m)
    (hQ := fun _ h hs => ⟨fun c => ⟨(h c).2.2.1.1, (h c).2.2.1.2.1, ((h c).1 0).trans ((dats m 0 c).arrAt_in 0 rfl _), ((h c).1 1).trans ((dats m 0 c).arrAt_in 1 rfl _),
      (h c).2.2.1.2.2⟩, sem_eq_zero hs fun c => (h c).2.2.2⟩)

end Cert.KProof
-- ==== Proof.Frames.lean ====
/-
# The frames

Every execution ends, with the arguments as they were and every counter at zero: the run with its values dropped.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The two kernel programs have one text -/

section Same

instance sameK : Cert.Kernel.Facts := Cert.Kernel.Gen.facts

set_option maxHeartbeats 1000000 in
/-- The bodies the regions run. -/
theorem defs₀_same : Cert.Kernel.defs₀ (F := F) = defs₀ (F := F) := by
  refine congrArg (Defs.onTc (τ := τ) (Λ := Λ₀)) (funext fun ℓ => funext fun a => ?_)
  match ℓ, a with
  | ⟨0, _⟩, (t, s) => rfl
  | ⟨n + 1, h⟩, _ => exact absurd h (Nat.not_lt.2 (Nat.le_add_left _ _))

theorem defs_same : Cert.Kernel.defs (F := F) = defs (F := F) := congrArg (Pipeline.defs (pcfgs (F := F))) defs₀_same

theorem main_same : Cert.Kernel.main (F := F) = main (F := F) := rfl

end Same

/-! ## The claims -/

/-- The kernel as printed. -/
theorem frame_kernel : Cert.quiescent_Kernel (hKernel := Cert.Kernel.Gen.facts) := fun m ρ _ => by
  rw [defs_same, main_same]
  exact (θ_run defs _ _).mono (fun _ h => ⟨fun c => ⟨(h.1 c).1, (h.1 c).2.1, (h.1 c).2.2.1, (h.1 c).2.2.2.1⟩, h.2⟩) (run_main (F := Bits) m ρ)

/-- The kernel over the reals. -/
theorem frame_kernelIdeal : Cert.quiescent_KernelIdeal (hKernelIdeal := Cert.KernelIdeal.Gen.facts) := fun m ρ _ =>
  (θ_run defs _ _).mono (fun _ h => ⟨fun c => ⟨(h.1 c).1, (h.1 c).2.1, (h.1 c).2.2.1, (h.1 c).2.2.2.1⟩, h.2⟩) (run_main (F := Ideal) m ρ)

/-- The reference has no semaphore. -/
theorem frame_referenceIdeal : Cert.quiescent_ReferenceIdeal (hReferenceIdeal := Cert.ReferenceIdeal.Gen.facts) := fun m ρ _ =>
  (θ_run Cert.ReferenceIdeal.defs _ _).mono
    (fun _ h => ⟨fun c => ⟨(h c).2.1, (h c).2.2.1, (h c).2.2.2.1, (h c).2.2.2.2⟩, funext fun x => match x with | (_, .reg s) => nomatch s | (_, .dma s) => nomatch s⟩)
    (Cert.ReferenceIdeal.Value.run (F := Ideal) m ρ)

end Cert.KProof
-- ==== Proof.Value.lean ====
/-
# What the kernel computes, over the reals

A block of the result is the scaled, clipped product: the device's own share of the contraction, added to the seven
others taken in the order they lie round the ring, is the whole sum over the 4096 inner positions.
-/
module

public import proofs.«01_k».proof.Proof.Launch
public import proofs.«01_k».proof.Defs
public import proofs.«01_k».proof.Proof.Gen.ReferenceIdeal.Run
public import Idealize.ShloMosaic.Lib.Pointwise

@[expose] public section

noncomputable section

namespace Cert.KProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Sums in blocks -/

/-- A sum over `n` blocks of `b` positions, block by block. -/
theorem sum_blocks (b : ℕ) (f : ℕ → EReal) (n : ℕ) :
    ∑ k : Fin (n * b), f k = ∑ p : Fin n, ∑ k : Fin b, f (b * p + k) := by
  rw [Finset.sum_range (fun k => f k) |>.symm, ← Finset.sum_range (fun p => ∑ k : Fin b, f (b * p + k))]
  induction n with
  | zero => simp
  | succ n ih =>
    rw [Finset.sum_range_succ, ← ih, Nat.succ_mul, Finset.sum_range_add]
    congr 1
    rw [Finset.sum_range]
    exact Finset.sum_congr rfl fun k _ => by rw [Nat.mul_comm b n]

/-- The eight blocks may be taken in order from any place on the ring. -/
theorem sum_ring (c : Fin 8) (g : ℕ → EReal) : ∑ p : Fin 8, g p = g c + ∑ q : Fin 7, g ((c + q + 1) % 8) := by
  rw [← Equiv.sum_comp (Equiv.addLeft c) (fun p : Fin 8 => g p), Fin.sum_univ_succ]
  congr 1
  · simp

/-! ## The blocks at an index -/

section At

/-- An index of a table, written either way. -/
theorem ix2_eq {n0 n1 : ℕ} (a : Fin n0) (b : Fin n1) : Idealize.ShloMosaic.ix2 a b = ValueIdx.ix2 a b := by
  funext d
  match d with | ⟨0, _⟩ => rfl | ⟨1, _⟩ => rfl

/-- The whole `x` and the whole `w`, at a row and a column. -/
def gx (X : (⟨2, ![4096, 4096]⟩ : Shape).Idx → EReal) (r k : ℕ) : EReal :=
  X (ValueIdx.ix2 ⟨r % 4096, Nat.mod_lt _ (by decide)⟩ ⟨k % 4096, Nat.mod_lt _ (by decide)⟩)
def gw (W : (⟨2, ![4096, 8192]⟩ : Shape).Idx → EReal) (k n : ℕ) : EReal :=
  W (ValueIdx.ix2 ⟨k % 4096, Nat.mod_lt _ (by decide)⟩ ⟨n % 8192, Nat.mod_lt _ (by decide)⟩)

variable (I : Inp Ideal) (X : (⟨2, ![4096, 4096]⟩ : Shape).Idx → EReal) (W : (⟨2, ![4096, 8192]⟩ : Shape).Idx → EReal)

/-- Every device holds its columns of `x` and the whole of `w`. -/
def Holds : Prop := (∀ c : Dev nD, I.X c = Layout.block ⟨2, ![4096, 512]⟩ ⟨2, ![4096, 4096]⟩ 1 8 c X) ∧ ∀ c : Dev nD, I.W c = W

variable {I X W} (h : Holds I X W)
include h

theorem at_xb (d c : Dev nD) (i j : Fin 512) : xb I d c (ValueIdx.ix2 i j) = gx X (512 * c + i) (512 * d + j) := by
  unfold xb blk2 gx
  rw [h.1 d, Layout.block_apply]
  have hc : (c : ℕ) < 8 := c.isLt
  have hd : (d : ℕ) < 8 := d.isLt
  refine congrArg X (funext fun a => ?_)
  match a with
  | ⟨0, _⟩ => exact Fin.ext (show (512 * (c : ℕ) + i) % 4096 = (512 * (c : ℕ) + i) % 4096 from rfl)
  | ⟨1, _⟩ => exact Fin.ext (show (d : ℕ) * 512 + (0 + (j : ℕ)) % 512 = (512 * (d : ℕ) + j) % 4096 by omega)

theorem at_wblk (c : Dev nD) (r b : ℕ) (i j : Fin 512) : wblk I c r b (ValueIdx.ix2 i j) = gw W (512 * r + i) (512 * b + j) := by
  unfold wblk blk2 gw
  rw [h.2 c]

theorem at_ab (c : Dev nD) (k : ℕ) (i j : Fin 512) : ab I c k (ValueIdx.ix2 i j) = gx X (512 * c + i) (512 * dv (c + k) + j) := by
  rw [← at_xb h]
  unfold ab toB xsb q8
  pointwise [k0_pay2, k0_pay9, pl3]
  refine congrArg _ (ix2_congr ?_ ?_)
  · show (i : ℕ) % 512 % 512 = i; omega
  · show (j : ℕ) % 512 % 512 = j; omega

/-- What the contraction adds at inner position `k`, for row `r` and column `n` of the result. -/
def tm (X : (⟨2, ![4096, 4096]⟩ : Shape).Idx → EReal) (W : (⟨2, ![4096, 8192]⟩ : Shape).Idx → EReal) (r n k : ℕ) : EReal :=
  gx X r k * gw W k n

theorem at_acb (c : Dev nD) (b : ℕ) (i j : Fin 512) :
    acb I c b (ValueIdx.ix2 i j) = ∑ k : Fin 512, tm X W (512 * c + i) (512 * b + j) (512 * c + k) := by
  unfold acb
  pointwise [k0_pay1, pl3]
  refine Finset.sum_congr rfl fun k _ => ?_
  have hc : dv ((c : ℕ) + 0) = c := Fin.ext (Nat.mod_eq_of_lt c.isLt)
  have e1 := at_ab h c 0 i k
  have e2 := at_wblk h c c b k j
  rw [hc] at e1
  unfold tm
  rw [← e1, ← e2]
  refine congrArg₂ (fun a b : EReal => a * b) ?_ (congrArg _ (ix2_congr ?_ ?_))
  · exact congrArg _ (ix2_eq _ _)
  · show (k : ℕ) % 512 = k; omega
  · show (j : ℕ) % 512 = j; omega

/-- A block of the result: the whole contraction, scaled and clipped below at zero. -/
theorem at_ob (c : Dev nD) (b : ℕ) (i j : Fin 512) :
    ob I c b (ValueIdx.ix2 i j) = max ((∑ k : Fin 4096, tm X W (512 * c + i) (512 * b + j) k) * (I.sx c * I.sw c)) 0 := by
  have hs := sum_blocks 512 (tm X W (512 * c + i) (512 * b + j)) 8
  rw [show (∑ k : Fin 4096, tm X W (512 * c + i) (512 * b + j) k) = _ from hs,
    sum_ring c (fun p => ∑ k : Fin 512, tm X W (512 * c + i) (512 * b + j) (512 * p + k)), ← at_acb h]
  have h7 := sum_blocks 512 (fun k => tm X W (512 * c + i) (512 * b + j) (512 * ((c + k / 512 + 1) % 8) + k % 512)) 7
  have h7' : (∑ q : Fin 7, ∑ k : Fin 512, tm X W (512 * c + i) (512 * b + j) (512 * (((c : ℕ) + q + 1) % 8) + k)) =
      ∑ x : Fin 3584, tm X W (512 * c + i) (512 * b + j) (512 * (((c : ℕ) + (x : ℕ) / 512 + 1) % 8) + (x : ℕ) % 512) := by
    refine Eq.trans (Finset.sum_congr rfl fun q _ => Finset.sum_congr rfl fun k _ => ?_) h7.symm
    rw [show (512 * (q : ℕ) + k) / 512 = q by omega, show (512 * (q : ℕ) + k) % 512 = k by omega]
  rw [h7']
  unfold ob
  pointwise [k0_pay4, k0_pay37, wbV, aV]
  refine congrArg₂ max (congrArg₂ (fun a b : EReal => a * b) (congrArg₂ (fun a b : EReal => a + b) ?_ (Finset.sum_congr rfl fun x _ => ?_)) rfl) rfl
  · rfl
  · have e1 := at_ab h c ((x : ℕ) / 512 + 1) i ⟨(x : ℕ) % 512, Nat.mod_lt _ (by decide)⟩
    have e2 := at_wblk h c (dv (c + (x : ℕ) / 512 + 1)) b ⟨(x : ℕ) % 512, Nat.mod_lt _ (by decide)⟩ j
    unfold tm
    refine congrArg₂ (fun a b : EReal => a * b) (Eq.trans (congrArg _ (ix2_congr ?_ rfl)) e1) (Eq.trans (congrArg _ (ix2_congr rfl ?_)) e2)
    · show (i : ℕ) % 512 = i; omega
    · show (j : ℕ) % 512 = j; omega

/-- The result on device `c`, at a row and a column. -/
theorem at_oF (c : Dev nD) (i : S512x8192.Idx) :
    oF I c i = max ((∑ k : Fin 4096, tm X W (512 * c + (i 0 : ℕ)) (i 1 : ℕ) k) * (I.sx c * I.sw c)) 0 := by
  unfold oF
  rw [at_ob h]
  have h0 : (i 0 : ℕ) < 512 := (i 0).isLt
  have e0 : (i 0 : ℕ) % 512 = i 0 := Nat.mod_eq_of_lt h0
  have e1 : 512 * ((i 1 : ℕ) / 512) + (i 1 : ℕ) % 512 = i 1 := Nat.div_add_mod _ _
  dsimp only
  rw [e0, e1]

end At

/-! ## The reference at an index -/

/-- The reference's result. -/
def ref (X : (⟨2, ![4096, 4096]⟩ : Shape).Idx → EReal) (W : (⟨2, ![4096, 8192]⟩ : Shape).Idx → EReal) (a b : (⟨1, ![1]⟩ : Shape).Idx → EReal) :
    (⟨2, ![4096, 8192]⟩ : Shape).Idx → EReal :=
  maximumf (F := Ideal) (φ := .f32) (mulf (F := Ideal) (φ := .f32) (Host.dotGeneral (F := Ideal) (φ₁ := .f32) (φ₂ := .f32) Cert.ReferenceIdeal.dot_S4096x4096_S4096x8192_S4096x8192_1_0_0_1_n_n none X W)
    (broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf (F := Ideal) (φ := .f32) a b))))
    (broadcastInDim Cert.ReferenceIdeal.S4096x8192 ![] Cert.ReferenceIdeal.Facts₀.bcast_S_S4096x8192 (constant Cert.ReferenceIdeal.S_ .f32 0x00000000#32))

theorem at_ref (X : (⟨2, ![4096, 4096]⟩ : Shape).Idx → EReal) (W : (⟨2, ![4096, 8192]⟩ : Shape).Idx → EReal) (a b : (⟨1, ![1]⟩ : Shape).Idx → EReal)
    (j : (⟨2, ![4096, 8192]⟩ : Shape).Idx) :
    ref X W a b j = max ((∑ k : Fin 4096, tm X W (j 0 : ℕ) (j 1 : ℕ) k) * (a (ValueIdx.ix1 0) * b (ValueIdx.ix1 0))) 0 := by
  unfold ref
  pointwise []
  refine congrArg₂ max (congrArg₂ (fun a b : EReal => a * b) (Finset.sum_congr rfl fun k _ => ?_) ?_) rfl
  · have h0 : (j 0 : ℕ) < 4096 := (j 0).isLt
    have h1 : (j 1 : ℕ) < 8192 := (j 1).isLt
    unfold tm gx gw
    refine congrArg₂ (fun a b : EReal => a * b) (congrArg X ((ix2_eq _ _).trans (ix2_congr ?_ ?_))) (congrArg W ((ix2_eq _ _).trans (ix2_congr ?_ ?_)))
    · exact (Nat.mod_eq_of_lt h0).symm
    · exact (Nat.mod_eq_of_lt k.isLt).symm
    · exact (Nat.mod_eq_of_lt k.isLt).symm
    · exact (Nat.mod_eq_of_lt h1).symm
  · exact congrArg₂ (fun i j => a i * b j) (S1_idx _ _) (S1_idx _ _)

/-! ## The claim -/

/-- Device `c`'s block of the reference's result is what the kernel leaves there. -/
theorem block_eq {I : Inp Ideal} {X : (⟨2, ![4096, 4096]⟩ : Shape).Idx → EReal} {W : (⟨2, ![4096, 8192]⟩ : Shape).Idx → EReal}
    (h : Holds I X W) (a b : (⟨1, ![1]⟩ : Shape).Idx → EReal) (ha : ∀ c, I.sx c = a (ValueIdx.ix1 0)) (hb : ∀ c, I.sw c = b (ValueIdx.ix1 0)) (c : Dev nD) :
    oF I c = Layout.block ⟨2, ![512, 8192]⟩ ⟨2, ![4096, 8192]⟩ 0 8 c (ref X W a b) := by
  funext i
  rw [Layout.block_apply, at_ref, at_oF h, ha, hb]
  have e : 512 * (c : ℕ) + (i 0 : ℕ) = (c : ℕ) * 512 + (i 0 : ℕ) := by rw [Nat.mul_comm]
  rw [e]
  rfl

theorem algebraic : Cert.algebraic_KernelIdeal_ReferenceIdeal (hKernelIdeal := Cert.KernelIdeal.Gen.facts) (hReferenceIdeal := Cert.ReferenceIdeal.Gen.facts) := by
  intro m ρ m' ρ' _ hin
  refine ⟨ref _ _ _ _, (θ_run defs _ _).mono (fun _ h c => ⟨?_, (h.1 c).1, (h.1 c).2.1, (h.1 c).2.2.1, (h.1 c).2.2.2.1⟩) (run_main (F := Ideal) m ρ),
    (θ_run Cert.ReferenceIdeal.defs _ _).mono (fun _ h => h 0) (Cert.ReferenceIdeal.Value.run (F := Ideal) m' ρ')⟩
  refine (h.1 c).2.2.2.2.trans (block_eq ⟨fun d => (hin d).1, fun d => (hin d).2.1⟩ _ _ (fun d => ?_) (fun d => ?_) c)
  · exact congrFun (hin d).2.2.1 _
  · exact congrFun (hin d).2.2.2 _

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, the idealization and the value. -/
theorem claim : Cert.Claim := ⟨Cert.Kernel.Gen.facts, Cert.KernelIdeal.Gen.facts, Cert.ReferenceIdeal.Gen.facts,
  Cert.KProof.frame_kernel, Cert.KProof.frame_kernelIdeal, Cert.KProof.frame_referenceIdeal, trivial, Cert.KProof.algebraic⟩

end Cert.Proof

end
